-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_ProjG (m : (ℓ : Loc Cert.ProjG.nD Cert.ProjG.τ Cert.ProjG.sig) → Buf (Elt Bits) ℓ) : Prop :=
  True

def Pre_ProjGIdeal (m : (ℓ : Loc Cert.ProjGIdeal.nD Cert.ProjGIdeal.τ Cert.ProjGIdeal.sig) → Buf (Elt Ideal) ℓ) : Prop :=
  True

def Pre_ProjGRefIdeal (m : (ℓ : Loc Cert.ProjGRefIdeal.nD Cert.ProjGRefIdeal.τ Cert.ProjGRefIdeal.sig) → Buf (Elt Ideal) ℓ) : Prop :=
  True

def Pre_SampleA (m : (ℓ : Loc Cert.SampleA.nD Cert.SampleA.τ Cert.SampleA.sig) → Buf (Elt Bits) ℓ) : Prop :=
  True

def Pre_SampleAIdeal (m : (ℓ : Loc Cert.SampleAIdeal.nD Cert.SampleAIdeal.τ Cert.SampleAIdeal.sig) → Buf (Elt Ideal) ℓ) : Prop :=
  True

def Pre_SampleARefIdeal (m : (ℓ : Loc Cert.SampleARefIdeal.nD Cert.SampleARefIdeal.τ Cert.SampleARefIdeal.sig) → Buf (Elt Ideal) ℓ) : Prop :=
  True

def Pre_SampleB (m : (ℓ : Loc Cert.SampleB.nD Cert.SampleB.τ Cert.SampleB.sig) → Buf (Elt Bits) ℓ) : Prop :=
  True

def Pre_SampleBIdeal (m : (ℓ : Loc Cert.SampleBIdeal.nD Cert.SampleBIdeal.τ Cert.SampleBIdeal.sig) → Buf (Elt Ideal) ℓ) : Prop :=
  True

def Pre_SampleBRefIdeal (m : (ℓ : Loc Cert.SampleBRefIdeal.nD Cert.SampleBRefIdeal.τ Cert.SampleBRefIdeal.sig) → Buf (Elt Ideal) ℓ) : Prop :=
  True

def Pre_SampleC (m : (ℓ : Loc Cert.SampleC.nD Cert.SampleC.τ Cert.SampleC.sig) → Buf (Elt Bits) ℓ) : Prop :=
  True

def Pre_SampleCIdeal (m : (ℓ : Loc Cert.SampleCIdeal.nD Cert.SampleCIdeal.τ Cert.SampleCIdeal.sig) → Buf (Elt Ideal) ℓ) : Prop :=
  True

def Pre_SampleCRefIdeal (m : (ℓ : Loc Cert.SampleCRefIdeal.nD Cert.SampleCRefIdeal.τ Cert.SampleCRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1)
      ∧ r.2.mem ((c.tc : Thread Cert.ProjC.nD Cert.ProjC.τ).loc Cert.ProjC.main_arg2) = m ((c.tc : Thread Cert.ProjC.nD Cert.ProjC.τ).loc Cert.ProjC.main_arg2))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
      ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1)
      ∧ r.2.mem ((c.tc : Thread Cert.ProjCRefIdeal.nD Cert.ProjCRefIdeal.τ).loc Cert.ProjCRefIdeal.main_arg2) = m ((c.tc : Thread Cert.ProjCRefIdeal.nD Cert.ProjCRefIdeal.τ).loc Cert.ProjCRefIdeal.main_arg2))
      ∧ r.2.sem = fun _ => 0)

def quiescent_ProjG [hProjG : Cert.ProjG.Facts] : Prop :=
  ∀ (m : (ℓ : Loc Cert.ProjG.nD Cert.ProjG.τ Cert.ProjG.sig) → Buf (Elt Bits) ℓ) (g : Dev Cert.ProjG.nD → PrngReg), Pre_ProjG m →
    θ_run (Cert.ProjG.defs (F := Bits)) (onTc (τ := Cert.ProjG.τ) (Cert.ProjG.main (F := Bits))) ⟨m, fun _ => 0, g⟩ (fun r => (∀ c : Dev Cert.ProjG.nD,
      r.2.mem ((c.tc : Thread Cert.ProjG.nD Cert.ProjG.τ).loc Cert.ProjG.main_arg0) = m ((c.tc : Thread Cert.ProjG.nD Cert.ProjG.τ).loc Cert.ProjG.main_arg0)
      ∧ r.2.mem ((c.tc : Thread Cert.ProjG.nD Cert.ProjG.τ).loc Cert.ProjG.main_arg1) = m ((c.tc : Thread Cert.ProjG.nD Cert.ProjG.τ).loc Cert.ProjG.main_arg1)
      ∧ r.2.mem ((c.tc : Thread Cert.ProjG.nD Cert.ProjG.τ).loc Cert.ProjG.main_arg2) = m ((c.tc : Thread Cert.ProjG.nD Cert.ProjG.τ).loc Cert.ProjG.main_arg2))
      ∧ r.2.sem = fun _ => 0)

def quiescent_ProjGIdeal [hProjGIdeal : Cert.ProjGIdeal.Facts] : Prop :=
  ∀ (m : (ℓ : Loc Cert.ProjGIdeal.nD Cert.ProjGIdeal.τ Cert.ProjGIdeal.sig) → Buf (Elt Ideal) ℓ) (g : Dev Cert.ProjGIdeal.nD → PrngReg), Pre_ProjGIdeal m →
    θ_run (Cert.ProjGIdeal.defs (F := Ideal)) (onTc (τ := Cert.ProjGIdeal.τ) (Cert.ProjGIdeal.main (F := Ideal))) ⟨m, fun _ => 0, g⟩ (fun r => (∀ c : Dev Cert.ProjGIdeal.nD,
      r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
      ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1)
      ∧ r.2.mem ((c.tc : Thread Cert.ProjGIdeal.nD Cert.ProjGIdeal.τ).loc Cert.ProjGIdeal.main_arg2) = m ((c.tc : Thread Cert.ProjGIdeal.nD Cert.ProjGIdeal.τ).loc Cert.ProjGIdeal.main_arg2))
      ∧ r.2.sem = fun _ => 0)

def quiescent_ProjGRefIdeal [hProjGRefIdeal : Cert.ProjGRefIdeal.Facts] : Prop :=
  ∀ (m : (ℓ : Loc Cert.ProjGRefIdeal.nD Cert.ProjGRefIdeal.τ Cert.ProjGRefIdeal.sig) → Buf (Elt Ideal) ℓ) (g : Dev Cert.ProjGRefIdeal.nD → PrngReg), Pre_ProjGRefIdeal m →
    θ_run (Cert.ProjGRefIdeal.defs (F := Ideal)) (onTc (τ := Cert.ProjGRefIdeal.τ) (Cert.ProjGRefIdeal.main (F := Ideal))) ⟨m, fun _ => 0, g⟩ (fun r => (∀ c : Dev Cert.ProjGRefIdeal.nD,
      r.2.mem ((c.tc : Thread Cert.ProjGRefIdeal.nD Cert.ProjGRefIdeal.τ).loc Cert.ProjGRefIdeal.main_arg0) = m ((c.tc : Thread Cert.ProjGRefIdeal.nD Cert.ProjGRefIdeal.τ).loc Cert.ProjGRefIdeal.main_arg0)
      ∧ r.2.mem ((c.tc : Thread Cert.ProjGRefIdeal.nD Cert.ProjGRefIdeal.τ).loc Cert.ProjGRefIdeal.main_arg1) = m ((c.tc : Thread Cert.ProjGRefIdeal.nD Cert.ProjGRefIdeal.τ).loc Cert.ProjGRefIdeal.main_arg1)
      ∧ r.2.mem ((c.tc : Thread Cert.ProjGRefIdeal.nD Cert.ProjGRefIdeal.τ).loc Cert.ProjGRefIdeal.main_arg2) = m ((c.tc : Thread Cert.ProjGRefIdeal.nD Cert.ProjGRefIdeal.τ).loc Cert.ProjGRefIdeal.main_arg2))
      ∧ r.2.sem = fun _ => 0)

def quiescent_SampleA [hSampleA : Cert.SampleA.Facts] : Prop :=
  ∀ (m : (ℓ : Loc Cert.SampleA.nD Cert.SampleA.τ Cert.SampleA.sig) → Buf (Elt Bits) ℓ) (g : Dev Cert.SampleA.nD → PrngReg), Pre_SampleA m →
    θ_run (Cert.SampleA.defs (F := Bits)) (onTc (τ := Cert.SampleA.τ) (Cert.SampleA.main (F := Bits))) ⟨m, fun _ => 0, g⟩ (fun r => (∀ c : Dev Cert.SampleA.nD,
      r.2.mem ((c.tc : Thread Cert.SampleA.nD Cert.SampleA.τ).loc Cert.SampleA.main_arg0) = m ((c.tc : Thread Cert.SampleA.nD Cert.SampleA.τ).loc Cert.SampleA.main_arg0)
      ∧ r.2.mem ((c.tc : Thread Cert.SampleA.nD Cert.SampleA.τ).loc Cert.SampleA.main_arg1) = m ((c.tc : Thread Cert.SampleA.nD Cert.SampleA.τ).loc Cert.SampleA.main_arg1)
      ∧ r.2.mem ((c.tc : Thread Cert.SampleA.nD Cert.SampleA.τ).loc Cert.SampleA.main_arg2) = m ((c.tc : Thread Cert.SampleA.nD Cert.SampleA.τ).loc Cert.SampleA.main_arg2))
      ∧ r.2.sem = fun _ => 0)

def quiescent_SampleAIdeal [hSampleAIdeal : Cert.SampleAIdeal.Facts] : Prop :=
  ∀ (m : (ℓ : Loc Cert.SampleAIdeal.nD Cert.SampleAIdeal.τ Cert.SampleAIdeal.sig) → Buf (Elt Ideal) ℓ) (g : Dev Cert.SampleAIdeal.nD → PrngReg), Pre_SampleAIdeal m →
    θ_run (Cert.SampleAIdeal.defs (F := Ideal)) (onTc (τ := Cert.SampleAIdeal.τ) (Cert.SampleAIdeal.main (F := Ideal))) ⟨m, fun _ => 0, g⟩ (fun r => (∀ c : Dev Cert.SampleAIdeal.nD,
      r.2.mem ((c.tc : Thread Cert.SampleAIdeal.nD Cert.SampleAIdeal.τ).loc Cert.SampleAIdeal.main_arg0) = m ((c.tc : Thread Cert.SampleAIdeal.nD Cert.SampleAIdeal.τ).loc Cert.SampleAIdeal.main_arg0)
      ∧ r.2.mem ((c.tc : Thread Cert.SampleAIdeal.nD Cert.SampleAIdeal.τ).loc Cert.SampleAIdeal.main_arg1) = m ((c.tc : Thread Cert.SampleAIdeal.nD Cert.SampleAIdeal.τ).loc Cert.SampleAIdeal.main_arg1)
      ∧ r.2.mem ((c.tc : Thread Cert.SampleAIdeal.nD Cert.SampleAIdeal.τ).loc Cert.SampleAIdeal.main_arg2) = m ((c.tc : Thread Cert.SampleAIdeal.nD Cert.SampleAIdeal.τ).loc Cert.SampleAIdeal.main_arg2))
      ∧ r.2.sem = fun _ => 0)

def quiescent_SampleARefIdeal [hSampleARefIdeal : Cert.SampleARefIdeal.Facts] : Prop :=
  ∀ (m : (ℓ : Loc Cert.SampleARefIdeal.nD Cert.SampleARefIdeal.τ Cert.SampleARefIdeal.sig) → Buf (Elt Ideal) ℓ) (g : Dev Cert.SampleARefIdeal.nD → PrngReg), Pre_SampleARefIdeal m →
    θ_run (Cert.SampleARefIdeal.defs (F := Ideal)) (onTc (τ := Cert.SampleARefIdeal.τ) (Cert.SampleARefIdeal.main (F := Ideal))) ⟨m, fun _ => 0, g⟩ (fun r => (∀ c : Dev Cert.SampleARefIdeal.nD,
      r.2.mem ((c.tc : Thread Cert.SampleARefIdeal.nD Cert.SampleARefIdeal.τ).loc Cert.SampleARefIdeal.main_arg0) = m ((c.tc : Thread Cert.SampleARefIdeal.nD Cert.SampleARefIdeal.τ).loc Cert.SampleARefIdeal.main_arg0)
      ∧ r.2.mem ((c.tc : Thread Cert.SampleARefIdeal.nD Cert.SampleARefIdeal.τ).loc Cert.SampleARefIdeal.main_arg1) = m ((c.tc : Thread Cert.SampleARefIdeal.nD Cert.SampleARefIdeal.τ).loc Cert.SampleARefIdeal.main_arg1)
      ∧ r.2.mem ((c.tc : Thread Cert.SampleARefIdeal.nD Cert.SampleARefIdeal.τ).loc Cert.SampleARefIdeal.main_arg2) = m ((c.tc : Thread Cert.SampleARefIdeal.nD Cert.SampleARefIdeal.τ).loc Cert.SampleARefIdeal.main_arg2))
      ∧ r.2.sem = fun _ => 0)

def quiescent_SampleB [hSampleB : Cert.SampleB.Facts] : Prop :=
  ∀ (m : (ℓ : Loc Cert.SampleB.nD Cert.SampleB.τ Cert.SampleB.sig) → Buf (Elt Bits) ℓ) (g : Dev Cert.SampleB.nD → PrngReg), Pre_SampleB m →
    θ_run (Cert.SampleB.defs (F := Bits)) (onTc (τ := Cert.SampleB.τ) (Cert.SampleB.main (F := Bits))) ⟨m, fun _ => 0, g⟩ (fun r => (∀ c : Dev Cert.SampleB.nD,
      r.2.mem ((c.tc : Thread Cert.SampleB.nD Cert.SampleB.τ).loc Cert.SampleB.main_arg0) = m ((c.tc : Thread Cert.SampleB.nD Cert.SampleB.τ).loc Cert.SampleB.main_arg0)
      ∧ r.2.mem ((c.tc : Thread Cert.SampleB.nD Cert.SampleB.τ).loc Cert.SampleB.main_arg1) = m ((c.tc : Thread Cert.SampleB.nD Cert.SampleB.τ).loc Cert.SampleB.main_arg1)
      ∧ r.2.mem ((c.tc : Thread Cert.SampleB.nD Cert.SampleB.τ).loc Cert.SampleB.main_arg2) = m ((c.tc : Thread Cert.SampleB.nD Cert.SampleB.τ).loc Cert.SampleB.main_arg2))
      ∧ r.2.sem = fun _ => 0)

def quiescent_SampleBIdeal [hSampleBIdeal : Cert.SampleBIdeal.Facts] : Prop :=
  ∀ (m : (ℓ : Loc Cert.SampleBIdeal.nD Cert.SampleBIdeal.τ Cert.SampleBIdeal.sig) → Buf (Elt Ideal) ℓ) (g : Dev Cert.SampleBIdeal.nD → PrngReg), Pre_SampleBIdeal m →
    θ_run (Cert.SampleBIdeal.defs (F := Ideal)) (onTc (τ := Cert.SampleBIdeal.τ) (Cert.SampleBIdeal.main (F := Ideal))) ⟨m, fun _ => 0, g⟩ (fun r => (∀ c : Dev Cert.SampleBIdeal.nD,
      r.2.mem ((c.tc : Thread Cert.SampleBIdeal.nD Cert.SampleBIdeal.τ).loc Cert.SampleBIdeal.main_arg0) = m ((c.tc : Thread Cert.SampleBIdeal.nD Cert.SampleBIdeal.τ).loc Cert.SampleBIdeal.main_arg0)
      ∧ r.2.mem ((c.tc : Thread Cert.SampleBIdeal.nD Cert.SampleBIdeal.τ).loc Cert.SampleBIdeal.main_arg1) = m ((c.tc : Thread Cert.SampleBIdeal.nD Cert.SampleBIdeal.τ).loc Cert.SampleBIdeal.main_arg1)
      ∧ r.2.mem ((c.tc : Thread Cert.SampleBIdeal.nD Cert.SampleBIdeal.τ).loc Cert.SampleBIdeal.main_arg2) = m ((c.tc : Thread Cert.SampleBIdeal.nD Cert.SampleBIdeal.τ).loc Cert.SampleBIdeal.main_arg2))
      ∧ r.2.sem = fun _ => 0)

def quiescent_SampleBRefIdeal [hSampleBRefIdeal : Cert.SampleBRefIdeal.Facts] : Prop :=
  ∀ (m : (ℓ : Loc Cert.SampleBRefIdeal.nD Cert.SampleBRefIdeal.τ Cert.SampleBRefIdeal.sig) → Buf (Elt Ideal) ℓ) (g : Dev Cert.SampleBRefIdeal.nD → PrngReg), Pre_SampleBRefIdeal m →
    θ_run (Cert.SampleBRefIdeal.defs (F := Ideal)) (onTc (τ := Cert.SampleBRefIdeal.τ) (Cert.SampleBRefIdeal.main (F := Ideal))) ⟨m, fun _ => 0, g⟩ (fun r => (∀ c : Dev Cert.SampleBRefIdeal.nD,
      r.2.mem ((c.tc : Thread Cert.SampleBRefIdeal.nD Cert.SampleBRefIdeal.τ).loc Cert.SampleBRefIdeal.main_arg0) = m ((c.tc : Thread Cert.SampleBRefIdeal.nD Cert.SampleBRefIdeal.τ).loc Cert.SampleBRefIdeal.main_arg0)
      ∧ r.2.mem ((c.tc : Thread Cert.SampleBRefIdeal.nD Cert.SampleBRefIdeal.τ).loc Cert.SampleBRefIdeal.main_arg1) = m ((c.tc : Thread Cert.SampleBRefIdeal.nD Cert.SampleBRefIdeal.τ).loc Cert.SampleBRefIdeal.main_arg1)
      ∧ r.2.mem ((c.tc : Thread Cert.SampleBRefIdeal.nD Cert.SampleBRefIdeal.τ).loc Cert.SampleBRefIdeal.main_arg2) = m ((c.tc : Thread Cert.SampleBRefIdeal.nD Cert.SampleBRefIdeal.τ).loc Cert.SampleBRefIdeal.main_arg2))
      ∧ r.2.sem = fun _ => 0)

def quiescent_SampleC [hSampleC : Cert.SampleC.Facts] : Prop :=
  ∀ (m : (ℓ : Loc Cert.SampleC.nD Cert.SampleC.τ Cert.SampleC.sig) → Buf (Elt Bits) ℓ) (g : Dev Cert.SampleC.nD → PrngReg), Pre_SampleC m →
    θ_run (Cert.SampleC.defs (F := Bits)) (onTc (τ := Cert.SampleC.τ) (Cert.SampleC.main (F := Bits))) ⟨m, fun _ => 0, g⟩ (fun r => (∀ c : Dev Cert.SampleC.nD,
      r.2.mem ((c.tc : Thread Cert.SampleC.nD Cert.SampleC.τ).loc Cert.SampleC.main_arg0) = m ((c.tc : Thread Cert.SampleC.nD Cert.SampleC.τ).loc Cert.SampleC.main_arg0)
      ∧ r.2.mem ((c.tc : Thread Cert.SampleC.nD Cert.SampleC.τ).loc Cert.SampleC.main_arg1) = m ((c.tc : Thread Cert.SampleC.nD Cert.SampleC.τ).loc Cert.SampleC.main_arg1)
      ∧ r.2.mem ((c.tc : Thread Cert.SampleC.nD Cert.SampleC.τ).loc Cert.SampleC.main_arg2) = m ((c.tc : Thread Cert.SampleC.nD Cert.SampleC.τ).loc Cert.SampleC.main_arg2))
      ∧ r.2.sem = fun _ => 0)

def quiescent_SampleCIdeal [hSampleCIdeal : Cert.SampleCIdeal.Facts] : Prop :=
  ∀ (m : (ℓ : Loc Cert.SampleCIdeal.nD Cert.SampleCIdeal.τ Cert.SampleCIdeal.sig) → Buf (Elt Ideal) ℓ) (g : Dev Cert.SampleCIdeal.nD → PrngReg), Pre_SampleCIdeal m →
    θ_run (Cert.SampleCIdeal.defs (F := Ideal)) (onTc (τ := Cert.SampleCIdeal.τ) (Cert.SampleCIdeal.main (F := Ideal))) ⟨m, fun _ => 0, g⟩ (fun r => (∀ c : Dev Cert.SampleCIdeal.nD,
      r.2.mem ((c.tc : Thread Cert.SampleCIdeal.nD Cert.SampleCIdeal.τ).loc Cert.SampleCIdeal.main_arg0) = m ((c.tc : Thread Cert.SampleCIdeal.nD Cert.SampleCIdeal.τ).loc Cert.SampleCIdeal.main_arg0)
      ∧ r.2.mem ((c.tc : Thread Cert.SampleCIdeal.nD Cert.SampleCIdeal.τ).loc Cert.SampleCIdeal.main_arg1) = m ((c.tc : Thread Cert.SampleCIdeal.nD Cert.SampleCIdeal.τ).loc Cert.SampleCIdeal.main_arg1)
      ∧ r.2.mem ((c.tc : Thread Cert.SampleCIdeal.nD Cert.SampleCIdeal.τ).loc Cert.SampleCIdeal.main_arg2) = m ((c.tc : Thread Cert.SampleCIdeal.nD Cert.SampleCIdeal.τ).loc Cert.SampleCIdeal.main_arg2))
      ∧ r.2.sem = fun _ => 0)

def quiescent_SampleCRefIdeal [hSampleCRefIdeal : Cert.SampleCRefIdeal.Facts] : Prop :=
  ∀ (m : (ℓ : Loc Cert.SampleCRefIdeal.nD Cert.SampleCRefIdeal.τ Cert.SampleCRefIdeal.sig) → Buf (Elt Ideal) ℓ) (g : Dev Cert.SampleCRefIdeal.nD → PrngReg), Pre_SampleCRefIdeal m →
    θ_run (Cert.SampleCRefIdeal.defs (F := Ideal)) (onTc (τ := Cert.SampleCRefIdeal.τ) (Cert.SampleCRefIdeal.main (F := Ideal))) ⟨m, fun _ => 0, g⟩ (fun r => (∀ c : Dev Cert.SampleCRefIdeal.nD,
      r.2.mem ((c.tc : Thread Cert.SampleCRefIdeal.nD Cert.SampleCRefIdeal.τ).loc Cert.SampleCRefIdeal.main_arg0) = m ((c.tc : Thread Cert.SampleCRefIdeal.nD Cert.SampleCRefIdeal.τ).loc Cert.SampleCRefIdeal.main_arg0)
      ∧ r.2.mem ((c.tc : Thread Cert.SampleCRefIdeal.nD Cert.SampleCRefIdeal.τ).loc Cert.SampleCRefIdeal.main_arg1) = m ((c.tc : Thread Cert.SampleCRefIdeal.nD Cert.SampleCRefIdeal.τ).loc Cert.SampleCRefIdeal.main_arg1)
      ∧ r.2.mem ((c.tc : Thread Cert.SampleCRefIdeal.nD Cert.SampleCRefIdeal.τ).loc Cert.SampleCRefIdeal.main_arg2) = m ((c.tc : Thread Cert.SampleCRefIdeal.nD Cert.SampleCRefIdeal.τ).loc Cert.SampleCRefIdeal.main_arg2))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "qk_scale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v16) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v23_0)) (v1 : (c : Dev Cert.ProjAIdeal.nD) → Buf (Elt Ideal) ((c.tc : Thread Cert.ProjAIdeal.nD Cert.ProjAIdeal.τ).loc Cert.ProjAIdeal.main_v23_1)) (v2 : (c : Dev Cert.ProjAIdeal.nD) → Buf (Elt Ideal) ((c.tc : Thread Cert.ProjAIdeal.nD Cert.ProjAIdeal.τ).loc Cert.ProjAIdeal.main_v23_2)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v23_0) = v0 c
          ∧ r.2.mem ((c.tc : Thread Cert.ProjAIdeal.nD Cert.ProjAIdeal.τ).loc Cert.ProjAIdeal.main_v23_1) = v1 c
          ∧ r.2.mem ((c.tc : Thread Cert.ProjAIdeal.nD Cert.ProjAIdeal.τ).loc Cert.ProjAIdeal.main_v23_2) = v2 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v52) = v0 c
          ∧ r.2.mem ((c.tc : Thread Cert.ProjARefIdeal.nD Cert.ProjARefIdeal.τ).loc Cert.ProjARefIdeal.main_v87) = v1 c
          ∧ r.2.mem ((c.tc : Thread Cert.ProjARefIdeal.nD Cert.ProjARefIdeal.τ).loc Cert.ProjARefIdeal.main_v88) = v2 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)) →
    ∃ (v0 : (c : Dev Cert.ProjBIdeal.nD) → Buf (Elt Ideal) ((c.tc : Thread Cert.ProjBIdeal.nD Cert.ProjBIdeal.τ).loc Cert.ProjBIdeal.main_v26_0)) (v1 : (c : Dev Cert.ProjBIdeal.nD) → Buf (Elt Ideal) ((c.tc : Thread Cert.ProjBIdeal.nD Cert.ProjBIdeal.τ).loc Cert.ProjBIdeal.main_v26_1)) (v2 : (c : Dev Cert.ProjBIdeal.nD) → Buf (Elt Ideal) ((c.tc : Thread Cert.ProjBIdeal.nD Cert.ProjBIdeal.τ).loc Cert.ProjBIdeal.main_v26_2)) (v3 : (c : Dev Cert.ProjBIdeal.nD) → Buf (Elt Ideal) ((c.tc : Thread Cert.ProjBIdeal.nD Cert.ProjBIdeal.τ).loc Cert.ProjBIdeal.main_v26_3)) (v4 : (c : Dev Cert.ProjBIdeal.nD) → Buf (Elt Ideal) ((c.tc : Thread Cert.ProjBIdeal.nD Cert.ProjBIdeal.τ).loc Cert.ProjBIdeal.main_v26_4)) (v5 : (c : Dev Cert.ProjBIdeal.nD) → Buf (Elt Ideal) ((c.tc : Thread Cert.ProjBIdeal.nD Cert.ProjBIdeal.τ).loc Cert.ProjBIdeal.main_v26_5)) (v6 : (c : Dev Cert.ProjBIdeal.nD) → Buf (Elt Ideal) ((c.tc : Thread Cert.ProjBIdeal.nD Cert.ProjBIdeal.τ).loc Cert.ProjBIdeal.main_v26_6)) (v7 : (c : Dev Cert.ProjBIdeal.nD) → Buf (Elt Ideal) ((c.tc : Thread Cert.ProjBIdeal.nD Cert.ProjBIdeal.τ).loc Cert.ProjBIdeal.main_v26_7)) (v8 : (c : Dev Cert.ProjBIdeal.nD) → Buf (Elt Ideal) ((c.tc : Thread Cert.ProjBIdeal.nD Cert.ProjBIdeal.τ).loc Cert.ProjBIdeal.main_v26_8)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v26_0) = v0 c
          ∧ r.2.mem ((c.tc : Thread Cert.ProjBIdeal.nD Cert.ProjBIdeal.τ).loc Cert.ProjBIdeal.main_v26_1) = v1 c
          ∧ r.2.mem ((c.tc : Thread Cert.ProjBIdeal.nD Cert.ProjBIdeal.τ).loc Cert.ProjBIdeal.main_v26_2) = v2 c
          ∧ r.2.mem ((c.tc : Thread Cert.ProjBIdeal.nD Cert.ProjBIdeal.τ).loc Cert.ProjBIdeal.main_v26_3) = v3 c
          ∧ r.2.mem ((c.tc : Thread Cert.ProjBIdeal.nD Cert.ProjBIdeal.τ).loc Cert.ProjBIdeal.main_v26_4) = v4 c
          ∧ r.2.mem ((c.tc : Thread Cert.ProjBIdeal.nD Cert.ProjBIdeal.τ).loc Cert.ProjBIdeal.main_v26_5) = v5 c
          ∧ r.2.mem ((c.tc : Thread Cert.ProjBIdeal.nD Cert.ProjBIdeal.τ).loc Cert.ProjBIdeal.main_v26_6) = v6 c
          ∧ r.2.mem ((c.tc : Thread Cert.ProjBIdeal.nD Cert.ProjBIdeal.τ).loc Cert.ProjBIdeal.main_v26_7) = v7 c
          ∧ r.2.mem ((c.tc : Thread Cert.ProjBIdeal.nD Cert.ProjBIdeal.τ).loc Cert.ProjBIdeal.main_v26_8) = v8 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v25) = v0 c
          ∧ r.2.mem ((c.tc : Thread Cert.ProjBRefIdeal.nD Cert.ProjBRefIdeal.τ).loc Cert.ProjBRefIdeal.main_v60) = v1 c
          ∧ r.2.mem ((c.tc : Thread Cert.ProjBRefIdeal.nD Cert.ProjBRefIdeal.τ).loc Cert.ProjBRefIdeal.main_v61) = v2 c
          ∧ r.2.mem ((c.tc : Thread Cert.ProjBRefIdeal.nD Cert.ProjBRefIdeal.τ).loc Cert.ProjBRefIdeal.main_v62) = v3 c
          ∧ r.2.mem ((c.tc : Thread Cert.ProjBRefIdeal.nD Cert.ProjBRefIdeal.τ).loc Cert.ProjBRefIdeal.main_v97) = v4 c
          ∧ r.2.mem ((c.tc : Thread Cert.ProjBRefIdeal.nD Cert.ProjBRefIdeal.τ).loc Cert.ProjBRefIdeal.main_v98) = v5 c
          ∧ r.2.mem ((c.tc : Thread Cert.ProjBRefIdeal.nD Cert.ProjBRefIdeal.τ).loc Cert.ProjBRefIdeal.main_v133) = v6 c
          ∧ r.2.mem ((c.tc : Thread Cert.ProjBRefIdeal.nD Cert.ProjBRefIdeal.τ).loc Cert.ProjBRefIdeal.main_v134) = v7 c
          ∧ r.2.mem ((c.tc : Thread Cert.ProjBRefIdeal.nD Cert.ProjBRefIdeal.τ).loc Cert.ProjBRefIdeal.main_v24) = v8 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)
      ∧ m' ((c.tc : Thread Cert.ProjCRefIdeal.nD Cert.ProjCRefIdeal.τ).loc Cert.ProjCRefIdeal.main_arg2) = m ((c.tc : Thread Cert.ProjCIdeal.nD Cert.ProjCIdeal.τ).loc Cert.ProjCIdeal.main_arg2)) →
    ∃ (v0 : (c : Dev Cert.ProjCIdeal.nD) → Buf (Elt Ideal) ((c.tc : Thread Cert.ProjCIdeal.nD Cert.ProjCIdeal.τ).loc Cert.ProjCIdeal.main_v23_0)) (v1 : (c : Dev Cert.ProjCIdeal.nD) → Buf (Elt Ideal) ((c.tc : Thread Cert.ProjCIdeal.nD Cert.ProjCIdeal.τ).loc Cert.ProjCIdeal.main_v23_1)) (v2 : (c : Dev Cert.ProjCIdeal.nD) → Buf (Elt Ideal) ((c.tc : Thread Cert.ProjCIdeal.nD Cert.ProjCIdeal.τ).loc Cert.ProjCIdeal.main_v23_2)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v23_0) = v0 c
          ∧ r.2.mem ((c.tc : Thread Cert.ProjCIdeal.nD Cert.ProjCIdeal.τ).loc Cert.ProjCIdeal.main_v23_1) = v1 c
          ∧ r.2.mem ((c.tc : Thread Cert.ProjCIdeal.nD Cert.ProjCIdeal.τ).loc Cert.ProjCIdeal.main_v23_2) = v2 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
          ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v52) = v0 c
          ∧ r.2.mem ((c.tc : Thread Cert.ProjCRefIdeal.nD Cert.ProjCRefIdeal.τ).loc Cert.ProjCRefIdeal.main_v87) = v1 c
          ∧ r.2.mem ((c.tc : Thread Cert.ProjCRefIdeal.nD Cert.ProjCRefIdeal.τ).loc Cert.ProjCRefIdeal.main_v88) = v2 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1)
          ∧ r.2.mem ((c.tc : Thread Cert.ProjCRefIdeal.nD Cert.ProjCRefIdeal.τ).loc Cert.ProjCRefIdeal.main_arg2) = m' ((c.tc : Thread Cert.ProjCRefIdeal.nD Cert.ProjCRefIdeal.τ).loc Cert.ProjCRefIdeal.main_arg2))

def preserves_ProjG_ProjGIdeal : Prop :=
  True

def algebraic_ProjGIdeal_ProjGRefIdeal [hProjGIdeal : Cert.ProjGIdeal.Facts] [hProjGRefIdeal : Cert.ProjGRefIdeal.Facts] : Prop :=
  ∀ (m : (ℓ : Loc Cert.ProjGIdeal.nD Cert.ProjGIdeal.τ Cert.ProjGIdeal.sig) → Buf (Elt Ideal) ℓ) (g : Dev Cert.ProjGIdeal.nD → PrngReg)
    (m' : (ℓ : Loc Cert.ProjGRefIdeal.nD Cert.ProjGRefIdeal.τ Cert.ProjGRefIdeal.sig) → Buf (Elt Ideal) ℓ) (g' : Dev Cert.ProjGRefIdeal.nD → PrngReg), Pre_ProjGIdeal m →
    (∀ c : Dev Cert.ProjGIdeal.nD,
      m' ((c.tc : Thread Cert.ProjGRefIdeal.nD Cert.ProjGRefIdeal.τ).loc Cert.ProjGRefIdeal.main_arg0) = m ((c.tc : Thread Cert.ProjGIdeal.nD Cert.ProjGIdeal.τ).loc Cert.ProjGIdeal.main_arg0)
      ∧ m' ((c.tc : Thread Cert.ProjGRefIdeal.nD Cert.ProjGRefIdeal.τ).loc Cert.ProjGRefIdeal.main_arg1) = m ((c.tc : Thread Cert.ProjGIdeal.nD Cert.ProjGIdeal.τ).loc Cert.ProjGIdeal.main_arg1)
      ∧ m' ((c.tc : Thread Cert.ProjGRefIdeal.nD Cert.ProjGRefIdeal.τ).loc Cert.ProjGRefIdeal.main_arg2) = m ((c.tc : Thread Cert.ProjGIdeal.nD Cert.ProjGIdeal.τ).loc Cert.ProjGIdeal.main_arg2)) →
    ∃ (v0 : (c : Dev Cert.ProjGIdeal.nD) → Buf (Elt Ideal) ((c.tc : Thread Cert.ProjGIdeal.nD Cert.ProjGIdeal.τ).loc Cert.ProjGIdeal.main_v23)),
      θ_run (Cert.ProjGIdeal.defs (F := Ideal)) (onTc (τ := Cert.ProjGIdeal.τ) (Cert.ProjGIdeal.main (F := Ideal))) ⟨m, fun _ => 0, g⟩ (fun r => ∀ c : Dev Cert.ProjGIdeal.nD,
          r.2.mem ((c.tc : Thread Cert.ProjGIdeal.nD Cert.ProjGIdeal.τ).loc Cert.ProjGIdeal.main_v23) = v0 c
          ∧ r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
          ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1)
          ∧ r.2.mem ((c.tc : Thread Cert.ProjGIdeal.nD Cert.ProjGIdeal.τ).loc Cert.ProjGIdeal.main_arg2) = m ((c.tc : Thread Cert.ProjGIdeal.nD Cert.ProjGIdeal.τ).loc Cert.ProjGIdeal.main_arg2))
      ∧ θ_run (Cert.ProjGRefIdeal.defs (F := Ideal)) (onTc (τ := Cert.ProjGRefIdeal.τ) (Cert.ProjGRefIdeal.main (F := Ideal))) ⟨m', fun _ => 0, g'⟩ (fun r => ∀ c : Dev Cert.ProjGRefIdeal.nD,
          r.2.mem ((c.tc : Thread Cert.ProjGRefIdeal.nD Cert.ProjGRefIdeal.τ).loc Cert.ProjGRefIdeal.main_v15) = v0 c
          ∧ r.2.mem ((c.tc : Thread Cert.ProjGRefIdeal.nD Cert.ProjGRefIdeal.τ).loc Cert.ProjGRefIdeal.main_arg0) = m' ((c.tc : Thread Cert.ProjGRefIdeal.nD Cert.ProjGRefIdeal.τ).loc Cert.ProjGRefIdeal.main_arg0)
          ∧ r.2.mem ((c.tc : Thread Cert.ProjGRefIdeal.nD Cert.ProjGRefIdeal.τ).loc Cert.ProjGRefIdeal.main_arg1) = m' ((c.tc : Thread Cert.ProjGRefIdeal.nD Cert.ProjGRefIdeal.τ).loc Cert.ProjGRefIdeal.main_arg1)
          ∧ r.2.mem ((c.tc : Thread Cert.ProjGRefIdeal.nD Cert.ProjGRefIdeal.τ).loc Cert.ProjGRefIdeal.main_arg2) = m' ((c.tc : Thread Cert.ProjGRefIdeal.nD Cert.ProjGRefIdeal.τ).loc Cert.ProjGRefIdeal.main_arg2))

def preserves_SampleA_SampleAIdeal : Prop :=
  True

def algebraic_SampleAIdeal_SampleARefIdeal [hSampleAIdeal : Cert.SampleAIdeal.Facts] [hSampleARefIdeal : Cert.SampleARefIdeal.Facts] : Prop :=
  ∀ (m : (ℓ : Loc Cert.SampleAIdeal.nD Cert.SampleAIdeal.τ Cert.SampleAIdeal.sig) → Buf (Elt Ideal) ℓ) (g : Dev Cert.SampleAIdeal.nD → PrngReg)
    (m' : (ℓ : Loc Cert.SampleARefIdeal.nD Cert.SampleARefIdeal.τ Cert.SampleARefIdeal.sig) → Buf (Elt Ideal) ℓ) (g' : Dev Cert.SampleARefIdeal.nD → PrngReg), Pre_SampleAIdeal m →
    (∀ c : Dev Cert.SampleAIdeal.nD,
      m' ((c.tc : Thread Cert.SampleARefIdeal.nD Cert.SampleARefIdeal.τ).loc Cert.SampleARefIdeal.main_arg0) = m ((c.tc : Thread Cert.SampleAIdeal.nD Cert.SampleAIdeal.τ).loc Cert.SampleAIdeal.main_arg0)
      ∧ m' ((c.tc : Thread Cert.SampleARefIdeal.nD Cert.SampleARefIdeal.τ).loc Cert.SampleARefIdeal.main_arg1) = m ((c.tc : Thread Cert.SampleAIdeal.nD Cert.SampleAIdeal.τ).loc Cert.SampleAIdeal.main_arg1)
      ∧ m' ((c.tc : Thread Cert.SampleARefIdeal.nD Cert.SampleARefIdeal.τ).loc Cert.SampleARefIdeal.main_arg2) = m ((c.tc : Thread Cert.SampleAIdeal.nD Cert.SampleAIdeal.τ).loc Cert.SampleAIdeal.main_arg2)) →
    ∃ (v0 : (c : Dev Cert.SampleAIdeal.nD) → Buf (Elt Ideal) ((c.tc : Thread Cert.SampleAIdeal.nD Cert.SampleAIdeal.τ).loc Cert.SampleAIdeal.main_v27_0)) (v1 : (c : Dev Cert.SampleAIdeal.nD) → Buf (Elt Ideal) ((c.tc : Thread Cert.SampleAIdeal.nD Cert.SampleAIdeal.τ).loc Cert.SampleAIdeal.main_v27_1)) (v2 : (c : Dev Cert.SampleAIdeal.nD) → Buf (Elt Ideal) ((c.tc : Thread Cert.SampleAIdeal.nD Cert.SampleAIdeal.τ).loc Cert.SampleAIdeal.main_v27_2)),
      θ_run (Cert.SampleAIdeal.defs (F := Ideal)) (onTc (τ := Cert.SampleAIdeal.τ) (Cert.SampleAIdeal.main (F := Ideal))) ⟨m, fun _ => 0, g⟩ (fun r => ∀ c : Dev Cert.SampleAIdeal.nD,
          r.2.mem ((c.tc : Thread Cert.SampleAIdeal.nD Cert.SampleAIdeal.τ).loc Cert.SampleAIdeal.main_v27_0) = v0 c
          ∧ r.2.mem ((c.tc : Thread Cert.SampleAIdeal.nD Cert.SampleAIdeal.τ).loc Cert.SampleAIdeal.main_v27_1) = v1 c
          ∧ r.2.mem ((c.tc : Thread Cert.SampleAIdeal.nD Cert.SampleAIdeal.τ).loc Cert.SampleAIdeal.main_v27_2) = v2 c
          ∧ r.2.mem ((c.tc : Thread Cert.SampleAIdeal.nD Cert.SampleAIdeal.τ).loc Cert.SampleAIdeal.main_arg0) = m ((c.tc : Thread Cert.SampleAIdeal.nD Cert.SampleAIdeal.τ).loc Cert.SampleAIdeal.main_arg0)
          ∧ r.2.mem ((c.tc : Thread Cert.SampleAIdeal.nD Cert.SampleAIdeal.τ).loc Cert.SampleAIdeal.main_arg1) = m ((c.tc : Thread Cert.SampleAIdeal.nD Cert.SampleAIdeal.τ).loc Cert.SampleAIdeal.main_arg1)
          ∧ r.2.mem ((c.tc : Thread Cert.SampleAIdeal.nD Cert.SampleAIdeal.τ).loc Cert.SampleAIdeal.main_arg2) = m ((c.tc : Thread Cert.SampleAIdeal.nD Cert.SampleAIdeal.τ).loc Cert.SampleAIdeal.main_arg2))
      ∧ θ_run (Cert.SampleARefIdeal.defs (F := Ideal)) (onTc (τ := Cert.SampleARefIdeal.τ) (Cert.SampleARefIdeal.main (F := Ideal))) ⟨m', fun _ => 0, g'⟩ (fun r => ∀ c : Dev Cert.SampleARefIdeal.nD,
          r.2.mem ((c.tc : Thread Cert.SampleARefIdeal.nD Cert.SampleARefIdeal.τ).loc Cert.SampleARefIdeal.main_v56) = v0 c
          ∧ r.2.mem ((c.tc : Thread Cert.SampleARefIdeal.nD Cert.SampleARefIdeal.τ).loc Cert.SampleARefIdeal.main_v93) = v1 c
          ∧ r.2.mem ((c.tc : Thread Cert.SampleARefIdeal.nD Cert.SampleARefIdeal.τ).loc Cert.SampleARefIdeal.main_v95) = v2 c
          ∧ r.2.mem ((c.tc : Thread Cert.SampleARefIdeal.nD Cert.SampleARefIdeal.τ).loc Cert.SampleARefIdeal.main_arg0) = m' ((c.tc : Thread Cert.SampleARefIdeal.nD Cert.SampleARefIdeal.τ).loc Cert.SampleARefIdeal.main_arg0)
          ∧ r.2.mem ((c.tc : Thread Cert.SampleARefIdeal.nD Cert.SampleARefIdeal.τ).loc Cert.SampleARefIdeal.main_arg1) = m' ((c.tc : Thread Cert.SampleARefIdeal.nD Cert.SampleARefIdeal.τ).loc Cert.SampleARefIdeal.main_arg1)
          ∧ r.2.mem ((c.tc : Thread Cert.SampleARefIdeal.nD Cert.SampleARefIdeal.τ).loc Cert.SampleARefIdeal.main_arg2) = m' ((c.tc : Thread Cert.SampleARefIdeal.nD Cert.SampleARefIdeal.τ).loc Cert.SampleARefIdeal.main_arg2))

def preserves_SampleB_SampleBIdeal : Prop :=
  True

def algebraic_SampleBIdeal_SampleBRefIdeal [hSampleBIdeal : Cert.SampleBIdeal.Facts] [hSampleBRefIdeal : Cert.SampleBRefIdeal.Facts] : Prop :=
  ∀ (m : (ℓ : Loc Cert.SampleBIdeal.nD Cert.SampleBIdeal.τ Cert.SampleBIdeal.sig) → Buf (Elt Ideal) ℓ) (g : Dev Cert.SampleBIdeal.nD → PrngReg)
    (m' : (ℓ : Loc Cert.SampleBRefIdeal.nD Cert.SampleBRefIdeal.τ Cert.SampleBRefIdeal.sig) → Buf (Elt Ideal) ℓ) (g' : Dev Cert.SampleBRefIdeal.nD → PrngReg), Pre_SampleBIdeal m →
    (∀ c : Dev Cert.SampleBIdeal.nD,
      m' ((c.tc : Thread Cert.SampleBRefIdeal.nD Cert.SampleBRefIdeal.τ).loc Cert.SampleBRefIdeal.main_arg0) = m ((c.tc : Thread Cert.SampleBIdeal.nD Cert.SampleBIdeal.τ).loc Cert.SampleBIdeal.main_arg0)
      ∧ m' ((c.tc : Thread Cert.SampleBRefIdeal.nD Cert.SampleBRefIdeal.τ).loc Cert.SampleBRefIdeal.main_arg1) = m ((c.tc : Thread Cert.SampleBIdeal.nD Cert.SampleBIdeal.τ).loc Cert.SampleBIdeal.main_arg1)
      ∧ m' ((c.tc : Thread Cert.SampleBRefIdeal.nD Cert.SampleBRefIdeal.τ).loc Cert.SampleBRefIdeal.main_arg2) = m ((c.tc : Thread Cert.SampleBIdeal.nD Cert.SampleBIdeal.τ).loc Cert.SampleBIdeal.main_arg2)) →
    ∃ (v0 : (c : Dev Cert.SampleBIdeal.nD) → Buf (Elt Ideal) ((c.tc : Thread Cert.SampleBIdeal.nD Cert.SampleBIdeal.τ).loc Cert.SampleBIdeal.main_v38_2)) (v1 : (c : Dev Cert.SampleBIdeal.nD) → Buf (Elt Ideal) ((c.tc : Thread Cert.SampleBIdeal.nD Cert.SampleBIdeal.τ).loc Cert.SampleBIdeal.main_v38_3)) (v2 : (c : Dev Cert.SampleBIdeal.nD) → Buf (Elt Ideal) ((c.tc : Thread Cert.SampleBIdeal.nD Cert.SampleBIdeal.τ).loc Cert.SampleBIdeal.main_v38_4)) (v3 : (c : Dev Cert.SampleBIdeal.nD) → Buf (Elt Ideal) ((c.tc : Thread Cert.SampleBIdeal.nD Cert.SampleBIdeal.τ).loc Cert.SampleBIdeal.main_v38_5)) (v4 : (c : Dev Cert.SampleBIdeal.nD) → Buf (Elt Ideal) ((c.tc : Thread Cert.SampleBIdeal.nD Cert.SampleBIdeal.τ).loc Cert.SampleBIdeal.main_v38_6)) (v5 : (c : Dev Cert.SampleBIdeal.nD) → Buf (Elt Ideal) ((c.tc : Thread Cert.SampleBIdeal.nD Cert.SampleBIdeal.τ).loc Cert.SampleBIdeal.main_v38_7)) (v6 : (c : Dev Cert.SampleBIdeal.nD) → Buf (Elt Ideal) ((c.tc : Thread Cert.SampleBIdeal.nD Cert.SampleBIdeal.τ).loc Cert.SampleBIdeal.main_v38_8)),
      θ_run (Cert.SampleBIdeal.defs (F := Ideal)) (onTc (τ := Cert.SampleBIdeal.τ) (Cert.SampleBIdeal.main (F := Ideal))) ⟨m, fun _ => 0, g⟩ (fun r => ∀ c : Dev Cert.SampleBIdeal.nD,
          r.2.mem ((c.tc : Thread Cert.SampleBIdeal.nD Cert.SampleBIdeal.τ).loc Cert.SampleBIdeal.main_v38_2) = v0 c
          ∧ r.2.mem ((c.tc : Thread Cert.SampleBIdeal.nD Cert.SampleBIdeal.τ).loc Cert.SampleBIdeal.main_v38_3) = v1 c
          ∧ r.2.mem ((c.tc : Thread Cert.SampleBIdeal.nD Cert.SampleBIdeal.τ).loc Cert.SampleBIdeal.main_v38_4) = v2 c
          ∧ r.2.mem ((c.tc : Thread Cert.SampleBIdeal.nD Cert.SampleBIdeal.τ).loc Cert.SampleBIdeal.main_v38_5) = v3 c
          ∧ r.2.mem ((c.tc : Thread Cert.SampleBIdeal.nD Cert.SampleBIdeal.τ).loc Cert.SampleBIdeal.main_v38_6) = v4 c
          ∧ r.2.mem ((c.tc : Thread Cert.SampleBIdeal.nD Cert.SampleBIdeal.τ).loc Cert.SampleBIdeal.main_v38_7) = v5 c
          ∧ r.2.mem ((c.tc : Thread Cert.SampleBIdeal.nD Cert.SampleBIdeal.τ).loc Cert.SampleBIdeal.main_v38_8) = v6 c
          ∧ r.2.mem ((c.tc : Thread Cert.SampleBIdeal.nD Cert.SampleBIdeal.τ).loc Cert.SampleBIdeal.main_arg0) = m ((c.tc : Thread Cert.SampleBIdeal.nD Cert.SampleBIdeal.τ).loc Cert.SampleBIdeal.main_arg0)
          ∧ r.2.mem ((c.tc : Thread Cert.SampleBIdeal.nD Cert.SampleBIdeal.τ).loc Cert.SampleBIdeal.main_arg1) = m ((c.tc : Thread Cert.SampleBIdeal.nD Cert.SampleBIdeal.τ).loc Cert.SampleBIdeal.main_arg1)
          ∧ r.2.mem ((c.tc : Thread Cert.SampleBIdeal.nD Cert.SampleBIdeal.τ).loc Cert.SampleBIdeal.main_arg2) = m ((c.tc : Thread Cert.SampleBIdeal.nD Cert.SampleBIdeal.τ).loc Cert.SampleBIdeal.main_arg2))
      ∧ θ_run (Cert.SampleBRefIdeal.defs (F := Ideal)) (onTc (τ := Cert.SampleBRefIdeal.τ) (Cert.SampleBRefIdeal.main (F := Ideal))) ⟨m', fun _ => 0, g'⟩ (fun r => ∀ c : Dev Cert.SampleBRefIdeal.nD,
          r.2.mem ((c.tc : Thread Cert.SampleBRefIdeal.nD Cert.SampleBRefIdeal.τ).loc Cert.SampleBRefIdeal.main_v28) = v0 c
          ∧ r.2.mem ((c.tc : Thread Cert.SampleBRefIdeal.nD Cert.SampleBRefIdeal.τ).loc Cert.SampleBRefIdeal.main_v30) = v1 c
          ∧ r.2.mem ((c.tc : Thread Cert.SampleBRefIdeal.nD Cert.SampleBRefIdeal.τ).loc Cert.SampleBRefIdeal.main_v67) = v2 c
          ∧ r.2.mem ((c.tc : Thread Cert.SampleBRefIdeal.nD Cert.SampleBRefIdeal.τ).loc Cert.SampleBRefIdeal.main_v69) = v3 c
          ∧ r.2.mem ((c.tc : Thread Cert.SampleBRefIdeal.nD Cert.SampleBRefIdeal.τ).loc Cert.SampleBRefIdeal.main_v106) = v4 c
          ∧ r.2.mem ((c.tc : Thread Cert.SampleBRefIdeal.nD Cert.SampleBRefIdeal.τ).loc Cert.SampleBRefIdeal.main_v108) = v5 c
          ∧ r.2.mem ((c.tc : Thread Cert.SampleBRefIdeal.nD Cert.SampleBRefIdeal.τ).loc Cert.SampleBRefIdeal.main_v26) = v6 c
          ∧ r.2.mem ((c.tc : Thread Cert.SampleBRefIdeal.nD Cert.SampleBRefIdeal.τ).loc Cert.SampleBRefIdeal.main_arg0) = m' ((c.tc : Thread Cert.SampleBRefIdeal.nD Cert.SampleBRefIdeal.τ).loc Cert.SampleBRefIdeal.main_arg0)
          ∧ r.2.mem ((c.tc : Thread Cert.SampleBRefIdeal.nD Cert.SampleBRefIdeal.τ).loc Cert.SampleBRefIdeal.main_arg1) = m' ((c.tc : Thread Cert.SampleBRefIdeal.nD Cert.SampleBRefIdeal.τ).loc Cert.SampleBRefIdeal.main_arg1)
          ∧ r.2.mem ((c.tc : Thread Cert.SampleBRefIdeal.nD Cert.SampleBRefIdeal.τ).loc Cert.SampleBRefIdeal.main_arg2) = m' ((c.tc : Thread Cert.SampleBRefIdeal.nD Cert.SampleBRefIdeal.τ).loc Cert.SampleBRefIdeal.main_arg2))

def preserves_SampleC_SampleCIdeal : Prop :=
  True

def algebraic_SampleCIdeal_SampleCRefIdeal [hSampleCIdeal : Cert.SampleCIdeal.Facts] [hSampleCRefIdeal : Cert.SampleCRefIdeal.Facts] : Prop :=
  ∀ (m : (ℓ : Loc Cert.SampleCIdeal.nD Cert.SampleCIdeal.τ Cert.SampleCIdeal.sig) → Buf (Elt Ideal) ℓ) (g : Dev Cert.SampleCIdeal.nD → PrngReg)
    (m' : (ℓ : Loc Cert.SampleCRefIdeal.nD Cert.SampleCRefIdeal.τ Cert.SampleCRefIdeal.sig) → Buf (Elt Ideal) ℓ) (g' : Dev Cert.SampleCRefIdeal.nD → PrngReg), Pre_SampleCIdeal m →
    (∀ c : Dev Cert.SampleCIdeal.nD,
      m' ((c.tc : Thread Cert.SampleCRefIdeal.nD Cert.SampleCRefIdeal.τ).loc Cert.SampleCRefIdeal.main_arg0) = m ((c.tc : Thread Cert.SampleCIdeal.nD Cert.SampleCIdeal.τ).loc Cert.SampleCIdeal.main_arg0)
      ∧ m' ((c.tc : Thread Cert.SampleCRefIdeal.nD Cert.SampleCRefIdeal.τ).loc Cert.SampleCRefIdeal.main_arg1) = m ((c.tc : Thread Cert.SampleCIdeal.nD Cert.SampleCIdeal.τ).loc Cert.SampleCIdeal.main_arg1)
      ∧ m' ((c.tc : Thread Cert.SampleCRefIdeal.nD Cert.SampleCRefIdeal.τ).loc Cert.SampleCRefIdeal.main_arg2) = m ((c.tc : Thread Cert.SampleCIdeal.nD Cert.SampleCIdeal.τ).loc Cert.SampleCIdeal.main_arg2)) →
    ∃ (v0 : (c : Dev Cert.SampleCIdeal.nD) → Buf (Elt Ideal) ((c.tc : Thread Cert.SampleCIdeal.nD Cert.SampleCIdeal.τ).loc Cert.SampleCIdeal.main_v36_1)) (v1 : (c : Dev Cert.SampleCIdeal.nD) → Buf (Elt Ideal) ((c.tc : Thread Cert.SampleCIdeal.nD Cert.SampleCIdeal.τ).loc Cert.SampleCIdeal.main_v36_2)),
      θ_run (Cert.SampleCIdeal.defs (F := Ideal)) (onTc (τ := Cert.SampleCIdeal.τ) (Cert.SampleCIdeal.main (F := Ideal))) ⟨m, fun _ => 0, g⟩ (fun r => ∀ c : Dev Cert.SampleCIdeal.nD,
          r.2.mem ((c.tc : Thread Cert.SampleCIdeal.nD Cert.SampleCIdeal.τ).loc Cert.SampleCIdeal.main_v36_1) = v0 c
          ∧ r.2.mem ((c.tc : Thread Cert.SampleCIdeal.nD Cert.SampleCIdeal.τ).loc Cert.SampleCIdeal.main_v36_2) = v1 c
          ∧ r.2.mem ((c.tc : Thread Cert.SampleCIdeal.nD Cert.SampleCIdeal.τ).loc Cert.SampleCIdeal.main_arg0) = m ((c.tc : Thread Cert.SampleCIdeal.nD Cert.SampleCIdeal.τ).loc Cert.SampleCIdeal.main_arg0)
          ∧ r.2.mem ((c.tc : Thread Cert.SampleCIdeal.nD Cert.SampleCIdeal.τ).loc Cert.SampleCIdeal.main_arg1) = m ((c.tc : Thread Cert.SampleCIdeal.nD Cert.SampleCIdeal.τ).loc Cert.SampleCIdeal.main_arg1)
          ∧ r.2.mem ((c.tc : Thread Cert.SampleCIdeal.nD Cert.SampleCIdeal.τ).loc Cert.SampleCIdeal.main_arg2) = m ((c.tc : Thread Cert.SampleCIdeal.nD Cert.SampleCIdeal.τ).loc Cert.SampleCIdeal.main_arg2))
      ∧ θ_run (Cert.SampleCRefIdeal.defs (F := Ideal)) (onTc (τ := Cert.SampleCRefIdeal.τ) (Cert.SampleCRefIdeal.main (F := Ideal))) ⟨m', fun _ => 0, g'⟩ (fun r => ∀ c : Dev Cert.SampleCRefIdeal.nD,
          r.2.mem ((c.tc : Thread Cert.SampleCRefIdeal.nD Cert.SampleCRefIdeal.τ).loc Cert.SampleCRefIdeal.main_v55) = v0 c
          ∧ r.2.mem ((c.tc : Thread Cert.SampleCRefIdeal.nD Cert.SampleCRefIdeal.τ).loc Cert.SampleCRefIdeal.main_v57) = v1 c
          ∧ r.2.mem ((c.tc : Thread Cert.SampleCRefIdeal.nD Cert.SampleCRefIdeal.τ).loc Cert.SampleCRefIdeal.main_arg0) = m' ((c.tc : Thread Cert.SampleCRefIdeal.nD Cert.SampleCRefIdeal.τ).loc Cert.SampleCRefIdeal.main_arg0)
          ∧ r.2.mem ((c.tc : Thread Cert.SampleCRefIdeal.nD Cert.SampleCRefIdeal.τ).loc Cert.SampleCRefIdeal.main_arg1) = m' ((c.tc : Thread Cert.SampleCRefIdeal.nD Cert.SampleCRefIdeal.τ).loc Cert.SampleCRefIdeal.main_arg1)
          ∧ r.2.mem ((c.tc : Thread Cert.SampleCRefIdeal.nD Cert.SampleCRefIdeal.τ).loc Cert.SampleCRefIdeal.main_arg2) = m' ((c.tc : Thread Cert.SampleCRefIdeal.nD Cert.SampleCRefIdeal.τ).loc Cert.SampleCRefIdeal.main_arg2))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hProjC : Cert.ProjC.Facts) (hProjCIdeal : Cert.ProjCIdeal.Facts) (hProjCRefIdeal : Cert.ProjCRefIdeal.Facts) (hProjG : Cert.ProjG.Facts) (hProjGIdeal : Cert.ProjGIdeal.Facts) (hProjGRefIdeal : Cert.ProjGRefIdeal.Facts) (hSampleA : Cert.SampleA.Facts) (hSampleAIdeal : Cert.SampleAIdeal.Facts) (hSampleARefIdeal : Cert.SampleARefIdeal.Facts) (hSampleB : Cert.SampleB.Facts) (hSampleBIdeal : Cert.SampleBIdeal.Facts) (hSampleBRefIdeal : Cert.SampleBRefIdeal.Facts) (hSampleC : Cert.SampleC.Facts) (hSampleCIdeal : Cert.SampleCIdeal.Facts) (hSampleCRefIdeal : Cert.SampleCRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_ProjC (hProjC := hProjC)
    ∧ quiescent_ProjCIdeal (hProjCIdeal := hProjCIdeal)
    ∧ quiescent_ProjCRefIdeal (hProjCRefIdeal := hProjCRefIdeal)
    ∧ quiescent_ProjG (hProjG := hProjG)
    ∧ quiescent_ProjGIdeal (hProjGIdeal := hProjGIdeal)
    ∧ quiescent_ProjGRefIdeal (hProjGRefIdeal := hProjGRefIdeal)
    ∧ quiescent_SampleA (hSampleA := hSampleA)
    ∧ quiescent_SampleAIdeal (hSampleAIdeal := hSampleAIdeal)
    ∧ quiescent_SampleARefIdeal (hSampleARefIdeal := hSampleARefIdeal)
    ∧ quiescent_SampleB (hSampleB := hSampleB)
    ∧ quiescent_SampleBIdeal (hSampleBIdeal := hSampleBIdeal)
    ∧ quiescent_SampleBRefIdeal (hSampleBRefIdeal := hSampleBRefIdeal)
    ∧ quiescent_SampleC (hSampleC := hSampleC)
    ∧ quiescent_SampleCIdeal (hSampleCIdeal := hSampleCIdeal)
    ∧ quiescent_SampleCRefIdeal (hSampleCRefIdeal := hSampleCRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeRefIdeal (hMergeIdeal := hMergeIdeal) (hMergeRefIdeal := hMergeRefIdeal)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_ProjC_ProjCIdeal
    ∧ algebraic_ProjCIdeal_ProjCRefIdeal (hProjCIdeal := hProjCIdeal) (hProjCRefIdeal := hProjCRefIdeal)
    ∧ preserves_ProjG_ProjGIdeal
    ∧ algebraic_ProjGIdeal_ProjGRefIdeal (hProjGIdeal := hProjGIdeal) (hProjGRefIdeal := hProjGRefIdeal)
    ∧ preserves_SampleA_SampleAIdeal
    ∧ algebraic_SampleAIdeal_SampleARefIdeal (hSampleAIdeal := hSampleAIdeal) (hSampleARefIdeal := hSampleARefIdeal)
    ∧ preserves_SampleB_SampleBIdeal
    ∧ algebraic_SampleBIdeal_SampleBRefIdeal (hSampleBIdeal := hSampleBIdeal) (hSampleBRefIdeal := hSampleBRefIdeal)
    ∧ preserves_SampleC_SampleCIdeal
    ∧ algebraic_SampleCIdeal_SampleCRefIdeal (hSampleCIdeal := hSampleCIdeal) (hSampleCRefIdeal := hSampleCRefIdeal)
-- ==== Pre_finite.lean ====
abbrev S4x64 : Shape := ⟨2, ![4, 64]⟩
abbrev S1x128 : Shape := ⟨2, ![1, 128]⟩
abbrev S8x2048x512 : Shape := ⟨3, ![8, 2048, 512]⟩
abbrev S8x2048x256 : Shape := ⟨3, ![8, 2048, 256]⟩
abbrev S_ : Shape := ⟨0, ![]⟩

class Facts : Prop where
  bcast_S_S4x64 : S_.BroadcastsInDim S4x64 (![] : Fin 0 → Fin S4x64.rank)
  bcast_S_S8x2048x512 : S_.BroadcastsInDim S8x2048x512 (![] : Fin 0 → Fin S8x2048x512.rank)
  bcast_S_S8x2048x256 : S_.BroadcastsInDim S8x2048x256 (![] : Fin 0 → Fin S8x2048x256.rank)

variable [Facts]

def fn {F : FTy → Type} [FloatOps F] (main_arg0 : FVec F S4x64 .f32) (main_arg1 : FVec F S1x128 .f32) (main_arg2 : FVec F S8x2048x512 .f32) (main_arg3 : FVec F S8x2048x256 .f32) (main_arg4 : FVec F S8x2048x256 .f32) : IVec S4x64 1 × IVec S8x2048x512 1 × IVec S8x2048x256 1 × IVec S8x2048x256 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_v3 : FVec F S8x2048x512 .f32 := Host.absf main_arg2
  let main_cst_0 : FVec F S_ .f32 := constant S_ .f32 0x7F800000#32
  let main_v4 : FVec F S8x2048x512 .f32 := broadcastInDim S8x2048x512 ![] bcast_S_S8x2048x512 main_cst_0
  let main_v5 : IVec S8x2048x512 1 := cmpf .olt main_v3 main_v4
  let main_v6 : FVec F S8x2048x256 .f32 := Host.absf main_arg3
  let main_cst_1 : FVec F S_ .f32 := constant S_ .f32 0x7F800000#32
  let main_v7 : FVec F S8x2048x256 .f32 := broadcastInDim S8x2048x256 ![] bcast_S_S8x2048x256 main_cst_1
  let main_v8 : IVec S8x2048x256 1 := cmpf .olt main_v6 main_v7
  let main_v9 : FVec F S8x2048x256 .f32 := Host.absf main_arg4
  let main_cst_2 : FVec F S_ .f32 := constant S_ .f32 0x7F800000#32
  let main_v10 : FVec F S8x2048x256 .f32 := broadcastInDim S8x2048x256 ![] bcast_S_S8x2048x256 main_cst_2
  let main_v11 : IVec S8x2048x256 1 := cmpf .olt main_v9 main_v10
  (main_v2, main_v5, main_v8, main_v11)
-- ==== Kernel.lean ====
abbrev S4x64 : Shape := ⟨2, ![4, 64]⟩
abbrev S1x128 : Shape := ⟨2, ![1, 128]⟩
abbrev S8x2048x512 : Shape := ⟨3, ![8, 2048, 512]⟩
abbrev S8x2048x256 : Shape := ⟨3, ![8, 2048, 256]⟩
abbrev S1x256x256 : Shape := ⟨3, ![1, 256, 256]⟩
abbrev S1x2048x128 : Shape := ⟨3, ![1, 2048, 128]⟩
abbrev S4x256x128 : Shape := ⟨3, ![4, 256, 128]⟩
abbrev S256x1 : Shape := ⟨2, ![256, 1]⟩
abbrev S1x256x128 : Shape := ⟨3, ![1, 256, 128]⟩
abbrev S256x128 : Shape := ⟨2, ![256, 128]⟩
abbrev S1x1024x128 : Shape := ⟨3, ![1, 1024, 128]⟩
abbrev S1024x128 : Shape := ⟨2, ![1024, 128]⟩
abbrev S256x1024 : Shape := ⟨2, ![256, 1024]⟩
abbrev S256 : Shape := ⟨1, ![256]⟩
abbrev S1x512x128 : Shape := ⟨3, ![1, 512, 128]⟩
abbrev S512x128 : Shape := ⟨2, ![512, 128]⟩
abbrev S256x512 : Shape := ⟨2, ![256, 512]⟩
abbrev S256x256 : Shape := ⟨2, ![256, 256]⟩
abbrev S1x256 : Shape := ⟨2, ![1, 256]⟩
abbrev S1x64 : Shape := ⟨2, ![1, 64]⟩
abbrev S1 : Shape := ⟨1, ![1]⟩
abbrev S1x1 : Shape := ⟨2, ![1, 1]⟩

abbrev nBuf : Space → Nat
  | .hbm => 6
  | .vmem => 13
  | .smem => 0
  | _ => 0

abbrev bufTy : (tb : Table) → Fin (tcTables nBuf tb) → BufTy
  | .hbm, ⟨0, _⟩ => ⟨S4x64, .f32⟩
  | .hbm, ⟨1, _⟩ => ⟨S1x128, .f32⟩
  | .hbm, ⟨2, _⟩ => ⟨S8x2048x512, .f32⟩
  | .hbm, ⟨3, _⟩ => ⟨S8x2048x256, .f32⟩
  | .hbm, ⟨4, _⟩ => ⟨S8x2048x256, .f32⟩
  | .hbm, ⟨5, _⟩ => ⟨S8x2048x512, .f32⟩
  | .local _ .vmem, ⟨0, _⟩ => ⟨S4x64, .f32⟩
  | .local _ .vmem, ⟨1, _⟩ => ⟨S1x128, .f32⟩
  | .local _ .vmem, ⟨2, _⟩ => ⟨S1x256x256, .f32⟩
  | .local _ .vmem, ⟨3, _⟩ => ⟨S1x256x256, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x256x256, .f32⟩
  | .local _ .vmem, ⟨9, _⟩ => ⟨S1x256x256, .f32⟩
  | .local _ .vmem, ⟨10, _⟩ => ⟨S4x256x128, .f32⟩
  | .local _ .vmem, ⟨11, _⟩ => ⟨S4x256x128, .f32⟩
  | .local _ .vmem, ⟨12, _⟩ => ⟨S4x256x128, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 2, 8], ![false, false, false]⟩

@[reducible] def k0_t1_loop (i : grid0.Coords) : Scf.Loop 32 :=
  let c0_i32_42 : BitVec 32 := 0#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v102 : BitVec 32 := Scalar.subi v82 c0_i32_42
  let c1_i32_43 : BitVec 32 := 1#32
  let v104 : BitVec 32 := Scalar.divsi v102 c1_i32_43
  let v105 : BitVec 32 := Scalar.muli v104 c1_i32_43
  let v106 : BitVec 32 := Scalar.addi c0_i32_42 v105
  let c1_i32_44 : BitVec 32 := 1#32
  ⟨c0_i32_42, v106, c1_i32_44⟩
def k0_mult1 (i : grid0.Coords) (k0_t1 : Fin (k0_t1_loop i).trips) : BitVec 32 :=
  let c0_i32_42 : BitVec 32 := 0#32
  let c1_i32_44 : BitVec 32 := 1#32
  let arg12 : BitVec 32 := Scf.iv c0_i32_42 c1_i32_44 k0_t1
  let c1024_i32 : BitVec 32 := 1024#32
  let v234 : BitVec 32 := Scalar.muli arg12 c1024_i32
  v234
def k0_off1 (i : grid0.Coords) (k0_t1 : Fin (k0_t1_loop i).trips) : Fin 3 → Nat :=
  let c0_120 : Index := 0#32
  let c0_i32_42 : BitVec 32 := 0#32
  let c1_i32_44 : BitVec 32 := 1#32
  let arg12 : BitVec 32 := Scf.iv c0_i32_42 c1_i32_44 k0_t1
  let c1024_i32 : BitVec 32 := 1024#32
  let v234 : BitVec 32 := Scalar.muli arg12 c1024_i32
  let v235 : BitVec 32 := v234
  let v236 : Index := Scalar.indexCast v235
  let c0_121 : Index := 0#32
  ![0, v236.toNat, 0]
def k0_mult2 (i : grid0.Coords) (k0_t1 : Fin (k0_t1_loop i).trips) : BitVec 32 :=
  let c0_i32_42 : BitVec 32 := 0#32
  let c1_i32_44 : BitVec 32 := 1#32
  let arg12 : BitVec 32 := Scf.iv c0_i32_42 c1_i32_44 k0_t1
  let c1024_i32_122 : BitVec 32 := 1024#32
  let v240 : BitVec 32 := Scalar.muli arg12 c1024_i32_122
  v240
@[reducible] def k0_t2_loop (i : grid0.Coords) : Scf.Loop 32 :=
  let c0_i32_42 : BitVec 32 := 0#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v102 : BitVec 32 := Scalar.subi v82 c0_i32_42
  let c1_i32_43 : BitVec 32 := 1#32
  let v104 : BitVec 32 := Scalar.divsi v102 c1_i32_43
  let v105 : BitVec 32 := Scalar.muli v104 c1_i32_43
  let v106 : BitVec 32 := Scalar.addi c0_i32_42 v105
  let v103 : BitVec 32 := Scalar.addi c0_i32_42 v102
  let c1_i32_45 : BitVec 32 := 1#32
  ⟨v106, v103, c1_i32_45⟩
def k0_mult3 (i : grid0.Coords) (k0_t2 : Fin (k0_t2_loop i).trips) : BitVec 32 :=
  let c0_i32_42 : BitVec 32 := 0#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v102 : BitVec 32 := Scalar.subi v82 c0_i32_42
  let c1_i32_43 : BitVec 32 := 1#32
  let v104 : BitVec 32 := Scalar.divsi v102 c1_i32_43
  let v105 : BitVec 32 := Scalar.muli v104 c1_i32_43
  let v106 : BitVec 32 := Scalar.addi c0_i32_42 v105
  let c1_i32_45 : BitVec 32 := 1#32
  let arg12 : BitVec 32 := Scf.iv v106 c1_i32_45 k0_t2
  let c1024_i32 : BitVec 32 := 1024#32
  let v234 : BitVec 32 := Scalar.muli arg12 c1024_i32
  v234
def k0_off2 (i : grid0.Coords) (k0_t2 : Fin (k0_t2_loop i).trips) : Fin 3 → Nat :=
  let c0_120 : Index := 0#32
  let c0_i32_42 : BitVec 32 := 0#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v102 : BitVec 32 := Scalar.subi v82 c0_i32_42
  let c1_i32_43 : BitVec 32 := 1#32
  let v104 : BitVec 32 := Scalar.divsi v102 c1_i32_43
  let v105 : BitVec 32 := Scalar.muli v104 c1_i32_43
  let v106 : BitVec 32 := Scalar.addi c0_i32_42 v105
  let c1_i32_45 : BitVec 32 := 1#32
  let arg12 : BitVec 32 := Scf.iv v106 c1_i32_45 k0_t2
  let c1024_i32 : BitVec 32 := 1024#32
  let v234 : BitVec 32 := Scalar.muli arg12 c1024_i32
  let v235 : BitVec 32 := v234
  let v236 : Index := Scalar.indexCast v235
  let c0_121 : Index := 0#32
  ![0, v236.toNat, 0]
def k0_mult4 (i : grid0.Coords) (k0_t2 : Fin (k0_t2_loop i).trips) : BitVec 32 :=
  let c0_i32_42 : BitVec 32 := 0#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v102 : BitVec 32 := Scalar.subi v82 c0_i32_42
  let c1_i32_43 : BitVec 32 := 1#32
  let v104 : BitVec 32 := Scalar.divsi v102 c1_i32_43
  let v105 : BitVec 32 := Scalar.muli v104 c1_i32_43
  let v106 : BitVec 32 := Scalar.addi c0_i32_42 v105
  let c1_i32_45 : BitVec 32 := 1#32
  let arg12 : BitVec 32 := Scf.iv v106 c1_i32_45 k0_t2
  let c1024_i32_122 : BitVec 32 := 1024#32
  let v240 : BitVec 32 := Scalar.muli arg12 c1024_i32_122
  v240
@[reducible] def k0_t3_loop (i : grid0.Coords) : Scf.Loop 32 :=
  let c2_i32_46 : BitVec 32 := 2#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v107 : BitVec 32 := Scalar.muli c2_i32_46 v82
  let c2_i32_47 : BitVec 32 := 2#32
  let v108 : BitVec 32 := Scalar.muli c2_i32_47 v82
  let c4_i32_34 : BitVec 32 := 4#32
  let v83 : BitVec 32 := Scalar.muli c4_i32_34 v82
  let v84 : BitVec 32 := Scalar.subi v65 v83
  let c0_i32_35 : BitVec 32 := 0#32
  let v86 : BitVec 1 := Scalar.cmpi .sgt v84 c0_i32_35
  let v87 : BitVec 32 := Scalar.extui v86
  let c0_i32_36 : BitVec 32 := 0#32
  let v88 : BitVec 1 := Scalar.cmpi .slt v84 c0_i32_36
  let v89 : BitVec 32 := Scalar.extui v88
  let v90 : BitVec 32 := Scalar.subi v87 v89
  let c2_i32 : BitVec 32 := 2#32
  let c0_i32_37 : BitVec 32 := 0#32
  let v91 : BitVec 1 := Scalar.cmpi .sgt c2_i32 c0_i32_37
  let v92 : BitVec 32 := Scalar.extui v91
  let c0_i32_38 : BitVec 32 := 0#32
  let v93 : BitVec 1 := Scalar.cmpi .slt c2_i32 c0_i32_38
  let v94 : BitVec 32 := Scalar.extui v93
  let v95 : BitVec 32 := Scalar.subi v92 v94
  let v96 : BitVec 1 := Scalar.cmpi .ne v90 v95
  let v97 : BitVec 32 := Scalar.remsi v84 c2_i32
  let c0_i32_39 : BitVec 32 := 0#32
  let v98 : BitVec 1 := Scalar.cmpi .ne v97 c0_i32_39
  let v99 : BitVec 1 := Scalar.andi v96 v98
  let v85 : BitVec 32 := Scalar.divsi v84 c2_i32
  let c1_i32_40 : BitVec 32 := 1#32
  let v100 : BitVec 32 := Scalar.subi v85 c1_i32_40
  let v101 : BitVec 32 := Scalar.select v99 v100 v85
  let v109 : BitVec 32 := Scalar.addi v108 v101
  let v110 : BitVec 32 := Scalar.subi v109 v107
  let c1_i32_49 : BitVec 32 := 1#32
  let v112 : BitVec 32 := Scalar.divsi v110 c1_i32_49
  let v113 : BitVec 32 := Scalar.muli v112 c1_i32_49
  let v114 : BitVec 32 := Scalar.addi v107 v113
  let c1_i32_50 : BitVec 32 := 1#32
  ⟨v107, v114, c1_i32_50⟩
def k0_mult5 (i : grid0.Coords) (k0_t3 : Fin (k0_t3_loop i).trips) : BitVec 32 :=
  let c2_i32_46 : BitVec 32 := 2#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v107 : BitVec 32 := Scalar.muli c2_i32_46 v82
  let c1_i32_50 : BitVec 32 := 1#32
  let arg12 : BitVec 32 := Scf.iv v107 c1_i32_50 k0_t3
  let c512_i32 : BitVec 32 := 512#32
  let v234 : BitVec 32 := Scalar.muli arg12 c512_i32
  v234
def k0_off3 (i : grid0.Coords) (k0_t3 : Fin (k0_t3_loop i).trips) : Fin 3 → Nat :=
  let c0_120 : Index := 0#32
  let c2_i32_46 : BitVec 32 := 2#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v107 : BitVec 32 := Scalar.muli c2_i32_46 v82
  let c1_i32_50 : BitVec 32 := 1#32
  let arg12 : BitVec 32 := Scf.iv v107 c1_i32_50 k0_t3
  let c512_i32 : BitVec 32 := 512#32
  let v234 : BitVec 32 := Scalar.muli arg12 c512_i32
  let v235 : BitVec 32 := v234
  let v236 : Index := Scalar.indexCast v235
  let c0_121 : Index := 0#32
  ![0, v236.toNat, 0]
def k0_mult6 (i : grid0.Coords) (k0_t3 : Fin (k0_t3_loop i).trips) : BitVec 32 :=
  let c2_i32_46 : BitVec 32 := 2#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v107 : BitVec 32 := Scalar.muli c2_i32_46 v82
  let c1_i32_50 : BitVec 32 := 1#32
  let arg12 : BitVec 32 := Scf.iv v107 c1_i32_50 k0_t3
  let c512_i32_122 : BitVec 32 := 512#32
  let v240 : BitVec 32 := Scalar.muli arg12 c512_i32_122
  v240
@[reducible] def k0_t4_loop (i : grid0.Coords) : Scf.Loop 32 :=
  let c2_i32_46 : BitVec 32 := 2#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v107 : BitVec 32 := Scalar.muli c2_i32_46 v82
  let c2_i32_47 : BitVec 32 := 2#32
  let v108 : BitVec 32 := Scalar.muli c2_i32_47 v82
  let c4_i32_34 : BitVec 32 := 4#32
  let v83 : BitVec 32 := Scalar.muli c4_i32_34 v82
  let v84 : BitVec 32 := Scalar.subi v65 v83
  let c0_i32_35 : BitVec 32 := 0#32
  let v86 : BitVec 1 := Scalar.cmpi .sgt v84 c0_i32_35
  let v87 : BitVec 32 := Scalar.extui v86
  let c0_i32_36 : BitVec 32 := 0#32
  let v88 : BitVec 1 := Scalar.cmpi .slt v84 c0_i32_36
  let v89 : BitVec 32 := Scalar.extui v88
  let v90 : BitVec 32 := Scalar.subi v87 v89
  let c2_i32 : BitVec 32 := 2#32
  let c0_i32_37 : BitVec 32 := 0#32
  let v91 : BitVec 1 := Scalar.cmpi .sgt c2_i32 c0_i32_37
  let v92 : BitVec 32 := Scalar.extui v91
  let c0_i32_38 : BitVec 32 := 0#32
  let v93 : BitVec 1 := Scalar.cmpi .slt c2_i32 c0_i32_38
  let v94 : BitVec 32 := Scalar.extui v93
  let v95 : BitVec 32 := Scalar.subi v92 v94
  let v96 : BitVec 1 := Scalar.cmpi .ne v90 v95
  let v97 : BitVec 32 := Scalar.remsi v84 c2_i32
  let c0_i32_39 : BitVec 32 := 0#32
  let v98 : BitVec 1 := Scalar.cmpi .ne v97 c0_i32_39
  let v99 : BitVec 1 := Scalar.andi v96 v98
  let v85 : BitVec 32 := Scalar.divsi v84 c2_i32
  let c1_i32_40 : BitVec 32 := 1#32
  let v100 : BitVec 32 := Scalar.subi v85 c1_i32_40
  let v101 : BitVec 32 := Scalar.select v99 v100 v85
  let v109 : BitVec 32 := Scalar.addi v108 v101
  let v110 : BitVec 32 := Scalar.subi v109 v107
  let c1_i32_49 : BitVec 32 := 1#32
  let v112 : BitVec 32 := Scalar.divsi v110 c1_i32_49
  let v113 : BitVec 32 := Scalar.muli v112 c1_i32_49
  let v114 : BitVec 32 := Scalar.addi v107 v113
  let v111 : BitVec 32 := Scalar.addi v107 v110
  let c1_i32_51 : BitVec 32 := 1#32
  ⟨v114, v111, c1_i32_51⟩
def k0_mult7 (i : grid0.Coords) (k0_t4 : Fin (k0_t4_loop i).trips) : BitVec 32 :=
  let c2_i32_46 : BitVec 32 := 2#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v107 : BitVec 32 := Scalar.muli c2_i32_46 v82
  let c2_i32_47 : BitVec 32 := 2#32
  let v108 : BitVec 32 := Scalar.muli c2_i32_47 v82
  let c4_i32_34 : BitVec 32 := 4#32
  let v83 : BitVec 32 := Scalar.muli c4_i32_34 v82
  let v84 : BitVec 32 := Scalar.subi v65 v83
  let c0_i32_35 : BitVec 32 := 0#32
  let v86 : BitVec 1 := Scalar.cmpi .sgt v84 c0_i32_35
  let v87 : BitVec 32 := Scalar.extui v86
  let c0_i32_36 : BitVec 32 := 0#32
  let v88 : BitVec 1 := Scalar.cmpi .slt v84 c0_i32_36
  let v89 : BitVec 32 := Scalar.extui v88
  let v90 : BitVec 32 := Scalar.subi v87 v89
  let c2_i32 : BitVec 32 := 2#32
  let c0_i32_37 : BitVec 32 := 0#32
  let v91 : BitVec 1 := Scalar.cmpi .sgt c2_i32 c0_i32_37
  let v92 : BitVec 32 := Scalar.extui v91
  let c0_i32_38 : BitVec 32 := 0#32
  let v93 : BitVec 1 := Scalar.cmpi .slt c2_i32 c0_i32_38
  let v94 : BitVec 32 := Scalar.extui v93
  let v95 : BitVec 32 := Scalar.subi v92 v94
  let v96 : BitVec 1 := Scalar.cmpi .ne v90 v95
  let v97 : BitVec 32 := Scalar.remsi v84 c2_i32
  let c0_i32_39 : BitVec 32 := 0#32
  let v98 : BitVec 1 := Scalar.cmpi .ne v97 c0_i32_39
  let v99 : BitVec 1 := Scalar.andi v96 v98
  let v85 : BitVec 32 := Scalar.divsi v84 c2_i32
  let c1_i32_40 : BitVec 32 := 1#32
  let v100 : BitVec 32 := Scalar.subi v85 c1_i32_40
  let v101 : BitVec 32 := Scalar.select v99 v100 v85
  let v109 : BitVec 32 := Scalar.addi v108 v101
  let v110 : BitVec 32 := Scalar.subi v109 v107
  let c1_i32_49 : BitVec 32 := 1#32
  let v112 : BitVec 32 := Scalar.divsi v110 c1_i32_49
  let v113 : BitVec 32 := Scalar.muli v112 c1_i32_49
  let v114 : BitVec 32 := Scalar.addi v107 v113
  let c1_i32_51 : BitVec 32 := 1#32
  let arg12 : BitVec 32 := Scf.iv v114 c1_i32_51 k0_t4
  let c512_i32 : BitVec 32 := 512#32
  let v234 : BitVec 32 := Scalar.muli arg12 c512_i32
  v234
def k0_off4 (i : grid0.Coords) (k0_t4 : Fin (k0_t4_loop i).trips) : Fin 3 → Nat :=
  let c0_120 : Index := 0#32
  let c2_i32_46 : BitVec 32 := 2#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v107 : BitVec 32 := Scalar.muli c2_i32_46 v82
  let c2_i32_47 : BitVec 32 := 2#32
  let v108 : BitVec 32 := Scalar.muli c2_i32_47 v82
  let c4_i32_34 : BitVec 32 := 4#32
  let v83 : BitVec 32 := Scalar.muli c4_i32_34 v82
  let v84 : BitVec 32 := Scalar.subi v65 v83
  let c0_i32_35 : BitVec 32 := 0#32
  let v86 : BitVec 1 := Scalar.cmpi .sgt v84 c0_i32_35
  let v87 : BitVec 32 := Scalar.extui v86
  let c0_i32_36 : BitVec 32 := 0#32
  let v88 : BitVec 1 := Scalar.cmpi .slt v84 c0_i32_36
  let v89 : BitVec 32 := Scalar.extui v88
  let v90 : BitVec 32 := Scalar.subi v87 v89
  let c2_i32 : BitVec 32 := 2#32
  let c0_i32_37 : BitVec 32 := 0#32
  let v91 : BitVec 1 := Scalar.cmpi .sgt c2_i32 c0_i32_37
  let v92 : BitVec 32 := Scalar.extui v91
  let c0_i32_38 : BitVec 32 := 0#32
  let v93 : BitVec 1 := Scalar.cmpi .slt c2_i32 c0_i32_38
  let v94 : BitVec 32 := Scalar.extui v93
  let v95 : BitVec 32 := Scalar.subi v92 v94
  let v96 : BitVec 1 := Scalar.cmpi .ne v90 v95
  let v97 : BitVec 32 := Scalar.remsi v84 c2_i32
  let c0_i32_39 : BitVec 32 := 0#32
  let v98 : BitVec 1 := Scalar.cmpi .ne v97 c0_i32_39
  let v99 : BitVec 1 := Scalar.andi v96 v98
  let v85 : BitVec 32 := Scalar.divsi v84 c2_i32
  let c1_i32_40 : BitVec 32 := 1#32
  let v100 : BitVec 32 := Scalar.subi v85 c1_i32_40
  let v101 : BitVec 32 := Scalar.select v99 v100 v85
  let v109 : BitVec 32 := Scalar.addi v108 v101
  let v110 : BitVec 32 := Scalar.subi v109 v107
  let c1_i32_49 : BitVec 32 := 1#32
  let v112 : BitVec 32 := Scalar.divsi v110 c1_i32_49
  let v113 : BitVec 32 := Scalar.muli v112 c1_i32_49
  let v114 : BitVec 32 := Scalar.addi v107 v113
  let c1_i32_51 : BitVec 32 := 1#32
  let arg12 : BitVec 32 := Scf.iv v114 c1_i32_51 k0_t4
  let c512_i32 : BitVec 32 := 512#32
  let v234 : BitVec 32 := Scalar.muli arg12 c512_i32
  let v235 : BitVec 32 := v234
  let v236 : Index := Scalar.indexCast v235
  let c0_121 : Index := 0#32
  ![0, v236.toNat, 0]
def k0_mult8 (i : grid0.Coords) (k0_t4 : Fin (k0_t4_loop i).trips) : BitVec 32 :=
  let c2_i32_46 : BitVec 32 := 2#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v107 : BitVec 32 := Scalar.muli c2_i32_46 v82
  let c2_i32_47 : BitVec 32 := 2#32
  let v108 : BitVec 32 := Scalar.muli c2_i32_47 v82
  let c4_i32_34 : BitVec 32 := 4#32
  let v83 : BitVec 32 := Scalar.muli c4_i32_34 v82
  let v84 : BitVec 32 := Scalar.subi v65 v83
  let c0_i32_35 : BitVec 32 := 0#32
  let v86 : BitVec 1 := Scalar.cmpi .sgt v84 c0_i32_35
  let v87 : BitVec 32 := Scalar.extui v86
  let c0_i32_36 : BitVec 32 := 0#32
  let v88 : BitVec 1 := Scalar.cmpi .slt v84 c0_i32_36
  let v89 : BitVec 32 := Scalar.extui v88
  let v90 : BitVec 32 := Scalar.subi v87 v89
  let c2_i32 : BitVec 32 := 2#32
  let c0_i32_37 : BitVec 32 := 0#32
  let v91 : BitVec 1 := Scalar.cmpi .sgt c2_i32 c0_i32_37
  let v92 : BitVec 32 := Scalar.extui v91
  let c0_i32_38 : BitVec 32 := 0#32
  let v93 : BitVec 1 := Scalar.cmpi .slt c2_i32 c0_i32_38
  let v94 : BitVec 32 := Scalar.extui v93
  let v95 : BitVec 32 := Scalar.subi v92 v94
  let v96 : BitVec 1 := Scalar.cmpi .ne v90 v95
  let v97 : BitVec 32 := Scalar.remsi v84 c2_i32
  let c0_i32_39 : BitVec 32 := 0#32
  let v98 : BitVec 1 := Scalar.cmpi .ne v97 c0_i32_39
  let v99 : BitVec 1 := Scalar.andi v96 v98
  let v85 : BitVec 32 := Scalar.divsi v84 c2_i32
  let c1_i32_40 : BitVec 32 := 1#32
  let v100 : BitVec 32 := Scalar.subi v85 c1_i32_40
  let v101 : BitVec 32 := Scalar.select v99 v100 v85
  let v109 : BitVec 32 := Scalar.addi v108 v101
  let v110 : BitVec 32 := Scalar.subi v109 v107
  let c1_i32_49 : BitVec 32 := 1#32
  let v112 : BitVec 32 := Scalar.divsi v110 c1_i32_49
  let v113 : BitVec 32 := Scalar.muli v112 c1_i32_49
  let v114 : BitVec 32 := Scalar.addi v107 v113
  let c1_i32_51 : BitVec 32 := 1#32
  let arg12 : BitVec 32 := Scf.iv v114 c1_i32_51 k0_t4
  let c512_i32_122 : BitVec 32 := 512#32
  let v240 : BitVec 32 := Scalar.muli arg12 c512_i32_122
  v240
@[reducible] def k0_t5_loop (i : grid0.Coords) : Scf.Loop 32 :=
  let c4_i32_52 : BitVec 32 := 4#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v115 : BitVec 32 := Scalar.muli c4_i32_52 v82
  let c2_i32_53 : BitVec 32 := 2#32
  let c4_i32_34 : BitVec 32 := 4#32
  let v83 : BitVec 32 := Scalar.muli c4_i32_34 v82
  let v84 : BitVec 32 := Scalar.subi v65 v83
  let c0_i32_35 : BitVec 32 := 0#32
  let v86 : BitVec 1 := Scalar.cmpi .sgt v84 c0_i32_35
  let v87 : BitVec 32 := Scalar.extui v86
  let c0_i32_36 : BitVec 32 := 0#32
  let v88 : BitVec 1 := Scalar.cmpi .slt v84 c0_i32_36
  let v89 : BitVec 32 := Scalar.extui v88
  let v90 : BitVec 32 := Scalar.subi v87 v89
  let c2_i32 : BitVec 32 := 2#32
  let c0_i32_37 : BitVec 32 := 0#32
  let v91 : BitVec 1 := Scalar.cmpi .sgt c2_i32 c0_i32_37
  let v92 : BitVec 32 := Scalar.extui v91
  let c0_i32_38 : BitVec 32 := 0#32
  let v93 : BitVec 1 := Scalar.cmpi .slt c2_i32 c0_i32_38
  let v94 : BitVec 32 := Scalar.extui v93
  let v95 : BitVec 32 := Scalar.subi v92 v94
  let v96 : BitVec 1 := Scalar.cmpi .ne v90 v95
  let v97 : BitVec 32 := Scalar.remsi v84 c2_i32
  let c0_i32_39 : BitVec 32 := 0#32
  let v98 : BitVec 1 := Scalar.cmpi .ne v97 c0_i32_39
  let v99 : BitVec 1 := Scalar.andi v96 v98
  let v85 : BitVec 32 := Scalar.divsi v84 c2_i32
  let c1_i32_40 : BitVec 32 := 1#32
  let v100 : BitVec 32 := Scalar.subi v85 c1_i32_40
  let v101 : BitVec 32 := Scalar.select v99 v100 v85
  let v116 : BitVec 32 := Scalar.muli c2_i32_53 v101
  let v117 : BitVec 32 := Scalar.addi v115 v116
  let v118 : BitVec 32 := Scalar.subi v65 v117
  let c1_i32_55 : BitVec 32 := 1#32
  let v120 : BitVec 32 := Scalar.divsi v118 c1_i32_55
  let v121 : BitVec 32 := Scalar.muli v120 c1_i32_55
  let v122 : BitVec 32 := Scalar.addi v117 v121
  let c1_i32_56 : BitVec 32 := 1#32
  ⟨v117, v122, c1_i32_56⟩
def k0_mult9 (i : grid0.Coords) (k0_t5 : Fin (k0_t5_loop i).trips) : BitVec 32 :=
  let c4_i32_52 : BitVec 32 := 4#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v115 : BitVec 32 := Scalar.muli c4_i32_52 v82
  let c2_i32_53 : BitVec 32 := 2#32
  let c4_i32_34 : BitVec 32 := 4#32
  let v83 : BitVec 32 := Scalar.muli c4_i32_34 v82
  let v84 : BitVec 32 := Scalar.subi v65 v83
  let c0_i32_35 : BitVec 32 := 0#32
  let v86 : BitVec 1 := Scalar.cmpi .sgt v84 c0_i32_35
  let v87 : BitVec 32 := Scalar.extui v86
  let c0_i32_36 : BitVec 32 := 0#32
  let v88 : BitVec 1 := Scalar.cmpi .slt v84 c0_i32_36
  let v89 : BitVec 32 := Scalar.extui v88
  let v90 : BitVec 32 := Scalar.subi v87 v89
  let c2_i32 : BitVec 32 := 2#32
  let c0_i32_37 : BitVec 32 := 0#32
  let v91 : BitVec 1 := Scalar.cmpi .sgt c2_i32 c0_i32_37
  let v92 : BitVec 32 := Scalar.extui v91
  let c0_i32_38 : BitVec 32 := 0#32
  let v93 : BitVec 1 := Scalar.cmpi .slt c2_i32 c0_i32_38
  let v94 : BitVec 32 := Scalar.extui v93
  let v95 : BitVec 32 := Scalar.subi v92 v94
  let v96 : BitVec 1 := Scalar.cmpi .ne v90 v95
  let v97 : BitVec 32 := Scalar.remsi v84 c2_i32
  let c0_i32_39 : BitVec 32 := 0#32
  let v98 : BitVec 1 := Scalar.cmpi .ne v97 c0_i32_39
  let v99 : BitVec 1 := Scalar.andi v96 v98
  let v85 : BitVec 32 := Scalar.divsi v84 c2_i32
  let c1_i32_40 : BitVec 32 := 1#32
  let v100 : BitVec 32 := Scalar.subi v85 c1_i32_40
  let v101 : BitVec 32 := Scalar.select v99 v100 v85
  let v116 : BitVec 32 := Scalar.muli c2_i32_53 v101
  let v117 : BitVec 32 := Scalar.addi v115 v116
  let c1_i32_56 : BitVec 32 := 1#32
  let arg12 : BitVec 32 := Scf.iv v117 c1_i32_56 k0_t5
  let c256_i32_120 : BitVec 32 := 256#32
  let v234 : BitVec 32 := Scalar.muli arg12 c256_i32_120
  v234
def k0_off5 (i : grid0.Coords) (k0_t5 : Fin (k0_t5_loop i).trips) : Fin 3 → Nat :=
  let c0_121 : Index := 0#32
  let c4_i32_52 : BitVec 32 := 4#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v115 : BitVec 32 := Scalar.muli c4_i32_52 v82
  let c2_i32_53 : BitVec 32 := 2#32
  let c4_i32_34 : BitVec 32 := 4#32
  let v83 : BitVec 32 := Scalar.muli c4_i32_34 v82
  let v84 : BitVec 32 := Scalar.subi v65 v83
  let c0_i32_35 : BitVec 32 := 0#32
  let v86 : BitVec 1 := Scalar.cmpi .sgt v84 c0_i32_35
  let v87 : BitVec 32 := Scalar.extui v86
  let c0_i32_36 : BitVec 32 := 0#32
  let v88 : BitVec 1 := Scalar.cmpi .slt v84 c0_i32_36
  let v89 : BitVec 32 := Scalar.extui v88
  let v90 : BitVec 32 := Scalar.subi v87 v89
  let c2_i32 : BitVec 32 := 2#32
  let c0_i32_37 : BitVec 32 := 0#32
  let v91 : BitVec 1 := Scalar.cmpi .sgt c2_i32 c0_i32_37
  let v92 : BitVec 32 := Scalar.extui v91
  let c0_i32_38 : BitVec 32 := 0#32
  let v93 : BitVec 1 := Scalar.cmpi .slt c2_i32 c0_i32_38
  let v94 : BitVec 32 := Scalar.extui v93
  let v95 : BitVec 32 := Scalar.subi v92 v94
  let v96 : BitVec 1 := Scalar.cmpi .ne v90 v95
  let v97 : BitVec 32 := Scalar.remsi v84 c2_i32
  let c0_i32_39 : BitVec 32 := 0#32
  let v98 : BitVec 1 := Scalar.cmpi .ne v97 c0_i32_39
  let v99 : BitVec 1 := Scalar.andi v96 v98
  let v85 : BitVec 32 := Scalar.divsi v84 c2_i32
  let c1_i32_40 : BitVec 32 := 1#32
  let v100 : BitVec 32 := Scalar.subi v85 c1_i32_40
  let v101 : BitVec 32 := Scalar.select v99 v100 v85
  let v116 : BitVec 32 := Scalar.muli c2_i32_53 v101
  let v117 : BitVec 32 := Scalar.addi v115 v116
  let c1_i32_56 : BitVec 32 := 1#32
  let arg12 : BitVec 32 := Scf.iv v117 c1_i32_56 k0_t5
  let c256_i32_120 : BitVec 32 := 256#32
  let v234 : BitVec 32 := Scalar.muli arg12 c256_i32_120
  let v235 : BitVec 32 := v234
  let v236 : Index := Scalar.indexCast v235
  let c0_122 : Index := 0#32
  ![0, v236.toNat, 0]
def k0_mult10 (i : grid0.Coords) (k0_t5 : Fin (k0_t5_loop i).trips) : BitVec 32 :=
  let c4_i32_52 : BitVec 32 := 4#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v115 : BitVec 32 := Scalar.muli c4_i32_52 v82
  let c2_i32_53 : BitVec 32 := 2#32
  let c4_i32_34 : BitVec 32 := 4#32
  let v83 : BitVec 32 := Scalar.muli c4_i32_34 v82
  let v84 : BitVec 32 := Scalar.subi v65 v83
  let c0_i32_35 : BitVec 32 := 0#32
  let v86 : BitVec 1 := Scalar.cmpi .sgt v84 c0_i32_35
  let v87 : BitVec 32 := Scalar.extui v86
  let c0_i32_36 : BitVec 32 := 0#32
  let v88 : BitVec 1 := Scalar.cmpi .slt v84 c0_i32_36
  let v89 : BitVec 32 := Scalar.extui v88
  let v90 : BitVec 32 := Scalar.subi v87 v89
  let c2_i32 : BitVec 32 := 2#32
  let c0_i32_37 : BitVec 32 := 0#32
  let v91 : BitVec 1 := Scalar.cmpi .sgt c2_i32 c0_i32_37
  let v92 : BitVec 32 := Scalar.extui v91
  let c0_i32_38 : BitVec 32 := 0#32
  let v93 : BitVec 1 := Scalar.cmpi .slt c2_i32 c0_i32_38
  let v94 : BitVec 32 := Scalar.extui v93
  let v95 : BitVec 32 := Scalar.subi v92 v94
  let v96 : BitVec 1 := Scalar.cmpi .ne v90 v95
  let v97 : BitVec 32 := Scalar.remsi v84 c2_i32
  let c0_i32_39 : BitVec 32 := 0#32
  let v98 : BitVec 1 := Scalar.cmpi .ne v97 c0_i32_39
  let v99 : BitVec 1 := Scalar.andi v96 v98
  let v85 : BitVec 32 := Scalar.divsi v84 c2_i32
  let c1_i32_40 : BitVec 32 := 1#32
  let v100 : BitVec 32 := Scalar.subi v85 c1_i32_40
  let v101 : BitVec 32 := Scalar.select v99 v100 v85
  let v116 : BitVec 32 := Scalar.muli c2_i32_53 v101
  let v117 : BitVec 32 := Scalar.addi v115 v116
  let c1_i32_56 : BitVec 32 := 1#32
  let arg12 : BitVec 32 := Scf.iv v117 c1_i32_56 k0_t5
  let c256_i32_123 : BitVec 32 := 256#32
  let v240 : BitVec 32 := Scalar.muli arg12 c256_i32_123
  v240
@[reducible] def k0_t6_loop (i : grid0.Coords) : Scf.Loop 32 :=
  let c4_i32_52 : BitVec 32 := 4#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v115 : BitVec 32 := Scalar.muli c4_i32_52 v82
  let c2_i32_53 : BitVec 32 := 2#32
  let c4_i32_34 : BitVec 32 := 4#32
  let v83 : BitVec 32 := Scalar.muli c4_i32_34 v82
  let v84 : BitVec 32 := Scalar.subi v65 v83
  let c0_i32_35 : BitVec 32 := 0#32
  let v86 : BitVec 1 := Scalar.cmpi .sgt v84 c0_i32_35
  let v87 : BitVec 32 := Scalar.extui v86
  let c0_i32_36 : BitVec 32 := 0#32
  let v88 : BitVec 1 := Scalar.cmpi .slt v84 c0_i32_36
  let v89 : BitVec 32 := Scalar.extui v88
  let v90 : BitVec 32 := Scalar.subi v87 v89
  let c2_i32 : BitVec 32 := 2#32
  let c0_i32_37 : BitVec 32 := 0#32
  let v91 : BitVec 1 := Scalar.cmpi .sgt c2_i32 c0_i32_37
  let v92 : BitVec 32 := Scalar.extui v91
  let c0_i32_38 : BitVec 32 := 0#32
  let v93 : BitVec 1 := Scalar.cmpi .slt c2_i32 c0_i32_38
  let v94 : BitVec 32 := Scalar.extui v93
  let v95 : BitVec 32 := Scalar.subi v92 v94
  let v96 : BitVec 1 := Scalar.cmpi .ne v90 v95
  let v97 : BitVec 32 := Scalar.remsi v84 c2_i32
  let c0_i32_39 : BitVec 32 := 0#32
  let v98 : BitVec 1 := Scalar.cmpi .ne v97 c0_i32_39
  let v99 : BitVec 1 := Scalar.andi v96 v98
  let v85 : BitVec 32 := Scalar.divsi v84 c2_i32
  let c1_i32_40 : BitVec 32 := 1#32
  let v100 : BitVec 32 := Scalar.subi v85 c1_i32_40
  let v101 : BitVec 32 := Scalar.select v99 v100 v85
  let v116 : BitVec 32 := Scalar.muli c2_i32_53 v101
  let v117 : BitVec 32 := Scalar.addi v115 v116
  let v118 : BitVec 32 := Scalar.subi v65 v117
  let c1_i32_55 : BitVec 32 := 1#32
  let v120 : BitVec 32 := Scalar.divsi v118 c1_i32_55
  let v121 : BitVec 32 := Scalar.muli v120 c1_i32_55
  let v122 : BitVec 32 := Scalar.addi v117 v121
  let v119 : BitVec 32 := Scalar.addi v117 v118
  let c1_i32_57 : BitVec 32 := 1#32
  ⟨v122, v119, c1_i32_57⟩
def k0_mult11 (i : grid0.Coords) (k0_t6 : Fin (k0_t6_loop i).trips) : BitVec 32 :=
  let c4_i32_52 : BitVec 32 := 4#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v115 : BitVec 32 := Scalar.muli c4_i32_52 v82
  let c2_i32_53 : BitVec 32 := 2#32
  let c4_i32_34 : BitVec 32 := 4#32
  let v83 : BitVec 32 := Scalar.muli c4_i32_34 v82
  let v84 : BitVec 32 := Scalar.subi v65 v83
  let c0_i32_35 : BitVec 32 := 0#32
  let v86 : BitVec 1 := Scalar.cmpi .sgt v84 c0_i32_35
  let v87 : BitVec 32 := Scalar.extui v86
  let c0_i32_36 : BitVec 32 := 0#32
  let v88 : BitVec 1 := Scalar.cmpi .slt v84 c0_i32_36
  let v89 : BitVec 32 := Scalar.extui v88
  let v90 : BitVec 32 := Scalar.subi v87 v89
  let c2_i32 : BitVec 32 := 2#32
  let c0_i32_37 : BitVec 32 := 0#32
  let v91 : BitVec 1 := Scalar.cmpi .sgt c2_i32 c0_i32_37
  let v92 : BitVec 32 := Scalar.extui v91
  let c0_i32_38 : BitVec 32 := 0#32
  let v93 : BitVec 1 := Scalar.cmpi .slt c2_i32 c0_i32_38
  let v94 : BitVec 32 := Scalar.extui v93
  let v95 : BitVec 32 := Scalar.subi v92 v94
  let v96 : BitVec 1 := Scalar.cmpi .ne v90 v95
  let v97 : BitVec 32 := Scalar.remsi v84 c2_i32
  let c0_i32_39 : BitVec 32 := 0#32
  let v98 : BitVec 1 := Scalar.cmpi .ne v97 c0_i32_39
  let v99 : BitVec 1 := Scalar.andi v96 v98
  let v85 : BitVec 32 := Scalar.divsi v84 c2_i32
  let c1_i32_40 : BitVec 32 := 1#32
  let v100 : BitVec 32 := Scalar.subi v85 c1_i32_40
  let v101 : BitVec 32 := Scalar.select v99 v100 v85
  let v116 : BitVec 32 := Scalar.muli c2_i32_53 v101
  let v117 : BitVec 32 := Scalar.addi v115 v116
  let v118 : BitVec 32 := Scalar.subi v65 v117
  let c1_i32_55 : BitVec 32 := 1#32
  let v120 : BitVec 32 := Scalar.divsi v118 c1_i32_55
  let v121 : BitVec 32 := Scalar.muli v120 c1_i32_55
  let v122 : BitVec 32 := Scalar.addi v117 v121
  let c1_i32_57 : BitVec 32 := 1#32
  let arg12 : BitVec 32 := Scf.iv v122 c1_i32_57 k0_t6
  let c256_i32_120 : BitVec 32 := 256#32
  let v234 : BitVec 32 := Scalar.muli arg12 c256_i32_120
  v234
def k0_off6 (i : grid0.Coords) (k0_t6 : Fin (k0_t6_loop i).trips) : Fin 3 → Nat :=
  let c0_121 : Index := 0#32
  let c4_i32_52 : BitVec 32 := 4#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v115 : BitVec 32 := Scalar.muli c4_i32_52 v82
  let c2_i32_53 : BitVec 32 := 2#32
  let c4_i32_34 : BitVec 32 := 4#32
  let v83 : BitVec 32 := Scalar.muli c4_i32_34 v82
  let v84 : BitVec 32 := Scalar.subi v65 v83
  let c0_i32_35 : BitVec 32 := 0#32
  let v86 : BitVec 1 := Scalar.cmpi .sgt v84 c0_i32_35
  let v87 : BitVec 32 := Scalar.extui v86
  let c0_i32_36 : BitVec 32 := 0#32
  let v88 : BitVec 1 := Scalar.cmpi .slt v84 c0_i32_36
  let v89 : BitVec 32 := Scalar.extui v88
  let v90 : BitVec 32 := Scalar.subi v87 v89
  let c2_i32 : BitVec 32 := 2#32
  let c0_i32_37 : BitVec 32 := 0#32
  let v91 : BitVec 1 := Scalar.cmpi .sgt c2_i32 c0_i32_37
  let v92 : BitVec 32 := Scalar.extui v91
  let c0_i32_38 : BitVec 32 := 0#32
  let v93 : BitVec 1 := Scalar.cmpi .slt c2_i32 c0_i32_38
  let v94 : BitVec 32 := Scalar.extui v93
  let v95 : BitVec 32 := Scalar.subi v92 v94
  let v96 : BitVec 1 := Scalar.cmpi .ne v90 v95
  let v97 : BitVec 32 := Scalar.remsi v84 c2_i32
  let c0_i32_39 : BitVec 32 := 0#32
  let v98 : BitVec 1 := Scalar.cmpi .ne v97 c0_i32_39
  let v99 : BitVec 1 := Scalar.andi v96 v98
  let v85 : BitVec 32 := Scalar.divsi v84 c2_i32
  let c1_i32_40 : BitVec 32 := 1#32
  let v100 : BitVec 32 := Scalar.subi v85 c1_i32_40
  let v101 : BitVec 32 := Scalar.select v99 v100 v85
  let v116 : BitVec 32 := Scalar.muli c2_i32_53 v101
  let v117 : BitVec 32 := Scalar.addi v115 v116
  let v118 : BitVec 32 := Scalar.subi v65 v117
  let c1_i32_55 : BitVec 32 := 1#32
  let v120 : BitVec 32 := Scalar.divsi v118 c1_i32_55
  let v121 : BitVec 32 := Scalar.muli v120 c1_i32_55
  let v122 : BitVec 32 := Scalar.addi v117 v121
  let c1_i32_57 : BitVec 32 := 1#32
  let arg12 : BitVec 32 := Scf.iv v122 c1_i32_57 k0_t6
  let c256_i32_120 : BitVec 32 := 256#32
  let v234 : BitVec 32 := Scalar.muli arg12 c256_i32_120
  let v235 : BitVec 32 := v234
  let v236 : Index := Scalar.indexCast v235
  let c0_122 : Index := 0#32
  ![0, v236.toNat, 0]
def k0_mult12 (i : grid0.Coords) (k0_t6 : Fin (k0_t6_loop i).trips) : BitVec 32 :=
  let c4_i32_52 : BitVec 32 := 4#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c0_i32_28 : BitVec 32 := 0#32
  let v67 : BitVec 1 := Scalar.cmpi .sgt v65 c0_i32_28
  let v68 : BitVec 32 := Scalar.extui v67
  let c0_i32_29 : BitVec 32 := 0#32
  let v69 : BitVec 1 := Scalar.cmpi .slt v65 c0_i32_29
  let v70 : BitVec 32 := Scalar.extui v69
  let v71 : BitVec 32 := Scalar.subi v68 v70
  let c4_i32 : BitVec 32 := 4#32
  let c0_i32_30 : BitVec 32 := 0#32
  let v72 : BitVec 1 := Scalar.cmpi .sgt c4_i32 c0_i32_30
  let v73 : BitVec 32 := Scalar.extui v72
  let c0_i32_31 : BitVec 32 := 0#32
  let v74 : BitVec 1 := Scalar.cmpi .slt c4_i32 c0_i32_31
  let v75 : BitVec 32 := Scalar.extui v74
  let v76 : BitVec 32 := Scalar.subi v73 v75
  let v77 : BitVec 1 := Scalar.cmpi .ne v71 v76
  let v78 : BitVec 32 := Scalar.remsi v65 c4_i32
  let c0_i32_32 : BitVec 32 := 0#32
  let v79 : BitVec 1 := Scalar.cmpi .ne v78 c0_i32_32
  let v80 : BitVec 1 := Scalar.andi v77 v79
  let v66 : BitVec 32 := Scalar.divsi v65 c4_i32
  let c1_i32_33 : BitVec 32 := 1#32
  let v81 : BitVec 32 := Scalar.subi v66 c1_i32_33
  let v82 : BitVec 32 := Scalar.select v80 v81 v66
  let v115 : BitVec 32 := Scalar.muli c4_i32_52 v82
  let c2_i32_53 : BitVec 32 := 2#32
  let c4_i32_34 : BitVec 32 := 4#32
  let v83 : BitVec 32 := Scalar.muli c4_i32_34 v82
  let v84 : BitVec 32 := Scalar.subi v65 v83
  let c0_i32_35 : BitVec 32 := 0#32
  let v86 : BitVec 1 := Scalar.cmpi .sgt v84 c0_i32_35
  let v87 : BitVec 32 := Scalar.extui v86
  let c0_i32_36 : BitVec 32 := 0#32
  let v88 : BitVec 1 := Scalar.cmpi .slt v84 c0_i32_36
  let v89 : BitVec 32 := Scalar.extui v88
  let v90 : BitVec 32 := Scalar.subi v87 v89
  let c2_i32 : BitVec 32 := 2#32
  let c0_i32_37 : BitVec 32 := 0#32
  let v91 : BitVec 1 := Scalar.cmpi .sgt c2_i32 c0_i32_37
  let v92 : BitVec 32 := Scalar.extui v91
  let c0_i32_38 : BitVec 32 := 0#32
  let v93 : BitVec 1 := Scalar.cmpi .slt c2_i32 c0_i32_38
  let v94 : BitVec 32 := Scalar.extui v93
  let v95 : BitVec 32 := Scalar.subi v92 v94
  let v96 : BitVec 1 := Scalar.cmpi .ne v90 v95
  let v97 : BitVec 32 := Scalar.remsi v84 c2_i32
  let c0_i32_39 : BitVec 32 := 0#32
  let v98 : BitVec 1 := Scalar.cmpi .ne v97 c0_i32_39
  let v99 : BitVec 1 := Scalar.andi v96 v98
  let v85 : BitVec 32 := Scalar.divsi v84 c2_i32
  let c1_i32_40 : BitVec 32 := 1#32
  let v100 : BitVec 32 := Scalar.subi v85 c1_i32_40
  let v101 : BitVec 32 := Scalar.select v99 v100 v85
  let v116 : BitVec 32 := Scalar.muli c2_i32_53 v101
  let v117 : BitVec 32 := Scalar.addi v115 v116
  let v118 : BitVec 32 := Scalar.subi v65 v117
  let c1_i32_55 : BitVec 32 := 1#32
  let v120 : BitVec 32 := Scalar.divsi v118 c1_i32_55
  let v121 : BitVec 32 := Scalar.muli v120 c1_i32_55
  let v122 : BitVec 32 := Scalar.addi v117 v121
  let c1_i32_57 : BitVec 32 := 1#32
  let arg12 : BitVec 32 := Scf.iv v122 c1_i32_57 k0_t6
  let c256_i32_123 : BitVec 32 := 256#32
  let v240 : BitVec 32 := Scalar.muli arg12 c256_i32_123
  v240
@[reducible] def k0_t7_loop (i : grid0.Coords) : Scf.Loop 32 :=
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c256_i32_58 : BitVec 32 := 256#32
  let v123 : BitVec 32 := Scalar.addi v4 c256_i32_58
  let c1_i32_59 : BitVec 32 := 1#32
  let v124 : BitVec 32 := Scalar.subi v123 c1_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c256_i32_60 : BitVec 32 := 256#32
  let c0_i32_63 : BitVec 32 := 0#32
  let v131 : BitVec 1 := Scalar.cmpi .sgt c256_i32_60 c0_i32_63
  let v132 : BitVec 32 := Scalar.extui v131
  let c0_i32_64 : BitVec 32 := 0#32
  let v133 : BitVec 1 := Scalar.cmpi .slt c256_i32_60 c0_i32_64
  let v134 : BitVec 32 := Scalar.extui v133
  let v135 : BitVec 32 := Scalar.subi v132 v134
  let v136 : BitVec 1 := Scalar.cmpi .ne v130 v135
  let v137 : BitVec 32 := Scalar.remsi v124 c256_i32_60
  let c0_i32_65 : BitVec 32 := 0#32
  let v138 : BitVec 1 := Scalar.cmpi .ne v137 c0_i32_65
  let v139 : BitVec 1 := Scalar.andi v136 v138
  let v125 : BitVec 32 := Scalar.divsi v124 c256_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.addi v141 c1_i32_67
  let v143 : BitVec 32 := Scalar.subi v142 v65
  let c1_i32_69 : BitVec 32 := 1#32
  let v145 : BitVec 32 := Scalar.divsi v143 c1_i32_69
  let v146 : BitVec 32 := Scalar.muli v145 c1_i32_69
  let v147 : BitVec 32 := Scalar.addi v65 v146
  let c1_i32_70 : BitVec 32 := 1#32
  ⟨v65, v147, c1_i32_70⟩
def k0_mult13 (i : grid0.Coords) (k0_t7 : Fin (k0_t7_loop i).trips) : BitVec 32 :=
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c1_i32_70 : BitVec 32 := 1#32
  let arg12 : BitVec 32 := Scf.iv v65 c1_i32_70 k0_t7
  let c256_i32_120 : BitVec 32 := 256#32
  let v234 : BitVec 32 := Scalar.muli arg12 c256_i32_120
  v234
def k0_off7 (i : grid0.Coords) (k0_t7 : Fin (k0_t7_loop i).trips) : Fin 3 → Nat :=
  let c0_121 : Index := 0#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c1_i32_70 : BitVec 32 := 1#32
  let arg12 : BitVec 32 := Scf.iv v65 c1_i32_70 k0_t7
  let c256_i32_120 : BitVec 32 := 256#32
  let v234 : BitVec 32 := Scalar.muli arg12 c256_i32_120
  let v235 : BitVec 32 := v234
  let v236 : Index := Scalar.indexCast v235
  let c0_122 : Index := 0#32
  ![0, v236.toNat, 0]
def k0_mult14 (i : grid0.Coords) (k0_t7 : Fin (k0_t7_loop i).trips) : BitVec 32 :=
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c1_i32_70 : BitVec 32 := 1#32
  let arg12 : BitVec 32 := Scf.iv v65 c1_i32_70 k0_t7
  let c256_i32_123 : BitVec 32 := 256#32
  let v240 : BitVec 32 := Scalar.muli arg12 c256_i32_123
  v240
@[reducible] def k0_t8_loop (i : grid0.Coords) : Scf.Loop 32 :=
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c256_i32_58 : BitVec 32 := 256#32
  let v123 : BitVec 32 := Scalar.addi v4 c256_i32_58
  let c1_i32_59 : BitVec 32 := 1#32
  let v124 : BitVec 32 := Scalar.subi v123 c1_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c256_i32_60 : BitVec 32 := 256#32
  let c0_i32_63 : BitVec 32 := 0#32
  let v131 : BitVec 1 := Scalar.cmpi .sgt c256_i32_60 c0_i32_63
  let v132 : BitVec 32 := Scalar.extui v131
  let c0_i32_64 : BitVec 32 := 0#32
  let v133 : BitVec 1 := Scalar.cmpi .slt c256_i32_60 c0_i32_64
  let v134 : BitVec 32 := Scalar.extui v133
  let v135 : BitVec 32 := Scalar.subi v132 v134
  let v136 : BitVec 1 := Scalar.cmpi .ne v130 v135
  let v137 : BitVec 32 := Scalar.remsi v124 c256_i32_60
  let c0_i32_65 : BitVec 32 := 0#32
  let v138 : BitVec 1 := Scalar.cmpi .ne v137 c0_i32_65
  let v139 : BitVec 1 := Scalar.andi v136 v138
  let v125 : BitVec 32 := Scalar.divsi v124 c256_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.addi v141 c1_i32_67
  let v143 : BitVec 32 := Scalar.subi v142 v65
  let c1_i32_69 : BitVec 32 := 1#32
  let v145 : BitVec 32 := Scalar.divsi v143 c1_i32_69
  let v146 : BitVec 32 := Scalar.muli v145 c1_i32_69
  let v147 : BitVec 32 := Scalar.addi v65 v146
  let v144 : BitVec 32 := Scalar.addi v65 v143
  let c1_i32_71 : BitVec 32 := 1#32
  ⟨v147, v144, c1_i32_71⟩
def k0_mult15 (i : grid0.Coords) (k0_t8 : Fin (k0_t8_loop i).trips) : BitVec 32 :=
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c256_i32_58 : BitVec 32 := 256#32
  let v123 : BitVec 32 := Scalar.addi v4 c256_i32_58
  let c1_i32_59 : BitVec 32 := 1#32
  let v124 : BitVec 32 := Scalar.subi v123 c1_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c256_i32_60 : BitVec 32 := 256#32
  let c0_i32_63 : BitVec 32 := 0#32
  let v131 : BitVec 1 := Scalar.cmpi .sgt c256_i32_60 c0_i32_63
  let v132 : BitVec 32 := Scalar.extui v131
  let c0_i32_64 : BitVec 32 := 0#32
  let v133 : BitVec 1 := Scalar.cmpi .slt c256_i32_60 c0_i32_64
  let v134 : BitVec 32 := Scalar.extui v133
  let v135 : BitVec 32 := Scalar.subi v132 v134
  let v136 : BitVec 1 := Scalar.cmpi .ne v130 v135
  let v137 : BitVec 32 := Scalar.remsi v124 c256_i32_60
  let c0_i32_65 : BitVec 32 := 0#32
  let v138 : BitVec 1 := Scalar.cmpi .ne v137 c0_i32_65
  let v139 : BitVec 1 := Scalar.andi v136 v138
  let v125 : BitVec 32 := Scalar.divsi v124 c256_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.addi v141 c1_i32_67
  let v143 : BitVec 32 := Scalar.subi v142 v65
  let c1_i32_69 : BitVec 32 := 1#32
  let v145 : BitVec 32 := Scalar.divsi v143 c1_i32_69
  let v146 : BitVec 32 := Scalar.muli v145 c1_i32_69
  let v147 : BitVec 32 := Scalar.addi v65 v146
  let c1_i32_71 : BitVec 32 := 1#32
  let arg12 : BitVec 32 := Scf.iv v147 c1_i32_71 k0_t8
  let c256_i32_120 : BitVec 32 := 256#32
  let v234 : BitVec 32 := Scalar.muli arg12 c256_i32_120
  v234
def k0_off8 (i : grid0.Coords) (k0_t8 : Fin (k0_t8_loop i).trips) : Fin 3 → Nat :=
  let c0_121 : Index := 0#32
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c256_i32_58 : BitVec 32 := 256#32
  let v123 : BitVec 32 := Scalar.addi v4 c256_i32_58
  let c1_i32_59 : BitVec 32 := 1#32
  let v124 : BitVec 32 := Scalar.subi v123 c1_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c256_i32_60 : BitVec 32 := 256#32
  let c0_i32_63 : BitVec 32 := 0#32
  let v131 : BitVec 1 := Scalar.cmpi .sgt c256_i32_60 c0_i32_63
  let v132 : BitVec 32 := Scalar.extui v131
  let c0_i32_64 : BitVec 32 := 0#32
  let v133 : BitVec 1 := Scalar.cmpi .slt c256_i32_60 c0_i32_64
  let v134 : BitVec 32 := Scalar.extui v133
  let v135 : BitVec 32 := Scalar.subi v132 v134
  let v136 : BitVec 1 := Scalar.cmpi .ne v130 v135
  let v137 : BitVec 32 := Scalar.remsi v124 c256_i32_60
  let c0_i32_65 : BitVec 32 := 0#32
  let v138 : BitVec 1 := Scalar.cmpi .ne v137 c0_i32_65
  let v139 : BitVec 1 := Scalar.andi v136 v138
  let v125 : BitVec 32 := Scalar.divsi v124 c256_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.addi v141 c1_i32_67
  let v143 : BitVec 32 := Scalar.subi v142 v65
  let c1_i32_69 : BitVec 32 := 1#32
  let v145 : BitVec 32 := Scalar.divsi v143 c1_i32_69
  let v146 : BitVec 32 := Scalar.muli v145 c1_i32_69
  let v147 : BitVec 32 := Scalar.addi v65 v146
  let c1_i32_71 : BitVec 32 := 1#32
  let arg12 : BitVec 32 := Scf.iv v147 c1_i32_71 k0_t8
  let c256_i32_120 : BitVec 32 := 256#32
  let v234 : BitVec 32 := Scalar.muli arg12 c256_i32_120
  let v235 : BitVec 32 := v234
  let v236 : Index := Scalar.indexCast v235
  let c0_122 : Index := 0#32
  ![0, v236.toNat, 0]
def k0_mult16 (i : grid0.Coords) (k0_t8 : Fin (k0_t8_loop i).trips) : BitVec 32 :=
  let c0_i32 : BitVec 32 := 0#32
  let arg2 : BitVec 32 := BitVec.ofNat 32 (i 2).val
  let c256_i32 : BitVec 32 := 256#32
  let v3 : BitVec 32 := Scalar.muli arg2 c256_i32
  let v4 : BitVec 32 := Scalar.addi c0_i32 v3
  let c1_i32 : BitVec 32 := 1#32
  let v48 : BitVec 32 := Scalar.addi v4 c1_i32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c256_i32_21 : BitVec 32 := 256#32
  let c0_i32_24 : BitVec 32 := 0#32
  let v55 : BitVec 1 := Scalar.cmpi .sgt c256_i32_21 c0_i32_24
  let v56 : BitVec 32 := Scalar.extui v55
  let c0_i32_25 : BitVec 32 := 0#32
  let v57 : BitVec 1 := Scalar.cmpi .slt c256_i32_21 c0_i32_25
  let v58 : BitVec 32 := Scalar.extui v57
  let v59 : BitVec 32 := Scalar.subi v56 v58
  let v60 : BitVec 1 := Scalar.cmpi .ne v54 v59
  let v61 : BitVec 32 := Scalar.remsi v48 c256_i32_21
  let c0_i32_26 : BitVec 32 := 0#32
  let v62 : BitVec 1 := Scalar.cmpi .ne v61 c0_i32_26
  let v63 : BitVec 1 := Scalar.andi v60 v62
  let v49 : BitVec 32 := Scalar.divsi v48 c256_i32_21
  let c1_i32_27 : BitVec 32 := 1#32
  let v64 : BitVec 32 := Scalar.subi v49 c1_i32_27
  let v65 : BitVec 32 := Scalar.select v63 v64 v49
  let c256_i32_58 : BitVec 32 := 256#32
  let v123 : BitVec 32 := Scalar.addi v4 c256_i32_58
  let c1_i32_59 : BitVec 32 := 1#32
  let v124 : BitVec 32 := Scalar.subi v123 c1_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c256_i32_60 : BitVec 32 := 256#32
  let c0_i32_63 : BitVec 32 := 0#32
  let v131 : BitVec 1 := Scalar.cmpi .sgt c256_i32_60 c0_i32_63
  let v132 : BitVec 32 := Scalar.extui v131
  let c0_i32_64 : BitVec 32 := 0#32
  let v133 : BitVec 1 := Scalar.cmpi .slt c256_i32_60 c0_i32_64
  let v134 : BitVec 32 := Scalar.extui v133
  let v135 : BitVec 32 := Scalar.subi v132 v134
  let v136 : BitVec 1 := Scalar.cmpi .ne v130 v135
  let v137 : BitVec 32 := Scalar.remsi v124 c256_i32_60
  let c0_i32_65 : BitVec 32 := 0#32
  let v138 : BitVec 1 := Scalar.cmpi .ne v137 c0_i32_65
  let v139 : BitVec 1 := Scalar.andi v136 v138
  let v125 : BitVec 32 := Scalar.divsi v124 c256_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.addi v141 c1_i32_67
  let v143 : BitVec 32 := Scalar.subi v142 v65
  let c1_i32_69 : BitVec 32 := 1#32
  let v145 : BitVec 32 := Scalar.divsi v143 c1_i32_69
  let v146 : BitVec 32 := Scalar.muli v145 c1_i32_69
  let v147 : BitVec 32 := Scalar.addi v65 v146
  let c1_i32_71 : BitVec 32 := 1#32
  let arg12 : BitVec 32 := Scf.iv v147 c1_i32_71 k0_t8
  let c256_i32_123 : BitVec 32 := 256#32
  let v240 : BitVec 32 := Scalar.muli arg12 c256_i32_123
  v240
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "masked" => some ⊥
  | "qk_scale" => some (((8 * (Real.log 2))⁻¹ : ℝ) : EReal)
  | _ => none
-- ==== ReferenceIdeal.lean ====
abbrev S4x64 : Shape := ⟨2, ![4, 64]⟩
abbrev S1x128 : Shape := ⟨2, ![1, 128]⟩
abbrev S8x2048x512 : Shape := ⟨3, ![8, 2048, 512]⟩
abbrev S8x2048x256 : Shape := ⟨3, ![8, 2048, 256]⟩
abbrev S2048 : Shape := ⟨1, ![2048]⟩
abbrev S8x2048x2x2x2x64 : Shape := ⟨6, ![8, 2048, 2, 2, 2, 64]⟩
abbrev S8x2048x2x2x64 : Shape := ⟨5, ![8, 2048, 2, 2, 64]⟩
abbrev S8x2048x2x128 : Shape := ⟨4, ![8, 2048, 2, 128]⟩
abbrev S1x64 : Shape := ⟨2, ![1, 64]⟩
abbrev S64 : Shape := ⟨1, ![64]⟩
abbrev S_ : Shape := ⟨0, ![]⟩
abbrev S8x2x2x2048x2048x2 : Shape := ⟨6, ![8, 2, 2, 2048, 2048, 2]⟩
abbrev S8x2x2x2x2048x2048 : Shape := ⟨6, ![8, 2, 2, 2, 2048, 2048]⟩
abbrev S1x2048 : Shape := ⟨2, ![1, 2048]⟩
abbrev S2048x1 : Shape := ⟨2, ![2048, 1]⟩
abbrev S2048x2048 : Shape := ⟨2, ![2048, 2048]⟩
abbrev S8x2x2x2x2048 : Shape := ⟨5, ![8, 2, 2, 2, 2048]⟩
abbrev S8x2x2x2x2048x1 : Shape := ⟨6, ![8, 2, 2, 2, 2048, 1]⟩
abbrev S8x2x2x1x2048x2048 : Shape := ⟨6, ![8, 2, 2, 1, 2048, 2048]⟩
abbrev S8x2x2x2048x2048 : Shape := ⟨5, ![8, 2, 2, 2048, 2048]⟩
abbrev S8x2x128x2x2048 : Shape := ⟨5, ![8, 2, 128, 2, 2048]⟩
abbrev S8x2048x2x2x128 : Shape := ⟨5, ![8, 2048, 2, 2, 128]⟩
abbrev S128 : Shape := ⟨1, ![128]⟩
abbrev S8x2048x2x2 : Shape := ⟨4, ![8, 2048, 2, 2]⟩
abbrev S8x2048x2x2x1 : Shape := ⟨5, ![8, 2048, 2, 2, 1]⟩
abbrev S1x1x1x1x128 : Shape := ⟨5, ![1, 1, 1, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S1x128, .f32⟩
  | .hbm, ⟨2, _⟩ => ⟨S8x2048x512, .f32⟩
  | .hbm, ⟨3, _⟩ => ⟨S8x2048x256, .f32⟩
  | .hbm, ⟨4, _⟩ => ⟨S8x2048x256, .f32⟩
  | .hbm, ⟨5, _⟩ => ⟨S2048, .i32⟩
  | .hbm, ⟨6, _⟩ => ⟨S8x2048x2x2x2x64, .f32⟩
  | .hbm, ⟨7, _⟩ => ⟨S8x2048x2x2x64, .f32⟩
  | .hbm, ⟨8, _⟩ => ⟨S8x2048x2x128, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x2x2x2048x2048x2, .f32⟩
  | .hbm, ⟨29, _⟩ => ⟨S8x2x2x2x2048x2048, .f32⟩
  | .hbm, ⟨30, _⟩ => ⟨S_, .f32⟩
  | .hbm, ⟨31, _⟩ => ⟨S8x2x2x2x2048x2048, .f32⟩
  | .hbm, ⟨32, _⟩ => ⟨S8x2x2x2x2048x2048, .f32⟩
  | .hbm, ⟨33, _⟩ => ⟨S1x2048, .i32⟩
  | .hbm, ⟨34, _⟩ => ⟨S2048x1, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S8x2x2x2x2048x2048, .i1⟩
  | .hbm, ⟨41, _⟩ => ⟨S8x2x2x2x2048x2048, .f32⟩
  | .hbm, ⟨42, _⟩ => ⟨S8x2x2x2x2048x2048, .f32⟩
  | .hbm, ⟨43, _⟩ => ⟨S_, .f32⟩
  | .hbm, ⟨44, _⟩ => ⟨S8x2x2x2x2048, .f32⟩
  | .hbm, ⟨45, _⟩ => ⟨S8x2x2x2x2048x1, .f32⟩
  | .hbm, ⟨46, _⟩ => ⟨S8x2x2x2x2048x1, .f32⟩
  | .hbm, ⟨47, _⟩ => ⟨S_, .f32⟩
  | .hbm, ⟨48, _⟩ => ⟨S8x2x2x2x2048x1, .f32⟩
  | .hbm, ⟨49, _⟩ => ⟨S8x2x2x2x2048x1, .i1⟩
  | .hbm, ⟨50, _⟩ => ⟨S_, .f32⟩
  | .hbm, ⟨51, _⟩ => ⟨S_, .f32⟩
  | .hbm, ⟨52, _⟩ => ⟨S8x2x2x2x2048x1, .f32⟩
  | .hbm, ⟨53, _⟩ => ⟨S8x2x2x2x2048x1, .f32⟩
  | .hbm, ⟨54, _⟩ => ⟨S8x2x2x2x2048x2048, .f32⟩
  | .hbm, ⟨55, _⟩ => ⟨S8x2x2x2x2048x2048, .f32⟩
  | .hbm, ⟨56, _⟩ => ⟨S8x2x2x2x2048x2048, .f32⟩
  | .hbm, ⟨57, _⟩ => ⟨S_, .f32⟩
  | .hbm, ⟨58, _⟩ => ⟨S8x2x2x2x2048, .f32⟩
  | .hbm, ⟨59, _⟩ => ⟨S8x2x2x2x2048x1, .f32⟩
  | .hbm, ⟨60, _⟩ => ⟨S_, .f32⟩
  | .hbm, ⟨61, _⟩ => ⟨S8x2x2x2x2048x1, .f32⟩
  | .hbm, ⟨62, _⟩ => ⟨S8x2x2x2x2048x1, .f32⟩
  | .hbm, ⟨63, _⟩ => ⟨S8x2x2x2x2048x2048, .f32⟩
  | .hbm, ⟨64, _⟩ => ⟨S8x2x2x2x2048x2048, .f32⟩
  | .hbm, ⟨65, _⟩ => ⟨S8x2x2x1x2048x2048, .f32⟩
  | .hbm, ⟨66, _⟩ => ⟨S8x2x2x2048x2048, .f32⟩
  | .hbm, ⟨67, _⟩ => ⟨S8x2x2x1x2048x2048, .f32⟩
  | .hbm, ⟨68, _⟩ => ⟨S8x2x2x2048x2048, .f32⟩
  | .hbm, ⟨69, _⟩ => ⟨S8x2x2x2048x2048, .f32⟩
  | .hbm, ⟨70, _⟩ => ⟨S8x2x2x2048x2048, .f32⟩
  | .hbm, ⟨71, _⟩ => ⟨S8x2x2x2048x2048, .f32⟩
  | .hbm, ⟨72, _⟩ => ⟨S8x2x128x2x2048, .f32⟩
  | .hbm, ⟨73, _⟩ => ⟨S8x2048x2x2x128, .f32⟩
  | .hbm, ⟨74, _⟩ => ⟨S128, .f32⟩
  | .hbm, ⟨75, _⟩ => ⟨S8x2048x2x2x128, .f32⟩
  | .hbm, ⟨76, _⟩ => ⟨S_, .f32⟩
  | .hbm, ⟨77, _⟩ => ⟨S8x2048x2x2, .f32⟩
  | .hbm, ⟨78, _⟩ => ⟨S8x2048x2x2x1, .f32⟩
  | .hbm, ⟨79, _⟩ => ⟨S_, .f32⟩
  | .hbm, ⟨80, _⟩ => ⟨S8x2048x2x2x1, .f32⟩
  | .hbm, ⟨81, _⟩ => ⟨S8x2048x2x2x1, .f32⟩
  | .hbm, ⟨82, _⟩ => ⟨S_, .f32⟩
  | .hbm, ⟨83, _⟩ => ⟨S8x2048x2x2x1, .f32⟩
  | .hbm, ⟨84, _⟩ => ⟨S8x2048x2x2x1, .f32⟩
  | .hbm, ⟨85, _⟩ => ⟨S8x2048x2x2x1, .f32⟩
  | .hbm, ⟨86, _⟩ => ⟨S8x2048x2x2x128, .f32⟩
  | .hbm, ⟨87, _⟩ => ⟨S8x2048x2x2x128, .f32⟩
  | .hbm, ⟨88, _⟩ => ⟨S1x1x1x1x128, .f32⟩
  | .hbm, ⟨89, _⟩ => ⟨S8x2048x2x2x128, .f32⟩
  | .hbm, ⟨90, _⟩ => ⟨S8x2048x2x2x128, .f32⟩
  | .hbm, ⟨91, _⟩ => ⟨S_, .f32⟩
  | .hbm, ⟨92, _⟩ => ⟨S8x2048x2x2x128, .f32⟩
  | .hbm, ⟨93, _⟩ => ⟨S8x2048x2x2x128, .f32⟩
  | .hbm, ⟨94, _⟩ => ⟨S8x2048x512, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== Merge.lean ====
abbrev S8x2048x1024 : Shape := ⟨3, ![8, 2048, 1024]⟩
abbrev S8x2048x3x1024 : Shape := ⟨4, ![8, 2048, 3, 1024]⟩
abbrev S8x2048x512 : Shape := ⟨3, ![8, 2048, 512]⟩
abbrev S3x512x1024 : Shape := ⟨3, ![3, 512, 1024]⟩
abbrev S1024x1024 : Shape := ⟨2, ![1024, 1024]⟩
abbrev S16384x1024 : Shape := ⟨2, ![16384, 1024]⟩
abbrev S16384x3072 : Shape := ⟨2, ![16384, 3072]⟩
abbrev S16384x512 : Shape := ⟨2, ![16384, 512]⟩
abbrev S512x1024 : Shape := ⟨2, ![512, 1024]⟩
abbrev S512x3072 : Shape := ⟨2, ![512, 3072]⟩
abbrev S512x512 : Shape := ⟨2, ![512, 512]⟩
abbrev S1x512x1024 : Shape := ⟨3, ![1, 512, 1024]⟩

abbrev nBuf : Space → Nat
  | .hbm => 15
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x2048x3x1024, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S3x512x1024, .f32⟩
  | .hbm, ⟨6, _⟩ => ⟨S1024x1024, .f32⟩
  | .hbm, ⟨7, _⟩ => ⟨S16384x1024, .f32⟩
  | .hbm, ⟨8, _⟩ => ⟨S16384x3072, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S3x512x1024, .bf16⟩
  | .hbm, ⟨13, _⟩ => ⟨S1024x1024, .bf16⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .f32⟩
  | .local _ .vmem, ⟨3, _⟩ => ⟨S512x3072, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S3x512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeRefIdeal.lean ====
abbrev S8x2048x1024 : Shape := ⟨3, ![8, 2048, 1024]⟩
abbrev S8x2048x3x1024 : Shape := ⟨4, ![8, 2048, 3, 1024]⟩
abbrev S8x2048x512 : Shape := ⟨3, ![8, 2048, 512]⟩
abbrev S3x512x1024 : Shape := ⟨3, ![3, 512, 1024]⟩
abbrev S1024x1024 : Shape := ⟨2, ![1024, 1024]⟩
abbrev S8x2048x1x512 : Shape := ⟨4, ![8, 2048, 1, 512]⟩
abbrev S8x2048x3x512 : Shape := ⟨4, ![8, 2048, 3, 512]⟩
abbrev S3x1024x8x2048 : Shape := ⟨4, ![3, 1024, 8, 2048]⟩
abbrev S_ : Shape := ⟨0, ![]⟩
abbrev S16384x1024 : Shape := ⟨2, ![16384, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x3x1024, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S3x512x1024, .f32⟩
  | .hbm, ⟨6, _⟩ => ⟨S1024x1024, .f32⟩
  | .hbm, ⟨7, _⟩ => ⟨S8x2048x1x512, .f32⟩
  | .hbm, ⟨8, _⟩ => ⟨S8x2048x1x512, .f32⟩
  | .hbm, ⟨9, _⟩ => ⟨S8x2048x1x512, .f32⟩
  | .hbm, ⟨10, _⟩ => ⟨S8x2048x3x512, .f32⟩
  | .hbm, ⟨11, _⟩ => ⟨S3x1024x8x2048, .f32⟩
  | .hbm, ⟨12, _⟩ => ⟨S8x2048x3x1024, .f32⟩
  | .hbm, ⟨13, _⟩ => ⟨S8x2048x3x1024, .f32⟩
  | .hbm, ⟨14, _⟩ => ⟨S8x2048x3x1024, .f32⟩
  | .hbm, ⟨15, _⟩ => ⟨S_, .f32⟩
  | .hbm, ⟨16, _⟩ => ⟨S8x2048x3x1024, .f32⟩
  | .hbm, ⟨17, _⟩ => ⟨S8x2048x3x1024, .f32⟩
  | .hbm, ⟨18, _⟩ => ⟨S_, .f32⟩
  | .hbm, ⟨19, _⟩ => ⟨S8x2048x3x1024, .f32⟩
  | .hbm, ⟨20, _⟩ => ⟨S8x2048x3x1024, .f32⟩
  | .hbm, ⟨21, _⟩ => ⟨S8x2048x3x1024, .f32⟩
  | .hbm, ⟨22, _⟩ => ⟨S_, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== ProjA.lean ====
abbrev S8x2048x1024 : Shape := ⟨3, ![8, 2048, 1024]⟩
abbrev S1024 : Shape := ⟨1, ![1024]⟩
abbrev S1024x6424 : Shape := ⟨2, ![1024, 6424]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1024x1024 : Shape := ⟨2, ![1024, 1024]⟩
abbrev S16384x1024 : Shape := ⟨2, ![16384, 1024]⟩
abbrev S1x1024 : Shape := ⟨2, ![1, 1024]⟩
abbrev S16384x512 : Shape := ⟨2, ![16384, 512]⟩
abbrev S16384x256 : Shape := ⟨2, ![16384, 256]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1x128 : Shape := ⟨2, ![1, 128]⟩
abbrev S1024x512 : Shape := ⟨2, ![1024, 512]⟩

abbrev nBuf : Space → Nat
  | .hbm => 31
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6424, .f32⟩
  | .hbm, ⟨3, _⟩ => ⟨S2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x128, .f32⟩
  | .hbm, ⟨21, _⟩ => ⟨S2048x32, .f32⟩
  | .hbm, ⟨22, _⟩ => ⟨S2048x32, .f32⟩
  | .hbm, ⟨23, _⟩ => ⟨S2048x128, .f32⟩
  | .hbm, ⟨24, _⟩ => ⟨S1024x1024, .f32⟩
  | .hbm, ⟨25, _⟩ => ⟨S1024x1024, .bf16⟩
  | .hbm, ⟨26, _⟩ => ⟨S16384x1024, .f32⟩
  | .hbm, ⟨27, _⟩ => ⟨S1x1024, .f32⟩
  | .hbm, ⟨28, _⟩ => ⟨S16384x512, .f32⟩
  | .hbm, ⟨29, _⟩ => ⟨S16384x256, .f32⟩
  | .hbm, ⟨30, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v23_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjARefIdeal.lean ====
abbrev S8x2048x1024 : Shape := ⟨3, ![8, 2048, 1024]⟩
abbrev S1024 : Shape := ⟨1, ![1024]⟩
abbrev S1024x6424 : Shape := ⟨2, ![1024, 6424]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6424 : Shape := ⟨3, ![8, 2048, 6424]⟩
abbrev S8x2048x512 : Shape := ⟨3, ![8, 2048, 512]⟩
abbrev S8x2048x256 : Shape := ⟨3, ![8, 2048, 256]⟩
abbrev S8x2048x8x64 : Shape := ⟨4, ![8, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x8x32 : Shape := ⟨4, ![8, 2048, 8, 32]⟩
abbrev S1x2048x1x32 : Shape := ⟨4, ![1, 2048, 1, 32]⟩
abbrev S16384x512 : Shape := ⟨2, ![16384, 512]⟩
abbrev S8x2048x4x64 : Shape := ⟨4, ![8, 2048, 4, 64]⟩
abbrev S8x2048x4x32 : Shape := ⟨4, ![8, 2048, 4, 32]⟩
abbrev S16384x256 : Shape := ⟨2, ![16384, 256]⟩

abbrev nBuf : Space → Nat
  | .hbm => 99
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6424, .f32⟩
  | .hbm, ⟨3, _⟩ => ⟨S2048, .i32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x6424, .f32⟩
  | .hbm, ⟨21, _⟩ => ⟨S8x2048x512, .f32⟩
  | .hbm, ⟨22, _⟩ => ⟨S8x2048x256, .f32⟩
  | .hbm, ⟨23, _⟩ => ⟨S8x2048x256, .f32⟩
  | .hbm, ⟨24, _⟩ => ⟨S8x2048x8x64, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S2048, .f32⟩
  | .hbm, ⟨34, _⟩ => ⟨S2048x1, .f32⟩
  | .hbm, ⟨35, _⟩ => ⟨S1x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x1x32, .f32⟩
  | .hbm, ⟨41, _⟩ => ⟨S2048x32, .f32⟩
  | .hbm, ⟨42, _⟩ => ⟨S2048x1x32, .f32⟩
  | .hbm, ⟨43, _⟩ => ⟨S8x2048x8x32, .f32⟩
  | .hbm, ⟨44, _⟩ => ⟨S8x2048x8x32, .f32⟩
  | .hbm, ⟨45, _⟩ => ⟨S1x2048x1x32, .f32⟩
  | .hbm, ⟨46, _⟩ => ⟨S8x2048x8x32, .f32⟩
  | .hbm, ⟨47, _⟩ => ⟨S8x2048x8x32, .f32⟩
  | .hbm, ⟨48, _⟩ => ⟨S1x2048x1x32, .f32⟩
  | .hbm, ⟨49, _⟩ => ⟨S8x2048x8x32, .f32⟩
  | .hbm, ⟨50, _⟩ => ⟨S8x2048x8x32, .f32⟩
  | .hbm, ⟨51, _⟩ => ⟨S8x2048x8x32, .f32⟩
  | .hbm, ⟨52, _⟩ => ⟨S1x2048x1x32, .f32⟩
  | .hbm, ⟨53, _⟩ => ⟨S8x2048x8x32, .f32⟩
  | .hbm, ⟨54, _⟩ => ⟨S8x2048x8x32, .f32⟩
  | .hbm, ⟨55, _⟩ => ⟨S1x2048x1x32, .f32⟩
  | .hbm, ⟨56, _⟩ => ⟨S8x2048x8x32, .f32⟩
  | .hbm, ⟨57, _⟩ => ⟨S8x2048x8x32, .f32⟩
  | .hbm, ⟨58, _⟩ => ⟨S8x2048x8x32, .f32⟩
  | .hbm, ⟨59, _⟩ => ⟨S8x2048x8x64, .f32⟩
  | .hbm, ⟨60, _⟩ => ⟨S16384x512, .f32⟩
  | .hbm, ⟨61, _⟩ => ⟨S8x2048x4x64, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S2048, .f32⟩
  | .hbm, ⟨71, _⟩ => ⟨S2048x1, .f32⟩
  | .hbm, ⟨72, _⟩ => ⟨S1x32, .f32⟩
  | .hbm, ⟨73, _⟩ => ⟨S2048x32, .f32⟩
  | .hbm, ⟨74, _⟩ => ⟨S2048x32, .f32⟩
  | .hbm, ⟨75, _⟩ => ⟨S2048x32, .f32⟩
  | .hbm, ⟨76, _⟩ => ⟨S2048x32, .f32⟩
  | .hbm, ⟨77, _⟩ => ⟨S2048x1x32, .f32⟩
  | .hbm, ⟨78, _⟩ => ⟨S2048x32, .f32⟩
  | .hbm, ⟨79, _⟩ => ⟨S2048x1x32, .f32⟩
  | .hbm, ⟨80, _⟩ => ⟨S8x2048x4x32, .f32⟩
  | .hbm, ⟨81, _⟩ => ⟨S8x2048x4x32, .f32⟩
  | .hbm, ⟨82, _⟩ => ⟨S1x2048x1x32, .f32⟩
  | .hbm, ⟨83, _⟩ => ⟨S8x2048x4x32, .f32⟩
  | .hbm, ⟨84, _⟩ => ⟨S8x2048x4x32, .f32⟩
  | .hbm, ⟨85, _⟩ => ⟨S1x2048x1x32, .f32⟩
  | .hbm, ⟨86, _⟩ => ⟨S8x2048x4x32, .f32⟩
  | .hbm, ⟨87, _⟩ => ⟨S8x2048x4x32, .f32⟩
  | .hbm, ⟨88, _⟩ => ⟨S8x2048x4x32, .f32⟩
  | .hbm, ⟨89, _⟩ => ⟨S1x2048x1x32, .f32⟩
  | .hbm, ⟨90, _⟩ => ⟨S8x2048x4x32, .f32⟩
  | .hbm, ⟨91, _⟩ => ⟨S8x2048x4x32, .f32⟩
  | .hbm, ⟨92, _⟩ => ⟨S1x2048x1x32, .f32⟩
  | .hbm, ⟨93, _⟩ => ⟨S8x2048x4x32, .f32⟩
  | .hbm, ⟨94, _⟩ => ⟨S8x2048x4x32, .f32⟩
  | .hbm, ⟨95, _⟩ => ⟨S8x2048x4x32, .f32⟩
  | .hbm, ⟨96, _⟩ => ⟨S8x2048x4x64, .f32⟩
  | .hbm, ⟨97, _⟩ => ⟨S16384x256, .f32⟩
  | .hbm, ⟨98, _⟩ => ⟨S16384x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_4 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩

abbrev nD : Nat := 1
abbrev τ : Topo := Topo.v7x

variable {F : FTy → Type} [FloatOps F]
-- ==== ProjB.lean ====
abbrev S8x2048x1024 : Shape := ⟨3, ![8, 2048, 1024]⟩
abbrev S1024 : Shape := ⟨1, ![1024]⟩
abbrev S1024x6424 : Shape := ⟨2, ![1024, 6424]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1024x24 : Shape := ⟨2, ![1024, 24]⟩
abbrev S1024x128 : Shape := ⟨2, ![1024, 128]⟩
abbrev S1024x1280 : Shape := ⟨2, ![1024, 1280]⟩
abbrev S1024x1408 : Shape := ⟨2, ![1024, 1408]⟩
abbrev S16384x1024 : Shape := ⟨2, ![16384, 1024]⟩
abbrev S1x1024 : Shape := ⟨2, ![1, 1024]⟩
abbrev S16384x512 : Shape := ⟨2, ![16384, 512]⟩
abbrev S16384x128 : Shape := ⟨2, ![16384, 128]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x128 : Shape := ⟨2, ![1, 128]⟩
abbrev S1024x512 : Shape := ⟨2, ![1024, 512]⟩
abbrev S1024x384 : Shape := ⟨2, ![1024, 384]⟩
abbrev S512x384 : Shape := ⟨2, ![512, 384]⟩

abbrev nBuf : Space → Nat
  | .hbm => 42
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6424, .f32⟩
  | .hbm, ⟨3, _⟩ => ⟨S2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x128, .f32⟩
  | .hbm, ⟨21, _⟩ => ⟨S2048x32, .f32⟩
  | .hbm, ⟨22, _⟩ => ⟨S2048x32, .f32⟩
  | .hbm, ⟨23, _⟩ => ⟨S2048x128, .f32⟩
  | .hbm, ⟨24, _⟩ => ⟨S1024x24, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x1280, .f32⟩
  | .hbm, ⟨29, _⟩ => ⟨S1024x1408, .f32⟩
  | .hbm, ⟨30, _⟩ => ⟨S1024x1408, .bf16⟩
  | .hbm, ⟨31, _⟩ => ⟨S16384x1024, .f32⟩
  | .hbm, ⟨32, _⟩ => ⟨S1x1024, .f32⟩
  | .hbm, ⟨33, _⟩ => ⟨S16384x512, .f32⟩
  | .hbm, ⟨34, _⟩ => ⟨S16384x512, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_call0_v0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26_0 : Ref sig .tc := ⟨.hbm, 33, rfl⟩
abbrev main_v26_1 : Ref sig .tc := ⟨.hbm, 34, rfl⟩
abbrev main_v26_2 : Ref sig .tc := ⟨.hbm, 35, rfl⟩
abbrev main_v26_3 : Ref sig .tc := ⟨.hbm, 36, rfl⟩
abbrev main_v26_4 : Ref sig .tc := ⟨.hbm, 37, rfl⟩
abbrev main_v26_5 : Ref sig .tc := ⟨.hbm, 38, rfl⟩
abbrev main_v26_6 : Ref sig .tc := ⟨.hbm, 39, rfl⟩
abbrev main_v26_7 : Ref sig .tc := ⟨.hbm, 40, rfl⟩
abbrev main_v26_8 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjBRefIdeal.lean ====
abbrev S8x2048x1024 : Shape := ⟨3, ![8, 2048, 1024]⟩
abbrev S1024 : Shape := ⟨1, ![1024]⟩
abbrev S1024x6424 : Shape := ⟨2, ![1024, 6424]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6424 : Shape := ⟨3, ![8, 2048, 6424]⟩
abbrev S8x2048x512 : Shape := ⟨3, ![8, 2048, 512]⟩
abbrev S8x2048x128 : Shape := ⟨3, ![8, 2048, 128]⟩
abbrev S8x2048x24 : Shape := ⟨3, ![8, 2048, 24]⟩
abbrev S16384x24 : Shape := ⟨2, ![16384, 24]⟩
abbrev S16384x128 : Shape := ⟨2, ![16384, 128]⟩
abbrev S16384x512 : Shape := ⟨2, ![16384, 512]⟩
abbrev S8x2048x8x64 : Shape := ⟨4, ![8, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x8x32 : Shape := ⟨4, ![8, 2048, 8, 32]⟩
abbrev S1x2048x1x32 : Shape := ⟨4, ![1, 2048, 1, 32]⟩
abbrev S8x2048x2x64 : Shape := ⟨4, ![8, 2048, 2, 64]⟩
abbrev S8x2048x2x32 : Shape := ⟨4, ![8, 2048, 2, 32]⟩

abbrev nBuf : Space → Nat
  | .hbm => 149
  | .vmem => 0
  | .smem => 0
  | _ => 0

abbrev hbmTy0_0 (i : Nat) : BufTy := match i % 128 with
  | 0 => ⟨S8x2048x1024, .f32⟩
  | 1 => ⟨S1024, .f32⟩
  | 2 => ⟨S1024x6424, .f32⟩
  | 3 => ⟨S2048, .i32⟩
  | 4 => ⟨S8x2048x1024, .f32⟩
  | 5 => ⟨S_, .f32⟩
  | 6 => ⟨S8x2048, .f32⟩
  | 7 => ⟨S8x2048x1, .f32⟩
  | 8 => ⟨S_, .f32⟩
  | 9 => ⟨S8x2048x1, .f32⟩
  | 10 => ⟨S8x2048x1, .f32⟩
  | 11 => ⟨S_, .f32⟩
  | 12 => ⟨S8x2048x1, .f32⟩
  | 13 => ⟨S8x2048x1, .f32⟩
  | 14 => ⟨S8x2048x1, .f32⟩
  | 15 => ⟨S8x2048x1024, .f32⟩
  | 16 => ⟨S8x2048x1024, .f32⟩
  | 17 => ⟨S1x1x1024, .f32⟩
  | 18 => ⟨S8x2048x1024, .f32⟩
  | 19 => ⟨S8x2048x1024, .f32⟩
  | 20 => ⟨S8x2048x6424, .f32⟩
  | 21 => ⟨S8x2048x512, .f32⟩
  | 22 => ⟨S8x2048x128, .f32⟩
  | 23 => ⟨S8x2048x128, .f32⟩
  | 24 => ⟨S8x2048x128, .f32⟩
  | 25 => ⟨S8x2048x128, .f32⟩
  | 26 => ⟨S8x2048x128, .f32⟩
  | 27 => ⟨S8x2048x128, .f32⟩
  | 28 => ⟨S8x2048x24, .f32⟩
  | 29 => ⟨S16384x24, .f32⟩
  | 30 => ⟨S_, .i32⟩
  | 31 => ⟨S_, .f32⟩
  | 32 => ⟨S16384x128, .f32⟩
  | 33 => ⟨S16384x512, .f32⟩
  | 34 => ⟨S8x2048x8x64, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S2048, .f32⟩
  | 44 => ⟨S2048x1, .f32⟩
  | 45 => ⟨S1x32, .f32⟩
  | 46 => ⟨S2048x32, .f32⟩
  | 47 => ⟨S2048x32, .f32⟩
  | 48 => ⟨S2048x32, .f32⟩
  | 49 => ⟨S2048x32, .f32⟩
  | 50 => ⟨S2048x1x32, .f32⟩
  | 51 => ⟨S2048x32, .f32⟩
  | 52 => ⟨S2048x1x32, .f32⟩
  | 53 => ⟨S8x2048x8x32, .f32⟩
  | 54 => ⟨S8x2048x8x32, .f32⟩
  | 55 => ⟨S1x2048x1x32, .f32⟩
  | 56 => ⟨S8x2048x8x32, .f32⟩
  | 57 => ⟨S8x2048x8x32, .f32⟩
  | 58 => ⟨S1x2048x1x32, .f32⟩
  | 59 => ⟨S8x2048x8x32, .f32⟩
  | 60 => ⟨S8x2048x8x32, .f32⟩
  | 61 => ⟨S8x2048x8x32, .f32⟩
  | 62 => ⟨S1x2048x1x32, .f32⟩
  | 63 => ⟨S8x2048x8x32, .f32⟩
  | 64 => ⟨S8x2048x8x32, .f32⟩
  | 65 => ⟨S1x2048x1x32, .f32⟩
  | 66 => ⟨S8x2048x8x32, .f32⟩
  | 67 => ⟨S8x2048x8x32, .f32⟩
  | 68 => ⟨S8x2048x8x32, .f32⟩
  | 69 => ⟨S8x2048x8x64, .f32⟩
  | 70 => ⟨S16384x512, .f32⟩
  | 71 => ⟨S16384x128, .f32⟩
  | 72 => ⟨S16384x128, .f32⟩
  | 73 => ⟨S8x2048x2x64, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S2048, .f32⟩
  | 83 => ⟨S2048x1, .f32⟩
  | 84 => ⟨S1x32, .f32⟩
  | 85 => ⟨S2048x32, .f32⟩
  | 86 => ⟨S2048x32, .f32⟩
  | 87 => ⟨S2048x32, .f32⟩
  | 88 => ⟨S2048x32, .f32⟩
  | 89 => ⟨S2048x1x32, .f32⟩
  | 90 => ⟨S2048x32, .f32⟩
  | 91 => ⟨S2048x1x32, .f32⟩
  | 92 => ⟨S8x2048x2x32, .f32⟩
  | 93 => ⟨S8x2048x2x32, .f32⟩
  | 94 => ⟨S1x2048x1x32, .f32⟩
  | 95 => ⟨S8x2048x2x32, .f32⟩
  | 96 => ⟨S8x2048x2x32, .f32⟩
  | 97 => ⟨S1x2048x1x32, .f32⟩
  | 98 => ⟨S8x2048x2x32, .f32⟩
  | 99 => ⟨S8x2048x2x32, .f32⟩
  | 100 => ⟨S8x2048x2x32, .f32⟩
  | 101 => ⟨S1x2048x1x32, .f32⟩
  | 102 => ⟨S8x2048x2x32, .f32⟩
  | 103 => ⟨S8x2048x2x32, .f32⟩
  | 104 => ⟨S1x2048x1x32, .f32⟩
  | 105 => ⟨S8x2048x2x32, .f32⟩
  | 106 => ⟨S8x2048x2x32, .f32⟩
  | 107 => ⟨S8x2048x2x32, .f32⟩
  | 108 => ⟨S8x2048x2x64, .f32⟩
  | 109 => ⟨S16384x128, .f32⟩
  | 110 => ⟨S16384x128, .f32⟩
  | 111 => ⟨S8x2048x2x64, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S2048, .f32⟩
  | 121 => ⟨S2048x1, .f32⟩
  | 122 => ⟨S1x32, .f32⟩
  | 123 => ⟨S2048x32, .f32⟩
  | 124 => ⟨S2048x32, .f32⟩
  | 125 => ⟨S2048x32, .f32⟩
  | 126 => ⟨S2048x32, .f32⟩
  | 127 => ⟨S2048x1x32, .f32⟩
  | _ => ⟨S8x2048x1024, .f32⟩

abbrev hbmTy0_1 (i : Nat) : BufTy := match i % 128 with
  | 0 => ⟨S2048x32, .f32⟩
  | 1 => ⟨S2048x1x32, .f32⟩
  | 2 => ⟨S8x2048x2x32, .f32⟩
  | 3 => ⟨S8x2048x2x32, .f32⟩
  | 4 => ⟨S1x2048x1x32, .f32⟩
  | 5 => ⟨S8x2048x2x32, .f32⟩
  | 6 => ⟨S8x2048x2x32, .f32⟩
  | 7 => ⟨S1x2048x1x32, .f32⟩
  | 8 => ⟨S8x2048x2x32, .f32⟩
  | 9 => ⟨S8x2048x2x32, .f32⟩
  | 10 => ⟨S8x2048x2x32, .f32⟩
  | 11 => ⟨S1x2048x1x32, .f32⟩
  | 12 => ⟨S8x2048x2x32, .f32⟩
  | 13 => ⟨S8x2048x2x32, .f32⟩
  | 14 => ⟨S1x2048x1x32, .f32⟩
  | 15 => ⟨S8x2048x2x32, .f32⟩
  | 16 => ⟨S8x2048x2x32, .f32⟩
  | 17 => ⟨S8x2048x2x32, .f32⟩
  | 18 => ⟨S8x2048x2x64, .f32⟩
  | 19 => ⟨S16384x128, .f32⟩
  | 20 => ⟨S16384x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_4 : Ref sig .tc := ⟨.hbm, 76, rfl⟩
abbrev main_v66 : Ref sig .tc := ⟨.hbm, 77, rfl⟩
abbrev main_v67 : Ref sig .tc := ⟨.hbm, 78, rfl⟩
abbrev main_cst_5 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_cst_6 : Ref sig .tc := ⟨.hbm, 114, rfl⟩
abbrev main_v102 : Ref sig .tc := ⟨.hbm, 115, rfl⟩
abbrev main_v103 : Ref sig .tc := ⟨.hbm, 116, rfl⟩
abbrev main_cst_7 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩

abbrev nD : Nat := 1
abbrev τ : Topo := Topo.v7x

variable {F : FTy → Type} [FloatOps F]
-- ==== ProjC.lean ====
abbrev S8x2048x1024 : Shape := ⟨3, ![8, 2048, 1024]⟩
abbrev S1024 : Shape := ⟨1, ![1024]⟩
abbrev S1024x6424 : Shape := ⟨2, ![1024, 6424]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1024x1024 : Shape := ⟨2, ![1024, 1024]⟩
abbrev S16384x1024 : Shape := ⟨2, ![16384, 1024]⟩
abbrev S1x1024 : Shape := ⟨2, ![1, 1024]⟩
abbrev S16384x512 : Shape := ⟨2, ![16384, 512]⟩
abbrev S16384x256 : Shape := ⟨2, ![16384, 256]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1x128 : Shape := ⟨2, ![1, 128]⟩
abbrev S1024x512 : Shape := ⟨2, ![1024, 512]⟩

abbrev nBuf : Space → Nat
  | .hbm => 31
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6424, .f32⟩
  | .hbm, ⟨3, _⟩ => ⟨S2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x128, .f32⟩
  | .hbm, ⟨21, _⟩ => ⟨S2048x32, .f32⟩
  | .hbm, ⟨22, _⟩ => ⟨S2048x32, .f32⟩
  | .hbm, ⟨23, _⟩ => ⟨S2048x128, .f32⟩
  | .hbm, ⟨24, _⟩ => ⟨S1024x1024, .f32⟩
  | .hbm, ⟨25, _⟩ => ⟨S1024x1024, .bf16⟩
  | .hbm, ⟨26, _⟩ => ⟨S16384x1024, .f32⟩
  | .hbm, ⟨27, _⟩ => ⟨S1x1024, .f32⟩
  | .hbm, ⟨28, _⟩ => ⟨S16384x512, .f32⟩
  | .hbm, ⟨29, _⟩ => ⟨S16384x256, .f32⟩
  | .hbm, ⟨30, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v23_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjCRefIdeal.lean ====
abbrev S8x2048x1024 : Shape := ⟨3, ![8, 2048, 1024]⟩
abbrev S1024 : Shape := ⟨1, ![1024]⟩
abbrev S1024x6424 : Shape := ⟨2, ![1024, 6424]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6424 : Shape := ⟨3, ![8, 2048, 6424]⟩
abbrev S8x2048x512 : Shape := ⟨3, ![8, 2048, 512]⟩
abbrev S8x2048x256 : Shape := ⟨3, ![8, 2048, 256]⟩
abbrev S8x2048x8x64 : Shape := ⟨4, ![8, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x8x32 : Shape := ⟨4, ![8, 2048, 8, 32]⟩
abbrev S1x2048x1x32 : Shape := ⟨4, ![1, 2048, 1, 32]⟩
abbrev S16384x512 : Shape := ⟨2, ![16384, 512]⟩
abbrev S8x2048x4x64 : Shape := ⟨4, ![8, 2048, 4, 64]⟩
abbrev S8x2048x4x32 : Shape := ⟨4, ![8, 2048, 4, 32]⟩
abbrev S16384x256 : Shape := ⟨2, ![16384, 256]⟩

abbrev nBuf : Space → Nat
  | .hbm => 99
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6424, .f32⟩
  | .hbm, ⟨3, _⟩ => ⟨S2048, .i32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x6424, .f32⟩
  | .hbm, ⟨21, _⟩ => ⟨S8x2048x512, .f32⟩
  | .hbm, ⟨22, _⟩ => ⟨S8x2048x256, .f32⟩
  | .hbm, ⟨23, _⟩ => ⟨S8x2048x256, .f32⟩
  | .hbm, ⟨24, _⟩ => ⟨S8x2048x8x64, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S2048, .f32⟩
  | .hbm, ⟨34, _⟩ => ⟨S2048x1, .f32⟩
  | .hbm, ⟨35, _⟩ => ⟨S1x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x1x32, .f32⟩
  | .hbm, ⟨41, _⟩ => ⟨S2048x32, .f32⟩
  | .hbm, ⟨42, _⟩ => ⟨S2048x1x32, .f32⟩
  | .hbm, ⟨43, _⟩ => ⟨S8x2048x8x32, .f32⟩
  | .hbm, ⟨44, _⟩ => ⟨S8x2048x8x32, .f32⟩
  | .hbm, ⟨45, _⟩ => ⟨S1x2048x1x32, .f32⟩
  | .hbm, ⟨46, _⟩ => ⟨S8x2048x8x32, .f32⟩
  | .hbm, ⟨47, _⟩ => ⟨S8x2048x8x32, .f32⟩
  | .hbm, ⟨48, _⟩ => ⟨S1x2048x1x32, .f32⟩
  | .hbm, ⟨49, _⟩ => ⟨S8x2048x8x32, .f32⟩
  | .hbm, ⟨50, _⟩ => ⟨S8x2048x8x32, .f32⟩
  | .hbm, ⟨51, _⟩ => ⟨S8x2048x8x32, .f32⟩
  | .hbm, ⟨52, _⟩ => ⟨S1x2048x1x32, .f32⟩
  | .hbm, ⟨53, _⟩ => ⟨S8x2048x8x32, .f32⟩
  | .hbm, ⟨54, _⟩ => ⟨S8x2048x8x32, .f32⟩
  | .hbm, ⟨55, _⟩ => ⟨S1x2048x1x32, .f32⟩
  | .hbm, ⟨56, _⟩ => ⟨S8x2048x8x32, .f32⟩
  | .hbm, ⟨57, _⟩ => ⟨S8x2048x8x32, .f32⟩
  | .hbm, ⟨58, _⟩ => ⟨S8x2048x8x32, .f32⟩
  | .hbm, ⟨59, _⟩ => ⟨S8x2048x8x64, .f32⟩
  | .hbm, ⟨60, _⟩ => ⟨S16384x512, .f32⟩
  | .hbm, ⟨61, _⟩ => ⟨S8x2048x4x64, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S2048, .f32⟩
  | .hbm, ⟨71, _⟩ => ⟨S2048x1, .f32⟩
  | .hbm, ⟨72, _⟩ => ⟨S1x32, .f32⟩
  | .hbm, ⟨73, _⟩ => ⟨S2048x32, .f32⟩
  | .hbm, ⟨74, _⟩ => ⟨S2048x32, .f32⟩
  | .hbm, ⟨75, _⟩ => ⟨S2048x32, .f32⟩
  | .hbm, ⟨76, _⟩ => ⟨S2048x32, .f32⟩
  | .hbm, ⟨77, _⟩ => ⟨S2048x1x32, .f32⟩
  | .hbm, ⟨78, _⟩ => ⟨S2048x32, .f32⟩
  | .hbm, ⟨79, _⟩ => ⟨S2048x1x32, .f32⟩
  | .hbm, ⟨80, _⟩ => ⟨S8x2048x4x32, .f32⟩
  | .hbm, ⟨81, _⟩ => ⟨S8x2048x4x32, .f32⟩
  | .hbm, ⟨82, _⟩ => ⟨S1x2048x1x32, .f32⟩
  | .hbm, ⟨83, _⟩ => ⟨S8x2048x4x32, .f32⟩
  | .hbm, ⟨84, _⟩ => ⟨S8x2048x4x32, .f32⟩
  | .hbm, ⟨85, _⟩ => ⟨S1x2048x1x32, .f32⟩
  | .hbm, ⟨86, _⟩ => ⟨S8x2048x4x32, .f32⟩
  | .hbm, ⟨87, _⟩ => ⟨S8x2048x4x32, .f32⟩
  | .hbm, ⟨88, _⟩ => ⟨S8x2048x4x32, .f32⟩
  | .hbm, ⟨89, _⟩ => ⟨S1x2048x1x32, .f32⟩
  | .hbm, ⟨90, _⟩ => ⟨S8x2048x4x32, .f32⟩
  | .hbm, ⟨91, _⟩ => ⟨S8x2048x4x32, .f32⟩
  | .hbm, ⟨92, _⟩ => ⟨S1x2048x1x32, .f32⟩
  | .hbm, ⟨93, _⟩ => ⟨S8x2048x4x32, .f32⟩
  | .hbm, ⟨94, _⟩ => ⟨S8x2048x4x32, .f32⟩
  | .hbm, ⟨95, _⟩ => ⟨S8x2048x4x32, .f32⟩
  | .hbm, ⟨96, _⟩ => ⟨S8x2048x4x64, .f32⟩
  | .hbm, ⟨97, _⟩ => ⟨S16384x256, .f32⟩
  | .hbm, ⟨98, _⟩ => ⟨S16384x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_4 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩

abbrev nD : Nat := 1
abbrev τ : Topo := Topo.v7x

variable {F : FTy → Type} [FloatOps F]
-- ==== ProjG.lean ====
abbrev S8x2048x1024 : Shape := ⟨3, ![8, 2048, 1024]⟩
abbrev S1024 : Shape := ⟨1, ![1024]⟩
abbrev S1024x6424 : Shape := ⟨2, ![1024, 6424]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1024x3072 : Shape := ⟨2, ![1024, 3072]⟩
abbrev S16384x1024 : Shape := ⟨2, ![16384, 1024]⟩
abbrev S1x1024 : Shape := ⟨2, ![1, 1024]⟩
abbrev S16384x3072 : Shape := ⟨2, ![16384, 3072]⟩
abbrev S512x1024 : Shape := ⟨2, ![512, 1024]⟩
abbrev S512x128 : Shape := ⟨2, ![512, 128]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 29
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6424, .f32⟩
  | .hbm, ⟨3, _⟩ => ⟨S2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x128, .f32⟩
  | .hbm, ⟨21, _⟩ => ⟨S2048x32, .f32⟩
  | .hbm, ⟨22, _⟩ => ⟨S2048x32, .f32⟩
  | .hbm, ⟨23, _⟩ => ⟨S2048x128, .f32⟩
  | .hbm, ⟨24, _⟩ => ⟨S1024x3072, .f32⟩
  | .hbm, ⟨25, _⟩ => ⟨S1024x3072, .bf16⟩
  | .hbm, ⟨26, _⟩ => ⟨S16384x1024, .f32⟩
  | .hbm, ⟨27, _⟩ => ⟨S1x1024, .f32⟩
  | .hbm, ⟨28, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x3072, .f32⟩
  | .local _ .vmem, ⟨9, _⟩ => ⟨S512x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjGRefIdeal.lean ====
abbrev S8x2048x1024 : Shape := ⟨3, ![8, 2048, 1024]⟩
abbrev S1024 : Shape := ⟨1, ![1024]⟩
abbrev S1024x6424 : Shape := ⟨2, ![1024, 6424]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6424 : Shape := ⟨3, ![8, 2048, 6424]⟩
abbrev S8x2048x3072 : Shape := ⟨3, ![8, 2048, 3072]⟩
abbrev S16384x3072 : Shape := ⟨2, ![16384, 3072]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6424, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x6424, .f32⟩
  | .hbm, ⟨20, _⟩ => ⟨S8x2048x3072, .f32⟩
  | .hbm, ⟨21, _⟩ => ⟨S16384x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== SampleA.lean ====
abbrev S128x4x1024 : Shape := ⟨3, ![128, 4, 1024]⟩
abbrev S1024 : Shape := ⟨1, ![1024]⟩
abbrev S1024x6424 : Shape := ⟨2, ![1024, 6424]⟩
abbrev S512 : Shape := ⟨1, ![512]⟩
abbrev S_ : Shape := ⟨0, ![]⟩
abbrev S32 : Shape := ⟨1, ![32]⟩
abbrev S512x1 : Shape := ⟨2, ![512, 1]⟩
abbrev S1x32 : Shape := ⟨2, ![1, 32]⟩
abbrev S512x32 : Shape := ⟨2, ![512, 32]⟩
abbrev S512x128 : Shape := ⟨2, ![512, 128]⟩
abbrev S128x8x1024 : Shape := ⟨3, ![128, 8, 1024]⟩
abbrev S1024x1024 : Shape := ⟨2, ![1024, 1024]⟩
abbrev S1x1024 : Shape := ⟨2, ![1, 1024]⟩
abbrev S1024x512 : Shape := ⟨2, ![1024, 512]⟩
abbrev S1024x256 : Shape := ⟨2, ![1024, 256]⟩
abbrev S512x1024 : Shape := ⟨2, ![512, 1024]⟩
abbrev S512x512 : Shape := ⟨2, ![512, 512]⟩
abbrev S512x256 : Shape := ⟨2, ![512, 256]⟩
abbrev S1x128 : Shape := ⟨2, ![1, 128]⟩

abbrev nBuf : Space → Nat
  | .hbm => 59
  | .vmem => 12
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x6424, .f32⟩
  | .hbm, ⟨3, _⟩ => ⟨S512, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S_, .i1⟩
  | .hbm, ⟨20, _⟩ => ⟨S512, .i1⟩
  | .hbm, ⟨21, _⟩ => ⟨S512, .i1⟩
  | .hbm, ⟨22, _⟩ => ⟨S512, .i1⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S512, .f32⟩
  | .hbm, ⟨38, _⟩ => ⟨S512x1, .f32⟩
  | .hbm, ⟨39, _⟩ => ⟨S1x32, .f32⟩
  | .hbm, ⟨40, _⟩ => ⟨S512x32, .f32⟩
  | .hbm, ⟨41, _⟩ => ⟨S512x32, .f32⟩
  | .hbm, ⟨42, _⟩ => ⟨S512x32, .f32⟩
  | .hbm, ⟨43, _⟩ => ⟨S512x32, .f32⟩
  | .hbm, ⟨44, _⟩ => ⟨S512x32, .f32⟩
  | .hbm, ⟨45, _⟩ => ⟨S512x128, .f32⟩
  | .hbm, ⟨46, _⟩ => ⟨S512x32, .f32⟩
  | .hbm, ⟨47, _⟩ => ⟨S512x32, .f32⟩
  | .hbm, ⟨48, _⟩ => ⟨S512x128, .f32⟩
  | .hbm, ⟨49, _⟩ => ⟨S_, .i32⟩
  | .hbm, ⟨50, _⟩ => ⟨S_, .f32⟩
  | .hbm, ⟨51, _⟩ => ⟨S128x8x1024, .f32⟩
  | .hbm, ⟨52, _⟩ => ⟨S1024x1024, .f32⟩
  | .hbm, ⟨53, _⟩ => ⟨S1024x1024, .f32⟩
  | .hbm, ⟨54, _⟩ => ⟨S1024x1024, .bf16⟩
  | .hbm, ⟨55, _⟩ => ⟨S1x1024, .f32⟩
  | .hbm, ⟨56, _⟩ => ⟨S1024x512, .f32⟩
  | .hbm, ⟨57, _⟩ => ⟨S1024x256, .f32⟩
  | .hbm, ⟨58, _⟩ => ⟨S1024x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_2 : Ref sig .tc := ⟨.hbm, 49, rfl⟩
abbrev main_call1_v0 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27_0 : Ref sig .tc := ⟨.hbm, 56, rfl⟩
abbrev main_v27_1 : Ref sig .tc := ⟨.hbm, 57, rfl⟩
abbrev main_v27_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SampleARefIdeal.lean ====
abbrev S128x4x1024 : Shape := ⟨3, ![128, 4, 1024]⟩
abbrev S1024 : Shape := ⟨1, ![1024]⟩
abbrev S1024x6424 : Shape := ⟨2, ![1024, 6424]⟩
abbrev S4 : Shape := ⟨1, ![4]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x6424 : Shape := ⟨3, ![128, 4, 6424]⟩
abbrev S128x4x512 : Shape := ⟨3, ![128, 4, 512]⟩
abbrev S128x4x256 : Shape := ⟨3, ![128, 4, 256]⟩
abbrev S128x4x8x64 : Shape := ⟨4, ![128, 4, 8, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x1x32 : Shape := ⟨3, ![4, 1, 32]⟩
abbrev S128x4x8x32 : Shape := ⟨4, ![128, 4, 8, 32]⟩
abbrev S1x4x1x32 : Shape := ⟨4, ![1, 4, 1, 32]⟩
abbrev S128x8x512 : Shape := ⟨3, ![128, 8, 512]⟩
abbrev S1024x512 : Shape := ⟨2, ![1024, 512]⟩
abbrev S128x4x4x64 : Shape := ⟨4, ![128, 4, 4, 64]⟩
abbrev S128x4x4x32 : Shape := ⟨4, ![128, 4, 4, 32]⟩
abbrev S128x8x256 : Shape := ⟨3, ![128, 8, 256]⟩
abbrev S1024x256 : Shape := ⟨2, ![1024, 256]⟩

abbrev nBuf : Space → Nat
  | .hbm => 113
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x6424, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S128x4x1024, .f32⟩
  | .hbm, ⟨8, _⟩ => ⟨S_, .f32⟩
  | .hbm, ⟨9, _⟩ => ⟨S128x4, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S128x4x1, .f32⟩
  | .hbm, ⟨18, _⟩ => ⟨S128x4x1024, .f32⟩
  | .hbm, ⟨19, _⟩ => ⟨S128x4x1024, .f32⟩
  | .hbm, ⟨20, _⟩ => ⟨S1x1x1024, .f32⟩
  | .hbm, ⟨21, _⟩ => ⟨S128x4x1024, .f32⟩
  | .hbm, ⟨22, _⟩ => ⟨S128x4x1024, .f32⟩
  | .hbm, ⟨23, _⟩ => ⟨S128x4x6424, .f32⟩
  | .hbm, ⟨24, _⟩ => ⟨S128x4x512, .f32⟩
  | .hbm, ⟨25, _⟩ => ⟨S128x4x256, .f32⟩
  | .hbm, ⟨26, _⟩ => ⟨S128x4x256, .f32⟩
  | .hbm, ⟨27, _⟩ => ⟨S128x4x8x64, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S4, .f32⟩
  | .hbm, ⟨37, _⟩ => ⟨S4x1, .f32⟩
  | .hbm, ⟨38, _⟩ => ⟨S1x32, .f32⟩
  | .hbm, ⟨39, _⟩ => ⟨S4x32, .f32⟩
  | .hbm, ⟨40, _⟩ => ⟨S4x32, .f32⟩
  | .hbm, ⟨41, _⟩ => ⟨S4x32, .f32⟩
  | .hbm, ⟨42, _⟩ => ⟨S4x32, .f32⟩
  | .hbm, ⟨43, _⟩ => ⟨S4x1x32, .f32⟩
  | .hbm, ⟨44, _⟩ => ⟨S4x32, .f32⟩
  | .hbm, ⟨45, _⟩ => ⟨S4x1x32, .f32⟩
  | .hbm, ⟨46, _⟩ => ⟨S128x4x8x32, .f32⟩
  | .hbm, ⟨47, _⟩ => ⟨S128x4x8x32, .f32⟩
  | .hbm, ⟨48, _⟩ => ⟨S1x4x1x32, .f32⟩
  | .hbm, ⟨49, _⟩ => ⟨S128x4x8x32, .f32⟩
  | .hbm, ⟨50, _⟩ => ⟨S128x4x8x32, .f32⟩
  | .hbm, ⟨51, _⟩ => ⟨S1x4x1x32, .f32⟩
  | .hbm, ⟨52, _⟩ => ⟨S128x4x8x32, .f32⟩
  | .hbm, ⟨53, _⟩ => ⟨S128x4x8x32, .f32⟩
  | .hbm, ⟨54, _⟩ => ⟨S128x4x8x32, .f32⟩
  | .hbm, ⟨55, _⟩ => ⟨S1x4x1x32, .f32⟩
  | .hbm, ⟨56, _⟩ => ⟨S128x4x8x32, .f32⟩
  | .hbm, ⟨57, _⟩ => ⟨S128x4x8x32, .f32⟩
  | .hbm, ⟨58, _⟩ => ⟨S1x4x1x32, .f32⟩
  | .hbm, ⟨59, _⟩ => ⟨S128x4x8x32, .f32⟩
  | .hbm, ⟨60, _⟩ => ⟨S128x4x8x32, .f32⟩
  | .hbm, ⟨61, _⟩ => ⟨S128x4x8x32, .f32⟩
  | .hbm, ⟨62, _⟩ => ⟨S128x4x8x64, .f32⟩
  | .hbm, ⟨63, _⟩ => ⟨S128x4x512, .f32⟩
  | .hbm, ⟨64, _⟩ => ⟨S_, .i32⟩
  | .hbm, ⟨65, _⟩ => ⟨S_, .f32⟩
  | .hbm, ⟨66, _⟩ => ⟨S128x8x512, .f32⟩
  | .hbm, ⟨67, _⟩ => ⟨S1024x512, .f32⟩
  | .hbm, ⟨68, _⟩ => ⟨S128x4x4x64, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S32, .f32⟩
  | .hbm, ⟨76, _⟩ => ⟨S32, .f32⟩
  | .hbm, ⟨77, _⟩ => ⟨S4, .f32⟩
  | .hbm, ⟨78, _⟩ => ⟨S4x1, .f32⟩
  | .hbm, ⟨79, _⟩ => ⟨S1x32, .f32⟩
  | .hbm, ⟨80, _⟩ => ⟨S4x32, .f32⟩
  | .hbm, ⟨81, _⟩ => ⟨S4x32, .f32⟩
  | .hbm, ⟨82, _⟩ => ⟨S4x32, .f32⟩
  | .hbm, ⟨83, _⟩ => ⟨S4x32, .f32⟩
  | .hbm, ⟨84, _⟩ => ⟨S4x1x32, .f32⟩
  | .hbm, ⟨85, _⟩ => ⟨S4x32, .f32⟩
  | .hbm, ⟨86, _⟩ => ⟨S4x1x32, .f32⟩
  | .hbm, ⟨87, _⟩ => ⟨S128x4x4x32, .f32⟩
  | .hbm, ⟨88, _⟩ => ⟨S128x4x4x32, .f32⟩
  | .hbm, ⟨89, _⟩ => ⟨S1x4x1x32, .f32⟩
  | .hbm, ⟨90, _⟩ => ⟨S128x4x4x32, .f32⟩
  | .hbm, ⟨91, _⟩ => ⟨S128x4x4x32, .f32⟩
  | .hbm, ⟨92, _⟩ => ⟨S1x4x1x32, .f32⟩
  | .hbm, ⟨93, _⟩ => ⟨S128x4x4x32, .f32⟩
  | .hbm, ⟨94, _⟩ => ⟨S128x4x4x32, .f32⟩
  | .hbm, ⟨95, _⟩ => ⟨S128x4x4x32, .f32⟩
  | .hbm, ⟨96, _⟩ => ⟨S1x4x1x32, .f32⟩
  | .hbm, ⟨97, _⟩ => ⟨S128x4x4x32, .f32⟩
  | .hbm, ⟨98, _⟩ => ⟨S128x4x4x32, .f32⟩
  | .hbm, ⟨99, _⟩ => ⟨S1x4x1x32, .f32⟩
  | .hbm, ⟨100, _⟩ => ⟨S128x4x4x32, .f32⟩
  | .hbm, ⟨101, _⟩ => ⟨S128x4x4x32, .f32⟩
  | .hbm, ⟨102, _⟩ => ⟨S128x4x4x32, .f32⟩
  | .hbm, ⟨103, _⟩ => ⟨S128x4x4x64, .f32⟩
  | .hbm, ⟨104, _⟩ => ⟨S128x4x256, .f32⟩
  | .hbm, ⟨105, _⟩ => ⟨S_, .i32⟩
  | .hbm, ⟨106, _⟩ => ⟨S_, .f32⟩
  | .hbm, ⟨107, _⟩ => ⟨S128x8x256, .f32⟩
  | .hbm, ⟨108, _⟩ => ⟨S1024x256, .f32⟩
  | .hbm, ⟨109, _⟩ => ⟨S_, .i32⟩
  | .hbm, ⟨110, _⟩ => ⟨S_, .f32⟩
  | .hbm, ⟨111, _⟩ => ⟨S128x8x256, .f32⟩
  | .hbm, ⟨112, _⟩ => ⟨S1024x256, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_c_4 : Ref sig .tc := ⟨.hbm, 64, rfl⟩
abbrev main_call0_v0 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_5 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_c_7 : Ref sig .tc := ⟨.hbm, 105, rfl⟩
abbrev main_call1_v0 : Ref sig .tc := ⟨.hbm, 106, rfl⟩
abbrev main_v92 : Ref sig .tc := ⟨.hbm, 107, rfl⟩
abbrev main_v93 : Ref sig .tc := ⟨.hbm, 108, rfl⟩
abbrev main_c_8 : Ref sig .tc := ⟨.hbm, 109, rfl⟩
abbrev main_call2_v0 : Ref sig .tc := ⟨.hbm, 110, rfl⟩
abbrev main_v94 : Ref sig .tc := ⟨.hbm, 111, rfl⟩
abbrev main_v95 : Ref sig .tc := ⟨.hbm, 112, rfl⟩

abbrev nD : Nat := 1
abbrev τ : Topo := Topo.v7x

variable {F : FTy → Type} [FloatOps F]
-- ==== SampleB.lean ====
abbrev S128x4x1024 : Shape := ⟨3, ![128, 4, 1024]⟩
abbrev S1024 : Shape := ⟨1, ![1024]⟩
abbrev S1024x6424 : Shape := ⟨2, ![1024, 6424]⟩
abbrev S8x2 : Shape := ⟨2, ![8, 2]⟩
abbrev S512 : Shape := ⟨1, ![512]⟩
abbrev S_ : Shape := ⟨0, ![]⟩
abbrev S32 : Shape := ⟨1, ![32]⟩
abbrev S512x1 : Shape := ⟨2, ![512, 1]⟩
abbrev S1x32 : Shape := ⟨2, ![1, 32]⟩
abbrev S512x32 : Shape := ⟨2, ![512, 32]⟩
abbrev S512x128 : Shape := ⟨2, ![512, 128]⟩
abbrev S128x8x1024 : Shape := ⟨3, ![128, 8, 1024]⟩
abbrev S1024x1024 : Shape := ⟨2, ![1024, 1024]⟩
abbrev S1024x24 : Shape := ⟨2, ![1024, 24]⟩
abbrev S1024x128 : Shape := ⟨2, ![1024, 128]⟩
abbrev S1024x512 : Shape := ⟨2, ![1024, 512]⟩
abbrev S1024x8x64 : Shape := ⟨3, ![1024, 8, 64]⟩
abbrev S1024x8x1x64 : Shape := ⟨4, ![1024, 8, 1, 64]⟩
abbrev S1x8x2x1 : Shape := ⟨4, ![1, 8, 2, 1]⟩
abbrev S1024x8x2x64 : Shape := ⟨4, ![1024, 8, 2, 64]⟩
abbrev S1024x768 : Shape := ⟨2, ![1024, 768]⟩
abbrev S1024x1920 : Shape := ⟨2, ![1024, 1920]⟩
abbrev S1x1024 : Shape := ⟨2, ![1, 1024]⟩
abbrev S512x1024 : Shape := ⟨2, ![512, 1024]⟩
abbrev S1x128 : Shape := ⟨2, ![1, 128]⟩
abbrev S512x512 : Shape := ⟨2, ![512, 512]⟩
abbrev S1024x384 : Shape := ⟨2, ![1024, 384]⟩
abbrev S512x384 : Shape := ⟨2, ![512, 384]⟩

abbrev nBuf : Space → Nat
  | .hbm => 79
  | .vmem => 24
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x6424, .f32⟩
  | .hbm, ⟨3, _⟩ => ⟨S8x2, .f32⟩
  | .hbm, ⟨4, _⟩ => ⟨S512, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S_, .i32⟩
  | .hbm, ⟨20, _⟩ => ⟨S_, .i1⟩
  | .hbm, ⟨21, _⟩ => ⟨S512, .i1⟩
  | .hbm, ⟨22, _⟩ => ⟨S512, .i1⟩
  | .hbm, ⟨23, _⟩ => ⟨S512, .i1⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S512, .f32⟩
  | .hbm, ⟨39, _⟩ => ⟨S512x1, .f32⟩
  | .hbm, ⟨40, _⟩ => ⟨S1x32, .f32⟩
  | .hbm, ⟨41, _⟩ => ⟨S512x32, .f32⟩
  | .hbm, ⟨42, _⟩ => ⟨S512x32, .f32⟩
  | .hbm, ⟨43, _⟩ => ⟨S512x32, .f32⟩
  | .hbm, ⟨44, _⟩ => ⟨S512x32, .f32⟩
  | .hbm, ⟨45, _⟩ => ⟨S512x32, .f32⟩
  | .hbm, ⟨46, _⟩ => ⟨S512x128, .f32⟩
  | .hbm, ⟨47, _⟩ => ⟨S512x32, .f32⟩
  | .hbm, ⟨48, _⟩ => ⟨S512x32, .f32⟩
  | .hbm, ⟨49, _⟩ => ⟨S512x128, .f32⟩
  | .hbm, ⟨50, _⟩ => ⟨S_, .i32⟩
  | .hbm, ⟨51, _⟩ => ⟨S_, .f32⟩
  | .hbm, ⟨52, _⟩ => ⟨S128x8x1024, .f32⟩
  | .hbm, ⟨53, _⟩ => ⟨S1024x1024, .f32⟩
  | .hbm, ⟨54, _⟩ => ⟨S1024x24, .f32⟩
  | .hbm, ⟨55, _⟩ => ⟨S_, .i32⟩
  | .hbm, ⟨56, _⟩ => ⟨S_, .f32⟩
  | .hbm, ⟨57, _⟩ => ⟨S1024x128, .f32⟩
  | .hbm, ⟨58, _⟩ => ⟨S1024x512, .f32⟩
  | .hbm, ⟨59, _⟩ => ⟨S1024x8x64, .f32⟩
  | .hbm, ⟨60, _⟩ => ⟨S1024x8x1x64, .f32⟩
  | .hbm, ⟨61, _⟩ => ⟨S1x8x2x1, .f32⟩
  | .hbm, ⟨62, _⟩ => ⟨S1024x8x2x64, .f32⟩
  | .hbm, ⟨63, _⟩ => ⟨S1024x8x2x64, .f32⟩
  | .hbm, ⟨64, _⟩ => ⟨S1024x8x2x64, .f32⟩
  | .hbm, ⟨65, _⟩ => ⟨S1024x1024, .f32⟩
  | .hbm, ⟨66, _⟩ => ⟨S1024x768, .f32⟩
  | .hbm, ⟨67, _⟩ => ⟨S1024x1920, .f32⟩
  | .hbm, ⟨68, _⟩ => ⟨S1024x1920, .bf16⟩
  | .hbm, ⟨69, _⟩ => ⟨S1x1024, .f32⟩
  | .hbm, ⟨70, _⟩ => ⟨S1024x1024, .f32⟩
  | .hbm, ⟨71, _⟩ => ⟨S1024x1024, .f32⟩
  | .hbm, ⟨72, _⟩ => ⟨S1024x128, .f32⟩
  | .hbm, ⟨73, _⟩ => ⟨S1024x128, .f32⟩
  | .hbm, ⟨74, _⟩ => ⟨S1024x128, .f32⟩
  | .hbm, ⟨75, _⟩ => ⟨S1024x128, .f32⟩
  | .hbm, ⟨76, _⟩ => ⟨S1024x128, .f32⟩
  | .hbm, ⟨77, _⟩ => ⟨S1024x128, .f32⟩
  | .hbm, ⟨78, _⟩ => ⟨S1024x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1920, .bf16⟩
  | .local _ .vmem, ⟨4, _⟩ => ⟨S512x128, .f32⟩
  | .local _ .vmem, ⟨5, _⟩ => ⟨S512x128, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst_1 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_3 : Ref sig .tc := ⟨.hbm, 50, rfl⟩
abbrev main_call1_v0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_call2_v0 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38_0 : Ref sig .tc := ⟨.hbm, 70, rfl⟩
abbrev main_v38_1 : Ref sig .tc := ⟨.hbm, 71, rfl⟩
abbrev main_v38_2 : Ref sig .tc := ⟨.hbm, 72, rfl⟩
abbrev main_v38_3 : Ref sig .tc := ⟨.hbm, 73, rfl⟩
abbrev main_v38_4 : Ref sig .tc := ⟨.hbm, 74, rfl⟩
abbrev main_v38_5 : Ref sig .tc := ⟨.hbm, 75, rfl⟩
abbrev main_v38_6 : Ref sig .tc := ⟨.hbm, 76, rfl⟩
abbrev main_v38_7 : Ref sig .tc := ⟨.hbm, 77, rfl⟩
abbrev main_v38_8 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== SampleBRefIdeal.lean ====
abbrev S128x4x1024 : Shape := ⟨3, ![128, 4, 1024]⟩
abbrev S1024 : Shape := ⟨1, ![1024]⟩
abbrev S1024x6424 : Shape := ⟨2, ![1024, 6424]⟩
abbrev S4 : Shape := ⟨1, ![4]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x6424 : Shape := ⟨3, ![128, 4, 6424]⟩
abbrev S128x4x128 : Shape := ⟨3, ![128, 4, 128]⟩
abbrev S128x4x24 : Shape := ⟨3, ![128, 4, 24]⟩
abbrev S128x8x24 : Shape := ⟨3, ![128, 8, 24]⟩
abbrev S1024x24 : Shape := ⟨2, ![1024, 24]⟩
abbrev S1024x128 : Shape := ⟨2, ![1024, 128]⟩
abbrev S128x8x128 : Shape := ⟨3, ![128, 8, 128]⟩
abbrev S128x4x2x64 : Shape := ⟨4, ![128, 4, 2, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x1x32 : Shape := ⟨3, ![4, 1, 32]⟩
abbrev S128x4x2x32 : Shape := ⟨4, ![128, 4, 2, 32]⟩
abbrev S1x4x1x32 : Shape := ⟨4, ![1, 4, 1, 32]⟩

abbrev nBuf : Space → Nat
  | .hbm => 136
  | .vmem => 0
  | .smem => 0
  | _ => 0

abbrev hbmTy0_0 (i : Nat) : BufTy := match i % 128 with
  | 0 => ⟨S128x4x1024, .f32⟩
  | 1 => ⟨S1024, .f32⟩
  | 2 => ⟨S1024x6424, .f32⟩
  | 3 => ⟨S4, .i32⟩
  | 4 => ⟨S_, .i32⟩
  | 5 => ⟨S4, .i32⟩
  | 6 => ⟨S4, .i32⟩
  | 7 => ⟨S128x4x1024, .f32⟩
  | 8 => ⟨S_, .f32⟩
  | 9 => ⟨S128x4, .f32⟩
  | 10 => ⟨S128x4x1, .f32⟩
  | 11 => ⟨S_, .f32⟩
  | 12 => ⟨S128x4x1, .f32⟩
  | 13 => ⟨S128x4x1, .f32⟩
  | 14 => ⟨S_, .f32⟩
  | 15 => ⟨S128x4x1, .f32⟩
  | 16 => ⟨S128x4x1, .f32⟩
  | 17 => ⟨S128x4x1, .f32⟩
  | 18 => ⟨S128x4x1024, .f32⟩
  | 19 => ⟨S128x4x1024, .f32⟩
  | 20 => ⟨S1x1x1024, .f32⟩
  | 21 => ⟨S128x4x1024, .f32⟩
  | 22 => ⟨S128x4x1024, .f32⟩
  | 23 => ⟨S128x4x6424, .f32⟩
  | 24 => ⟨S128x4x128, .f32⟩
  | 25 => ⟨S128x4x128, .f32⟩
  | 26 => ⟨S128x4x128, .f32⟩
  | 27 => ⟨S128x4x128, .f32⟩
  | 28 => ⟨S128x4x128, .f32⟩
  | 29 => ⟨S128x4x128, .f32⟩
  | 30 => ⟨S128x4x24, .f32⟩
  | 31 => ⟨S_, .i32⟩
  | 32 => ⟨S_, .f32⟩
  | 33 => ⟨S128x8x24, .f32⟩
  | 34 => ⟨S1024x24, .f32⟩
  | 35 => ⟨S_, .i32⟩
  | 36 => ⟨S_, .f32⟩
  | 37 => ⟨S1024x128, .f32⟩
  | 38 => ⟨S_, .i32⟩
  | 39 => ⟨S_, .f32⟩
  | 40 => ⟨S128x8x128, .f32⟩
  | 41 => ⟨S1024x128, .f32⟩
  | 42 => ⟨S_, .i32⟩
  | 43 => ⟨S_, .f32⟩
  | 44 => ⟨S128x8x128, .f32⟩
  | 45 => ⟨S1024x128, .f32⟩
  | 46 => ⟨S128x4x2x64, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S4, .f32⟩
  | 56 => ⟨S4x1, .f32⟩
  | 57 => ⟨S1x32, .f32⟩
  | 58 => ⟨S4x32, .f32⟩
  | 59 => ⟨S4x32, .f32⟩
  | 60 => ⟨S4x32, .f32⟩
  | 61 => ⟨S4x32, .f32⟩
  | 62 => ⟨S4x1x32, .f32⟩
  | 63 => ⟨S4x32, .f32⟩
  | 64 => ⟨S4x1x32, .f32⟩
  | 65 => ⟨S128x4x2x32, .f32⟩
  | 66 => ⟨S128x4x2x32, .f32⟩
  | 67 => ⟨S1x4x1x32, .f32⟩
  | 68 => ⟨S128x4x2x32, .f32⟩
  | 69 => ⟨S128x4x2x32, .f32⟩
  | 70 => ⟨S1x4x1x32, .f32⟩
  | 71 => ⟨S128x4x2x32, .f32⟩
  | 72 => ⟨S128x4x2x32, .f32⟩
  | 73 => ⟨S128x4x2x32, .f32⟩
  | 74 => ⟨S1x4x1x32, .f32⟩
  | 75 => ⟨S128x4x2x32, .f32⟩
  | 76 => ⟨S128x4x2x32, .f32⟩
  | 77 => ⟨S1x4x1x32, .f32⟩
  | 78 => ⟨S128x4x2x32, .f32⟩
  | 79 => ⟨S128x4x2x32, .f32⟩
  | 80 => ⟨S128x4x2x32, .f32⟩
  | 81 => ⟨S128x4x2x64, .f32⟩
  | 82 => ⟨S128x4x128, .f32⟩
  | 83 => ⟨S_, .i32⟩
  | 84 => ⟨S_, .f32⟩
  | 85 => ⟨S128x8x128, .f32⟩
  | 86 => ⟨S1024x128, .f32⟩
  | 87 => ⟨S_, .i32⟩
  | 88 => ⟨S_, .f32⟩
  | 89 => ⟨S128x8x128, .f32⟩
  | 90 => ⟨S1024x128, .f32⟩
  | 91 => ⟨S128x4x2x64, .f32⟩
  | 92 => ⟨S32, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S4, .f32⟩
  | 101 => ⟨S4x1, .f32⟩
  | 102 => ⟨S1x32, .f32⟩
  | 103 => ⟨S4x32, .f32⟩
  | 104 => ⟨S4x32, .f32⟩
  | 105 => ⟨S4x32, .f32⟩
  | 106 => ⟨S4x32, .f32⟩
  | 107 => ⟨S4x1x32, .f32⟩
  | 108 => ⟨S4x32, .f32⟩
  | 109 => ⟨S4x1x32, .f32⟩
  | 110 => ⟨S128x4x2x32, .f32⟩
  | 111 => ⟨S128x4x2x32, .f32⟩
  | 112 => ⟨S1x4x1x32, .f32⟩
  | 113 => ⟨S128x4x2x32, .f32⟩
  | 114 => ⟨S128x4x2x32, .f32⟩
  | 115 => ⟨S1x4x1x32, .f32⟩
  | 116 => ⟨S128x4x2x32, .f32⟩
  | 117 => ⟨S128x4x2x32, .f32⟩
  | 118 => ⟨S128x4x2x32, .f32⟩
  | 119 => ⟨S1x4x1x32, .f32⟩
  | 120 => ⟨S128x4x2x32, .f32⟩
  | 121 => ⟨S128x4x2x32, .f32⟩
  | 122 => ⟨S1x4x1x32, .f32⟩
  | 123 => ⟨S128x4x2x32, .f32⟩
  | 124 => ⟨S128x4x2x32, .f32⟩
  | 125 => ⟨S128x4x2x32, .f32⟩
  | 126 => ⟨S128x4x2x64, .f32⟩
  | 127 => ⟨S128x4x128, .f32⟩
  | _ => ⟨S128x4x1024, .f32⟩

abbrev hbmTy0_1 (i : Nat) : BufTy := match i % 128 with
  | 0 => ⟨S_, .i32⟩
  | 1 => ⟨S_, .f32⟩
  | 2 => ⟨S128x8x128, .f32⟩
  | 3 => ⟨S1024x128, .f32⟩
  | 4 => ⟨S_, .i32⟩
  | 5 => ⟨S_, .f32⟩
  | 6 => ⟨S128x8x128, .f32⟩
  | 7 => ⟨S1024x128, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_call0_v0 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_call1_v0 : Ref sig .tc := ⟨.hbm, 36, rfl⟩
abbrev main_v26 : Ref sig .tc := ⟨.hbm, 37, rfl⟩
abbrev main_c_4 : Ref sig .tc := ⟨.hbm, 38, rfl⟩
abbrev main_call2_v0 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_call3_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c_8 : Ref sig .tc := ⟨.hbm, 83, rfl⟩
abbrev main_call4_v0 : Ref sig .tc := ⟨.hbm, 84, rfl⟩
abbrev main_v66 : Ref sig .tc := ⟨.hbm, 85, rfl⟩
abbrev main_v67 : Ref sig .tc := ⟨.hbm, 86, rfl⟩
abbrev main_c_9 : Ref sig .tc := ⟨.hbm, 87, rfl⟩
abbrev main_call5_v0 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_10 : Ref sig .tc := ⟨.hbm, 94, rfl⟩
abbrev main_v73 : Ref sig .tc := ⟨.hbm, 95, rfl⟩
abbrev main_v74 : Ref sig .tc := ⟨.hbm, 96, rfl⟩
abbrev main_cst_11 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_c_12 : Ref sig .tc := ⟨.hbm, 128, rfl⟩
abbrev main_call6_v0 : Ref sig .tc := ⟨.hbm, 129, rfl⟩
abbrev main_v105 : Ref sig .tc := ⟨.hbm, 130, rfl⟩
abbrev main_v106 : Ref sig .tc := ⟨.hbm, 131, rfl⟩
abbrev main_c_13 : Ref sig .tc := ⟨.hbm, 132, rfl⟩
abbrev main_call7_v0 : Ref sig .tc := ⟨.hbm, 133, rfl⟩
abbrev main_v107 : Ref sig .tc := ⟨.hbm, 134, rfl⟩
abbrev main_v108 : Ref sig .tc := ⟨.hbm, 135, rfl⟩

abbrev nD : Nat := 1
abbrev τ : Topo := Topo.v7x

variable {F : FTy → Type} [FloatOps F]
-- ==== SampleC.lean ====
abbrev S128x4x1024 : Shape := ⟨3, ![128, 4, 1024]⟩
abbrev S1024 : Shape := ⟨1, ![1024]⟩
abbrev S1024x6424 : Shape := ⟨2, ![1024, 6424]⟩
abbrev S8x4 : Shape := ⟨2, ![8, 4]⟩
abbrev S512 : Shape := ⟨1, ![512]⟩
abbrev S_ : Shape := ⟨0, ![]⟩
abbrev S32 : Shape := ⟨1, ![32]⟩
abbrev S512x1 : Shape := ⟨2, ![512, 1]⟩
abbrev S1x32 : Shape := ⟨2, ![1, 32]⟩
abbrev S512x32 : Shape := ⟨2, ![512, 32]⟩
abbrev S512x128 : Shape := ⟨2, ![512, 128]⟩
abbrev S128x8x1024 : Shape := ⟨3, ![128, 8, 1024]⟩
abbrev S1024x1024 : Shape := ⟨2, ![1024, 1024]⟩
abbrev S1024x512 : Shape := ⟨2, ![1024, 512]⟩
abbrev S1024x8x64 : Shape := ⟨3, ![1024, 8, 64]⟩
abbrev S1024x8x1x64 : Shape := ⟨4, ![1024, 8, 1, 64]⟩
abbrev S1x8x4x1 : Shape := ⟨4, ![1, 8, 4, 1]⟩
abbrev S1024x8x4x64 : Shape := ⟨4, ![1024, 8, 4, 64]⟩
abbrev S1024x2048 : Shape := ⟨2, ![1024, 2048]⟩
abbrev S1024x2560 : Shape := ⟨2, ![1024, 2560]⟩
abbrev S1x1024 : Shape := ⟨2, ![1, 1024]⟩
abbrev S1024x256 : Shape := ⟨2, ![1024, 256]⟩
abbrev S512x1024 : Shape := ⟨2, ![512, 1024]⟩
abbrev S512x2048 : Shape := ⟨2, ![512, 2048]⟩
abbrev S512x256 : Shape := ⟨2, ![512, 256]⟩
abbrev S1x128 : Shape := ⟨2, ![1, 128]⟩
abbrev S512x512 : Shape := ⟨2, ![512, 512]⟩

abbrev nBuf : Space → Nat
  | .hbm => 69
  | .vmem => 12
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x6424, .f32⟩
  | .hbm, ⟨3, _⟩ => ⟨S8x4, .f32⟩
  | .hbm, ⟨4, _⟩ => ⟨S512, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S_, .i32⟩
  | .hbm, ⟨20, _⟩ => ⟨S_, .i1⟩
  | .hbm, ⟨21, _⟩ => ⟨S512, .i1⟩
  | .hbm, ⟨22, _⟩ => ⟨S512, .i1⟩
  | .hbm, ⟨23, _⟩ => ⟨S512, .i1⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S512, .f32⟩
  | .hbm, ⟨39, _⟩ => ⟨S512x1, .f32⟩
  | .hbm, ⟨40, _⟩ => ⟨S1x32, .f32⟩
  | .hbm, ⟨41, _⟩ => ⟨S512x32, .f32⟩
  | .hbm, ⟨42, _⟩ => ⟨S512x32, .f32⟩
  | .hbm, ⟨43, _⟩ => ⟨S512x32, .f32⟩
  | .hbm, ⟨44, _⟩ => ⟨S512x32, .f32⟩
  | .hbm, ⟨45, _⟩ => ⟨S512x32, .f32⟩
  | .hbm, ⟨46, _⟩ => ⟨S512x128, .f32⟩
  | .hbm, ⟨47, _⟩ => ⟨S512x32, .f32⟩
  | .hbm, ⟨48, _⟩ => ⟨S512x32, .f32⟩
  | .hbm, ⟨49, _⟩ => ⟨S512x128, .f32⟩
  | .hbm, ⟨50, _⟩ => ⟨S_, .i32⟩
  | .hbm, ⟨51, _⟩ => ⟨S_, .f32⟩
  | .hbm, ⟨52, _⟩ => ⟨S128x8x1024, .f32⟩
  | .hbm, ⟨53, _⟩ => ⟨S1024x1024, .f32⟩
  | .hbm, ⟨54, _⟩ => ⟨S1024x512, .f32⟩
  | .hbm, ⟨55, _⟩ => ⟨S1024x8x64, .f32⟩
  | .hbm, ⟨56, _⟩ => ⟨S1024x8x1x64, .f32⟩
  | .hbm, ⟨57, _⟩ => ⟨S1x8x4x1, .f32⟩
  | .hbm, ⟨58, _⟩ => ⟨S1024x8x4x64, .f32⟩
  | .hbm, ⟨59, _⟩ => ⟨S1024x8x4x64, .f32⟩
  | .hbm, ⟨60, _⟩ => ⟨S1024x8x4x64, .f32⟩
  | .hbm, ⟨61, _⟩ => ⟨S1024x2048, .f32⟩
  | .hbm, ⟨62, _⟩ => ⟨S1024x512, .f32⟩
  | .hbm, ⟨63, _⟩ => ⟨S1024x2560, .f32⟩
  | .hbm, ⟨64, _⟩ => ⟨S1024x2560, .bf16⟩
  | .hbm, ⟨65, _⟩ => ⟨S1x1024, .f32⟩
  | .hbm, ⟨66, _⟩ => ⟨S1024x2048, .f32⟩
  | .hbm, ⟨67, _⟩ => ⟨S1024x256, .f32⟩
  | .hbm, ⟨68, _⟩ => ⟨S1024x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x128, .f32⟩
  | .local _ .vmem, ⟨5, _⟩ => ⟨S512x128, .f32⟩
  | .local _ .vmem, ⟨6, _⟩ => ⟨S512x2048, .f32⟩
  | .local _ .vmem, ⟨7, _⟩ => ⟨S512x2048, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst_1 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_3 : Ref sig .tc := ⟨.hbm, 50, rfl⟩
abbrev main_call1_v0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36_0 : Ref sig .tc := ⟨.hbm, 66, rfl⟩
abbrev main_v36_1 : Ref sig .tc := ⟨.hbm, 67, rfl⟩
abbrev main_v36_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SampleCRefIdeal.lean ====
abbrev S128x4x1024 : Shape := ⟨3, ![128, 4, 1024]⟩
abbrev S1024 : Shape := ⟨1, ![1024]⟩
abbrev S1024x6424 : Shape := ⟨2, ![1024, 6424]⟩
abbrev S4 : Shape := ⟨1, ![4]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x6424 : Shape := ⟨3, ![128, 4, 6424]⟩
abbrev S128x4x256 : Shape := ⟨3, ![128, 4, 256]⟩
abbrev S128x4x4x64 : Shape := ⟨4, ![128, 4, 4, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x1x32 : Shape := ⟨3, ![4, 1, 32]⟩
abbrev S128x4x4x32 : Shape := ⟨4, ![128, 4, 4, 32]⟩
abbrev S1x4x1x32 : Shape := ⟨4, ![1, 4, 1, 32]⟩
abbrev S128x8x256 : Shape := ⟨3, ![128, 8, 256]⟩
abbrev S1024x256 : Shape := ⟨2, ![1024, 256]⟩

abbrev nBuf : Space → Nat
  | .hbm => 71
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x6424, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S128x4x1024, .f32⟩
  | .hbm, ⟨8, _⟩ => ⟨S_, .f32⟩
  | .hbm, ⟨9, _⟩ => ⟨S128x4, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S128x4x1, .f32⟩
  | .hbm, ⟨18, _⟩ => ⟨S128x4x1024, .f32⟩
  | .hbm, ⟨19, _⟩ => ⟨S128x4x1024, .f32⟩
  | .hbm, ⟨20, _⟩ => ⟨S1x1x1024, .f32⟩
  | .hbm, ⟨21, _⟩ => ⟨S128x4x1024, .f32⟩
  | .hbm, ⟨22, _⟩ => ⟨S128x4x1024, .f32⟩
  | .hbm, ⟨23, _⟩ => ⟨S128x4x6424, .f32⟩
  | .hbm, ⟨24, _⟩ => ⟨S128x4x256, .f32⟩
  | .hbm, ⟨25, _⟩ => ⟨S128x4x256, .f32⟩
  | .hbm, ⟨26, _⟩ => ⟨S128x4x4x64, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S4, .f32⟩
  | .hbm, ⟨36, _⟩ => ⟨S4x1, .f32⟩
  | .hbm, ⟨37, _⟩ => ⟨S1x32, .f32⟩
  | .hbm, ⟨38, _⟩ => ⟨S4x32, .f32⟩
  | .hbm, ⟨39, _⟩ => ⟨S4x32, .f32⟩
  | .hbm, ⟨40, _⟩ => ⟨S4x32, .f32⟩
  | .hbm, ⟨41, _⟩ => ⟨S4x32, .f32⟩
  | .hbm, ⟨42, _⟩ => ⟨S4x1x32, .f32⟩
  | .hbm, ⟨43, _⟩ => ⟨S4x32, .f32⟩
  | .hbm, ⟨44, _⟩ => ⟨S4x1x32, .f32⟩
  | .hbm, ⟨45, _⟩ => ⟨S128x4x4x32, .f32⟩
  | .hbm, ⟨46, _⟩ => ⟨S128x4x4x32, .f32⟩
  | .hbm, ⟨47, _⟩ => ⟨S1x4x1x32, .f32⟩
  | .hbm, ⟨48, _⟩ => ⟨S128x4x4x32, .f32⟩
  | .hbm, ⟨49, _⟩ => ⟨S128x4x4x32, .f32⟩
  | .hbm, ⟨50, _⟩ => ⟨S1x4x1x32, .f32⟩
  | .hbm, ⟨51, _⟩ => ⟨S128x4x4x32, .f32⟩
  | .hbm, ⟨52, _⟩ => ⟨S128x4x4x32, .f32⟩
  | .hbm, ⟨53, _⟩ => ⟨S128x4x4x32, .f32⟩
  | .hbm, ⟨54, _⟩ => ⟨S1x4x1x32, .f32⟩
  | .hbm, ⟨55, _⟩ => ⟨S128x4x4x32, .f32⟩
  | .hbm, ⟨56, _⟩ => ⟨S128x4x4x32, .f32⟩
  | .hbm, ⟨57, _⟩ => ⟨S1x4x1x32, .f32⟩
  | .hbm, ⟨58, _⟩ => ⟨S128x4x4x32, .f32⟩
  | .hbm, ⟨59, _⟩ => ⟨S128x4x4x32, .f32⟩
  | .hbm, ⟨60, _⟩ => ⟨S128x4x4x32, .f32⟩
  | .hbm, ⟨61, _⟩ => ⟨S128x4x4x64, .f32⟩
  | .hbm, ⟨62, _⟩ => ⟨S128x4x256, .f32⟩
  | .hbm, ⟨63, _⟩ => ⟨S_, .i32⟩
  | .hbm, ⟨64, _⟩ => ⟨S_, .f32⟩
  | .hbm, ⟨65, _⟩ => ⟨S128x8x256, .f32⟩
  | .hbm, ⟨66, _⟩ => ⟨S1024x256, .f32⟩
  | .hbm, ⟨67, _⟩ => ⟨S_, .i32⟩
  | .hbm, ⟨68, _⟩ => ⟨S_, .f32⟩
  | .hbm, ⟨69, _⟩ => ⟨S128x8x256, .f32⟩
  | .hbm, ⟨70, _⟩ => ⟨S1024x256, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_c_4 : Ref sig .tc := ⟨.hbm, 63, rfl⟩
abbrev main_call0_v0 : Ref sig .tc := ⟨.hbm, 64, rfl⟩
abbrev main_v54 : Ref sig .tc := ⟨.hbm, 65, rfl⟩
abbrev main_v55 : Ref sig .tc := ⟨.hbm, 66, rfl⟩
abbrev main_c_5 : Ref sig .tc := ⟨.hbm, 67, rfl⟩
abbrev main_call1_v0 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Proof.Math.lean ====
module

public import Idealize.ShloMosaic.Lib.Pipeline.ValueKit

@[expose] public section

set_option maxRecDepth 16384

noncomputable section

namespace Diff

open Idealize.ShloMosaic Finset

/-- The sum of `f k` over the keys `k < K` that the query at position `q` may attend to. -/
def W (K q : ℕ) (f : ℕ → ℝ) : ℝ := ∑ k ∈ range K, if k ≤ q then f k else 0

/-- A finite sum of reals, read in the extended reals. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [sum_insert ha, sum_insert ha, EReal.coe_add, ih]

/-- Scaling every term scales the sum. -/
theorem W_mul (K q : ℕ) (c : ℝ) (f : ℕ → ℝ) : c * W K q f = W K q (fun k => c * f k) := by
  unfold W
  rw [mul_sum]
  refine sum_congr rfl fun k _ => ?_
  split <;> simp

/-- Dividing every term divides the sum. -/
theorem W_div (K q : ℕ) (c : ℝ) (f : ℕ → ℝ) : W K q f / c = W K q (fun k => f k / c) := by
  rw [div_eq_inv_mul, W_mul]
  exact congrArg _ (funext fun k => by rw [div_eq_inv_mul])

/-- A sum over a chunk of `128 * n` keys more. -/
theorem W_add (K q n : ℕ) (f : ℕ → ℝ) :
    W (K + 128 * n) q f
      = W K q f + ∑ b ∈ range n, ∑ l : Fin 128,
          if K + 128 * b + l.val ≤ q then f (K + 128 * b + l.val) else 0 := by
  induction n with
  | zero => simp
  | succ n ih =>
    rw [sum_range_succ, ← add_assoc, ← ih]
    have : K + 128 * (n + 1) = (K + 128 * n) + 128 := by ring
    rw [this]
    unfold W
    rw [sum_range_add, Fin.sum_univ_eq_sum_range (fun l => if K + 128 * n + l ≤ q then f (K + 128 * n + l) else 0)]

/-- Past the query's own position the sum no longer grows. -/
theorem W_stop (K q : ℕ) (f : ℕ → ℝ) (h : q < K) : W K q f = W (q + 1) q f := by
  obtain ⟨d, rfl⟩ : ∃ d, K = (q + 1) + d := ⟨K - (q + 1), by omega⟩
  unfold W
  rw [sum_range_add]
  have : ∑ x ∈ range d, (if q + 1 + x ≤ q then f (q + 1 + x) else 0) = 0 :=
    sum_eq_zero fun x _ => by rw [if_neg (by omega)]
  rw [this, add_zero]

/-- A term of a sum of nonnegative terms is at most the sum. -/
theorem le_W (K q : ℕ) (f : ℕ → ℝ) (hf : ∀ k, 0 ≤ f k) (k : ℕ) (hk : k < K) (hq : k ≤ q) : f k ≤ W K q f := by
  unfold W
  have := single_le_sum (s := range K) (f := fun k => if k ≤ q then f k else 0)
    (fun i _ => by split; exacts [hf i, le_rfl]) (mem_range.mpr hk)
  simpa [hq] using this

/-- The state of one query row after the keys `k < K`: the running maximum `m`, the running
normaliser `l` and the running weighted sum `a`, the same maximum and normaliser on every lane. -/
def RowInv (K q : ℕ) (y : ℕ → ℝ) (v : ℕ → Fin 128 → ℝ) (m l a : Fin 128 → EReal) : Prop :=
  (K = 0 ∧ ∀ e, m e = ⊥ ∧ l e = 0 ∧ a e = 0) ∨
  ∃ μ : ℝ, (∃ k, k < K ∧ k ≤ q ∧ y k = μ) ∧ ∀ e, m e = (μ : EReal) ∧
    l e = ((W K q fun k => (2 : ℝ) ^ (y k - μ) : ℝ) : EReal) ∧
    a e = ((W K q fun k => (2 : ℝ) ^ (y k - μ) * v k e : ℝ) : EReal)

theorem exp2_coe' (r : ℝ) : Ideal.exp2 (r : EReal) = (((2 : ℝ) ^ r : ℝ) : EReal) := Ideal.exp2_coe r

/-- One chunk of the online softmax: `128 * n` keys in `n` blocks `B b` of 128 scores. -/
theorem row_step (K q n : ℕ) (y : ℕ → ℝ) (v : ℕ → Fin 128 → ℝ) (m l a M : Fin 128 → EReal)
    (B : ℕ → Fin 128 → EReal) (vc : ℕ → Fin 128 → Fin 128 → EReal) (m' l' a' : Fin 128 → EReal)
    (h : RowInv K q y v m l a) (hn : 0 < n) (hK : K ≤ q)
    (hB : ∀ b, b < n → ∀ i, B b i = if K + 128 * b + i.val ≤ q then ((y (K + 128 * b + i.val) : ℝ) : EReal) else ⊥)
    (hv : ∀ b, b < n → ∀ i e, vc b i e = ((v (K + 128 * b + i.val) e : ℝ) : EReal))
    (hM : ∀ e, (∀ b, b < n → ∀ i, B b i ≤ M e) ∧ ∃ b, b < n ∧ ∃ i, M e = B b i)
    (hm' : ∀ e, m' e = max (m e) (M e))
    (hl' : ∀ e, l' e = Ideal.exp2 (m e - m' e) * l e + ∑ i : Fin 128, ∑ b ∈ range n, Ideal.exp2 (B b i - m' i))
    (ha' : ∀ e, a' e = Ideal.exp2 (m e - m' e) * a e
      + ∑ b ∈ range n, ∑ i : Fin 128, Ideal.exp2 (B b i - m' i) * vc b i e) :
    RowInv (K + 128 * n) q y v m' l' a' := by
  -- the chunk's maximum, one real number on every lane
  obtain ⟨ν, k1, hk1, hk1q, hk1y, hMν⟩ : ∃ ν : ℝ, ∃ k, k < K + 128 * n ∧ k ≤ q ∧ y k = ν ∧ ∀ e, M e = (ν : EReal) := by
    obtain ⟨hle, b0, hb0, i0, h0⟩ := hM 0
    have hne : M 0 ≠ ⊥ := by
      intro hbot
      have := hle 0 hn 0
      rw [hbot, hB 0 hn 0, if_pos (by simpa using hK)] at this
      exact EReal.coe_ne_bot _ (le_bot_iff.mp this)
    have hin : K + 128 * b0 + i0.val ≤ q := by
      by_contra hc
      rw [hB b0 hb0, if_neg hc] at h0
      exact hne h0
    refine ⟨y (K + 128 * b0 + i0.val), K + 128 * b0 + i0.val, ?_, hin, rfl, fun e => ?_⟩
    · have := i0.isLt; omega
    · have e0 : M 0 = ((y (K + 128 * b0 + i0.val) : ℝ) : EReal) := by rw [h0, hB b0 hb0, if_pos hin]
      rw [← e0]
      obtain ⟨hle', b1, hb1, i1, h1⟩ := hM e
      exact le_antisymm (h1 ▸ hle b1 hb1 i1) (h0 ▸ hle' b0 hb0 i0)
  -- the chunk's own share of the two sums, for any real maximum
  have hnew : ∀ (μ : ℝ) (e : Fin 128), (∀ e, m' e = (μ : EReal)) →
      (∑ i : Fin 128, ∑ b ∈ range n, Ideal.exp2 (B b i - m' i))
        = ((∑ b ∈ range n, ∑ i : Fin 128, if K + 128 * b + i.val ≤ q then (2 : ℝ) ^ (y (K + 128 * b + i.val) - μ) else 0 : ℝ) : EReal)
      ∧ (∑ b ∈ range n, ∑ i : Fin 128, Ideal.exp2 (B b i - m' i) * vc b i e)
        = ((∑ b ∈ range n, ∑ i : Fin 128, if K + 128 * b + i.val ≤ q then (2 : ℝ) ^ (y (K + 128 * b + i.val) - μ) * v (K + 128 * b + i.val) e else 0 : ℝ) : EReal) := by
    intro μ e hμ
    constructor
    · rw [sum_comm, coe_sum]
      refine sum_congr rfl fun b hb => ?_
      rw [coe_sum]
      refine sum_congr rfl fun i _ => ?_
      rw [hB b (mem_range.mp hb), hμ]
      split
      · rw [← EReal.coe_sub, exp2_coe']
      · simp
    · rw [coe_sum]
      refine sum_congr rfl fun b hb => ?_
      rw [coe_sum]
      refine sum_congr rfl fun i _ => ?_
      rw [hB b (mem_range.mp hb), hμ, hv b (mem_range.mp hb)]
      split
      · rw [← EReal.coe_sub, exp2_coe', ← EReal.coe_mul]
      · simp
  rcases h with ⟨hK0, h⟩ | ⟨μ, ⟨k0, hk0, hk0q, hk0y⟩, h⟩
  · have hm : ∀ e, m' e = (ν : EReal) := fun e => by rw [hm', (h e).1, hMν]; simp
    refine Or.inr ⟨ν, ⟨k1, hk1, hk1q, hk1y⟩, fun e => ⟨hm e, ?_, ?_⟩⟩
    · rw [hl', (h e).2.1, mul_zero, zero_add, (hnew ν e hm).1, W_add, hK0]
      simp [W]
    · rw [ha', (h e).2.2, mul_zero, zero_add, (hnew ν e hm).2, W_add, hK0]
      simp [W]
  · have hm : ∀ e, m' e = ((max μ ν : ℝ) : EReal) := fun e => by
      rw [hm', (h e).1, hMν]; exact (EReal.coe_strictMono.monotone.map_max).symm
    have hpow : ∀ x : ℝ, (2 : ℝ) ^ (μ - max μ ν) * (2 : ℝ) ^ (x - μ) = (2 : ℝ) ^ (x - max μ ν) := fun x => by
      rw [← Real.rpow_add (by norm_num)]; congr 1; ring
    refine Or.inr ⟨max μ ν, ?_, fun e => ⟨hm e, ?_, ?_⟩⟩
    · rcases le_total μ ν with hc | hc
      · exact ⟨k1, hk1, hk1q, by rw [hk1y, max_eq_right hc]⟩
      · exact ⟨k0, by omega, hk0q, by rw [hk0y, max_eq_left hc]⟩
    · rw [hl', hm, (h e).1, (h e).2.1, (hnew _ e hm).1, ← EReal.coe_sub, exp2_coe', ← EReal.coe_mul, ← EReal.coe_add, W_add, W_mul]
      simp only [hpow]
    · rw [ha', hm, (h e).1, (h e).2.2, (hnew _ e hm).2, ← EReal.coe_sub, exp2_coe', ← EReal.coe_mul, ← EReal.coe_add, W_add, W_mul]
      simp only [← mul_assoc, hpow]

/-- Softmax attention of one query at position `q` with scores `x`, on lane `e` of the values. -/
def att (q : ℕ) (x : ℕ → ℝ) (v : ℕ → Fin 128 → ℝ) (e : Fin 128) : ℝ :=
  W (q + 1) q (fun k => Real.exp (x k) * v k e) / W (q + 1) q (fun k => Real.exp (x k))

/-- After the query's own chunk the row's weighted sum over its normaliser is the attention. -/
theorem row_done (K q : ℕ) (x y : ℕ → ℝ) (v : ℕ → Fin 128 → ℝ) (m l a : Fin 128 → EReal) (c : ℝ) (hc : c ≤ 1)
    (h : RowInv K q y v m l a) (hq : q < K) (hxy : ∀ k, (2 : ℝ) ^ (y k) = Real.exp (x k)) (e : Fin 128) :
    Ideal.div (a e) (max (l e) (c : EReal)) = ((att q x v e : ℝ) : EReal) := by
  rcases h with ⟨hK0, _⟩ | ⟨μ, ⟨k0, hk0, hk0q, hk0y⟩, h⟩
  · omega
  · have h1 : (1 : ℝ) ≤ W K q fun k => (2 : ℝ) ^ (y k - μ) := by
      have := le_W K q (fun k => (2 : ℝ) ^ (y k - μ)) (fun k => by positivity) k0 hk0 hk0q
      simpa [hk0y] using this
    have hmax : max (l e) (c : EReal) = ((W K q fun k => (2 : ℝ) ^ (y k - μ) : ℝ) : EReal) := by
      rw [(h e).2.1]
      exact max_eq_left (EReal.coe_le_coe_iff.mpr (hc.trans h1))
    rw [hmax, (h e).2.2, Ideal.div_coe (ne_of_gt (lt_of_lt_of_le one_pos h1)), ← EReal.coe_mul, W_stop K q _ hq, W_stop K q _ hq]
    rw [W_stop K q _ hq] at h1
    congr 1
    have hs : ∀ f : ℕ → ℝ, (W (q + 1) q fun k => (2 : ℝ) ^ (y k - μ) * f k)
        = (2 : ℝ) ^ (-μ) * W (q + 1) q fun k => Real.exp (x k) * f k := fun f => by
      rw [W_mul]
      refine congrArg _ (funext fun k => ?_)
      rw [sub_eq_add_neg, Real.rpow_add (by norm_num), hxy]; ring
    have hs1 : (W (q + 1) q fun k => (2 : ℝ) ^ (y k - μ))
        = (2 : ℝ) ^ (-μ) * W (q + 1) q fun k => Real.exp (x k) := by
      simpa using hs (fun _ => 1)
    rw [hs, hs1]
    unfold att
    have hp : (2 : ℝ) ^ (-μ) ≠ 0 := by positivity
    rw [mul_one_div, mul_div_mul_left _ _ hp]

end Diff
-- ==== Proof.Step.lean ====
module

public import proofs.«01_k».proof.Proof.Math
public import proofs.«01_k».proof.Proof.Gen.KernelIdeal.Value
public import Idealize.ShloMosaic.Lib.Pointwise

@[expose] public section

set_option maxRecDepth 16384

noncomputable section

namespace Diff

open Idealize.ShloMosaic Finset Cert.KernelIdeal Cert.KernelIdeal.Gen

/-- A block of the kernel's score matrix: 256 queries against 128 keys. -/
abbrev Blk := FVec Ideal S256x128 .f32

/-- The running elementwise maximum of the blocks `B 0 … B n`. -/
def ladMax (B : ℕ → Blk) : ℕ → Blk
  | 0 => B 0
  | n + 1 => maximumf (ladMax B n) (B (n + 1))

/-- The running elementwise sum of the blocks `B 0 … B n`. -/
def ladSum (B : ℕ → Blk) : ℕ → Blk
  | 0 => B 0
  | n + 1 => addf (ladSum B n) (B (n + 1))

/-- The row maximum after the blocks `B 0 … B n`, from the row maximum before. -/
def mNew (B : ℕ → Blk) (n : ℕ) (mold : Blk) : Blk :=
  maximumf mold (broadcastTo S256x128 (shapeCast S256x1 (multiReduction .maximumf [1] S256 (ladMax B n) 0xFF800000#32
    reduces_S256x128_S256 (.inl rfl) rfl) shapeCasts_S256_S256x1) broadcasts_S256x1_S256x128)

/-- The rescaled exponentials of one block. -/
def pBlk (B : ℕ → Blk) (mnew : Blk) (b : ℕ) : Blk := exp2 (subf (B b) mnew)

/-- The normaliser after the blocks `B 0 … B n`. -/
def lNew (B : ℕ → Blk) (n : ℕ) (mold mnew lold : Blk) : Blk :=
  addf (mulf (exp2 (subf mold mnew)) lold) (broadcastTo S256x128 (shapeCast S256x1 (multiReduction .add [1] S256
    (ladSum (pBlk B mnew) n) 0x00000000#32 reduces_S256x128_S256 (.inl rfl) rfl) shapeCasts_S256_S256x1)
    broadcasts_S256x1_S256x128)

/-- Reading the running maximum. -/
theorem ladMax_le (B : ℕ → Blk) (n : ℕ) (j : S256x128.Idx) : ∀ b ≤ n, B b j ≤ ladMax B n j := by
  induction n with
  | zero => intro b hb; rw [Nat.le_zero.mp hb]; exact le_refl _
  | succ n ih =>
    intro b hb
    have e : ladMax B (n + 1) j = max (ladMax B n j) (B (n + 1) j) := rfl
    rw [e]
    rcases Nat.lt_or_ge n b with h | h
    · rw [show b = n + 1 by omega]; exact le_max_right _ _
    · exact (ih b h).trans (le_max_left _ _)

theorem ladMax_mem (B : ℕ → Blk) (n : ℕ) (j : S256x128.Idx) : ∃ b ≤ n, ladMax B n j = B b j := by
  induction n with
  | zero => exact ⟨0, le_rfl, rfl⟩
  | succ n ih =>
    have e : ladMax B (n + 1) j = max (ladMax B n j) (B (n + 1) j) := rfl
    obtain ⟨b, hb, h⟩ := ih
    rcases max_choice (ladMax B n j) (B (n + 1) j) with hc | hc
    · exact ⟨b, by omega, by rw [e, hc, h]⟩
    · exact ⟨n + 1, le_rfl, by rw [e, hc]⟩

theorem ladSum_apply (B : ℕ → Blk) (n : ℕ) (j : S256x128.Idx) : ladSum B n j = ∑ b ∈ range (n + 1), B b j := by
  induction n with
  | zero => simp [ladSum]
  | succ n ih => rw [sum_range_succ, ← ih]; rfl

theorem ofBits_negInf : Ideal.ofBits .f32 0xFF800000#32 = (⊥ : EReal) := by
  simp [Ideal.ofBits, Ideal.ieee]

/-- The maximum of a family over the lanes is one of its members. -/
theorem fold_mem (f : Fin 128 → EReal) : ∃ i, (Finset.univ : Finset (Fin 128)).fold max ⊥ f = f i := by
  have h : ∀ s : Finset (Fin 128), s.fold max ⊥ f = ⊥ ∨ ∃ i, s.fold max ⊥ f = f i := by
    intro s
    induction s using Finset.induction_on with
    | empty => exact Or.inl rfl
    | insert a s ha ih =>
      rw [Finset.fold_insert ha]
      rcases max_choice (f a) (s.fold max ⊥ f) with hc | hc
      · exact Or.inr ⟨a, hc⟩
      · rw [hc]; exact ih
  rcases h Finset.univ with h0 | h0
  · refine ⟨0, ?_⟩
    have : f 0 ≤ (Finset.univ : Finset (Fin 128)).fold max ⊥ f := (Finset.le_fold_max _).mpr (Or.inr ⟨0, mem_univ 0, le_rfl⟩)
    rw [h0] at this ⊢
    exact (le_bot_iff.mp this).symm
  · exact h0

theorem mNew_apply (B : ℕ → Blk) (n : ℕ) (mold : Blk) (p : Fin 256) (e : Fin 128) :
    mNew B n mold (ix2 p e) = max (mold (ix2 p e)) ((Finset.univ : Finset (Fin 128)).fold max ⊥ fun i => ladMax B n (ix2 p i)) := by
  unfold mNew
  pointwise
  rw [ofBits_negInf]

theorem lNew_apply (B : ℕ → Blk) (n : ℕ) (mold mnew lold : Blk) (p : Fin 256) (e : Fin 128) :
    lNew B n mold mnew lold (ix2 p e) = Ideal.exp2 (mold (ix2 p e) - mnew (ix2 p e)) * lold (ix2 p e)
      + ∑ i : Fin 128, ∑ b ∈ range (n + 1), Ideal.exp2 (B b (ix2 p i) - mnew (ix2 p i)) := by
  unfold lNew
  pointwise
  simp only [ladSum_apply]
  rfl

/-- The weighted sum after 2 blocks, over the 256 values `vc`. -/
def aNew2 (B : ℕ → Blk) (mold mnew aold : Blk) (vc : FVec Ideal S256x128 .bf16) : Blk :=
  addf (mulf (exp2 (subf mold mnew)) aold) (matmul dot_S256x256_S256x128_S256x128_1_0_0_1_n_n none
    (truncf .bf16 (concatenate S256x256 1 [⟨S256x128, pBlk B mnew 0⟩, ⟨S256x128, pBlk B mnew 1⟩]
      concatenates_S256x128_S256x128_S256x256_d1) bitsLt_bf16_f32) vc (constant S256x128 .f32 0x00000000#32))

theorem aNew2_apply (B : ℕ → Blk) (mold mnew aold : Blk) (vc : FVec Ideal S256x128 .bf16) (vB : ℕ → Fin 128 → Fin 128 → EReal)
    (hv : ∀ b (i : Fin 128) (h : 128 * b + i.val < 256) e, vc (ix2 ⟨128 * b + i.val, h⟩ e) = vB b i e) (p : Fin 256) (e : Fin 128) :
    aNew2 B mold mnew aold vc (ix2 p e) = Ideal.exp2 (mold (ix2 p e) - mnew (ix2 p e)) * aold (ix2 p e)
      + ∑ b ∈ range 2, ∑ i : Fin 128, Ideal.exp2 (B b (ix2 p i) - mnew (ix2 p i)) * vB b i e := by
  have hb : ∀ b i (h : 128 * b + (i : Fin 128).val < 256) (k : Fin 256), k.val = 128 * b + i.val → vc (ix2 k e) = vB b i e := by
    intro b i h k hk
    rw [← hv b i h e]
    exact congrArg (fun k => vc (ix2 k e)) (Fin.ext hk)
  unfold aNew2 pBlk
  pointwise
  simp only [sum_range_succ, sum_range_zero, zero_add, add_assoc]
  refine Ideal.add_congr rfl (Ideal.add_congr (sum_congr rfl fun i _ => Ideal.mul_congr rfl (hb 0 i (by have := i.isLt; omega) _ (by simp))) ?_)
  exact sum_congr rfl fun i _ => Ideal.mul_congr rfl (hb 1 i (by have := i.isLt; omega) _ (by simp))

/-- The weighted sum after 4 blocks, over the 512 values `vc`. -/
def aNew4 (B : ℕ → Blk) (mold mnew aold : Blk) (vc : FVec Ideal S512x128 .bf16) : Blk :=
  addf (mulf (exp2 (subf mold mnew)) aold) (matmul dot_S256x512_S512x128_S256x128_1_0_0_1_n_n none
    (truncf .bf16 (concatenate S256x512 1 [⟨S256x128, pBlk B mnew 0⟩, ⟨S256x128, pBlk B mnew 1⟩, ⟨S256x128, pBlk B mnew 2⟩, ⟨S256x128, pBlk B mnew 3⟩]
      concatenates_S256x128_S256x128_S256x128_S256x128_S256x512_d1) bitsLt_bf16_f32) vc (constant S256x128 .f32 0x00000000#32))

theorem aNew4_apply (B : ℕ → Blk) (mold mnew aold : Blk) (vc : FVec Ideal S512x128 .bf16) (vB : ℕ → Fin 128 → Fin 128 → EReal)
    (hv : ∀ b (i : Fin 128) (h : 128 * b + i.val < 512) e, vc (ix2 ⟨128 * b + i.val, h⟩ e) = vB b i e) (p : Fin 256) (e : Fin 128) :
    aNew4 B mold mnew aold vc (ix2 p e) = Ideal.exp2 (mold (ix2 p e) - mnew (ix2 p e)) * aold (ix2 p e)
      + ∑ b ∈ range 4, ∑ i : Fin 128, Ideal.exp2 (B b (ix2 p i) - mnew (ix2 p i)) * vB b i e := by
  have hb : ∀ b i (h : 128 * b + (i : Fin 128).val < 512) (k : Fin 512), k.val = 128 * b + i.val → vc (ix2 k e) = vB b i e := by
    intro b i h k hk
    rw [← hv b i h e]
    exact congrArg (fun k => vc (ix2 k e)) (Fin.ext hk)
  unfold aNew4 pBlk
  pointwise
  refine Ideal.add_congr rfl ?_
  rw [Fin.sum_univ_tiles 4 128 rfl, Finset.sum_range]
  refine sum_congr rfl fun b _ => sum_congr rfl fun i _ => Ideal.mul_congr ?_ (hb b i (by have := i.isLt; have := b.isLt; omega) _ (by dsimp only; omega))
  have hB : ∀ (c : ℕ) (k : Fin 128), b.val = c → k.val = i.val →
      FloatOps.exp2 (B c (ix2 p k) - mnew (ix2 p k)) = Ideal.exp2 (B b.val (ix2 p i) - mnew (ix2 p i)) := by
    intro c k hc hk
    rw [← hc, Fin.ext hk]
    rfl
  have hi := i.isLt
  have hb8 := b.isLt
  clear hb hv
  dsimp only
  split_ifs <;> exact hB _ _ (by omega) (by dsimp only; omega)

set_option maxHeartbeats 2000000 in
/-- The weighted sum after 8 blocks, over the 1024 values `vc`. -/
def aNew8 (B : ℕ → Blk) (mold mnew aold : Blk) (vc : FVec Ideal S1024x128 .bf16) : Blk :=
  addf (mulf (exp2 (subf mold mnew)) aold) (matmul dot_S256x1024_S1024x128_S256x128_1_0_0_1_n_n none
    (truncf .bf16 (concatenate S256x1024 1 [⟨S256x128, pBlk B mnew 0⟩, ⟨S256x128, pBlk B mnew 1⟩, ⟨S256x128, pBlk B mnew 2⟩, ⟨S256x128, pBlk B mnew 3⟩, ⟨S256x128, pBlk B mnew 4⟩, ⟨S256x128, pBlk B mnew 5⟩, ⟨S256x128, pBlk B mnew 6⟩, ⟨S256x128, pBlk B mnew 7⟩]
      concatenates_S256x128_S256x128_S256x128_S256x128_S256x128_S256x128_S256x128_S256x128_S256x1024_d1) bitsLt_bf16_f32) vc (constant S256x128 .f32 0x00000000#32))

set_option maxHeartbeats 2000000 in
theorem aNew8_apply (B : ℕ → Blk) (mold mnew aold : Blk) (vc : FVec Ideal S1024x128 .bf16) (vB : ℕ → Fin 128 → Fin 128 → EReal)
    (hv : ∀ b (i : Fin 128) (h : 128 * b + i.val < 1024) e, vc (ix2 ⟨128 * b + i.val, h⟩ e) = vB b i e) (p : Fin 256) (e : Fin 128) :
    aNew8 B mold mnew aold vc (ix2 p e) = Ideal.exp2 (mold (ix2 p e) - mnew (ix2 p e)) * aold (ix2 p e)
      + ∑ b ∈ range 8, ∑ i : Fin 128, Ideal.exp2 (B b (ix2 p i) - mnew (ix2 p i)) * vB b i e := by
  have hb : ∀ b i (h : 128 * b + (i : Fin 128).val < 1024) (k : Fin 1024), k.val = 128 * b + i.val → vc (ix2 k e) = vB b i e := by
    intro b i h k hk
    rw [← hv b i h e]
    exact congrArg (fun k => vc (ix2 k e)) (Fin.ext hk)
  unfold aNew8 pBlk
  pointwise
  refine Ideal.add_congr rfl ?_
  rw [Fin.sum_univ_tiles 8 128 rfl, Finset.sum_range]
  refine sum_congr rfl fun b _ => sum_congr rfl fun i _ => Ideal.mul_congr ?_ (hb b i (by have := i.isLt; have := b.isLt; omega) _ (by dsimp only; omega))
  have hB : ∀ (c : ℕ) (k : Fin 128), b.val = c → k.val = i.val →
      FloatOps.exp2 (B c (ix2 p k) - mnew (ix2 p k)) = Ideal.exp2 (B b.val (ix2 p i) - mnew (ix2 p i)) := by
    intro c k hc hk
    rw [← hc, Fin.ext hk]
    rfl
  have hi := i.isLt
  have hb8 := b.isLt
  clear hb hv
  dsimp only
  split_ifs <;> exact hB _ _ (by omega) (by dsimp only; omega)

/-- One chunk of `n + 1` blocks, as the kernel computes it, takes a row's state over its keys on. -/
theorem blk_step (K q n : ℕ) (y : ℕ → ℝ) (v : ℕ → Fin 128 → ℝ) (p : Fin 256) (m l a a' : Blk)
    (B : ℕ → Blk) (vc : ℕ → Fin 128 → Fin 128 → EReal)
    (h : RowInv K q y v (fun e => m (ix2 p e)) (fun e => l (ix2 p e)) (fun e => a (ix2 p e))) (hK : K ≤ q)
    (hB : ∀ b, b < n + 1 → ∀ i : Fin 128, B b (ix2 p i)
      = if K + 128 * b + i.val ≤ q then ((y (K + 128 * b + i.val) : ℝ) : EReal) else ⊥)
    (hv : ∀ b, b < n + 1 → ∀ i e, vc b i e = ((v (K + 128 * b + i.val) e : ℝ) : EReal))
    (ha' : ∀ e, a' (ix2 p e) = Ideal.exp2 (m (ix2 p e) - mNew B n m (ix2 p e)) * a (ix2 p e)
      + ∑ b ∈ range (n + 1), ∑ i : Fin 128, Ideal.exp2 (B b (ix2 p i) - mNew B n m (ix2 p i)) * vc b i e) :
    RowInv (K + 128 * (n + 1)) q y v (fun e => mNew B n m (ix2 p e)) (fun e => lNew B n m (mNew B n m) l (ix2 p e))
      (fun e => a' (ix2 p e)) := by
  refine row_step K q (n + 1) y v _ _ _ (fun _ => (Finset.univ : Finset (Fin 128)).fold max ⊥ fun i => ladMax B n (ix2 p i))
    (fun b i => B b (ix2 p i)) vc _ _ _ h (Nat.succ_pos n) hK hB hv ?_ (fun e => mNew_apply B n m p e)
    (fun e => lNew_apply B n m _ l p e) ha'
  intro e
  constructor
  · intro b hb i
    exact (ladMax_le B n (ix2 p i) b (Nat.lt_succ_iff.mp hb)).trans
      ((Finset.le_fold_max _).mpr (Or.inr ⟨i, mem_univ i, le_rfl⟩))
  · obtain ⟨i, hi⟩ : ∃ i : Fin 128, ((Finset.univ : Finset (Fin 128)).fold max ⊥ fun i => ladMax B n (ix2 p i)) = ladMax B n (ix2 p i) := by
      exact fold_mem _
    obtain ⟨b, hb, h⟩ := ladMax_mem B n (ix2 p i)
    exact ⟨b, Nat.lt_succ_of_le hb, i, hi.trans h⟩

end Diff
-- ==== Proof.State.lean ====
module

public import proofs.«01_k».proof.Proof.Step
public import Idealize.ShloMosaic.Lib.WritesUnit

@[expose] public section

set_option maxRecDepth 16384

noncomputable section

namespace Diff

open Idealize.ShloMosaic Finset Cert.KernelIdeal Cert.KernelIdeal.Gen

/-- One head's plane of a scratch array. -/
def hd {sp : Space} (M : Memref sig .tc sp S4x256x128 .f32) (f : BufTy.Contents (Elt Ideal) M.view.ty) (hh : Fin 4) : Blk :=
  fun j => M.view.read (Elt Ideal) f (ix3 hh (j 0) (j 1))

/-- The load of one head's plane. -/
abbrev rd {sp : Space} (M : Memref sig .tc sp S4x256x128 .f32) (f : BufTy.Contents (Elt Ideal) M.view.ty) (off : Fin 3 → ℕ)
    (inb : ∀ a, off a + S1x256x128.size a ≤ S4x256x128.size a) : Blk :=
  shapeCast S256x128 (M.view.readAt (Elt Ideal) (Rect.unit (s := S4x256x128) off S1x256x128.size inb).toLoadRect f) shapeCasts_S1x256x128_S256x128

theorem sc_apply (x : FVec Ideal S1x256x128 .f32) (p : Fin 256) (e : Fin 128) :
    shapeCast S256x128 x shapeCasts_S1x256x128_S256x128 (ix2 p e) = x (ix3 (0 : Fin 1) p e) := by
  pointwise

theorem cs_apply (x : Blk) (p : Fin 256) (e : Fin 128) :
    shapeCast S1x256x128 x shapeCasts_S256x128_S1x256x128 (ix3 (0 : Fin 1) p e) = x (ix2 p e) := by
  pointwise

theorem rd_eq {sp : Space} (M : Memref sig .tc sp S4x256x128 .f32) (f : BufTy.Contents (Elt Ideal) M.view.ty) (hh : Fin 4)
    (off : Fin 3 → ℕ) (h : off = ![hh.val, 0, 0])
    (inb : ∀ a, off a + S1x256x128.size a ≤ S4x256x128.size a) : rd M f off inb = hd M f hh := by
  subst h
  funext j
  idx_vars j
  refine (sc_apply _ j0 j1).trans ?_
  rw [View.readAt_apply]
  refine congrArg (M.view.read (Elt Ideal) f) ?_
  funext a
  apply Fin.ext
  match a with
  | ⟨0, _⟩ => show hh.val + 1 * 0 = hh.val; omega
  | ⟨1, _⟩ => show 0 + 1 * _ = _; rw [Nat.one_mul, Nat.zero_add]; rfl
  | ⟨2, _⟩ => show 0 + 1 * _ = _; rw [Nat.one_mul, Nat.zero_add]; rfl

/-- The four stores of a chunk, one per head, read back. -/
theorem hd_writes {sp : Space} (M : Memref sig .tc sp S4x256x128 .f32) (f : BufTy.Contents (Elt Ideal) M.view.ty)
    (w3 w2 w1 w0 : Blk) (i3 : ∀ a, (![3, 0, 0] : Fin 3 → ℕ) a + S1x256x128.size a ≤ S4x256x128.size a)
    (i2 : ∀ a, (![2, 0, 0] : Fin 3 → ℕ) a + S1x256x128.size a ≤ S4x256x128.size a)
    (i1 : ∀ a, (![1, 0, 0] : Fin 3 → ℕ) a + S1x256x128.size a ≤ S4x256x128.size a)
    (i0 : ∀ a, (![0, 0, 0] : Fin 3 → ℕ) a + S1x256x128.size a ≤ S4x256x128.size a) (hh : Fin 4) :
    hd M (M.view.writes (Elt Ideal) f
      [⟨Rect.unit (s := S4x256x128) ![3, 0, 0] S1x256x128.size i3, shapeCast S1x256x128 w3 shapeCasts_S256x128_S1x256x128⟩,
       ⟨Rect.unit (s := S4x256x128) ![2, 0, 0] S1x256x128.size i2, shapeCast S1x256x128 w2 shapeCasts_S256x128_S1x256x128⟩,
       ⟨Rect.unit (s := S4x256x128) ![1, 0, 0] S1x256x128.size i1, shapeCast S1x256x128 w1 shapeCasts_S256x128_S1x256x128⟩,
       ⟨Rect.unit (s := S4x256x128) ![0, 0, 0] S1x256x128.size i0, shapeCast S1x256x128 w0 shapeCasts_S256x128_S1x256x128⟩]) hh
      = ![w0, w1, w2, w3] hh := by
  funext j
  idx_vars j
  generalize j0 = p
  generalize j1 = e
  have hit : ∀ (h : Fin 4) (off : Fin 3 → ℕ) (ho : off = ![h.val, 0, 0]) (ib) (w : Blk) (L : List (View.Piece (Elt Ideal) S4x256x128 .f32)),
      M.view.read (Elt Ideal) (M.view.writes (Elt Ideal) f (⟨Rect.unit (s := S4x256x128) off S1x256x128.size ib,
        shapeCast S1x256x128 w shapeCasts_S256x128_S1x256x128⟩ :: L)) (ix3 h p e) = w (ix2 p e) := by
    intro h off ho ib w L
    rw [View.read_writes_cons_unit_of_mem M.view f ib _ L (ix3 h p e) (ix3 (0 : Fin 1) p e) ho (by
      intro a
      match a with
      | ⟨0, _⟩ => show h.val = h.val + 0; rfl
      | ⟨1, _⟩ => show p.val = 0 + p.val; omega
      | ⟨2, _⟩ => show e.val = 0 + e.val; omega)]
    exact cs_apply w p e
  have miss : ∀ (h k : Fin 4) (hne : h ≠ k) (off : Fin 3 → ℕ) (ho : off = ![k.val, 0, 0]) (ib) (w) (L : List (View.Piece (Elt Ideal) S4x256x128 .f32)),
      M.view.read (Elt Ideal) (M.view.writes (Elt Ideal) f (⟨Rect.unit (s := S4x256x128) off S1x256x128.size ib, w⟩ :: L)) (ix3 h p e)
        = M.view.read (Elt Ideal) (M.view.writes (Elt Ideal) f L) (ix3 h p e) := by
    intro h k hne off ho ib w L
    refine View.read_writes_cons_unit_of_not_mem M.view f ib w L (ix3 h p e) ho 0 ?_
    show h.val < k.val ∨ k.val + 1 ≤ h.val
    have := Fin.val_ne_of_ne hne
    omega
  show M.view.read (Elt Ideal) _ (ix3 hh p e) = _
  match hh with
  | 0 => exact (miss 0 3 (by decide) _ rfl i3 _ _).trans ((miss 0 2 (by decide) _ rfl i2 _ _).trans
      ((miss 0 1 (by decide) _ rfl i1 _ _).trans (hit 0 _ rfl i0 w0 [])))
  | 1 => exact (miss 1 3 (by decide) _ rfl i3 _ _).trans ((miss 1 2 (by decide) _ rfl i2 _ _).trans (hit 1 _ rfl i1 w1 _))
  | 2 => exact (miss 2 3 (by decide) _ rfl i3 _ _).trans (hit 2 _ rfl i2 w2 _)
  | 3 => exact hit 3 _ rfl i3 w3 _

/-- The place of head `hh` in a scratch array. -/
def hoff (hh : Fin 4) : Fin 3 → ℕ := ![hh.val, 0, 0]

theorem hinb : ∀ (hh : Fin 4) (a : Fin 3), hoff hh a + S1x256x128.size a ≤ S4x256x128.size a := by decide +kernel

/-- The stores of one block per head, the last head first. -/
def pcs (w : Fin 4 → Blk) : List (View.Piece (Elt Ideal) S4x256x128 .f32) :=
  [⟨Rect.unit (s := S4x256x128) ![3, 0, 0] S1x256x128.size (hinb 3), shapeCast S1x256x128 (w 3) shapeCasts_S256x128_S1x256x128⟩,
   ⟨Rect.unit (s := S4x256x128) ![2, 0, 0] S1x256x128.size (hinb 2), shapeCast S1x256x128 (w 2) shapeCasts_S256x128_S1x256x128⟩,
   ⟨Rect.unit (s := S4x256x128) ![1, 0, 0] S1x256x128.size (hinb 1), shapeCast S1x256x128 (w 1) shapeCasts_S256x128_S1x256x128⟩,
   ⟨Rect.unit (s := S4x256x128) ![0, 0, 0] S1x256x128.size (hinb 0), shapeCast S1x256x128 (w 0) shapeCasts_S256x128_S1x256x128⟩]

theorem hd_pcs {sp : Space} (M : Memref sig .tc sp S4x256x128 .f32) (f : BufTy.Contents (Elt Ideal) M.view.ty) (w : Fin 4 → Blk)
    (hh : Fin 4) : hd M (M.view.writes (Elt Ideal) f (pcs w)) hh = w hh := by
  refine (hd_writes M f (w 3) (w 2) (w 1) (w 0) (hinb 3) (hinb 2) (hinb 1) (hinb 0) hh).trans ?_
  match hh with
  | 0 => rfl
  | 1 => rfl
  | 2 => rfl
  | 3 => rfl

/-- The state of all rows: after the keys below `K`, of the row of query `q0 + p` of each head. -/
def St (K q0 : ℕ) (y : Fin 4 → Fin 256 → ℕ → ℝ) (v : ℕ → Fin 128 → ℝ) (m l a : Fin 4 → Blk) : Prop :=
  ∀ hh p, RowInv K (q0 + p.val) (y hh p) v (fun e => m hh (ix2 p e)) (fun e => l hh (ix2 p e)) (fun e => a hh (ix2 p e))

end Diff
-- ==== Proof.Chunk.lean ====
module

public import proofs.«01_k».proof.Proof.State

@[expose] public section

set_option maxRecDepth 16384

noncomputable section

namespace Diff

open Idealize.ShloMosaic Finset Cert.KernelIdeal Cert.KernelIdeal.Gen

/-- A score of real queries and keys is real. -/
theorem score_real (q k : Fin 128 → EReal) (qr kr : Fin 128 → ℝ) (hq : ∀ d, q d = ((qr d : ℝ) : EReal)) (hk : ∀ d, k d = ((kr d : ℝ) : EReal)) :
    ∑ d, q d * k d = ((∑ d, qr d * kr d : ℝ) : EReal) := by
  refine (sum_congr rfl fun d _ => ?_).trans (coe_sum _ fun d => qr d * kr d).symm
  rw [hq, hk, EReal.coe_mul]

/-- The keys (or values) of one chunk of 256, as the kernel reads them. -/
def kc2 {sp : Space} (M : Memref sig .tc sp S1x2048x128 .f32) (f : BufTy.Contents (Elt Ideal) M.view.ty) (off : Fin 3 → ℕ)
    (inb : ∀ a, off a + S1x256x128.size a ≤ S1x2048x128.size a) : FVec Ideal S256x128 .bf16 :=
  truncf .bf16 (shapeCast S256x128 (M.view.readAt (Elt Ideal) (Rect.unit (s := S1x2048x128) off S1x256x128.size inb).toLoadRect f)
    shapeCasts_S1x256x128_S256x128) bitsLt_bf16_f32

theorem kcs2_apply (x : FVec Ideal S1x256x128 .f32) (p : Fin 256) (e : Fin 128) :
    truncf (F := Ideal) .bf16 (shapeCast S256x128 x shapeCasts_S1x256x128_S256x128) bitsLt_bf16_f32 (ix2 p e) = x (ix3 (0 : Fin 1) p e) := by
  pointwise

theorem kc2_apply {sp : Space} (M : Memref sig .tc sp S1x2048x128 .f32) (f : BufTy.Contents (Elt Ideal) M.view.ty) (off : Fin 3 → ℕ)
    (inb : ∀ a, off a + S1x256x128.size a ≤ S1x2048x128.size a) (K : ℕ) (h : off = ![0, K, 0]) (j : Fin 256) (hK : K + j.val < 2048) (e : Fin 128) :
    kc2 M f off inb (ix2 j e) = M.view.read (Elt Ideal) f (ix3 (0 : Fin 1) (⟨K + j.val, hK⟩ : Fin 2048) e) := by
  subst h
  refine (kcs2_apply _ j e).trans ?_
  rw [View.readAt_apply]
  refine congrArg (M.view.read (Elt Ideal) f) ?_
  funext a
  apply Fin.ext
  match a with
  | ⟨0, _⟩ => rfl
  | ⟨1, _⟩ => show K + 1 * _ = _; rw [Nat.one_mul]; rfl
  | ⟨2, _⟩ => show 0 + 1 * _ = _; rw [Nat.one_mul, Nat.zero_add]; rfl

/-- The blocks of the scores of one chunk of 256 keys. -/
def sB2 (q : FVec Ideal S256x128 .bf16) (kc : FVec Ideal S256x128 .bf16) : ℕ → Blk
  | 0 => extractStridedSlice S256x128 ![0, 0] (matmul dot_S256x128_S256x128_S256x256_1_1_0_0_n_n none q kc
      (constant S256x256 .f32 0x00000000#32)) slices_S256x256_o0_0_S256x128
  | _ => extractStridedSlice S256x128 ![0, 128] (matmul dot_S256x128_S256x128_S256x256_1_1_0_0_n_n none q kc
      (constant S256x256 .f32 0x00000000#32)) slices_S256x256_o0_128_S256x128

theorem sB2_apply (q : FVec Ideal S256x128 .bf16) (kc : FVec Ideal S256x128 .bf16) (b : ℕ) (hb : b < 2) (p : Fin 256) (i : Fin 128) :
    sB2 q kc b (ix2 p i) = ∑ d : Fin 128, q (ix2 p d) * kc (ix2 (⟨128 * b + i.val, by have := i.isLt; omega⟩ : Fin 256) d) := by
  match b, hb with
  | 0, _ =>
    unfold sB2
    pointwise
    try exact sum_congr rfl fun d _ => Ideal.mul_congr rfl (congrArg (fun k => kc (ix2 k d)) (Fin.ext (by simp; try omega)))
  | 1, _ =>
    unfold sB2
    pointwise
    try exact sum_congr rfl fun d _ => Ideal.mul_congr rfl (congrArg (fun k => kc (ix2 k d)) (Fin.ext (by simp; try omega)))

/-- The keys (or values) of one chunk of 512, as the kernel reads them. -/
def kc4 {sp : Space} (M : Memref sig .tc sp S1x2048x128 .f32) (f : BufTy.Contents (Elt Ideal) M.view.ty) (off : Fin 3 → ℕ)
    (inb : ∀ a, off a + S1x512x128.size a ≤ S1x2048x128.size a) : FVec Ideal S512x128 .bf16 :=
  truncf .bf16 (shapeCast S512x128 (M.view.readAt (Elt Ideal) (Rect.unit (s := S1x2048x128) off S1x512x128.size inb).toLoadRect f)
    shapeCasts_S1x512x128_S512x128) bitsLt_bf16_f32

theorem kcs4_apply (x : FVec Ideal S1x512x128 .f32) (p : Fin 512) (e : Fin 128) :
    truncf (F := Ideal) .bf16 (shapeCast S512x128 x shapeCasts_S1x512x128_S512x128) bitsLt_bf16_f32 (ix2 p e) = x (ix3 (0 : Fin 1) p e) := by
  pointwise

theorem kc4_apply {sp : Space} (M : Memref sig .tc sp S1x2048x128 .f32) (f : BufTy.Contents (Elt Ideal) M.view.ty) (off : Fin 3 → ℕ)
    (inb : ∀ a, off a + S1x512x128.size a ≤ S1x2048x128.size a) (K : ℕ) (h : off = ![0, K, 0]) (j : Fin 512) (hK : K + j.val < 2048) (e : Fin 128) :
    kc4 M f off inb (ix2 j e) = M.view.read (Elt Ideal) f (ix3 (0 : Fin 1) (⟨K + j.val, hK⟩ : Fin 2048) e) := by
  subst h
  refine (kcs4_apply _ j e).trans ?_
  rw [View.readAt_apply]
  refine congrArg (M.view.read (Elt Ideal) f) ?_
  funext a
  apply Fin.ext
  match a with
  | ⟨0, _⟩ => rfl
  | ⟨1, _⟩ => show K + 1 * _ = _; rw [Nat.one_mul]; rfl
  | ⟨2, _⟩ => show 0 + 1 * _ = _; rw [Nat.one_mul, Nat.zero_add]; rfl

/-- The blocks of the scores of one chunk of 512 keys. -/
def sB4 (q : FVec Ideal S256x128 .bf16) (kc : FVec Ideal S512x128 .bf16) : ℕ → Blk
  | 0 => extractStridedSlice S256x128 ![0, 0] (matmul dot_S256x128_S512x128_S256x512_1_1_0_0_n_n none q kc
      (constant S256x512 .f32 0x00000000#32)) slices_S256x512_o0_0_S256x128
  | 1 => extractStridedSlice S256x128 ![0, 128] (matmul dot_S256x128_S512x128_S256x512_1_1_0_0_n_n none q kc
      (constant S256x512 .f32 0x00000000#32)) slices_S256x512_o0_128_S256x128
  | 2 => extractStridedSlice S256x128 ![0, 256] (matmul dot_S256x128_S512x128_S256x512_1_1_0_0_n_n none q kc
      (constant S256x512 .f32 0x00000000#32)) slices_S256x512_o0_256_S256x128
  | _ => extractStridedSlice S256x128 ![0, 384] (matmul dot_S256x128_S512x128_S256x512_1_1_0_0_n_n none q kc
      (constant S256x512 .f32 0x00000000#32)) slices_S256x512_o0_384_S256x128

theorem sB4_apply (q : FVec Ideal S256x128 .bf16) (kc : FVec Ideal S512x128 .bf16) (b : ℕ) (hb : b < 4) (p : Fin 256) (i : Fin 128) :
    sB4 q kc b (ix2 p i) = ∑ d : Fin 128, q (ix2 p d) * kc (ix2 (⟨128 * b + i.val, by have := i.isLt; omega⟩ : Fin 512) d) := by
  match b, hb with
  | 0, _ =>
    unfold sB4
    pointwise
    try exact sum_congr rfl fun d _ => Ideal.mul_congr rfl (congrArg (fun k => kc (ix2 k d)) (Fin.ext (by simp; try omega)))
  | 1, _ =>
    unfold sB4
    pointwise
    try exact sum_congr rfl fun d _ => Ideal.mul_congr rfl (congrArg (fun k => kc (ix2 k d)) (Fin.ext (by simp; try omega)))
  | 2, _ =>
    unfold sB4
    pointwise
    try exact sum_congr rfl fun d _ => Ideal.mul_congr rfl (congrArg (fun k => kc (ix2 k d)) (Fin.ext (by simp; try omega)))
  | 3, _ =>
    unfold sB4
    pointwise
    try exact sum_congr rfl fun d _ => Ideal.mul_congr rfl (congrArg (fun k => kc (ix2 k d)) (Fin.ext (by simp; try omega)))

/-- The keys (or values) of one chunk of 1024, as the kernel reads them. -/
def kc8 {sp : Space} (M : Memref sig .tc sp S1x2048x128 .f32) (f : BufTy.Contents (Elt Ideal) M.view.ty) (off : Fin 3 → ℕ)
    (inb : ∀ a, off a + S1x1024x128.size a ≤ S1x2048x128.size a) : FVec Ideal S1024x128 .bf16 :=
  truncf .bf16 (shapeCast S1024x128 (M.view.readAt (Elt Ideal) (Rect.unit (s := S1x2048x128) off S1x1024x128.size inb).toLoadRect f)
    shapeCasts_S1x1024x128_S1024x128) bitsLt_bf16_f32

theorem kcs8_apply (x : FVec Ideal S1x1024x128 .f32) (p : Fin 1024) (e : Fin 128) :
    truncf (F := Ideal) .bf16 (shapeCast S1024x128 x shapeCasts_S1x1024x128_S1024x128) bitsLt_bf16_f32 (ix2 p e) = x (ix3 (0 : Fin 1) p e) := by
  pointwise

theorem kc8_apply {sp : Space} (M : Memref sig .tc sp S1x2048x128 .f32) (f : BufTy.Contents (Elt Ideal) M.view.ty) (off : Fin 3 → ℕ)
    (inb : ∀ a, off a + S1x1024x128.size a ≤ S1x2048x128.size a) (K : ℕ) (h : off = ![0, K, 0]) (j : Fin 1024) (hK : K + j.val < 2048) (e : Fin 128) :
    kc8 M f off inb (ix2 j e) = M.view.read (Elt Ideal) f (ix3 (0 : Fin 1) (⟨K + j.val, hK⟩ : Fin 2048) e) := by
  subst h
  refine (kcs8_apply _ j e).trans ?_
  rw [View.readAt_apply]
  refine congrArg (M.view.read (Elt Ideal) f) ?_
  funext a
  apply Fin.ext
  match a with
  | ⟨0, _⟩ => rfl
  | ⟨1, _⟩ => show K + 1 * _ = _; rw [Nat.one_mul]; rfl
  | ⟨2, _⟩ => show 0 + 1 * _ = _; rw [Nat.one_mul, Nat.zero_add]; rfl

/-- The blocks of the scores of one chunk of 1024 keys. -/
def sB8 (q : FVec Ideal S256x128 .bf16) (kc : FVec Ideal S1024x128 .bf16) : ℕ → Blk
  | 0 => extractStridedSlice S256x128 ![0, 0] (matmul dot_S256x128_S1024x128_S256x1024_1_1_0_0_n_n none q kc
      (constant S256x1024 .f32 0x00000000#32)) slices_S256x1024_o0_0_S256x128
  | 1 => extractStridedSlice S256x128 ![0, 128] (matmul dot_S256x128_S1024x128_S256x1024_1_1_0_0_n_n none q kc
      (constant S256x1024 .f32 0x00000000#32)) slices_S256x1024_o0_128_S256x128
  | 2 => extractStridedSlice S256x128 ![0, 256] (matmul dot_S256x128_S1024x128_S256x1024_1_1_0_0_n_n none q kc
      (constant S256x1024 .f32 0x00000000#32)) slices_S256x1024_o0_256_S256x128
  | 3 => extractStridedSlice S256x128 ![0, 384] (matmul dot_S256x128_S1024x128_S256x1024_1_1_0_0_n_n none q kc
      (constant S256x1024 .f32 0x00000000#32)) slices_S256x1024_o0_384_S256x128
  | 4 => extractStridedSlice S256x128 ![0, 512] (matmul dot_S256x128_S1024x128_S256x1024_1_1_0_0_n_n none q kc
      (constant S256x1024 .f32 0x00000000#32)) slices_S256x1024_o0_512_S256x128
  | 5 => extractStridedSlice S256x128 ![0, 640] (matmul dot_S256x128_S1024x128_S256x1024_1_1_0_0_n_n none q kc
      (constant S256x1024 .f32 0x00000000#32)) slices_S256x1024_o0_640_S256x128
  | 6 => extractStridedSlice S256x128 ![0, 768] (matmul dot_S256x128_S1024x128_S256x1024_1_1_0_0_n_n none q kc
      (constant S256x1024 .f32 0x00000000#32)) slices_S256x1024_o0_768_S256x128
  | _ => extractStridedSlice S256x128 ![0, 896] (matmul dot_S256x128_S1024x128_S256x1024_1_1_0_0_n_n none q kc
      (constant S256x1024 .f32 0x00000000#32)) slices_S256x1024_o0_896_S256x128

theorem sB8_apply (q : FVec Ideal S256x128 .bf16) (kc : FVec Ideal S1024x128 .bf16) (b : ℕ) (hb : b < 8) (p : Fin 256) (i : Fin 128) :
    sB8 q kc b (ix2 p i) = ∑ d : Fin 128, q (ix2 p d) * kc (ix2 (⟨128 * b + i.val, by have := i.isLt; omega⟩ : Fin 1024) d) := by
  match b, hb with
  | 0, _ =>
    unfold sB8
    pointwise
    try exact sum_congr rfl fun d _ => Ideal.mul_congr rfl (congrArg (fun k => kc (ix2 k d)) (Fin.ext (by simp; try omega)))
  | 1, _ =>
    unfold sB8
    pointwise
    try exact sum_congr rfl fun d _ => Ideal.mul_congr rfl (congrArg (fun k => kc (ix2 k d)) (Fin.ext (by simp; try omega)))
  | 2, _ =>
    unfold sB8
    pointwise
    try exact sum_congr rfl fun d _ => Ideal.mul_congr rfl (congrArg (fun k => kc (ix2 k d)) (Fin.ext (by simp; try omega)))
  | 3, _ =>
    unfold sB8
    pointwise
    try exact sum_congr rfl fun d _ => Ideal.mul_congr rfl (congrArg (fun k => kc (ix2 k d)) (Fin.ext (by simp; try omega)))
  | 4, _ =>
    unfold sB8
    pointwise
    try exact sum_congr rfl fun d _ => Ideal.mul_congr rfl (congrArg (fun k => kc (ix2 k d)) (Fin.ext (by simp; try omega)))
  | 5, _ =>
    unfold sB8
    pointwise
    try exact sum_congr rfl fun d _ => Ideal.mul_congr rfl (congrArg (fun k => kc (ix2 k d)) (Fin.ext (by simp; try omega)))
  | 6, _ =>
    unfold sB8
    pointwise
    try exact sum_congr rfl fun d _ => Ideal.mul_congr rfl (congrArg (fun k => kc (ix2 k d)) (Fin.ext (by simp; try omega)))
  | 7, _ =>
    unfold sB8
    pointwise
    try exact sum_congr rfl fun d _ => Ideal.mul_congr rfl (congrArg (fun k => kc (ix2 k d)) (Fin.ext (by simp; try omega)))

/-- The score of query row `p` of head `hh` against key `k`. -/
def sc (Qr : Fin 4 → Fin 256 → Fin 128 → ℝ) (Kr : ℕ → Fin 128 → ℝ) (hh : Fin 4) (p : Fin 256) (k : ℕ) : ℝ := ∑ d, Qr hh p d * Kr k d

/-- The unmasked blocks of a chunk hold the scores. -/
theorem sB2_real {sp : Space} (M : Memref sig .tc sp S1x2048x128 .f32) (f : BufTy.Contents (Elt Ideal) M.view.ty) (off : Fin 3 → ℕ)
    (inb : ∀ a, off a + S1x256x128.size a ≤ S1x2048x128.size a) (K : ℕ) (h : off = ![0, K, 0]) (hK : K + 256 ≤ 2048)
    (Q : Fin 4 → FVec Ideal S256x128 .bf16) (Qr : Fin 4 → Fin 256 → Fin 128 → ℝ) (Kr : ℕ → Fin 128 → ℝ)
    (hQ : ∀ hh p d, Q hh (ix2 p d) = ((Qr hh p d : ℝ) : EReal))
    (hX : ∀ (k : Fin 2048) d, M.view.read (Elt Ideal) f (ix3 (0 : Fin 1) k d) = ((Kr k.val d : ℝ) : EReal))
    (hh : Fin 4) (b : ℕ) (hb : b < 2) (p : Fin 256) (i : Fin 128) :
    sB2 (Q hh) (kc2 M f off inb) b (ix2 p i) = ((sc Qr Kr hh p (K + 128 * b + i.val) : ℝ) : EReal) := by
  have hi := i.isLt
  refine (sB2_apply _ _ b hb p i).trans (score_real _ _ _ _ (hQ hh p) fun d => ?_)
  refine (kc2_apply M f off inb K h _ (by dsimp only; omega) d).trans ((hX _ d).trans ?_)
  dsimp only
  rw [Nat.add_assoc]

/-- A chunk of 256 keys takes the state of all rows on. -/
theorem chunk2 {sp : Space} (M : Memref sig .tc sp S1x2048x128 .f32) (f : BufTy.Contents (Elt Ideal) M.view.ty) (off : Fin 3 → ℕ)
    (inb : ∀ a, off a + S1x256x128.size a ≤ S1x2048x128.size a) (K q0 : ℕ) (h : off = ![0, K, 0]) (hK : K + 256 ≤ 2048) (hKq : K ≤ q0)
    (y : Fin 4 → Fin 256 → ℕ → ℝ) (Vr : ℕ → Fin 128 → ℝ)
    (hX : ∀ (k : Fin 2048) d, M.view.read (Elt Ideal) f (ix3 (0 : Fin 1) k d) = ((Vr k.val d : ℝ) : EReal))
    (B : Fin 4 → ℕ → Blk) (hB : ∀ hh b, b < 2 → ∀ (p : Fin 256) (i : Fin 128), B hh b (ix2 p i)
      = if K + 128 * b + i.val ≤ q0 + p.val then ((y hh p (K + 128 * b + i.val) : ℝ) : EReal) else ⊥)
    (m l a : Fin 4 → Blk) (hS : St K q0 y Vr m l a) :
    St (K + 256) q0 y Vr (fun hh => mNew (B hh) 1 (m hh)) (fun hh => lNew (B hh) 1 (m hh) (mNew (B hh) 1 (m hh)) (l hh))
      (fun hh => aNew2 (B hh) (m hh) (mNew (B hh) 1 (m hh)) (a hh) (kc2 M f off inb)) := by
  intro hh p
  have ha : ∀ e, aNew2 (B hh) (m hh) (mNew (B hh) 1 (m hh)) (a hh) (kc2 M f off inb) (ix2 p e)
      = Ideal.exp2 (m hh (ix2 p e) - mNew (B hh) 1 (m hh) (ix2 p e)) * a hh (ix2 p e)
        + ∑ b ∈ range (1 + 1), ∑ i : Fin 128, Ideal.exp2 (B hh b (ix2 p i) - mNew (B hh) 1 (m hh) (ix2 p i))
          * ((Vr (K + 128 * b + i.val) e : ℝ) : EReal) := by
    intro e
    refine aNew2_apply (B hh) (m hh) (mNew (B hh) 1 (m hh)) (a hh) (kc2 M f off inb)
      (fun b i e => ((Vr (K + 128 * b + i.val) e : ℝ) : EReal)) (fun b i hb e => ?_) p e
    have hbi : K + (128 * b + i.val) < 2048 := by omega
    refine (kc2_apply M f off inb K h ⟨128 * b + i.val, hb⟩ hbi e).trans ((hX _ e).trans ?_)
    dsimp only
    rw [Nat.add_assoc]
  exact blk_step K (q0 + p.val) 1 (y hh p) Vr p (m hh) (l hh) (a hh)
    (aNew2 (B hh) (m hh) (mNew (B hh) 1 (m hh)) (a hh) (kc2 M f off inb)) (B hh)
    (fun b i e => ((Vr (K + 128 * b + i.val) e : ℝ) : EReal))
    (hS hh p) (hKq.trans (Nat.le_add_right _ _)) (fun b hb i => hB hh b hb p i) (fun b hb i e => rfl) ha

/-- The unmasked blocks of a chunk hold the scores. -/
theorem sB4_real {sp : Space} (M : Memref sig .tc sp S1x2048x128 .f32) (f : BufTy.Contents (Elt Ideal) M.view.ty) (off : Fin 3 → ℕ)
    (inb : ∀ a, off a + S1x512x128.size a ≤ S1x2048x128.size a) (K : ℕ) (h : off = ![0, K, 0]) (hK : K + 512 ≤ 2048)
    (Q : Fin 4 → FVec Ideal S256x128 .bf16) (Qr : Fin 4 → Fin 256 → Fin 128 → ℝ) (Kr : ℕ → Fin 128 → ℝ)
    (hQ : ∀ hh p d, Q hh (ix2 p d) = ((Qr hh p d : ℝ) : EReal))
    (hX : ∀ (k : Fin 2048) d, M.view.read (Elt Ideal) f (ix3 (0 : Fin 1) k d) = ((Kr k.val d : ℝ) : EReal))
    (hh : Fin 4) (b : ℕ) (hb : b < 4) (p : Fin 256) (i : Fin 128) :
    sB4 (Q hh) (kc4 M f off inb) b (ix2 p i) = ((sc Qr Kr hh p (K + 128 * b + i.val) : ℝ) : EReal) := by
  have hi := i.isLt
  refine (sB4_apply _ _ b hb p i).trans (score_real _ _ _ _ (hQ hh p) fun d => ?_)
  refine (kc4_apply M f off inb K h _ (by dsimp only; omega) d).trans ((hX _ d).trans ?_)
  dsimp only
  rw [Nat.add_assoc]

/-- A chunk of 512 keys takes the state of all rows on. -/
theorem chunk4 {sp : Space} (M : Memref sig .tc sp S1x2048x128 .f32) (f : BufTy.Contents (Elt Ideal) M.view.ty) (off : Fin 3 → ℕ)
    (inb : ∀ a, off a + S1x512x128.size a ≤ S1x2048x128.size a) (K q0 : ℕ) (h : off = ![0, K, 0]) (hK : K + 512 ≤ 2048) (hKq : K ≤ q0)
    (y : Fin 4 → Fin 256 → ℕ → ℝ) (Vr : ℕ → Fin 128 → ℝ)
    (hX : ∀ (k : Fin 2048) d, M.view.read (Elt Ideal) f (ix3 (0 : Fin 1) k d) = ((Vr k.val d : ℝ) : EReal))
    (B : Fin 4 → ℕ → Blk) (hB : ∀ hh b, b < 4 → ∀ (p : Fin 256) (i : Fin 128), B hh b (ix2 p i)
      = if K + 128 * b + i.val ≤ q0 + p.val then ((y hh p (K + 128 * b + i.val) : ℝ) : EReal) else ⊥)
    (m l a : Fin 4 → Blk) (hS : St K q0 y Vr m l a) :
    St (K + 512) q0 y Vr (fun hh => mNew (B hh) 3 (m hh)) (fun hh => lNew (B hh) 3 (m hh) (mNew (B hh) 3 (m hh)) (l hh))
      (fun hh => aNew4 (B hh) (m hh) (mNew (B hh) 3 (m hh)) (a hh) (kc4 M f off inb)) := by
  intro hh p
  have ha : ∀ e, aNew4 (B hh) (m hh) (mNew (B hh) 3 (m hh)) (a hh) (kc4 M f off inb) (ix2 p e)
      = Ideal.exp2 (m hh (ix2 p e) - mNew (B hh) 3 (m hh) (ix2 p e)) * a hh (ix2 p e)
        + ∑ b ∈ range (3 + 1), ∑ i : Fin 128, Ideal.exp2 (B hh b (ix2 p i) - mNew (B hh) 3 (m hh) (ix2 p i))
          * ((Vr (K + 128 * b + i.val) e : ℝ) : EReal) := by
    intro e
    refine aNew4_apply (B hh) (m hh) (mNew (B hh) 3 (m hh)) (a hh) (kc4 M f off inb)
      (fun b i e => ((Vr (K + 128 * b + i.val) e : ℝ) : EReal)) (fun b i hb e => ?_) p e
    have hbi : K + (128 * b + i.val) < 2048 := by omega
    refine (kc4_apply M f off inb K h ⟨128 * b + i.val, hb⟩ hbi e).trans ((hX _ e).trans ?_)
    dsimp only
    rw [Nat.add_assoc]
  exact blk_step K (q0 + p.val) 3 (y hh p) Vr p (m hh) (l hh) (a hh)
    (aNew4 (B hh) (m hh) (mNew (B hh) 3 (m hh)) (a hh) (kc4 M f off inb)) (B hh)
    (fun b i e => ((Vr (K + 128 * b + i.val) e : ℝ) : EReal))
    (hS hh p) (hKq.trans (Nat.le_add_right _ _)) (fun b hb i => hB hh b hb p i) (fun b hb i e => rfl) ha

/-- The unmasked blocks of a chunk hold the scores. -/
theorem sB8_real {sp : Space} (M : Memref sig .tc sp S1x2048x128 .f32) (f : BufTy.Contents (Elt Ideal) M.view.ty) (off : Fin 3 → ℕ)
    (inb : ∀ a, off a + S1x1024x128.size a ≤ S1x2048x128.size a) (K : ℕ) (h : off = ![0, K, 0]) (hK : K + 1024 ≤ 2048)
    (Q : Fin 4 → FVec Ideal S256x128 .bf16) (Qr : Fin 4 → Fin 256 → Fin 128 → ℝ) (Kr : ℕ → Fin 128 → ℝ)
    (hQ : ∀ hh p d, Q hh (ix2 p d) = ((Qr hh p d : ℝ) : EReal))
    (hX : ∀ (k : Fin 2048) d, M.view.read (Elt Ideal) f (ix3 (0 : Fin 1) k d) = ((Kr k.val d : ℝ) : EReal))
    (hh : Fin 4) (b : ℕ) (hb : b < 8) (p : Fin 256) (i : Fin 128) :
    sB8 (Q hh) (kc8 M f off inb) b (ix2 p i) = ((sc Qr Kr hh p (K + 128 * b + i.val) : ℝ) : EReal) := by
  have hi := i.isLt
  refine (sB8_apply _ _ b hb p i).trans (score_real _ _ _ _ (hQ hh p) fun d => ?_)
  refine (kc8_apply M f off inb K h _ (by dsimp only; omega) d).trans ((hX _ d).trans ?_)
  dsimp only
  rw [Nat.add_assoc]

/-- A chunk of 1024 keys takes the state of all rows on. -/
theorem chunk8 {sp : Space} (M : Memref sig .tc sp S1x2048x128 .f32) (f : BufTy.Contents (Elt Ideal) M.view.ty) (off : Fin 3 → ℕ)
    (inb : ∀ a, off a + S1x1024x128.size a ≤ S1x2048x128.size a) (K q0 : ℕ) (h : off = ![0, K, 0]) (hK : K + 1024 ≤ 2048) (hKq : K ≤ q0)
    (y : Fin 4 → Fin 256 → ℕ → ℝ) (Vr : ℕ → Fin 128 → ℝ)
    (hX : ∀ (k : Fin 2048) d, M.view.read (Elt Ideal) f (ix3 (0 : Fin 1) k d) = ((Vr k.val d : ℝ) : EReal))
    (B : Fin 4 → ℕ → Blk) (hB : ∀ hh b, b < 8 → ∀ (p : Fin 256) (i : Fin 128), B hh b (ix2 p i)
      = if K + 128 * b + i.val ≤ q0 + p.val then ((y hh p (K + 128 * b + i.val) : ℝ) : EReal) else ⊥)
    (m l a : Fin 4 → Blk) (hS : St K q0 y Vr m l a) :
    St (K + 1024) q0 y Vr (fun hh => mNew (B hh) 7 (m hh)) (fun hh => lNew (B hh) 7 (m hh) (mNew (B hh) 7 (m hh)) (l hh))
      (fun hh => aNew8 (B hh) (m hh) (mNew (B hh) 7 (m hh)) (a hh) (kc8 M f off inb)) := by
  intro hh p
  have ha : ∀ e, aNew8 (B hh) (m hh) (mNew (B hh) 7 (m hh)) (a hh) (kc8 M f off inb) (ix2 p e)
      = Ideal.exp2 (m hh (ix2 p e) - mNew (B hh) 7 (m hh) (ix2 p e)) * a hh (ix2 p e)
        + ∑ b ∈ range (7 + 1), ∑ i : Fin 128, Ideal.exp2 (B hh b (ix2 p i) - mNew (B hh) 7 (m hh) (ix2 p i))
          * ((Vr (K + 128 * b + i.val) e : ℝ) : EReal) := by
    intro e
    refine aNew8_apply (B hh) (m hh) (mNew (B hh) 7 (m hh)) (a hh) (kc8 M f off inb)
      (fun b i e => ((Vr (K + 128 * b + i.val) e : ℝ) : EReal)) (fun b i hb e => ?_) p e
    have hbi : K + (128 * b + i.val) < 2048 := by omega
    refine (kc8_apply M f off inb K h ⟨128 * b + i.val, hb⟩ hbi e).trans ((hX _ e).trans ?_)
    dsimp only
    rw [Nat.add_assoc]
  exact blk_step K (q0 + p.val) 7 (y hh p) Vr p (m hh) (l hh) (a hh)
    (aNew8 (B hh) (m hh) (mNew (B hh) 7 (m hh)) (a hh) (kc8 M f off inb)) (B hh)
    (fun b i e => ((Vr (K + 128 * b + i.val) e : ℝ) : EReal))
    (hS hh p) (hKq.trans (Nat.le_add_right _ _)) (fun b hb i => hB hh b hb p i) (fun b hb i e => rfl) ha

end Diff
-- ==== Proof.Grid.lean ====
module

public import proofs.«01_k».proof.Proof.Chunk

@[expose] public section

set_option maxRecDepth 16384

noncomputable section

namespace Diff

open Idealize.ShloMosaic Finset Cert.KernelIdeal Cert.KernelIdeal.Gen

/-- How often each loop runs at a grid point, and where its chunks lie. -/
theorem trips1 : ∀ i : grid0.Coords, (k0_t1_loop i).trips = (i 2).val / 4 := by decide +kernel
theorem trips2 : ∀ i : grid0.Coords, (k0_t2_loop i).trips = 0 := by decide +kernel
theorem trips3 : ∀ i : grid0.Coords, (k0_t3_loop i).trips = (i 2).val % 4 / 2 := by decide +kernel
theorem trips4 : ∀ i : grid0.Coords, (k0_t4_loop i).trips = 0 := by decide +kernel
theorem trips5 : ∀ i : grid0.Coords, (k0_t5_loop i).trips = (i 2).val % 2 := by decide +kernel
theorem trips6 : ∀ i : grid0.Coords, (k0_t6_loop i).trips = 0 := by decide +kernel
theorem trips7 : ∀ i : grid0.Coords, (k0_t7_loop i).trips = 1 := by decide +kernel
theorem trips8 : ∀ i : grid0.Coords, (k0_t8_loop i).trips = 0 := by decide +kernel

theorem off1 : ∀ (i : grid0.Coords) (k : Fin (k0_t1_loop i).trips), k0_off1 i k = ![0, 1024 * k.val, 0] := by decide +kernel
theorem off3 : ∀ (i : grid0.Coords) (k : Fin (k0_t3_loop i).trips), k0_off3 i k = ![0, 1024 * ((i 2).val / 4) + 512 * k.val, 0] := by decide +kernel
theorem off5 : ∀ (i : grid0.Coords) (k : Fin (k0_t5_loop i).trips), k0_off5 i k = ![0, 512 * ((i 2).val / 2) + 256 * k.val, 0] := by decide +kernel
theorem off7 : ∀ (i : grid0.Coords) (k : Fin (k0_t7_loop i).trips), k0_off7 i k = ![0, 256 * (i 2).val, 0] := by decide +kernel

/-- The last chunk starts at the first query of the block. -/
theorem iv7 : ∀ (i : grid0.Coords) (k : Fin (k0_t7_loop i).trips), Scf.iv (kernelRun0_A.sl.v65 i) 1#32 k = BitVec.ofNat 32 (i 2).val := by decide +kernel

/-- The bias of the last chunk: nothing up to the query's own key, `⊥` past it. -/
theorem bias_apply (i : grid0.Coords) (v65 : BitVec 32) (k : Fin (k0_t7_loop i).trips) (hv : Scf.iv v65 1#32 k = BitVec.ofNat 32 (i 2).val)
    (p j : Fin 256) : k0_pay414 (F := Ideal) i (k0_pay515 i) v65 1#32 k (ix2 p j) = if j.val ≤ p.val then 0 else ⊥ := by
  unfold k0_pay414 k0_pay515
  rw [hv]
  pointwise
  rw [IdealRules.named_const.ideal_named_scalar _ _ _ _ rfl]
  have hn : (i 2).val < 8 := (i 2).isLt
  have hp := p.isLt
  have hj := j.isLt
  generalize (i 2).val = n at hn
  have e1 : IntOp.addi (Scalar.muli (BitVec.ofNat 32 n) 256#32) (BitVec.ofNat 32 j.val) = BitVec.ofNat 32 (n * 256 + j.val) := by
    apply BitVec.eq_of_toNat_eq
    simp [IntOp.addi, Scalar.muli, IntOp.muli, BitVec.toNat_ofNat]
  have e2 : IntOp.addi (Scalar.addi 0#32 (Scalar.muli (BitVec.ofNat 32 n) 256#32)) (BitVec.ofNat 32 p.val) = BitVec.ofNat 32 (n * 256 + p.val) := by
    apply BitVec.eq_of_toNat_eq
    simp [IntOp.addi, Scalar.muli, IntOp.muli, Scalar.addi, BitVec.toNat_ofNat]
  rw [e1, e2]
  have t1 : ∀ x : ℕ, x < 4096 → (BitVec.ofNat 32 x).toInt = x := by
    intro x hx
    rw [BitVec.toInt_eq_toNat_cond, BitVec.toNat_ofNat]
    split <;> omega
  have hc : IntOp.cmpi CmpIPredicate.sle (BitVec.ofNat 32 (n * 256 + j.val)) (BitVec.ofNat 32 (n * 256 + p.val)) = BitVec.ofBool (decide (j.val ≤ p.val)) := by
    simp only [IntOp.cmpi, BitVec.sle, t1 _ (show n * 256 + j.val < 4096 by omega), t1 _ (show n * 256 + p.val < 4096 by omega)]
    congr 1
    simp
  rw [hc]
  by_cases h : j.val ≤ p.val
  · simp [h, Scalar.select]
  · simp [h, Scalar.select]

theorem bias415 (i : grid0.Coords) (v65 : BitVec 32) (k : Fin (k0_t7_loop i).trips) (hv : Scf.iv v65 1#32 k = BitVec.ofNat 32 (i 2).val)
    (p : Fin 256) (j : Fin 128) : k0_pay415 (F := Ideal) i (k0_pay515 i) v65 1#32 k (ix2 p j)
      = if 256 * (i 2).val + j.val ≤ 256 * (i 2).val + p.val then 0 else ⊥ := by
  have h : k0_pay415 (F := Ideal) i (k0_pay515 i) v65 1#32 k (ix2 p j)
      = k0_pay414 (F := Ideal) i (k0_pay515 i) v65 1#32 k (ix2 p (⟨j.val, by have := j.isLt; omega⟩ : Fin 256)) := by
    unfold k0_pay415
    pointwise
  rw [h, bias_apply i v65 k hv]
  exact if_congr (by dsimp only; omega) rfl rfl

theorem bias416 (i : grid0.Coords) (v65 : BitVec 32) (k : Fin (k0_t7_loop i).trips) (hv : Scf.iv v65 1#32 k = BitVec.ofNat 32 (i 2).val)
    (p : Fin 256) (j : Fin 128) : k0_pay416 (F := Ideal) i (k0_pay515 i) v65 1#32 k (ix2 p j)
      = if 256 * (i 2).val + 128 + j.val ≤ 256 * (i 2).val + p.val then 0 else ⊥ := by
  have h : k0_pay416 (F := Ideal) i (k0_pay515 i) v65 1#32 k (ix2 p j)
      = k0_pay414 (F := Ideal) i (k0_pay515 i) v65 1#32 k (ix2 p (⟨128 + j.val, by have := j.isLt; omega⟩ : Fin 256)) := by
    unfold k0_pay416
    pointwise
  rw [h, bias_apply i v65 k hv]
  exact if_congr (by dsimp only; omega) rfl rfl

end Diff
-- ==== Proof.Trip1.lean ====
module

public import proofs.«01_k».proof.Proof.Chunk

@[expose] public section

set_option maxRecDepth 16384

noncomputable section

namespace Diff

open Idealize.ShloMosaic Finset Cert.KernelIdeal Cert.KernelIdeal.Gen

section

variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x256x256 .f32) (harg5 : arg5.IsWhole)
  (arg6 : Memref sig .tc .vmem S1x2048x128 .f32) (harg6 : arg6.IsWhole) (arg7 : Memref sig .tc .vmem S1x2048x128 .f32) (harg7 : arg7.IsWhole) (arg8 : Memref sig .tc .vmem S1x256x256 .f32) (harg8 : arg8.IsWhole)
  (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
  (v28 v33 v42 v47 : FVec Ideal S256x128 .bf16) (v65 c4_i32 v66 v71 v73 c0_i32_31 : BitVec 32)
  (X_arg6 : BufTy.Contents (Elt Ideal) arg6.view.ty) (X_arg7 : BufTy.Contents (Elt Ideal) arg7.view.ty) (k : Fin (k0_t1_loop i).trips)
  (f9 : BufTy.Contents (Elt Ideal) arg9.view.ty) (f10 : BufTy.Contents (Elt Ideal) arg10.view.ty) (f11 : BufTy.Contents (Elt Ideal) arg11.view.ty)

/-- The stores of trip `k` of loop 1, to the three scratch arrays. -/
theorem trip1_eq : (tripL_k0_t1 (F := Ideal) 𝒱 c bd i arg3 harg3 arg4 harg4 arg5 harg5 arg6 harg6 arg7 harg7 arg8 harg8 arg9 harg9 arg10 harg10 arg11 harg11 v28 v33 v42 v47 v65 c4_i32 v66 v71 v73 c0_i32_31 X_arg6 X_arg7 k f9 f10 f11)
    = (pcs fun hh => (mNew (sB8 (![v28, v33, v42, v47] hh) (kc8 arg6 X_arg6 (k0_off1 i k) (k0_off1_inb i k))) 7 (rd arg9 f9 (hoff hh) (hinb hh))),
       pcs fun hh => lNew (sB8 (![v28, v33, v42, v47] hh) (kc8 arg6 X_arg6 (k0_off1 i k) (k0_off1_inb i k))) 7 (rd arg9 f9 (hoff hh) (hinb hh)) (mNew (sB8 (![v28, v33, v42, v47] hh) (kc8 arg6 X_arg6 (k0_off1 i k) (k0_off1_inb i k))) 7 (rd arg9 f9 (hoff hh) (hinb hh))) (rd arg10 f10 (hoff hh) (hinb hh)),
       pcs fun hh => aNew8 (sB8 (![v28, v33, v42, v47] hh) (kc8 arg6 X_arg6 (k0_off1 i k) (k0_off1_inb i k))) (rd arg9 f9 (hoff hh) (hinb hh)) (mNew (sB8 (![v28, v33, v42, v47] hh) (kc8 arg6 X_arg6 (k0_off1 i k) (k0_off1_inb i k))) 7 (rd arg9 f9 (hoff hh) (hinb hh))) (rd arg11 f11 (hoff hh) (hinb hh)) (kc8 arg7 X_arg7 (k0_off1 i k) (k0_off1_inb i k))) := by
  unfold tripL_k0_t1 trip_k0_t1
  rfl

/-- Trip `k` of loop 1 takes the state of all rows over its 1024 keys on. -/
theorem trip1_St (K q0 : ℕ) (hoffk : k0_off1 i k = ![0, K, 0]) (hK : K + 1024 ≤ 2048) (hq : K + 1024 ≤ q0 + 1)
    (Qr : Fin 4 → Fin 256 → Fin 128 → ℝ) (Kr Vr : ℕ → Fin 128 → ℝ)
    (hQ : ∀ hh p d, (![v28, v33, v42, v47] : Fin 4 → FVec Ideal S256x128 .bf16) hh (ix2 p d) = ((Qr hh p d : ℝ) : EReal))
    (hX6 : ∀ (k : Fin 2048) d, arg6.view.read (Elt Ideal) X_arg6 (ix3 (0 : Fin 1) k d) = ((Kr k.val d : ℝ) : EReal))
    (hX7 : ∀ (k : Fin 2048) d, arg7.view.read (Elt Ideal) X_arg7 (ix3 (0 : Fin 1) k d) = ((Vr k.val d : ℝ) : EReal))
    (hS : St K q0 (sc Qr Kr) Vr (hd arg9 f9) (hd arg10 f10) (hd arg11 f11)) :
    St (K + 1024) q0 (sc Qr Kr) Vr (hd arg9 (arg9.view.writes (Elt Ideal) f9 (tripL_k0_t1 (F := Ideal) 𝒱 c bd i arg3 harg3 arg4 harg4 arg5 harg5 arg6 harg6 arg7 harg7 arg8 harg8 arg9 harg9 arg10 harg10 arg11 harg11 v28 v33 v42 v47 v65 c4_i32 v66 v71 v73 c0_i32_31 X_arg6 X_arg7 k f9 f10 f11).1))
      (hd arg10 (arg10.view.writes (Elt Ideal) f10 (tripL_k0_t1 (F := Ideal) 𝒱 c bd i arg3 harg3 arg4 harg4 arg5 harg5 arg6 harg6 arg7 harg7 arg8 harg8 arg9 harg9 arg10 harg10 arg11 harg11 v28 v33 v42 v47 v65 c4_i32 v66 v71 v73 c0_i32_31 X_arg6 X_arg7 k f9 f10 f11).2.1)) (hd arg11 (arg11.view.writes (Elt Ideal) f11 (tripL_k0_t1 (F := Ideal) 𝒱 c bd i arg3 harg3 arg4 harg4 arg5 harg5 arg6 harg6 arg7 harg7 arg8 harg8 arg9 harg9 arg10 harg10 arg11 harg11 v28 v33 v42 v47 v65 c4_i32 v66 v71 v73 c0_i32_31 X_arg6 X_arg7 k f9 f10 f11).2.2)) := by
  have hB : ∀ hh b, b < 8 → ∀ (p : Fin 256) (j : Fin 128), (sB8 (![v28, v33, v42, v47] hh) (kc8 arg6 X_arg6 (k0_off1 i k) (k0_off1_inb i k))) b (ix2 p j)
      = if K + 128 * b + j.val ≤ q0 + p.val then ((sc Qr Kr hh p (K + 128 * b + j.val) : ℝ) : EReal) else ⊥ := by
    intro hh b hb p j
    have hj := j.isLt
    rw [if_pos (by omega)]
    exact sB8_real arg6 X_arg6 _ _ K hoffk hK ![v28, v33, v42, v47] Qr Kr hQ hX6 hh b hb p j
  have hstep := chunk8 arg7 X_arg7 (k0_off1 i k) (k0_off1_inb i k) K q0 hoffk hK (by omega) (sc Qr Kr) Vr hX7
    (fun hh => (sB8 (![v28, v33, v42, v47] hh) (kc8 arg6 X_arg6 (k0_off1 i k) (k0_off1_inb i k)))) hB (hd arg9 f9) (hd arg10 f10) (hd arg11 f11) hS
  rw [trip1_eq]
  have r9 : ∀ hh, (rd arg9 f9 (hoff hh) (hinb hh)) = hd arg9 f9 hh := fun hh => rd_eq arg9 f9 hh _ rfl _
  have r10 : ∀ hh, (rd arg10 f10 (hoff hh) (hinb hh)) = hd arg10 f10 hh := fun hh => rd_eq arg10 f10 hh _ rfl _
  have r11 : ∀ hh, (rd arg11 f11 (hoff hh) (hinb hh)) = hd arg11 f11 hh := fun hh => rd_eq arg11 f11 hh _ rfl _
  intro hh p
  have h := hstep hh p
  dsimp only
  rw [hd_pcs, hd_pcs, hd_pcs, r9, r10, r11]
  exact h

end

end Diff
-- ==== Proof.Trip3.lean ====
module

public import proofs.«01_k».proof.Proof.Chunk

@[expose] public section

set_option maxRecDepth 16384

noncomputable section

namespace Diff

open Idealize.ShloMosaic Finset Cert.KernelIdeal Cert.KernelIdeal.Gen

section

variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x256x256 .f32) (harg5 : arg5.IsWhole)
  (arg6 : Memref sig .tc .vmem S1x2048x128 .f32) (harg6 : arg6.IsWhole) (arg7 : Memref sig .tc .vmem S1x2048x128 .f32) (harg7 : arg7.IsWhole) (arg8 : Memref sig .tc .vmem S1x256x256 .f32) (harg8 : arg8.IsWhole)
  (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
  (v4 : BitVec 32) (v28 v33 v42 v47 : FVec Ideal S256x128 .bf16) (v65 v82 v101 v107 c1_i32_49 v112 : BitVec 32)
  (X_arg6 : BufTy.Contents (Elt Ideal) arg6.view.ty) (X_arg7 : BufTy.Contents (Elt Ideal) arg7.view.ty) (k : Fin (k0_t3_loop i).trips)
  (f9 : BufTy.Contents (Elt Ideal) arg9.view.ty) (f10 : BufTy.Contents (Elt Ideal) arg10.view.ty) (f11 : BufTy.Contents (Elt Ideal) arg11.view.ty)

/-- The stores of trip `k` of loop 3, to the three scratch arrays. -/
theorem trip3_eq : (tripL_k0_t3 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 X_arg6 X_arg7 k f9 f10 f11)
    = (pcs fun hh => (mNew (sB4 (![v28, v33, v42, v47] hh) (kc4 arg6 X_arg6 (k0_off3 i k) (k0_off3_inb i k))) 3 (rd arg9 f9 (hoff hh) (hinb hh))),
       pcs fun hh => lNew (sB4 (![v28, v33, v42, v47] hh) (kc4 arg6 X_arg6 (k0_off3 i k) (k0_off3_inb i k))) 3 (rd arg9 f9 (hoff hh) (hinb hh)) (mNew (sB4 (![v28, v33, v42, v47] hh) (kc4 arg6 X_arg6 (k0_off3 i k) (k0_off3_inb i k))) 3 (rd arg9 f9 (hoff hh) (hinb hh))) (rd arg10 f10 (hoff hh) (hinb hh)),
       pcs fun hh => aNew4 (sB4 (![v28, v33, v42, v47] hh) (kc4 arg6 X_arg6 (k0_off3 i k) (k0_off3_inb i k))) (rd arg9 f9 (hoff hh) (hinb hh)) (mNew (sB4 (![v28, v33, v42, v47] hh) (kc4 arg6 X_arg6 (k0_off3 i k) (k0_off3_inb i k))) 3 (rd arg9 f9 (hoff hh) (hinb hh))) (rd arg11 f11 (hoff hh) (hinb hh)) (kc4 arg7 X_arg7 (k0_off3 i k) (k0_off3_inb i k))) := by
  unfold tripL_k0_t3 trip_k0_t3
  rfl

/-- Trip `k` of loop 3 takes the state of all rows over its 512 keys on. -/
theorem trip3_St (K q0 : ℕ) (hoffk : k0_off3 i k = ![0, K, 0]) (hK : K + 512 ≤ 2048) (hq : K + 512 ≤ q0 + 1)
    (Qr : Fin 4 → Fin 256 → Fin 128 → ℝ) (Kr Vr : ℕ → Fin 128 → ℝ)
    (hQ : ∀ hh p d, (![v28, v33, v42, v47] : Fin 4 → FVec Ideal S256x128 .bf16) hh (ix2 p d) = ((Qr hh p d : ℝ) : EReal))
    (hX6 : ∀ (k : Fin 2048) d, arg6.view.read (Elt Ideal) X_arg6 (ix3 (0 : Fin 1) k d) = ((Kr k.val d : ℝ) : EReal))
    (hX7 : ∀ (k : Fin 2048) d, arg7.view.read (Elt Ideal) X_arg7 (ix3 (0 : Fin 1) k d) = ((Vr k.val d : ℝ) : EReal))
    (hS : St K q0 (sc Qr Kr) Vr (hd arg9 f9) (hd arg10 f10) (hd arg11 f11)) :
    St (K + 512) q0 (sc Qr Kr) Vr (hd arg9 (arg9.view.writes (Elt Ideal) f9 (tripL_k0_t3 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 X_arg6 X_arg7 k f9 f10 f11).1))
      (hd arg10 (arg10.view.writes (Elt Ideal) f10 (tripL_k0_t3 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 X_arg6 X_arg7 k f9 f10 f11).2.1)) (hd arg11 (arg11.view.writes (Elt Ideal) f11 (tripL_k0_t3 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 X_arg6 X_arg7 k f9 f10 f11).2.2)) := by
  have hB : ∀ hh b, b < 4 → ∀ (p : Fin 256) (j : Fin 128), (sB4 (![v28, v33, v42, v47] hh) (kc4 arg6 X_arg6 (k0_off3 i k) (k0_off3_inb i k))) b (ix2 p j)
      = if K + 128 * b + j.val ≤ q0 + p.val then ((sc Qr Kr hh p (K + 128 * b + j.val) : ℝ) : EReal) else ⊥ := by
    intro hh b hb p j
    have hj := j.isLt
    rw [if_pos (by omega)]
    exact sB4_real arg6 X_arg6 _ _ K hoffk hK ![v28, v33, v42, v47] Qr Kr hQ hX6 hh b hb p j
  have hstep := chunk4 arg7 X_arg7 (k0_off3 i k) (k0_off3_inb i k) K q0 hoffk hK (by omega) (sc Qr Kr) Vr hX7
    (fun hh => (sB4 (![v28, v33, v42, v47] hh) (kc4 arg6 X_arg6 (k0_off3 i k) (k0_off3_inb i k)))) hB (hd arg9 f9) (hd arg10 f10) (hd arg11 f11) hS
  rw [trip3_eq]
  have r9 : ∀ hh, (rd arg9 f9 (hoff hh) (hinb hh)) = hd arg9 f9 hh := fun hh => rd_eq arg9 f9 hh _ rfl _
  have r10 : ∀ hh, (rd arg10 f10 (hoff hh) (hinb hh)) = hd arg10 f10 hh := fun hh => rd_eq arg10 f10 hh _ rfl _
  have r11 : ∀ hh, (rd arg11 f11 (hoff hh) (hinb hh)) = hd arg11 f11 hh := fun hh => rd_eq arg11 f11 hh _ rfl _
  intro hh p
  have h := hstep hh p
  dsimp only
  rw [hd_pcs, hd_pcs, hd_pcs, r9, r10, r11]
  exact h

end

end Diff
-- ==== Proof.Trip5.lean ====
module

public import proofs.«01_k».proof.Proof.Chunk

@[expose] public section

set_option maxRecDepth 16384

noncomputable section

namespace Diff

open Idealize.ShloMosaic Finset Cert.KernelIdeal Cert.KernelIdeal.Gen

section

variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x256x256 .f32) (harg5 : arg5.IsWhole)
  (arg6 : Memref sig .tc .vmem S1x2048x128 .f32) (harg6 : arg6.IsWhole) (arg7 : Memref sig .tc .vmem S1x2048x128 .f32) (harg7 : arg7.IsWhole) (arg8 : Memref sig .tc .vmem S1x256x256 .f32) (harg8 : arg8.IsWhole)
  (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
  (v4 : BitVec 32) (v28 v33 v42 v47 : FVec Ideal S256x128 .bf16) (v65 v82 v101 v107 c1_i32_49 v112 v117 : BitVec 32)
  (X_arg6 : BufTy.Contents (Elt Ideal) arg6.view.ty) (X_arg7 : BufTy.Contents (Elt Ideal) arg7.view.ty) (k : Fin (k0_t5_loop i).trips)
  (f9 : BufTy.Contents (Elt Ideal) arg9.view.ty) (f10 : BufTy.Contents (Elt Ideal) arg10.view.ty) (f11 : BufTy.Contents (Elt Ideal) arg11.view.ty)

/-- The stores of trip `k` of loop 5, to the three scratch arrays. -/
theorem trip5_eq : (tripL_k0_t5 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 v117 X_arg6 X_arg7 k f9 f10 f11)
    = (pcs fun hh => (mNew (sB2 (![v28, v33, v42, v47] hh) (kc2 arg6 X_arg6 (k0_off5 i k) (k0_off5_inb i k))) 1 (rd arg9 f9 (hoff hh) (hinb hh))),
       pcs fun hh => lNew (sB2 (![v28, v33, v42, v47] hh) (kc2 arg6 X_arg6 (k0_off5 i k) (k0_off5_inb i k))) 1 (rd arg9 f9 (hoff hh) (hinb hh)) (mNew (sB2 (![v28, v33, v42, v47] hh) (kc2 arg6 X_arg6 (k0_off5 i k) (k0_off5_inb i k))) 1 (rd arg9 f9 (hoff hh) (hinb hh))) (rd arg10 f10 (hoff hh) (hinb hh)),
       pcs fun hh => aNew2 (sB2 (![v28, v33, v42, v47] hh) (kc2 arg6 X_arg6 (k0_off5 i k) (k0_off5_inb i k))) (rd arg9 f9 (hoff hh) (hinb hh)) (mNew (sB2 (![v28, v33, v42, v47] hh) (kc2 arg6 X_arg6 (k0_off5 i k) (k0_off5_inb i k))) 1 (rd arg9 f9 (hoff hh) (hinb hh))) (rd arg11 f11 (hoff hh) (hinb hh)) (kc2 arg7 X_arg7 (k0_off5 i k) (k0_off5_inb i k))) := by
  unfold tripL_k0_t5 trip_k0_t5
  rfl

/-- Trip `k` of loop 5 takes the state of all rows over its 256 keys on. -/
theorem trip5_St (K q0 : ℕ) (hoffk : k0_off5 i k = ![0, K, 0]) (hK : K + 256 ≤ 2048) (hq : K + 256 ≤ q0 + 1)
    (Qr : Fin 4 → Fin 256 → Fin 128 → ℝ) (Kr Vr : ℕ → Fin 128 → ℝ)
    (hQ : ∀ hh p d, (![v28, v33, v42, v47] : Fin 4 → FVec Ideal S256x128 .bf16) hh (ix2 p d) = ((Qr hh p d : ℝ) : EReal))
    (hX6 : ∀ (k : Fin 2048) d, arg6.view.read (Elt Ideal) X_arg6 (ix3 (0 : Fin 1) k d) = ((Kr k.val d : ℝ) : EReal))
    (hX7 : ∀ (k : Fin 2048) d, arg7.view.read (Elt Ideal) X_arg7 (ix3 (0 : Fin 1) k d) = ((Vr k.val d : ℝ) : EReal))
    (hS : St K q0 (sc Qr Kr) Vr (hd arg9 f9) (hd arg10 f10) (hd arg11 f11)) :
    St (K + 256) q0 (sc Qr Kr) Vr (hd arg9 (arg9.view.writes (Elt Ideal) f9 (tripL_k0_t5 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 v117 X_arg6 X_arg7 k f9 f10 f11).1))
      (hd arg10 (arg10.view.writes (Elt Ideal) f10 (tripL_k0_t5 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 v117 X_arg6 X_arg7 k f9 f10 f11).2.1)) (hd arg11 (arg11.view.writes (Elt Ideal) f11 (tripL_k0_t5 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 v117 X_arg6 X_arg7 k f9 f10 f11).2.2)) := by
  have hB : ∀ hh b, b < 2 → ∀ (p : Fin 256) (j : Fin 128), (sB2 (![v28, v33, v42, v47] hh) (kc2 arg6 X_arg6 (k0_off5 i k) (k0_off5_inb i k))) b (ix2 p j)
      = if K + 128 * b + j.val ≤ q0 + p.val then ((sc Qr Kr hh p (K + 128 * b + j.val) : ℝ) : EReal) else ⊥ := by
    intro hh b hb p j
    have hj := j.isLt
    rw [if_pos (by omega)]
    exact sB2_real arg6 X_arg6 _ _ K hoffk hK ![v28, v33, v42, v47] Qr Kr hQ hX6 hh b hb p j
  have hstep := chunk2 arg7 X_arg7 (k0_off5 i k) (k0_off5_inb i k) K q0 hoffk hK (by omega) (sc Qr Kr) Vr hX7
    (fun hh => (sB2 (![v28, v33, v42, v47] hh) (kc2 arg6 X_arg6 (k0_off5 i k) (k0_off5_inb i k)))) hB (hd arg9 f9) (hd arg10 f10) (hd arg11 f11) hS
  rw [trip5_eq]
  have r9 : ∀ hh, (rd arg9 f9 (hoff hh) (hinb hh)) = hd arg9 f9 hh := fun hh => rd_eq arg9 f9 hh _ rfl _
  have r10 : ∀ hh, (rd arg10 f10 (hoff hh) (hinb hh)) = hd arg10 f10 hh := fun hh => rd_eq arg10 f10 hh _ rfl _
  have r11 : ∀ hh, (rd arg11 f11 (hoff hh) (hinb hh)) = hd arg11 f11 hh := fun hh => rd_eq arg11 f11 hh _ rfl _
  intro hh p
  have h := hstep hh p
  dsimp only
  rw [hd_pcs, hd_pcs, hd_pcs, r9, r10, r11]
  exact h

end

end Diff
-- ==== Proof.Trip7.lean ====
module

public import proofs.«01_k».proof.Proof.Chunk

@[expose] public section

set_option maxRecDepth 16384

noncomputable section

namespace Diff

open Idealize.ShloMosaic Finset Cert.KernelIdeal Cert.KernelIdeal.Gen

/-- The two masked blocks of the scores of the last chunk. -/
def B7 (i : grid0.Coords) (v7 : IVec S256x1 32) (v65 c1 : BitVec 32) (k : Fin (k0_t7_loop i).trips)
    (q kc : FVec Ideal S256x128 .bf16) : ℕ → Blk
  | 0 => addf (sB2 q kc 0) (k0_pay415 i v7 v65 c1 k)
  | _ => addf (sB2 q kc 1) (k0_pay416 i v7 v65 c1 k)

section

variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x256x256 .f32) (harg5 : arg5.IsWhole)
  (arg6 : Memref sig .tc .vmem S1x2048x128 .f32) (harg6 : arg6.IsWhole) (arg7 : Memref sig .tc .vmem S1x2048x128 .f32) (harg7 : arg7.IsWhole) (arg8 : Memref sig .tc .vmem S1x256x256 .f32) (harg8 : arg8.IsWhole)
  (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
  (v7 : IVec S256x1 32) (v28 v33 v42 v47 : FVec Ideal S256x128 .bf16) (v65 v147 c1_i32_70 : BitVec 32)
  (X_arg6 : BufTy.Contents (Elt Ideal) arg6.view.ty) (X_arg7 : BufTy.Contents (Elt Ideal) arg7.view.ty) (k : Fin (k0_t7_loop i).trips)
  (f9 : BufTy.Contents (Elt Ideal) arg9.view.ty) (f10 : BufTy.Contents (Elt Ideal) arg10.view.ty) (f11 : BufTy.Contents (Elt Ideal) arg11.view.ty)

/-- The stores of trip `k` of loop 7, to the three scratch arrays. -/
theorem trip7_eq : (tripL_k0_t7 (F := Ideal) 𝒱 c bd i arg3 harg3 arg4 harg4 arg5 harg5 arg6 harg6 arg7 harg7 arg8 harg8 arg9 harg9 arg10 harg10 arg11 harg11 v7 v28 v33 v42 v47 v65 v147 c1_i32_70 X_arg6 X_arg7 k f9 f10 f11)
    = (pcs fun hh => (mNew (B7 i v7 v65 c1_i32_70 k (![v28, v33, v42, v47] hh) (kc2 arg6 X_arg6 (k0_off7 i k) (k0_off7_inb i k))) 1 (rd arg9 f9 (hoff hh) (hinb hh))),
       pcs fun hh => lNew (B7 i v7 v65 c1_i32_70 k (![v28, v33, v42, v47] hh) (kc2 arg6 X_arg6 (k0_off7 i k) (k0_off7_inb i k))) 1 (rd arg9 f9 (hoff hh) (hinb hh)) (mNew (B7 i v7 v65 c1_i32_70 k (![v28, v33, v42, v47] hh) (kc2 arg6 X_arg6 (k0_off7 i k) (k0_off7_inb i k))) 1 (rd arg9 f9 (hoff hh) (hinb hh))) (rd arg10 f10 (hoff hh) (hinb hh)),
       pcs fun hh => aNew2 (B7 i v7 v65 c1_i32_70 k (![v28, v33, v42, v47] hh) (kc2 arg6 X_arg6 (k0_off7 i k) (k0_off7_inb i k))) (rd arg9 f9 (hoff hh) (hinb hh)) (mNew (B7 i v7 v65 c1_i32_70 k (![v28, v33, v42, v47] hh) (kc2 arg6 X_arg6 (k0_off7 i k) (k0_off7_inb i k))) 1 (rd arg9 f9 (hoff hh) (hinb hh))) (rd arg11 f11 (hoff hh) (hinb hh)) (kc2 arg7 X_arg7 (k0_off7 i k) (k0_off7_inb i k))) := by
  unfold tripL_k0_t7 trip_k0_t7
  rfl

/-- Trip `k` of loop 7 takes the state of all rows over its 256 keys on. -/
theorem trip7_St (K q0 : ℕ) (hoffk : k0_off7 i k = ![0, K, 0]) (hK : K + 256 ≤ 2048) (hq : K ≤ q0)
    (Qr : Fin 4 → Fin 256 → Fin 128 → ℝ) (Kr Vr : ℕ → Fin 128 → ℝ)
    (hQ : ∀ hh p d, (![v28, v33, v42, v47] : Fin 4 → FVec Ideal S256x128 .bf16) hh (ix2 p d) = ((Qr hh p d : ℝ) : EReal))
    (hX6 : ∀ (k : Fin 2048) d, arg6.view.read (Elt Ideal) X_arg6 (ix3 (0 : Fin 1) k d) = ((Kr k.val d : ℝ) : EReal))
    (hX7 : ∀ (k : Fin 2048) d, arg7.view.read (Elt Ideal) X_arg7 (ix3 (0 : Fin 1) k d) = ((Vr k.val d : ℝ) : EReal))
    (hb : ∀ (p : Fin 256) (j : Fin 128), k0_pay415 (F := Ideal) i v7 v65 c1_i32_70 k (ix2 p j) = if K + j.val ≤ q0 + p.val then 0 else ⊥)
    (hb' : ∀ (p : Fin 256) (j : Fin 128), k0_pay416 (F := Ideal) i v7 v65 c1_i32_70 k (ix2 p j) = if K + 128 + j.val ≤ q0 + p.val then 0 else ⊥)
    (hS : St K q0 (sc Qr Kr) Vr (hd arg9 f9) (hd arg10 f10) (hd arg11 f11)) :
    St (K + 256) q0 (sc Qr Kr) Vr (hd arg9 (arg9.view.writes (Elt Ideal) f9 (tripL_k0_t7 (F := Ideal) 𝒱 c bd i arg3 harg3 arg4 harg4 arg5 harg5 arg6 harg6 arg7 harg7 arg8 harg8 arg9 harg9 arg10 harg10 arg11 harg11 v7 v28 v33 v42 v47 v65 v147 c1_i32_70 X_arg6 X_arg7 k f9 f10 f11).1))
      (hd arg10 (arg10.view.writes (Elt Ideal) f10 (tripL_k0_t7 (F := Ideal) 𝒱 c bd i arg3 harg3 arg4 harg4 arg5 harg5 arg6 harg6 arg7 harg7 arg8 harg8 arg9 harg9 arg10 harg10 arg11 harg11 v7 v28 v33 v42 v47 v65 v147 c1_i32_70 X_arg6 X_arg7 k f9 f10 f11).2.1)) (hd arg11 (arg11.view.writes (Elt Ideal) f11 (tripL_k0_t7 (F := Ideal) 𝒱 c bd i arg3 harg3 arg4 harg4 arg5 harg5 arg6 harg6 arg7 harg7 arg8 harg8 arg9 harg9 arg10 harg10 arg11 harg11 v7 v28 v33 v42 v47 v65 v147 c1_i32_70 X_arg6 X_arg7 k f9 f10 f11).2.2)) := by
  have hB : ∀ hh b, b < 2 → ∀ (p : Fin 256) (j : Fin 128), (B7 i v7 v65 c1_i32_70 k (![v28, v33, v42, v47] hh) (kc2 arg6 X_arg6 (k0_off7 i k) (k0_off7_inb i k))) b (ix2 p j)
      = if K + 128 * b + j.val ≤ q0 + p.val then ((sc Qr Kr hh p (K + 128 * b + j.val) : ℝ) : EReal) else ⊥ := by
    intro hh b hbb p j
    have hs := sB2_real arg6 X_arg6 _ (k0_off7_inb i k) K hoffk hK ![v28, v33, v42, v47] Qr Kr hQ hX6 hh b hbb p j
    have hx : ∀ (x : ℝ) (P : Prop) [Decidable P], ((x : ℝ) : EReal) + (if P then 0 else ⊥) = if P then (x : EReal) else ⊥ := by
      intro x P _
      split_ifs
      · exact add_zero _
      · exact EReal.add_bot _
    match b, hbb with
    | 0, _ =>
      refine (congrArg₂ (· + ·) hs (hb p j)).trans ?_
      exact hx _ _
    | 1, _ =>
      refine (congrArg₂ (· + ·) hs (hb' p j)).trans ?_
      exact hx _ _
  have hstep := chunk2 arg7 X_arg7 (k0_off7 i k) (k0_off7_inb i k) K q0 hoffk hK (by omega) (sc Qr Kr) Vr hX7
    (fun hh => (B7 i v7 v65 c1_i32_70 k (![v28, v33, v42, v47] hh) (kc2 arg6 X_arg6 (k0_off7 i k) (k0_off7_inb i k)))) hB (hd arg9 f9) (hd arg10 f10) (hd arg11 f11) hS
  rw [trip7_eq]
  have r9 : ∀ hh, (rd arg9 f9 (hoff hh) (hinb hh)) = hd arg9 f9 hh := fun hh => rd_eq arg9 f9 hh _ rfl _
  have r10 : ∀ hh, (rd arg10 f10 (hoff hh) (hinb hh)) = hd arg10 f10 hh := fun hh => rd_eq arg10 f10 hh _ rfl _
  have r11 : ∀ hh, (rd arg11 f11 (hoff hh) (hinb hh)) = hd arg11 f11 hh := fun hh => rd_eq arg11 f11 hh _ rfl _
  intro hh p
  have h := hstep hh p
  dsimp only
  rw [hd_pcs, hd_pcs, hd_pcs, r9, r10, r11]
  exact h

end

end Diff
-- ==== Proof.Chain.lean ====
module

public import proofs.«01_k».proof.Proof.Grid
public import proofs.«01_k».proof.Proof.Trip1
public import proofs.«01_k».proof.Proof.Trip3
public import proofs.«01_k».proof.Proof.Trip5
public import proofs.«01_k».proof.Proof.Trip7

@[expose] public section

set_option maxRecDepth 16384

noncomputable section

namespace Diff

open Idealize.ShloMosaic Finset Cert.KernelIdeal Cert.KernelIdeal.Gen

/-- The stores to the three scratch arrays so far, the last first. -/
abbrev Tr := List (View.Piece (Elt Ideal) S4x256x128 .f32) × List (View.Piece (Elt Ideal) S4x256x128 .f32) × List (View.Piece (Elt Ideal) S4x256x128 .f32)

/-- The stores `P` after the stores `L`. -/
def app (P L : Tr) : Tr := (P.1 ++ L.1, P.2.1 ++ L.2.1, P.2.2 ++ L.2.2)

/-- What a scratch array holds after the stores `L`. -/
abbrev wr (M : Memref sig .tc .vmem S4x256x128 .f32) (L : List (View.Piece (Elt Ideal) S4x256x128 .f32)) : BufTy.Contents (Elt Ideal) M.view.ty :=
  M.view.writes (Elt Ideal) M.view.junk L

/-- The state of all rows after the stores `L`. -/
def StL (arg9 arg10 arg11 : Memref sig .tc .vmem S4x256x128 .f32) (K q0 : ℕ) (y : Fin 4 → Fin 256 → ℕ → ℝ) (v : ℕ → Fin 128 → ℝ) (L : Tr) : Prop :=
  St K q0 y v (hd arg9 (wr arg9 L.1)) (hd arg10 (wr arg10 L.2.1)) (hd arg11 (wr arg11 L.2.2))

section

variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x256x256 .f32) (harg5 : arg5.IsWhole)
  (arg6 : Memref sig .tc .vmem S1x2048x128 .f32) (harg6 : arg6.IsWhole) (arg7 : Memref sig .tc .vmem S1x2048x128 .f32) (harg7 : arg7.IsWhole) (arg8 : Memref sig .tc .vmem S1x256x256 .f32) (harg8 : arg8.IsWhole)
  (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
  (v28 v33 v42 v47 : FVec Ideal S256x128 .bf16) (v65 c4_i32 v66 v71 v73 c0_i32_31 : BitVec 32)
  (X_arg6 : BufTy.Contents (Elt Ideal) arg6.view.ty) (X_arg7 : BufTy.Contents (Elt Ideal) arg7.view.ty)

/-- Loop 1 takes the state of all rows over its keys on. -/
theorem loop1_St (L : Tr) (K2 : ℕ) (hK2 : K2 = (1024 * ((i 2).val / 4))) (Qr : Fin 4 → Fin 256 → Fin 128 → ℝ) (Kr Vr : ℕ → Fin 128 → ℝ)
    (hQ : ∀ hh p d, (![v28, v33, v42, v47] : Fin 4 → FVec Ideal S256x128 .bf16) hh (ix2 p d) = ((Qr hh p d : ℝ) : EReal))
    (hX6 : ∀ (k : Fin 2048) d, arg6.view.read (Elt Ideal) X_arg6 (ix3 (0 : Fin 1) k d) = ((Kr k.val d : ℝ) : EReal))
    (hX7 : ∀ (k : Fin 2048) d, arg7.view.read (Elt Ideal) X_arg7 (ix3 (0 : Fin 1) k d) = ((Vr k.val d : ℝ) : EReal))
    (hS : StL arg9 arg10 arg11 0 (256 * (i 2).val) (sc Qr Kr) Vr L) :
    StL arg9 arg10 arg11 K2 (256 * (i 2).val) (sc Qr Kr) Vr (app (pb_k0_t1 (F := Ideal) 𝒱 c bd i arg3 harg3 arg4 harg4 arg5 harg5 arg6 harg6 arg7 harg7 arg8 harg8 arg9 harg9 arg10 harg10 arg11 harg11 v28 v33 v42 v47 v65 c4_i32 v66 v71 v73 c0_i32_31 X_arg6 X_arg7 (wr arg9 L.1) (wr arg10 L.2.1) (wr arg11 L.2.2) (Scf.trips (k0_t1_loop i).lb (k0_t1_loop i).ub (k0_t1_loop i).st)) L) := by
  have hn : (i 2).val < 8 := (i 2).isLt
  have e : Scf.trips (k0_t1_loop i).lb (k0_t1_loop i).ub (k0_t1_loop i).st = (i 2).val / 4 := trips1 i
  rcases (by omega : (i 2).val / 4 = 0 ∨ (i 2).val / 4 = 1) with h | h
  · rw [e.trans h]
    obtain rfl : K2 = 0 := by omega
    exact hS
  · rw [e.trans h]
    have hk : 0 < (k0_t1_loop i).trips := by rw [trips1 i]; omega
    have hs : (pb_k0_t1 (F := Ideal) 𝒱 c bd i arg3 harg3 arg4 harg4 arg5 harg5 arg6 harg6 arg7 harg7 arg8 harg8 arg9 harg9 arg10 harg10 arg11 harg11 v28 v33 v42 v47 v65 c4_i32 v66 v71 v73 c0_i32_31 X_arg6 X_arg7 (wr arg9 L.1) (wr arg10 L.2.1) (wr arg11 L.2.2) 1) = ((tripL_k0_t1 (F := Ideal) 𝒱 c bd i arg3 harg3 arg4 harg4 arg5 harg5 arg6 harg6 arg7 harg7 arg8 harg8 arg9 harg9 arg10 harg10 arg11 harg11 v28 v33 v42 v47 v65 c4_i32 v66 v71 v73 c0_i32_31 X_arg6 X_arg7 ⟨0, hk⟩ (wr arg9 L.1) (wr arg10 L.2.1) (wr arg11 L.2.2)).1, (tripL_k0_t1 (F := Ideal) 𝒱 c bd i arg3 harg3 arg4 harg4 arg5 harg5 arg6 harg6 arg7 harg7 arg8 harg8 arg9 harg9 arg10 harg10 arg11 harg11 v28 v33 v42 v47 v65 c4_i32 v66 v71 v73 c0_i32_31 X_arg6 X_arg7 ⟨0, hk⟩ (wr arg9 L.1) (wr arg10 L.2.1) (wr arg11 L.2.2)).2.1, (tripL_k0_t1 (F := Ideal) 𝒱 c bd i arg3 harg3 arg4 harg4 arg5 harg5 arg6 harg6 arg7 harg7 arg8 harg8 arg9 harg9 arg10 harg10 arg11 harg11 v28 v33 v42 v47 v65 c4_i32 v66 v71 v73 c0_i32_31 X_arg6 X_arg7 ⟨0, hk⟩ (wr arg9 L.1) (wr arg10 L.2.1) (wr arg11 L.2.2)).2.2) := by
      refine (pb_k0_t1_succ (F := Ideal) 𝒱 c bd i arg3 harg3 arg4 harg4 arg5 harg5 arg6 harg6 arg7 harg7 arg8 harg8 arg9 harg9 arg10 harg10 arg11 harg11 v28 v33 v42 v47 v65 c4_i32 v66 v71 v73 c0_i32_31 X_arg6 X_arg7 (wr arg9 L.1) (wr arg10 L.2.1) (wr arg11 L.2.2) ⟨0, hk⟩).trans ?_
      show (_ ++ [], _ ++ [], _ ++ []) = _
      rw [List.append_nil, List.append_nil, List.append_nil]
      rfl
    have ht := trip1_St 𝒱 c bd i arg3 harg3 arg4 harg4 arg5 harg5 arg6 harg6 arg7 harg7 arg8 harg8 arg9 harg9 arg10 harg10 arg11 harg11 v28 v33 v42 v47 v65 c4_i32 v66 v71 v73 c0_i32_31 X_arg6 X_arg7 ⟨0, hk⟩ (wr arg9 L.1) (wr arg10 L.2.1) (wr arg11 L.2.2) 0 (256 * (i 2).val) (off1 i ⟨0, hk⟩)
      (by omega) (by omega) Qr Kr Vr hQ hX6 hX7 hS
    obtain rfl : K2 = 0 + 1024 := by omega
    rw [hs]
    unfold StL app wr
    dsimp only
    rw [View.writes_append, View.writes_append, View.writes_append]
    exact ht

end

section

variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x256x256 .f32) (harg5 : arg5.IsWhole)
  (arg6 : Memref sig .tc .vmem S1x2048x128 .f32) (harg6 : arg6.IsWhole) (arg7 : Memref sig .tc .vmem S1x2048x128 .f32) (harg7 : arg7.IsWhole) (arg8 : Memref sig .tc .vmem S1x256x256 .f32) (harg8 : arg8.IsWhole)
  (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
  (v28 v33 v42 v47 : FVec Ideal S256x128 .bf16) (v65 c4_i32 v66 v71 v73 c0_i32_31 v106 : BitVec 32)
  (X_arg6 : BufTy.Contents (Elt Ideal) arg6.view.ty) (X_arg7 : BufTy.Contents (Elt Ideal) arg7.view.ty)

/-- Loop 2 does not run. -/
theorem loop2_St (L : Tr) (K q0 : ℕ) (y : Fin 4 → Fin 256 → ℕ → ℝ) (Vr : ℕ → Fin 128 → ℝ) (hS : StL arg9 arg10 arg11 K q0 y Vr L) :
    StL arg9 arg10 arg11 K q0 y Vr (app (pb_k0_t2 (F := Ideal) 𝒱 c bd i arg3 harg3 arg4 harg4 arg5 harg5 arg6 harg6 arg7 harg7 arg8 harg8 arg9 harg9 arg10 harg10 arg11 harg11 v28 v33 v42 v47 v65 c4_i32 v66 v71 v73 c0_i32_31 v106 X_arg6 X_arg7 (wr arg9 L.1) (wr arg10 L.2.1) (wr arg11 L.2.2) (Scf.trips (k0_t2_loop i).lb (k0_t2_loop i).ub (k0_t2_loop i).st)) L) := by
  have e : Scf.trips (k0_t2_loop i).lb (k0_t2_loop i).ub (k0_t2_loop i).st = 0 := trips2 i
  rw [e]
  exact hS

end

section

variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x256x256 .f32) (harg5 : arg5.IsWhole)
  (arg6 : Memref sig .tc .vmem S1x2048x128 .f32) (harg6 : arg6.IsWhole) (arg7 : Memref sig .tc .vmem S1x2048x128 .f32) (harg7 : arg7.IsWhole) (arg8 : Memref sig .tc .vmem S1x256x256 .f32) (harg8 : arg8.IsWhole)
  (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
  (v4 : BitVec 32) (v28 v33 v42 v47 : FVec Ideal S256x128 .bf16) (v65 v82 v101 v107 c1_i32_49 v112 : BitVec 32)
  (X_arg6 : BufTy.Contents (Elt Ideal) arg6.view.ty) (X_arg7 : BufTy.Contents (Elt Ideal) arg7.view.ty)

/-- Loop 3 takes the state of all rows over its keys on. -/
theorem loop3_St (L : Tr) (K2 : ℕ) (hK2 : K2 = (512 * ((i 2).val / 2))) (Qr : Fin 4 → Fin 256 → Fin 128 → ℝ) (Kr Vr : ℕ → Fin 128 → ℝ)
    (hQ : ∀ hh p d, (![v28, v33, v42, v47] : Fin 4 → FVec Ideal S256x128 .bf16) hh (ix2 p d) = ((Qr hh p d : ℝ) : EReal))
    (hX6 : ∀ (k : Fin 2048) d, arg6.view.read (Elt Ideal) X_arg6 (ix3 (0 : Fin 1) k d) = ((Kr k.val d : ℝ) : EReal))
    (hX7 : ∀ (k : Fin 2048) d, arg7.view.read (Elt Ideal) X_arg7 (ix3 (0 : Fin 1) k d) = ((Vr k.val d : ℝ) : EReal))
    (hS : StL arg9 arg10 arg11 (1024 * ((i 2).val / 4)) (256 * (i 2).val) (sc Qr Kr) Vr L) :
    StL arg9 arg10 arg11 K2 (256 * (i 2).val) (sc Qr Kr) Vr (app (pb_k0_t3 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 X_arg6 X_arg7 (wr arg9 L.1) (wr arg10 L.2.1) (wr arg11 L.2.2) (Scf.trips (k0_t3_loop i).lb (k0_t3_loop i).ub (k0_t3_loop i).st)) L) := by
  have hn : (i 2).val < 8 := (i 2).isLt
  have e : Scf.trips (k0_t3_loop i).lb (k0_t3_loop i).ub (k0_t3_loop i).st = (i 2).val % 4 / 2 := trips3 i
  rcases (by omega : (i 2).val % 4 / 2 = 0 ∨ (i 2).val % 4 / 2 = 1) with h | h
  · rw [e.trans h]
    obtain rfl : K2 = (1024 * ((i 2).val / 4)) := by omega
    exact hS
  · rw [e.trans h]
    have hk : 0 < (k0_t3_loop i).trips := by rw [trips3 i]; omega
    have hs : (pb_k0_t3 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 X_arg6 X_arg7 (wr arg9 L.1) (wr arg10 L.2.1) (wr arg11 L.2.2) 1) = ((tripL_k0_t3 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 X_arg6 X_arg7 ⟨0, hk⟩ (wr arg9 L.1) (wr arg10 L.2.1) (wr arg11 L.2.2)).1, (tripL_k0_t3 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 X_arg6 X_arg7 ⟨0, hk⟩ (wr arg9 L.1) (wr arg10 L.2.1) (wr arg11 L.2.2)).2.1, (tripL_k0_t3 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 X_arg6 X_arg7 ⟨0, hk⟩ (wr arg9 L.1) (wr arg10 L.2.1) (wr arg11 L.2.2)).2.2) := by
      refine (pb_k0_t3_succ (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 X_arg6 X_arg7 (wr arg9 L.1) (wr arg10 L.2.1) (wr arg11 L.2.2) ⟨0, hk⟩).trans ?_
      show (_ ++ [], _ ++ [], _ ++ []) = _
      rw [List.append_nil, List.append_nil, List.append_nil]
      rfl
    have ht := trip3_St 𝒱 c bd i arg3 harg3 arg4 harg4 arg5 harg5 arg6 harg6 arg7 harg7 arg8 harg8 arg9 harg9 arg10 harg10 arg11 harg11 v4 v28 v33 v42 v47 v65 v82 v101 v107 c1_i32_49 v112 X_arg6 X_arg7 ⟨0, hk⟩ (wr arg9 L.1) (wr arg10 L.2.1) (wr arg11 L.2.2) (1024 * ((i 2).val / 4)) (256 * (i 2).val) (off3 i ⟨0, hk⟩)
      (by omega) (by omega) Qr Kr Vr hQ hX6 hX7 hS
    obtain rfl : K2 = (1024 * ((i 2).val / 4)) + 512 := by omega
    rw [hs]
    unfold StL app wr
    dsimp only
    rw [View.writes_append, View.writes_append, View.writes_append]
    exact ht

end

section

variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x256x256 .f32) (harg5 : arg5.IsWhole)
  (arg6 : Memref sig .tc .vmem S1x2048x128 .f32) (harg6 : arg6.IsWhole) (arg7 : Memref sig .tc .vmem S1x2048x128 .f32) (harg7 : arg7.IsWhole) (arg8 : Memref sig .tc .vmem S1x256x256 .f32) (harg8 : arg8.IsWhole)
  (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
  (v4 : BitVec 32) (v28 v33 v42 v47 : FVec Ideal S256x128 .bf16) (v65 v82 v101 v107 c1_i32_49 v112 v114 : BitVec 32)
  (X_arg6 : BufTy.Contents (Elt Ideal) arg6.view.ty) (X_arg7 : BufTy.Contents (Elt Ideal) arg7.view.ty)

/-- Loop 4 does not run. -/
theorem loop4_St (L : Tr) (K q0 : ℕ) (y : Fin 4 → Fin 256 → ℕ → ℝ) (Vr : ℕ → Fin 128 → ℝ) (hS : StL arg9 arg10 arg11 K q0 y Vr L) :
    StL arg9 arg10 arg11 K q0 y Vr (app (pb_k0_t4 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 v114 X_arg6 X_arg7 (wr arg9 L.1) (wr arg10 L.2.1) (wr arg11 L.2.2) (Scf.trips (k0_t4_loop i).lb (k0_t4_loop i).ub (k0_t4_loop i).st)) L) := by
  have e : Scf.trips (k0_t4_loop i).lb (k0_t4_loop i).ub (k0_t4_loop i).st = 0 := trips4 i
  rw [e]
  exact hS

end

section

variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x256x256 .f32) (harg5 : arg5.IsWhole)
  (arg6 : Memref sig .tc .vmem S1x2048x128 .f32) (harg6 : arg6.IsWhole) (arg7 : Memref sig .tc .vmem S1x2048x128 .f32) (harg7 : arg7.IsWhole) (arg8 : Memref sig .tc .vmem S1x256x256 .f32) (harg8 : arg8.IsWhole)
  (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
  (v4 : BitVec 32) (v28 v33 v42 v47 : FVec Ideal S256x128 .bf16) (v65 v82 v101 v107 c1_i32_49 v112 v117 : BitVec 32)
  (X_arg6 : BufTy.Contents (Elt Ideal) arg6.view.ty) (X_arg7 : BufTy.Contents (Elt Ideal) arg7.view.ty)

/-- Loop 5 takes the state of all rows over its keys on. -/
theorem loop5_St (L : Tr) (K2 : ℕ) (hK2 : K2 = (256 * (i 2).val)) (Qr : Fin 4 → Fin 256 → Fin 128 → ℝ) (Kr Vr : ℕ → Fin 128 → ℝ)
    (hQ : ∀ hh p d, (![v28, v33, v42, v47] : Fin 4 → FVec Ideal S256x128 .bf16) hh (ix2 p d) = ((Qr hh p d : ℝ) : EReal))
    (hX6 : ∀ (k : Fin 2048) d, arg6.view.read (Elt Ideal) X_arg6 (ix3 (0 : Fin 1) k d) = ((Kr k.val d : ℝ) : EReal))
    (hX7 : ∀ (k : Fin 2048) d, arg7.view.read (Elt Ideal) X_arg7 (ix3 (0 : Fin 1) k d) = ((Vr k.val d : ℝ) : EReal))
    (hS : StL arg9 arg10 arg11 (512 * ((i 2).val / 2)) (256 * (i 2).val) (sc Qr Kr) Vr L) :
    StL arg9 arg10 arg11 K2 (256 * (i 2).val) (sc Qr Kr) Vr (app (pb_k0_t5 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 v117 X_arg6 X_arg7 (wr arg9 L.1) (wr arg10 L.2.1) (wr arg11 L.2.2) (Scf.trips (k0_t5_loop i).lb (k0_t5_loop i).ub (k0_t5_loop i).st)) L) := by
  have hn : (i 2).val < 8 := (i 2).isLt
  have e : Scf.trips (k0_t5_loop i).lb (k0_t5_loop i).ub (k0_t5_loop i).st = (i 2).val % 2 := trips5 i
  rcases (by omega : (i 2).val % 2 = 0 ∨ (i 2).val % 2 = 1) with h | h
  · rw [e.trans h]
    obtain rfl : K2 = (512 * ((i 2).val / 2)) := by omega
    exact hS
  · rw [e.trans h]
    have hk : 0 < (k0_t5_loop i).trips := by rw [trips5 i]; omega
    have hs : (pb_k0_t5 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 v117 X_arg6 X_arg7 (wr arg9 L.1) (wr arg10 L.2.1) (wr arg11 L.2.2) 1) = ((tripL_k0_t5 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 v117 X_arg6 X_arg7 ⟨0, hk⟩ (wr arg9 L.1) (wr arg10 L.2.1) (wr arg11 L.2.2)).1, (tripL_k0_t5 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 v117 X_arg6 X_arg7 ⟨0, hk⟩ (wr arg9 L.1) (wr arg10 L.2.1) (wr arg11 L.2.2)).2.1, (tripL_k0_t5 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 v117 X_arg6 X_arg7 ⟨0, hk⟩ (wr arg9 L.1) (wr arg10 L.2.1) (wr arg11 L.2.2)).2.2) := by
      refine (pb_k0_t5_succ (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 v117 X_arg6 X_arg7 (wr arg9 L.1) (wr arg10 L.2.1) (wr arg11 L.2.2) ⟨0, hk⟩).trans ?_
      show (_ ++ [], _ ++ [], _ ++ []) = _
      rw [List.append_nil, List.append_nil, List.append_nil]
      rfl
    have ht := trip5_St 𝒱 c bd i arg3 harg3 arg4 harg4 arg5 harg5 arg6 harg6 arg7 harg7 arg8 harg8 arg9 harg9 arg10 harg10 arg11 harg11 v4 v28 v33 v42 v47 v65 v82 v101 v107 c1_i32_49 v112 v117 X_arg6 X_arg7 ⟨0, hk⟩ (wr arg9 L.1) (wr arg10 L.2.1) (wr arg11 L.2.2) (512 * ((i 2).val / 2)) (256 * (i 2).val) (off5 i ⟨0, hk⟩)
      (by omega) (by omega) Qr Kr Vr hQ hX6 hX7 hS
    obtain rfl : K2 = (512 * ((i 2).val / 2)) + 256 := by omega
    rw [hs]
    unfold StL app wr
    dsimp only
    rw [View.writes_append, View.writes_append, View.writes_append]
    exact ht

end

section

variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x256x256 .f32) (harg5 : arg5.IsWhole)
  (arg6 : Memref sig .tc .vmem S1x2048x128 .f32) (harg6 : arg6.IsWhole) (arg7 : Memref sig .tc .vmem S1x2048x128 .f32) (harg7 : arg7.IsWhole) (arg8 : Memref sig .tc .vmem S1x256x256 .f32) (harg8 : arg8.IsWhole)
  (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
  (v4 : BitVec 32) (v28 v33 v42 v47 : FVec Ideal S256x128 .bf16) (v65 v82 v101 v107 c1_i32_49 v112 v122 : BitVec 32)
  (X_arg6 : BufTy.Contents (Elt Ideal) arg6.view.ty) (X_arg7 : BufTy.Contents (Elt Ideal) arg7.view.ty)

/-- Loop 6 does not run. -/
theorem loop6_St (L : Tr) (K q0 : ℕ) (y : Fin 4 → Fin 256 → ℕ → ℝ) (Vr : ℕ → Fin 128 → ℝ) (hS : StL arg9 arg10 arg11 K q0 y Vr L) :
    StL arg9 arg10 arg11 K q0 y Vr (app (pb_k0_t6 (F := Ideal) 𝒱 c bd i arg3 harg3 arg4 harg4 arg5 harg5 arg6 harg6 arg7 harg7 arg8 harg8 arg9 harg9 arg10 harg10 arg11 harg11 v4 v28 v33 v42 v47 v65 v82 v101 v107 c1_i32_49 v112 v122 X_arg6 X_arg7 (wr arg9 L.1) (wr arg10 L.2.1) (wr arg11 L.2.2) (Scf.trips (k0_t6_loop i).lb (k0_t6_loop i).ub (k0_t6_loop i).st)) L) := by
  have e : Scf.trips (k0_t6_loop i).lb (k0_t6_loop i).ub (k0_t6_loop i).st = 0 := trips6 i
  rw [e]
  exact hS

end

section

variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x256x256 .f32) (harg5 : arg5.IsWhole)
  (arg6 : Memref sig .tc .vmem S1x2048x128 .f32) (harg6 : arg6.IsWhole) (arg7 : Memref sig .tc .vmem S1x2048x128 .f32) (harg7 : arg7.IsWhole) (arg8 : Memref sig .tc .vmem S1x256x256 .f32) (harg8 : arg8.IsWhole)
  (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
  (v7 : IVec S256x1 32) (v28 v33 v42 v47 : FVec Ideal S256x128 .bf16) (v65 v147 c1_i32_70 : BitVec 32)
  (X_arg6 : BufTy.Contents (Elt Ideal) arg6.view.ty) (X_arg7 : BufTy.Contents (Elt Ideal) arg7.view.ty)

/-- Loop 7 takes the state of all rows over its keys on. -/
theorem loop7_St (L : Tr) (K2 : ℕ) (hK2 : K2 = (256 * (i 2).val + 256)) (Qr : Fin 4 → Fin 256 → Fin 128 → ℝ) (Kr Vr : ℕ → Fin 128 → ℝ)
    (hQ : ∀ hh p d, (![v28, v33, v42, v47] : Fin 4 → FVec Ideal S256x128 .bf16) hh (ix2 p d) = ((Qr hh p d : ℝ) : EReal))
    (hX6 : ∀ (k : Fin 2048) d, arg6.view.read (Elt Ideal) X_arg6 (ix3 (0 : Fin 1) k d) = ((Kr k.val d : ℝ) : EReal))
    (hX7 : ∀ (k : Fin 2048) d, arg7.view.read (Elt Ideal) X_arg7 (ix3 (0 : Fin 1) k d) = ((Vr k.val d : ℝ) : EReal))
    (hiv : ∀ k : Fin (k0_t7_loop i).trips, Scf.iv v65 1#32 k = BitVec.ofNat 32 (i 2).val)
    (hS : StL arg9 arg10 arg11 (256 * (i 2).val) (256 * (i 2).val) (sc Qr Kr) Vr L) :
    StL arg9 arg10 arg11 K2 (256 * (i 2).val) (sc Qr Kr) Vr (app (pb_k0_t7 (F := Ideal) 𝒱 c bd i arg3 harg3 arg4 harg4 arg5 harg5 arg6 harg6 arg7 harg7 arg8 harg8 arg9 harg9 arg10 harg10 arg11 harg11 (k0_pay515 i) v28 v33 v42 v47 v65 v147 1#32 X_arg6 X_arg7 (wr arg9 L.1) (wr arg10 L.2.1) (wr arg11 L.2.2) (Scf.trips (k0_t7_loop i).lb (k0_t7_loop i).ub (k0_t7_loop i).st)) L) := by
  have hn : (i 2).val < 8 := (i 2).isLt
  have e : Scf.trips (k0_t7_loop i).lb (k0_t7_loop i).ub (k0_t7_loop i).st = 1 := trips7 i
  rw [e]
  have hk : 0 < (k0_t7_loop i).trips := by rw [trips7 i]; exact Nat.one_pos
  have hs : (pb_k0_t7 (F := Ideal) 𝒱 c bd i arg3 harg3 arg4 harg4 arg5 harg5 arg6 harg6 arg7 harg7 arg8 harg8 arg9 harg9 arg10 harg10 arg11 harg11 (k0_pay515 i) v28 v33 v42 v47 v65 v147 1#32 X_arg6 X_arg7 (wr arg9 L.1) (wr arg10 L.2.1) (wr arg11 L.2.2) 1) = ((tripL_k0_t7 (F := Ideal) 𝒱 c bd i arg3 harg3 arg4 harg4 arg5 harg5 arg6 harg6 arg7 harg7 arg8 harg8 arg9 harg9 arg10 harg10 arg11 harg11 (k0_pay515 i) v28 v33 v42 v47 v65 v147 1#32 X_arg6 X_arg7 ⟨0, hk⟩ (wr arg9 L.1) (wr arg10 L.2.1) (wr arg11 L.2.2)).1, (tripL_k0_t7 (F := Ideal) 𝒱 c bd i arg3 harg3 arg4 harg4 arg5 harg5 arg6 harg6 arg7 harg7 arg8 harg8 arg9 harg9 arg10 harg10 arg11 harg11 (k0_pay515 i) v28 v33 v42 v47 v65 v147 1#32 X_arg6 X_arg7 ⟨0, hk⟩ (wr arg9 L.1) (wr arg10 L.2.1) (wr arg11 L.2.2)).2.1, (tripL_k0_t7 (F := Ideal) 𝒱 c bd i arg3 harg3 arg4 harg4 arg5 harg5 arg6 harg6 arg7 harg7 arg8 harg8 arg9 harg9 arg10 harg10 arg11 harg11 (k0_pay515 i) v28 v33 v42 v47 v65 v147 1#32 X_arg6 X_arg7 ⟨0, hk⟩ (wr arg9 L.1) (wr arg10 L.2.1) (wr arg11 L.2.2)).2.2) := by
    refine (pb_k0_t7_succ (F := Ideal) 𝒱 c bd i arg3 harg3 arg4 harg4 arg5 harg5 arg6 harg6 arg7 harg7 arg8 harg8 arg9 harg9 arg10 harg10 arg11 harg11 (k0_pay515 i) v28 v33 v42 v47 v65 v147 1#32 X_arg6 X_arg7 (wr arg9 L.1) (wr arg10 L.2.1) (wr arg11 L.2.2) ⟨0, hk⟩).trans ?_
    show (_ ++ [], _ ++ [], _ ++ []) = _
    rw [List.append_nil, List.append_nil, List.append_nil]
    rfl
  have ht := trip7_St 𝒱 c bd i arg3 harg3 arg4 harg4 arg5 harg5 arg6 harg6 arg7 harg7 arg8 harg8 arg9 harg9 arg10 harg10 arg11 harg11 (k0_pay515 i) v28 v33 v42 v47 v65 v147 1#32 X_arg6 X_arg7 ⟨0, hk⟩ (wr arg9 L.1) (wr arg10 L.2.1) (wr arg11 L.2.2) (256 * (i 2).val) (256 * (i 2).val) (off7 i ⟨0, hk⟩)
    (by omega) (by omega) Qr Kr Vr hQ hX6 hX7 (bias415 i v65 ⟨0, hk⟩ (hiv _)) (bias416 i v65 ⟨0, hk⟩ (hiv _)) hS
  obtain rfl : K2 = (256 * (i 2).val) + 256 := by omega
  rw [hs]
  unfold StL app wr
  dsimp only
  rw [View.writes_append, View.writes_append, View.writes_append]
  exact ht

end

section

variable (𝒱 : Variants) (c : Dev nD) (bd : Option 𝒱.V) (i : grid0.Coords) (arg3 : Memref sig .tc .vmem S4x64 .f32) (harg3 : arg3.IsWhole) (arg4 : Memref sig .tc .vmem S1x128 .f32) (harg4 : arg4.IsWhole) (arg5 : Memref sig .tc .vmem S1x256x256 .f32) (harg5 : arg5.IsWhole)
  (arg6 : Memref sig .tc .vmem S1x2048x128 .f32) (harg6 : arg6.IsWhole) (arg7 : Memref sig .tc .vmem S1x2048x128 .f32) (harg7 : arg7.IsWhole) (arg8 : Memref sig .tc .vmem S1x256x256 .f32) (harg8 : arg8.IsWhole)
  (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
  (v7 : IVec S256x1 32) (v28 v33 v42 v47 : FVec Ideal S256x128 .bf16) (v65 v147 c1_i32_70 : BitVec 32)
  (X_arg6 : BufTy.Contents (Elt Ideal) arg6.view.ty) (X_arg7 : BufTy.Contents (Elt Ideal) arg7.view.ty)

/-- Loop 8 does not run. -/
theorem loop8_St (L : Tr) (K q0 : ℕ) (y : Fin 4 → Fin 256 → ℕ → ℝ) (Vr : ℕ → Fin 128 → ℝ) (hS : StL arg9 arg10 arg11 K q0 y Vr L) :
    StL arg9 arg10 arg11 K q0 y Vr (app (pb_k0_t8 (F := Ideal) 𝒱 c bd i arg3 harg3 arg4 harg4 arg5 harg5 arg6 harg6 arg7 harg7 arg8 harg8 arg9 harg9 arg10 harg10 arg11 harg11 v7 v28 v33 v42 v47 v65 v147 c1_i32_70 X_arg6 X_arg7 (wr arg9 L.1) (wr arg10 L.2.1) (wr arg11 L.2.2) (Scf.trips (k0_t8_loop i).lb (k0_t8_loop i).ub (k0_t8_loop i).st)) L) := by
  have e : Scf.trips (k0_t8_loop i).lb (k0_t8_loop i).ub (k0_t8_loop i).st = 0 := trips8 i
  rw [e]
  exact hS

end

end Diff
-- ==== Proof.Final.lean ====
module

public import proofs.«01_k».proof.Proof.Chain

public import Idealize.ShloMosaic.Lib.WholeRead

@[expose] public section

set_option maxRecDepth 16384

noncomputable section

namespace Diff

open Idealize.ShloMosaic Finset Cert.KernelIdeal Cert.KernelIdeal.Gen

theorem qk_named : (Named.named (F := Ideal) Cert.KernelIdeal.κ "qk_scale" (φ := .f32) 0x3E38AA3B#32) = (((8 * (Real.log 2))⁻¹ : ℝ) : EReal) :=
  IdealRules.named_const.ideal_named_scalar _ _ _ _ rfl

/-- The queries of one head: one half of the lanes kept, scaled, the other half zero. -/
def qH (xr : Fin 256 → Fin 256 → ℝ) (hh : Fin 4) (p : Fin 256) (d : Fin 128) : ℝ :=
  if d.val / 64 = hh.val % 2 then xr p ⟨128 * (hh.val / 2) + d.val, by have := d.isLt; have := hh.isLt; omega⟩ * (8 * Real.log 2)⁻¹ else 0

/-- Which half a lane lies in. -/
theorem half_apply : ∀ d : Fin 128, IntOp.cmpi CmpIPredicate.sge (BitVec.ofNat 32 d.val) 64#32 = BitVec.ofBool (decide (d.val / 64 = 1)) := by decide +kernel

theorem qh0 (x : FVec Ideal S1x256x128 .f32) (xr : Fin 256 → Fin 256 → ℝ)
    (hx : ∀ (p : Fin 256) (d : Fin 128), x (ix3 (0 : Fin 1) p d) = ((xr p ⟨128 * 0 + d.val, by have := d.isLt; omega⟩ : ℝ) : EReal))
    (p : Fin 256) (d : Fin 128) : (k0_pay520 (F := Ideal) x) (ix2 p d) = ((qH xr 0 p d : ℝ) : EReal) := by
  have hd := d.isLt
  unfold k0_pay520 k0_pay519 k0_pay514
  pointwise
  have hs : Ideal.ofBits .f32 0x00000000#32 = (0 : EReal) := by simp [Ideal.ofBits, Ideal.ieee]
  simp only [half_apply, qk_named, hx]
  unfold qH
  by_cases h : d.val / 64 = 1
  · rw [if_neg (by rw [h]; decide)]
    simp [h, Scalar.select, hs, EReal.coe_mul]
  · have h0 : d.val / 64 = 0 := by omega
    rw [if_pos (by rw [h0]; rfl)]
    simp [h0, Scalar.select, hs, EReal.coe_mul]

theorem qh1 (x : FVec Ideal S1x256x128 .f32) (xr : Fin 256 → Fin 256 → ℝ)
    (hx : ∀ (p : Fin 256) (d : Fin 128), x (ix3 (0 : Fin 1) p d) = ((xr p ⟨128 * 0 + d.val, by have := d.isLt; omega⟩ : ℝ) : EReal))
    (p : Fin 256) (d : Fin 128) : (k0_pay522 (F := Ideal) (k0_pay521 (F := Ideal) x)) (ix2 p d) = ((qH xr 1 p d : ℝ) : EReal) := by
  have hd := d.isLt
  unfold k0_pay522 k0_pay521 k0_pay519 k0_pay514
  pointwise
  have hs : Ideal.ofBits .f32 0x00000000#32 = (0 : EReal) := by simp [Ideal.ofBits, Ideal.ieee]
  simp only [half_apply, qk_named, hx]
  unfold qH
  by_cases h : d.val / 64 = 1
  · rw [if_pos (by rw [h]; rfl)]
    simp [h, Scalar.select, hs, EReal.coe_mul]
  · have h0 : d.val / 64 = 0 := by omega
    rw [if_neg (by rw [h0]; decide)]
    simp [h0, Scalar.select, hs, EReal.coe_mul]

theorem qh2 (x : FVec Ideal S1x256x128 .f32) (xr : Fin 256 → Fin 256 → ℝ)
    (hx : ∀ (p : Fin 256) (d : Fin 128), x (ix3 (0 : Fin 1) p d) = ((xr p ⟨128 * 1 + d.val, by have := d.isLt; omega⟩ : ℝ) : EReal))
    (p : Fin 256) (d : Fin 128) : (k0_pay524 (F := Ideal) k0_pay514 x) (ix2 p d) = ((qH xr 2 p d : ℝ) : EReal) := by
  have hd := d.isLt
  unfold k0_pay524 k0_pay523 k0_pay514
  pointwise
  have hs : Ideal.ofBits .f32 0x00000000#32 = (0 : EReal) := by simp [Ideal.ofBits, Ideal.ieee]
  simp only [half_apply, qk_named, hx]
  unfold qH
  by_cases h : d.val / 64 = 1
  · rw [if_neg (by rw [h]; decide)]
    simp [h, Scalar.select, hs, EReal.coe_mul]
  · have h0 : d.val / 64 = 0 := by omega
    rw [if_pos (by rw [h0]; rfl)]
    simp [h0, Scalar.select, hs, EReal.coe_mul]

theorem qh3 (x : FVec Ideal S1x256x128 .f32) (xr : Fin 256 → Fin 256 → ℝ)
    (hx : ∀ (p : Fin 256) (d : Fin 128), x (ix3 (0 : Fin 1) p d) = ((xr p ⟨128 * 1 + d.val, by have := d.isLt; omega⟩ : ℝ) : EReal))
    (p : Fin 256) (d : Fin 128) : (k0_pay525 (F := Ideal) k0_pay514 x) (ix2 p d) = ((qH xr 3 p d : ℝ) : EReal) := by
  have hd := d.isLt
  unfold k0_pay525 k0_pay523 k0_pay514
  pointwise
  have hs : Ideal.ofBits .f32 0x00000000#32 = (0 : EReal) := by simp [Ideal.ofBits, Ideal.ieee]
  simp only [half_apply, qk_named, hx]
  unfold qH
  by_cases h : d.val / 64 = 1
  · rw [if_pos (by rw [h]; rfl)]
    simp [h, Scalar.select, hs, EReal.coe_mul]
  · have h0 : d.val / 64 = 0 := by omega
    rw [if_neg (by rw [h0]; decide)]
    simp [h0, Scalar.select, hs, EReal.coe_mul]

theorem hd_init {sp : Space} (M : Memref sig .tc sp S4x256x128 .f32) (f : BufTy.Contents (Elt Ideal) M.view.ty) (x : FVec Ideal S4x256x128 .f32)
    (inb) (hh : Fin 4) (p : Fin 256) (e : Fin 128) :
    hd M (M.view.writes (Elt Ideal) f [⟨Rect.unit (s := S4x256x128) ![0, 0, 0] S4x256x128.size inb, x⟩]) hh (ix2 p e) = x (ix3 hh p e) := by
  show M.view.read (Elt Ideal) _ (ix3 hh p e) = _
  exact View.read_writes_cons_unit_of_mem M.view f inb x [] (ix3 hh p e) (ix3 hh p e) rfl (by
    intro a
    match a with
    | ⟨0, _⟩ => show hh.val = 0 + hh.val; omega
    | ⟨1, _⟩ => show p.val = 0 + p.val; omega
    | ⟨2, _⟩ => show e.val = 0 + e.val; omega)

theorem pay516_apply (hh : Fin 4) (p : Fin 256) (e : Fin 128) : k0_pay516 (F := Ideal) (ix3 hh p e) = (⊥ : EReal) := by
  unfold k0_pay516
  pointwise
  exact IdealRules.named_const.ideal_named_scalar _ _ _ _ rfl

theorem pay517_apply (hh : Fin 4) (p : Fin 256) (e : Fin 128) : k0_pay517 (F := Ideal) (ix3 hh p e) = (0 : EReal) := by
  unfold k0_pay517
  pointwise
  try simp [Ideal.ofBits, Ideal.ieee]

theorem pay518_apply (hh : Fin 4) (p : Fin 256) (e : Fin 128) : k0_pay518 (F := Ideal) (ix3 hh p e) = (0 : EReal) := by
  unfold k0_pay518
  pointwise
  try simp [Ideal.ofBits, Ideal.ieee]

section

variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x256x256 .f32) (harg5 : arg5.IsWhole)
  (arg6 : Memref sig .tc .vmem S1x2048x128 .f32) (harg6 : arg6.IsWhole) (arg7 : Memref sig .tc .vmem S1x2048x128 .f32) (harg7 : arg7.IsWhole) (arg8 : Memref sig .tc .vmem S1x256x256 .f32) (harg8 : arg8.IsWhole)
  (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
  (x0 : FVec Ideal S4x64 .f32) (x1 : FVec Ideal S1x128 .f32) (x2 : FVec Ideal S1x256x256 .f32) (x3 x4 : FVec Ideal S1x2048x128 .f32)

/-- The initial stores to the scratch arrays. -/
def L0 : Tr := (kernelRun0_A.sl.HS0_1, kernelRun0_A.sl.HS1_1, kernelRun0_A.sl.HS2_1)

theorem L0_St (q0 : ℕ) (y : Fin 4 → Fin 256 → ℕ → ℝ) (v : ℕ → Fin 128 → ℝ) : StL arg9 arg10 arg11 0 q0 y v L0 := by
  intro hh p
  refine Or.inl ⟨rfl, fun e => ⟨?_, ?_, ?_⟩⟩
  · exact (hd_init arg9 _ _ _ hh p e).trans (pay516_apply hh p e)
  · exact (hd_init arg10 _ _ _ hh p e).trans (pay517_apply hh p e)
  · exact (hd_init arg11 _ _ _ hh p e).trans (pay518_apply hh p e)

/-- The stores after loop 1. -/
def L1 : Tr := app (pb_k0_t1 (F := Ideal) Variants.none c none i arg3 harg3 arg4 harg4 arg5 harg5 arg6 harg6 arg7 harg7 arg8 harg8 arg9 harg9 arg10 harg10 arg11 harg11 (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) 4#32 (kernelRun0_A.sl.v66 i) (kernelRun0_A.sl.v71 i) 1#32 0#32 (harg6.unread x3) (harg7.unread x4)
  (wr arg9 L0.1) (wr arg10 L0.2.1) (wr arg11 L0.2.2) (Scf.trips (k0_t1_loop i).lb (k0_t1_loop i).ub (k0_t1_loop i).st)) L0

/-- The stores after loop 2. -/
def L2 : Tr := app (pb_k0_t2 (F := Ideal) Variants.none c none i arg3 harg3 arg4 harg4 arg5 harg5 arg6 harg6 arg7 harg7 arg8 harg8 arg9 harg9 arg10 harg10 arg11 harg11 (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) 4#32 (kernelRun0_A.sl.v66 i) (kernelRun0_A.sl.v71 i) 1#32 0#32 (kernelRun0_A.sl.v106 i) (harg6.unread x3) (harg7.unread x4)
  (wr arg9 (L1 c i arg3 harg3 arg4 harg4 arg5 harg5 arg6 harg6 arg7 harg7 arg8 harg8 arg9 harg9 arg10 harg10 arg11 harg11 x2 x3 x4).1) (wr arg10 (L1 c i arg3 harg3 arg4 harg4 arg5 harg5 arg6 harg6 arg7 harg7 arg8 harg8 arg9 harg9 arg10 harg10 arg11 harg11 x2 x3 x4).2.1) (wr arg11 (L1 c i arg3 harg3 arg4 harg4 arg5 harg5 arg6 harg6 arg7 harg7 arg8 harg8 arg9 harg9 arg10 harg10 arg11 harg11 x2 x3 x4).2.2) (Scf.trips (k0_t2_loop i).lb (k0_t2_loop i).ub (k0_t2_loop i).st)) (L1 c i arg3 harg3 arg4 harg4 arg5 harg5 arg6 harg6 arg7 harg7 arg8 harg8 arg9 harg9 arg10 harg10 arg11 harg11 x2 x3 x4)

/-- The stores after loop 3. -/
def L3 : Tr := app (pb_k0_t3 (F := Ideal) Variants.none c none i arg3 harg3 arg4 harg4 arg5 harg5 arg6 harg6 arg7 harg7 arg8 harg8 arg9 harg9 arg10 harg10 arg11 harg11 (kernelRun0_A.sl.v4 i) (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) (kernelRun0_A.sl.v82 i) (kernelRun0_A.sl.v101 i) (kernelRun0_A.sl.v107 i) 1#32 (kernelRun0_A.sl.v112 i) (harg6.unread x3) (harg7.unread x4)
  (wr arg9 (L2 c i arg3 harg3 arg4 harg4 arg5 harg5 arg6 harg6 arg7 harg7 arg8 harg8 arg9 harg9 arg10 harg10 arg11 harg11 x2 x3 x4).1) (wr arg10 (L2 c i arg3 harg3 arg4 harg4 arg5 harg5 arg6 harg6 arg7 harg7 arg8 harg8 arg9 harg9 arg10 harg10 arg11 harg11 x2 x3 x4).2.1) (wr arg11 (L2 c i arg3 harg3 arg4 harg4 arg5 harg5 arg6 harg6 arg7 harg7 arg8 harg8 arg9 harg9 arg10 harg10 arg11 harg11 x2 x3 x4).2.2) (Scf.trips (k0_t3_loop i).lb (k0_t3_loop i).ub (k0_t3_loop i).st)) (L2 c i arg3 harg3 arg4 harg4 arg5 harg5 arg6 harg6 arg7 harg7 arg8 harg8 arg9 harg9 arg10 harg10 arg11 harg11 x2 x3 x4)

/-- The stores after loop 4. -/
def L4 : Tr := app (pb_k0_t4 (F := Ideal) Variants.none c none i arg3 harg3 arg4 harg4 arg5 harg5 arg6 harg6 arg7 harg7 arg8 harg8 arg9 harg9 arg10 harg10 arg11 harg11 (kernelRun0_A.sl.v4 i) (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) (kernelRun0_A.sl.v82 i) (kernelRun0_A.sl.v101 i) (kernelRun0_A.sl.v107 i) 1#32 (kernelRun0_A.sl.v112 i) (kernelRun0_A.sl.v114 i) (harg6.unread x3) (harg7.unread x4)
  (wr arg9 (L3 c i arg3 harg3 arg4 harg4 arg5 harg5 arg6 harg6 arg7 harg7 arg8 harg8 arg9 harg9 arg10 harg10 arg11 harg11 x2 x3 x4).1) (wr arg10 (L3 c i arg3 harg3 arg4 harg4 arg5 harg5 arg6 harg6 arg7 harg7 arg8 harg8 arg9 harg9 arg10 harg10 arg11 harg11 x2 x3 x4).2.1) (wr arg11 (L3 c i arg3 harg3 arg4 harg4 arg5 harg5 arg6 harg6 arg7 harg7 arg8 harg8 arg9 harg9 arg10 harg10 arg11 harg11 x2 x3 x4).2.2) (Scf.trips (k0_t4_loop i).lb (k0_t4_loop i).ub (k0_t4_loop i).st)) (L3 c i arg3 harg3 arg4 harg4 arg5 harg5 arg6 harg6 arg7 harg7 arg8 harg8 arg9 harg9 arg10 harg10 arg11 harg11 x2 x3 x4)

/-- The stores after loop 5. -/
def L5 : Tr := app (pb_k0_t5 (F := Ideal) Variants.none c none i arg3 harg3 arg4 harg4 arg5 harg5 arg6 harg6 arg7 harg7 arg8 harg8 arg9 harg9 arg10 harg10 arg11 harg11 (kernelRun0_A.sl.v4 i) (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) (kernelRun0_A.sl.v82 i) (kernelRun0_A.sl.v101 i) (kernelRun0_A.sl.v107 i) 1#32 (kernelRun0_A.sl.v112 i) (kernelRun0_A.sl.v117 i) (harg6.unread x3) (harg7.unread x4)
  (wr arg9 (L4 c i arg3 harg3 arg4 harg4 arg5 harg5 arg6 harg6 arg7 harg7 arg8 harg8 arg9 harg9 arg10 harg10 arg11 harg11 x2 x3 x4).1) (wr arg10 (L4 c i arg3 harg3 arg4 harg4 arg5 harg5 arg6 harg6 arg7 harg7 arg8 harg8 arg9 harg9 arg10 harg10 arg11 harg11 x2 x3 x4).2.1) (wr arg11 (L4 c i arg3 harg3 arg4 harg4 arg5 harg5 arg6 harg6 arg7 harg7 arg8 harg8 arg9 harg9 arg10 harg10 arg11 harg11 x2 x3 x4).2.2) (Scf.trips (k0_t5_loop i).lb (k0_t5_loop i).ub (k0_t5_loop i).st)) (L4 c i arg3 harg3 arg4 harg4 arg5 harg5 arg6 harg6 arg7 harg7 arg8 harg8 arg9 harg9 arg10 harg10 arg11 harg11 x2 x3 x4)

/-- The stores after loop 6. -/
def L6 : Tr := app (pb_k0_t6 (F := Ideal) Variants.none c none i arg3 harg3 arg4 harg4 arg5 harg5 arg6 harg6 arg7 harg7 arg8 harg8 arg9 harg9 arg10 harg10 arg11 harg11 (kernelRun0_A.sl.v4 i) (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) (kernelRun0_A.sl.v82 i) (kernelRun0_A.sl.v101 i) (kernelRun0_A.sl.v107 i) 1#32 (kernelRun0_A.sl.v112 i) (kernelRun0_A.sl.v122 i) (harg6.unread x3) (harg7.unread x4)
  (wr arg9 (L5 c i arg3 harg3 arg4 harg4 arg5 harg5 arg6 harg6 arg7 harg7 arg8 harg8 arg9 harg9 arg10 harg10 arg11 harg11 x2 x3 x4).1) (wr arg10 (L5 c i arg3 harg3 arg4 harg4 arg5 harg5 arg6 harg6 arg7 harg7 arg8 harg8 arg9 harg9 arg10 harg10 arg11 harg11 x2 x3 x4).2.1) (wr arg11 (L5 c i arg3 harg3 arg4 harg4 arg5 harg5 arg6 harg6 arg7 harg7 arg8 harg8 arg9 harg9 arg10 harg10 arg11 harg11 x2 x3 x4).2.2) (Scf.trips (k0_t6_loop i).lb (k0_t6_loop i).ub (k0_t6_loop i).st)) (L5 c i arg3 harg3 arg4 harg4 arg5 harg5 arg6 harg6 arg7 harg7 arg8 harg8 arg9 harg9 arg10 harg10 arg11 harg11 x2 x3 x4)

/-- The stores after loop 7. -/
def L7 : Tr := app (pb_k0_t7 (F := Ideal) Variants.none c none i arg3 harg3 arg4 harg4 arg5 harg5 arg6 harg6 arg7 harg7 arg8 harg8 arg9 harg9 arg10 harg10 arg11 harg11 (k0_pay515 i) (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) (kernelRun0_A.sl.v147 i) 1#32 (harg6.unread x3) (harg7.unread x4)
  (wr arg9 (L6 c i arg3 harg3 arg4 harg4 arg5 harg5 arg6 harg6 arg7 harg7 arg8 harg8 arg9 harg9 arg10 harg10 arg11 harg11 x2 x3 x4).1) (wr arg10 (L6 c i arg3 harg3 arg4 harg4 arg5 harg5 arg6 harg6 arg7 harg7 arg8 harg8 arg9 harg9 arg10 harg10 arg11 harg11 x2 x3 x4).2.1) (wr arg11 (L6 c i arg3 harg3 arg4 harg4 arg5 harg5 arg6 harg6 arg7 harg7 arg8 harg8 arg9 harg9 arg10 harg10 arg11 harg11 x2 x3 x4).2.2) (Scf.trips (k0_t7_loop i).lb (k0_t7_loop i).ub (k0_t7_loop i).st)) (L6 c i arg3 harg3 arg4 harg4 arg5 harg5 arg6 harg6 arg7 harg7 arg8 harg8 arg9 harg9 arg10 harg10 arg11 harg11 x2 x3 x4)

/-- The stores after loop 8. -/
def L8 : Tr := app (pb_k0_t8 (F := Ideal) Variants.none c none i arg3 harg3 arg4 harg4 arg5 harg5 arg6 harg6 arg7 harg7 arg8 harg8 arg9 harg9 arg10 harg10 arg11 harg11 (k0_pay515 i) (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) (kernelRun0_A.sl.v147 i) 1#32 (harg6.unread x3) (harg7.unread x4)
  (wr arg9 (L7 c i arg3 harg3 arg4 harg4 arg5 harg5 arg6 harg6 arg7 harg7 arg8 harg8 arg9 harg9 arg10 harg10 arg11 harg11 x2 x3 x4).1) (wr arg10 (L7 c i arg3 harg3 arg4 harg4 arg5 harg5 arg6 harg6 arg7 harg7 arg8 harg8 arg9 harg9 arg10 harg10 arg11 harg11 x2 x3 x4).2.1) (wr arg11 (L7 c i arg3 harg3 arg4 harg4 arg5 harg5 arg6 harg6 arg7 harg7 arg8 harg8 arg9 harg9 arg10 harg10 arg11 harg11 x2 x3 x4).2.2) (Scf.trips (k0_t8_loop i).lb (k0_t8_loop i).ub (k0_t8_loop i).st)) (L7 c i arg3 harg3 arg4 harg4 arg5 harg5 arg6 harg6 arg7 harg7 arg8 harg8 arg9 harg9 arg10 harg10 arg11 harg11 x2 x3 x4)

set_option maxHeartbeats 4000000 in
theorem v164_cov : kernelRun0_A.sl.v164 (F := Ideal) c i arg3 harg3 arg4 harg4 arg5 harg5 arg6 harg6 arg7 harg7 arg8 harg8 arg9 harg9 arg10 harg10 arg11 harg11 x2 x3 x4
    = arg11.view.readCov (L8 c i arg3 harg3 arg4 harg4 arg5 harg5 arg6 harg6 arg7 harg7 arg8 harg8 arg9 harg9 arg10 harg10 arg11 harg11 x2 x3 x4).2.2 (Rect.unit (s := S4x256x128) ![0, 0, 0] S1x256x128.size (hinb 0)).toLoadRect := by
  unfold kernelRun0_A.sl.v164
  unfold L8 L7 L6 L5 L4 L3 L2 L1
  unfold app
  rfl

theorem v164_eq : shapeCast S256x128 (kernelRun0_A.sl.v164 (F := Ideal) c i arg3 harg3 arg4 harg4 arg5 harg5 arg6 harg6 arg7 harg7 arg8 harg8 arg9 harg9 arg10 harg10 arg11 harg11 x2 x3 x4) shapeCasts_S1x256x128_S256x128
    = hd arg11 (wr arg11 (L8 c i arg3 harg3 arg4 harg4 arg5 harg5 arg6 harg6 arg7 harg7 arg8 harg8 arg9 harg9 arg10 harg10 arg11 harg11 x2 x3 x4).2.2) 0 := by
  rw [v164_cov]
  exact rd_eq arg11 (wr arg11 (L8 c i arg3 harg3 arg4 harg4 arg5 harg5 arg6 harg6 arg7 harg7 arg8 harg8 arg9 harg9 arg10 harg10 arg11 harg11 x2 x3 x4).2.2) 0 ![0, 0, 0] rfl (hinb 0)

set_option maxHeartbeats 4000000 in
theorem v166_cov : kernelRun0_A.sl.v166 (F := Ideal) c i arg3 harg3 arg4 harg4 arg5 harg5 arg6 harg6 arg7 harg7 arg8 harg8 arg9 harg9 arg10 harg10 arg11 harg11 x2 x3 x4
    = arg10.view.readCov (L8 c i arg3 harg3 arg4 harg4 arg5 harg5 arg6 harg6 arg7 harg7 arg8 harg8 arg9 harg9 arg10 harg10 arg11 harg11 x2 x3 x4).2.1 (Rect.unit (s := S4x256x128) ![0, 0, 0] S1x256x128.size (hinb 0)).toLoadRect := by
  unfold kernelRun0_A.sl.v166
  unfold L8 L7 L6 L5 L4 L3 L2 L1
  unfold app
  rfl

theorem v166_eq : shapeCast S256x128 (kernelRun0_A.sl.v166 (F := Ideal) c i arg3 harg3 arg4 harg4 arg5 harg5 arg6 harg6 arg7 harg7 arg8 harg8 arg9 harg9 arg10 harg10 arg11 harg11 x2 x3 x4) shapeCasts_S1x256x128_S256x128
    = hd arg10 (wr arg10 (L8 c i arg3 harg3 arg4 harg4 arg5 harg5 arg6 harg6 arg7 harg7 arg8 harg8 arg9 harg9 arg10 harg10 arg11 harg11 x2 x3 x4).2.1) 0 := by
  rw [v166_cov]
  exact rd_eq arg10 (wr arg10 (L8 c i arg3 harg3 arg4 harg4 arg5 harg5 arg6 harg6 arg7 harg7 arg8 harg8 arg9 harg9 arg10 harg10 arg11 harg11 x2 x3 x4).2.1) 0 ![0, 0, 0] rfl (hinb 0)

set_option maxHeartbeats 4000000 in
theorem v171_cov : kernelRun0_A.sl.v171 (F := Ideal) c i arg3 harg3 arg4 harg4 arg5 harg5 arg6 harg6 arg7 harg7 arg8 harg8 arg9 harg9 arg10 harg10 arg11 harg11 x2 x3 x4
    = arg11.view.readCov (L8 c i arg3 harg3 arg4 harg4 arg5 harg5 arg6 harg6 arg7 harg7 arg8 harg8 arg9 harg9 arg10 harg10 arg11 harg11 x2 x3 x4).2.2 (Rect.unit (s := S4x256x128) ![1, 0, 0] S1x256x128.size (hinb 1)).toLoadRect := by
  unfold kernelRun0_A.sl.v171
  unfold L8 L7 L6 L5 L4 L3 L2 L1
  unfold app
  rfl

theorem v171_eq : shapeCast S256x128 (kernelRun0_A.sl.v171 (F := Ideal) c i arg3 harg3 arg4 harg4 arg5 harg5 arg6 harg6 arg7 harg7 arg8 harg8 arg9 harg9 arg10 harg10 arg11 harg11 x2 x3 x4) shapeCasts_S1x256x128_S256x128
    = hd arg11 (wr arg11 (L8 c i arg3 harg3 arg4 harg4 arg5 harg5 arg6 harg6 arg7 harg7 arg8 harg8 arg9 harg9 arg10 harg10 arg11 harg11 x2 x3 x4).2.2) 1 := by
  rw [v171_cov]
  exact rd_eq arg11 (wr arg11 (L8 c i arg3 harg3 arg4 harg4 arg5 harg5 arg6 harg6 arg7 harg7 arg8 harg8 arg9 harg9 arg10 harg10 arg11 harg11 x2 x3 x4).2.2) 1 ![1, 0, 0] rfl (hinb 1)

set_option maxHeartbeats 4000000 in
theorem v173_cov : kernelRun0_A.sl.v173 (F := Ideal) c i arg3 harg3 arg4 harg4 arg5 harg5 arg6 harg6 arg7 harg7 arg8 harg8 arg9 harg9 arg10 harg10 arg11 harg11 x2 x3 x4
    = arg10.view.readCov (L8 c i arg3 harg3 arg4 harg4 arg5 harg5 arg6 harg6 arg7 harg7 arg8 harg8 arg9 harg9 arg10 harg10 arg11 harg11 x2 x3 x4).2.1 (Rect.unit (s := S4x256x128) ![1, 0, 0] S1x256x128.size (hinb 1)).toLoadRect := by
  unfold kernelRun0_A.sl.v173
  unfold L8 L7 L6 L5 L4 L3 L2 L1
  unfold app
  rfl

theorem v173_eq : shapeCast S256x128 (kernelRun0_A.sl.v173 (F := Ideal) c i arg3 harg3 arg4 harg4 arg5 harg5 arg6 harg6 arg7 harg7 arg8 harg8 arg9 harg9 arg10 harg10 arg11 harg11 x2 x3 x4) shapeCasts_S1x256x128_S256x128
    = hd arg10 (wr arg10 (L8 c i arg3 harg3 arg4 harg4 arg5 harg5 arg6 harg6 arg7 harg7 arg8 harg8 arg9 harg9 arg10 harg10 arg11 harg11 x2 x3 x4).2.1) 1 := by
  rw [v173_cov]
  exact rd_eq arg10 (wr arg10 (L8 c i arg3 harg3 arg4 harg4 arg5 harg5 arg6 harg6 arg7 harg7 arg8 harg8 arg9 harg9 arg10 harg10 arg11 harg11 x2 x3 x4).2.1) 1 ![1, 0, 0] rfl (hinb 1)

set_option maxHeartbeats 4000000 in
theorem v199_cov : kernelRun0_A.sl.v199 (F := Ideal) c i arg3 harg3 arg4 harg4 arg5 harg5 arg6 harg6 arg7 harg7 arg8 harg8 arg9 harg9 arg10 harg10 arg11 harg11 x2 x3 x4
    = arg11.view.readCov (L8 c i arg3 harg3 arg4 harg4 arg5 harg5 arg6 harg6 arg7 harg7 arg8 harg8 arg9 harg9 arg10 harg10 arg11 harg11 x2 x3 x4).2.2 (Rect.unit (s := S4x256x128) ![2, 0, 0] S1x256x128.size (hinb 2)).toLoadRect := by
  unfold kernelRun0_A.sl.v199
  unfold L8 L7 L6 L5 L4 L3 L2 L1
  unfold app
  rfl

theorem v199_eq : shapeCast S256x128 (kernelRun0_A.sl.v199 (F := Ideal) c i arg3 harg3 arg4 harg4 arg5 harg5 arg6 harg6 arg7 harg7 arg8 harg8 arg9 harg9 arg10 harg10 arg11 harg11 x2 x3 x4) shapeCasts_S1x256x128_S256x128
    = hd arg11 (wr arg11 (L8 c i arg3 harg3 arg4 harg4 arg5 harg5 arg6 harg6 arg7 harg7 arg8 harg8 arg9 harg9 arg10 harg10 arg11 harg11 x2 x3 x4).2.2) 2 := by
  rw [v199_cov]
  exact rd_eq arg11 (wr arg11 (L8 c i arg3 harg3 arg4 harg4 arg5 harg5 arg6 harg6 arg7 harg7 arg8 harg8 arg9 harg9 arg10 harg10 arg11 harg11 x2 x3 x4).2.2) 2 ![2, 0, 0] rfl (hinb 2)

set_option maxHeartbeats 4000000 in
theorem v201_cov : kernelRun0_A.sl.v201 (F := Ideal) c i arg3 harg3 arg4 harg4 arg5 harg5 arg6 harg6 arg7 harg7 arg8 harg8 arg9 harg9 arg10 harg10 arg11 harg11 x2 x3 x4
    = arg10.view.readCov (L8 c i arg3 harg3 arg4 harg4 arg5 harg5 arg6 harg6 arg7 harg7 arg8 harg8 arg9 harg9 arg10 harg10 arg11 harg11 x2 x3 x4).2.1 (Rect.unit (s := S4x256x128) ![2, 0, 0] S1x256x128.size (hinb 2)).toLoadRect := by
  unfold kernelRun0_A.sl.v201
  unfold L8 L7 L6 L5 L4 L3 L2 L1
  unfold app
  rfl

theorem v201_eq : shapeCast S256x128 (kernelRun0_A.sl.v201 (F := Ideal) c i arg3 harg3 arg4 harg4 arg5 harg5 arg6 harg6 arg7 harg7 arg8 harg8 arg9 harg9 arg10 harg10 arg11 harg11 x2 x3 x4) shapeCasts_S1x256x128_S256x128
    = hd arg10 (wr arg10 (L8 c i arg3 harg3 arg4 harg4 arg5 harg5 arg6 harg6 arg7 harg7 arg8 harg8 arg9 harg9 arg10 harg10 arg11 harg11 x2 x3 x4).2.1) 2 := by
  rw [v201_cov]
  exact rd_eq arg10 (wr arg10 (L8 c i arg3 harg3 arg4 harg4 arg5 harg5 arg6 harg6 arg7 harg7 arg8 harg8 arg9 harg9 arg10 harg10 arg11 harg11 x2 x3 x4).2.1) 2 ![2, 0, 0] rfl (hinb 2)

set_option maxHeartbeats 4000000 in
theorem v206_cov : kernelRun0_A.sl.v206 (F := Ideal) c i arg3 harg3 arg4 harg4 arg5 harg5 arg6 harg6 arg7 harg7 arg8 harg8 arg9 harg9 arg10 harg10 arg11 harg11 x2 x3 x4
    = arg11.view.readCov (L8 c i arg3 harg3 arg4 harg4 arg5 harg5 arg6 harg6 arg7 harg7 arg8 harg8 arg9 harg9 arg10 harg10 arg11 harg11 x2 x3 x4).2.2 (Rect.unit (s := S4x256x128) ![3, 0, 0] S1x256x128.size (hinb 3)).toLoadRect := by
  unfold kernelRun0_A.sl.v206
  unfold L8 L7 L6 L5 L4 L3 L2 L1
  unfold app
  rfl

theorem v206_eq : shapeCast S256x128 (kernelRun0_A.sl.v206 (F := Ideal) c i arg3 harg3 arg4 harg4 arg5 harg5 arg6 harg6 arg7 harg7 arg8 harg8 arg9 harg9 arg10 harg10 arg11 harg11 x2 x3 x4) shapeCasts_S1x256x128_S256x128
    = hd arg11 (wr arg11 (L8 c i arg3 harg3 arg4 harg4 arg5 harg5 arg6 harg6 arg7 harg7 arg8 harg8 arg9 harg9 arg10 harg10 arg11 harg11 x2 x3 x4).2.2) 3 := by
  rw [v206_cov]
  exact rd_eq arg11 (wr arg11 (L8 c i arg3 harg3 arg4 harg4 arg5 harg5 arg6 harg6 arg7 harg7 arg8 harg8 arg9 harg9 arg10 harg10 arg11 harg11 x2 x3 x4).2.2) 3 ![3, 0, 0] rfl (hinb 3)

set_option maxHeartbeats 4000000 in
theorem v208_cov : kernelRun0_A.sl.v208 (F := Ideal) c i arg3 harg3 arg4 harg4 arg5 harg5 arg6 harg6 arg7 harg7 arg8 harg8 arg9 harg9 arg10 harg10 arg11 harg11 x2 x3 x4
    = arg10.view.readCov (L8 c i arg3 harg3 arg4 harg4 arg5 harg5 arg6 harg6 arg7 harg7 arg8 harg8 arg9 harg9 arg10 harg10 arg11 harg11 x2 x3 x4).2.1 (Rect.unit (s := S4x256x128) ![3, 0, 0] S1x256x128.size (hinb 3)).toLoadRect := by
  unfold kernelRun0_A.sl.v208
  unfold L8 L7 L6 L5 L4 L3 L2 L1
  unfold app
  rfl

theorem v208_eq : shapeCast S256x128 (kernelRun0_A.sl.v208 (F := Ideal) c i arg3 harg3 arg4 harg4 arg5 harg5 arg6 harg6 arg7 harg7 arg8 harg8 arg9 harg9 arg10 harg10 arg11 harg11 x2 x3 x4) shapeCasts_S1x256x128_S256x128
    = hd arg10 (wr arg10 (L8 c i arg3 harg3 arg4 harg4 arg5 harg5 arg6 harg6 arg7 harg7 arg8 harg8 arg9 harg9 arg10 harg10 arg11 harg11 x2 x3 x4).2.1) 3 := by
  rw [v208_cov]
  exact rd_eq arg10 (wr arg10 (L8 c i arg3 harg3 arg4 harg4 arg5 harg5 arg6 harg6 arg7 harg7 arg8 harg8 arg9 harg9 arg10 harg10 arg11 harg11 x2 x3 x4).2.1) 3 ![3, 0, 0] rfl (hinb 3)

/-- The kernel's four blocks of queries are the four heads' queries. -/
theorem hQ (xr : Fin 256 → Fin 256 → ℝ) (h2 : ∀ p j, x2 (ix3 (0 : Fin 1) p j) = ((xr p j : ℝ) : EReal)) (hh : Fin 4) (p : Fin 256) (d : Fin 128) :
    (![kernelRun0_A.sl.r c arg5 harg5 x2, kernelRun0_A.sl.r_2 c arg5 harg5 x2, kernelRun0_A.sl.r_3 c arg5 harg5 x2, kernelRun0_A.sl.r_4 c arg5 harg5 x2] : Fin 4 → FVec Ideal S256x128 .bf16) hh (ix2 p d) = ((qH xr hh p d : ℝ) : EReal) := by
  have ha : ∀ (p : Fin 256) (d : Fin 128), (arg5.view.readAt (Elt Ideal) (Rect.unit (s := S1x256x256) ![0, 0, 0] S1x256x128.size inb_S1x256x256_S1x256x128_0_0_0).toLoadRect (harg5.unread x2)) (ix3 (0 : Fin 1) p d)
      = ((xr p ⟨128 * 0 + d.val, by have := d.isLt; omega⟩ : ℝ) : EReal) := by
    intro p d
    refine (View.readAt_apply _ _ _).trans ?_
    refine (congrFun (Memref.IsWhole.read_unread (Val := Elt Ideal) harg5 x2) _).trans ?_
    refine Eq.trans (congrArg x2 ?_) (h2 p _)
    funext a
    apply Fin.ext
    match a with
    | ⟨0, _⟩ => rfl
    | ⟨1, _⟩ => show 0 + 1 * p.val = p.val; omega
    | ⟨2, _⟩ => show 0 + 1 * d.val = 128 * 0 + d.val; omega
  have hb : ∀ (p : Fin 256) (d : Fin 128), (arg5.view.readAt (Elt Ideal) (Rect.unit (s := S1x256x256) ![0, 0, 128] S1x256x128.size inb_S1x256x256_S1x256x128_0_0_128).toLoadRect (harg5.unread x2)) (ix3 (0 : Fin 1) p d)
      = ((xr p ⟨128 * 1 + d.val, by have := d.isLt; omega⟩ : ℝ) : EReal) := by
    intro p d
    refine (View.readAt_apply _ _ _).trans ?_
    refine (congrFun (Memref.IsWhole.read_unread (Val := Elt Ideal) harg5 x2) _).trans ?_
    refine Eq.trans (congrArg x2 ?_) (h2 p _)
    funext a
    apply Fin.ext
    match a with
    | ⟨0, _⟩ => rfl
    | ⟨1, _⟩ => show 0 + 1 * p.val = p.val; omega
    | ⟨2, _⟩ => show 128 + 1 * d.val = 128 * 1 + d.val; omega
  match hh with
  | 0 => exact qh0 _ xr ha p d
  | 1 => exact qh1 _ xr ha p d
  | 2 => exact qh2 _ xr hb p d
  | 3 => exact qh3 _ xr hb p d

/-- After all loops every row has passed all keys of its block of queries. -/
theorem L8_St (xr : Fin 256 → Fin 256 → ℝ) (Kr Vr : ℕ → Fin 128 → ℝ)
    (h2 : ∀ p j, x2 (ix3 (0 : Fin 1) p j) = ((xr p j : ℝ) : EReal))
    (h3 : ∀ (k : Fin 2048) d, x3 (ix3 (0 : Fin 1) k d) = ((Kr k.val d : ℝ) : EReal))
    (h4 : ∀ (k : Fin 2048) d, x4 (ix3 (0 : Fin 1) k d) = ((Vr k.val d : ℝ) : EReal)) :
    StL arg9 arg10 arg11 (256 * (i 2).val + 256) (256 * (i 2).val) (sc (qH xr) Kr) Vr (L8 c i arg3 harg3 arg4 harg4 arg5 harg5 arg6 harg6 arg7 harg7 arg8 harg8 arg9 harg9 arg10 harg10 arg11 harg11 x2 x3 x4) := by
  have hq := hQ c arg5 harg5 x2 xr h2
  have h6 : ∀ (k : Fin 2048) d, arg6.view.read (Elt Ideal) (harg6.unread x3) (ix3 (0 : Fin 1) k d) = ((Kr k.val d : ℝ) : EReal) := by
    intro k d; rw [harg6.read_unread]; exact h3 k d
  have h7 : ∀ (k : Fin 2048) d, arg7.view.read (Elt Ideal) (harg7.unread x4) (ix3 (0 : Fin 1) k d) = ((Vr k.val d : ℝ) : EReal) := by
    intro k d; rw [harg7.read_unread]; exact h4 k d
  have s0 := L0_St arg9 arg10 arg11 (256 * (i 2).val) (sc (qH xr) Kr) Vr
  have s1 : StL arg9 arg10 arg11 (1024 * ((i 2).val / 4)) (256 * (i 2).val) (sc (qH xr) Kr) Vr (L1 c i arg3 harg3 arg4 harg4 arg5 harg5 arg6 harg6 arg7 harg7 arg8 harg8 arg9 harg9 arg10 harg10 arg11 harg11 x2 x3 x4) :=
    loop1_St Variants.none c none i arg3 harg3 arg4 harg4 arg5 harg5 arg6 harg6 arg7 harg7 arg8 harg8 arg9 harg9 arg10 harg10 arg11 harg11 (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) 4#32 (kernelRun0_A.sl.v66 i) (kernelRun0_A.sl.v71 i) 1#32 0#32 (harg6.unread x3) (harg7.unread x4) L0 _ rfl (qH xr) Kr Vr hq h6 h7 s0
  have s2 : StL arg9 arg10 arg11 (1024 * ((i 2).val / 4)) (256 * (i 2).val) (sc (qH xr) Kr) Vr (L2 c i arg3 harg3 arg4 harg4 arg5 harg5 arg6 harg6 arg7 harg7 arg8 harg8 arg9 harg9 arg10 harg10 arg11 harg11 x2 x3 x4) :=
    loop2_St Variants.none c none i arg3 harg3 arg4 harg4 arg5 harg5 arg6 harg6 arg7 harg7 arg8 harg8 arg9 harg9 arg10 harg10 arg11 harg11 (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) 4#32 (kernelRun0_A.sl.v66 i) (kernelRun0_A.sl.v71 i) 1#32 0#32 (kernelRun0_A.sl.v106 i) (harg6.unread x3) (harg7.unread x4) (L1 c i arg3 harg3 arg4 harg4 arg5 harg5 arg6 harg6 arg7 harg7 arg8 harg8 arg9 harg9 arg10 harg10 arg11 harg11 x2 x3 x4) _ _ _ _ s1
  have s3 : StL arg9 arg10 arg11 (512 * ((i 2).val / 2)) (256 * (i 2).val) (sc (qH xr) Kr) Vr (L3 c i arg3 harg3 arg4 harg4 arg5 harg5 arg6 harg6 arg7 harg7 arg8 harg8 arg9 harg9 arg10 harg10 arg11 harg11 x2 x3 x4) :=
    loop3_St Variants.none c none i arg3 harg3 arg4 harg4 arg5 harg5 arg6 harg6 arg7 harg7 arg8 harg8 arg9 harg9 arg10 harg10 arg11 harg11 (kernelRun0_A.sl.v4 i) (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) (kernelRun0_A.sl.v82 i) (kernelRun0_A.sl.v101 i) (kernelRun0_A.sl.v107 i) 1#32 (kernelRun0_A.sl.v112 i) (harg6.unread x3) (harg7.unread x4) (L2 c i arg3 harg3 arg4 harg4 arg5 harg5 arg6 harg6 arg7 harg7 arg8 harg8 arg9 harg9 arg10 harg10 arg11 harg11 x2 x3 x4) _ rfl (qH xr) Kr Vr hq h6 h7 s2
  have s4 : StL arg9 arg10 arg11 (512 * ((i 2).val / 2)) (256 * (i 2).val) (sc (qH xr) Kr) Vr (L4 c i arg3 harg3 arg4 harg4 arg5 harg5 arg6 harg6 arg7 harg7 arg8 harg8 arg9 harg9 arg10 harg10 arg11 harg11 x2 x3 x4) :=
    loop4_St Variants.none c none i arg3 harg3 arg4 harg4 arg5 harg5 arg6 harg6 arg7 harg7 arg8 harg8 arg9 harg9 arg10 harg10 arg11 harg11 (kernelRun0_A.sl.v4 i) (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) (kernelRun0_A.sl.v82 i) (kernelRun0_A.sl.v101 i) (kernelRun0_A.sl.v107 i) 1#32 (kernelRun0_A.sl.v112 i) (kernelRun0_A.sl.v114 i) (harg6.unread x3) (harg7.unread x4) (L3 c i arg3 harg3 arg4 harg4 arg5 harg5 arg6 harg6 arg7 harg7 arg8 harg8 arg9 harg9 arg10 harg10 arg11 harg11 x2 x3 x4) _ _ _ _ s3
  have s5 : StL arg9 arg10 arg11 (256 * (i 2).val) (256 * (i 2).val) (sc (qH xr) Kr) Vr (L5 c i arg3 harg3 arg4 harg4 arg5 harg5 arg6 harg6 arg7 harg7 arg8 harg8 arg9 harg9 arg10 harg10 arg11 harg11 x2 x3 x4) :=
    loop5_St Variants.none c none i arg3 harg3 arg4 harg4 arg5 harg5 arg6 harg6 arg7 harg7 arg8 harg8 arg9 harg9 arg10 harg10 arg11 harg11 (kernelRun0_A.sl.v4 i) (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) (kernelRun0_A.sl.v82 i) (kernelRun0_A.sl.v101 i) (kernelRun0_A.sl.v107 i) 1#32 (kernelRun0_A.sl.v112 i) (kernelRun0_A.sl.v117 i) (harg6.unread x3) (harg7.unread x4) (L4 c i arg3 harg3 arg4 harg4 arg5 harg5 arg6 harg6 arg7 harg7 arg8 harg8 arg9 harg9 arg10 harg10 arg11 harg11 x2 x3 x4) _ rfl (qH xr) Kr Vr hq h6 h7 s4
  have s6 : StL arg9 arg10 arg11 (256 * (i 2).val) (256 * (i 2).val) (sc (qH xr) Kr) Vr (L6 c i arg3 harg3 arg4 harg4 arg5 harg5 arg6 harg6 arg7 harg7 arg8 harg8 arg9 harg9 arg10 harg10 arg11 harg11 x2 x3 x4) :=
    loop6_St Variants.none c none i arg3 harg3 arg4 harg4 arg5 harg5 arg6 harg6 arg7 harg7 arg8 harg8 arg9 harg9 arg10 harg10 arg11 harg11 (kernelRun0_A.sl.v4 i) (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) (kernelRun0_A.sl.v82 i) (kernelRun0_A.sl.v101 i) (kernelRun0_A.sl.v107 i) 1#32 (kernelRun0_A.sl.v112 i) (kernelRun0_A.sl.v122 i) (harg6.unread x3) (harg7.unread x4) (L5 c i arg3 harg3 arg4 harg4 arg5 harg5 arg6 harg6 arg7 harg7 arg8 harg8 arg9 harg9 arg10 harg10 arg11 harg11 x2 x3 x4) _ _ _ _ s5
  have s7 : StL arg9 arg10 arg11 (256 * (i 2).val + 256) (256 * (i 2).val) (sc (qH xr) Kr) Vr (L7 c i arg3 harg3 arg4 harg4 arg5 harg5 arg6 harg6 arg7 harg7 arg8 harg8 arg9 harg9 arg10 harg10 arg11 harg11 x2 x3 x4) :=
    loop7_St Variants.none c none i arg3 harg3 arg4 harg4 arg5 harg5 arg6 harg6 arg7 harg7 arg8 harg8 arg9 harg9 arg10 harg10 arg11 harg11 (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) (kernelRun0_A.sl.v147 i) (harg6.unread x3) (harg7.unread x4) (L6 c i arg3 harg3 arg4 harg4 arg5 harg5 arg6 harg6 arg7 harg7 arg8 harg8 arg9 harg9 arg10 harg10 arg11 harg11 x2 x3 x4) _ rfl (qH xr) Kr Vr hq h6 h7 (iv7 i) s6
  have s8 : StL arg9 arg10 arg11 (256 * (i 2).val + 256) (256 * (i 2).val) (sc (qH xr) Kr) Vr (L8 c i arg3 harg3 arg4 harg4 arg5 harg5 arg6 harg6 arg7 harg7 arg8 harg8 arg9 harg9 arg10 harg10 arg11 harg11 x2 x3 x4) :=
    loop8_St Variants.none c none i arg3 harg3 arg4 harg4 arg5 harg5 arg6 harg6 arg7 harg7 arg8 harg8 arg9 harg9 arg10 harg10 arg11 harg11 (k0_pay515 i) (kernelRun0_A.sl.r c arg5 harg5 x2) (kernelRun0_A.sl.r_2 c arg5 harg5 x2) (kernelRun0_A.sl.r_3 c arg5 harg5 x2) (kernelRun0_A.sl.r_4 c arg5 harg5 x2) (kernelRun0_A.sl.v65 i) (kernelRun0_A.sl.v147 i) 1#32 (harg6.unread x3) (harg7.unread x4) (L7 c i arg3 harg3 arg4 harg4 arg5 harg5 arg6 harg6 arg7 harg7 arg8 harg8 arg9 harg9 arg10 harg10 arg11 harg11 x2 x3 x4) _ _ _ _ s7
  exact s8

end

end Diff
-- ==== Proof.Spec.lean ====
module

public import proofs.«01_k».proof.Proof.Math
public import Idealize.ShloMosaic.Lib.Pointwise

@[expose] public section

set_option maxRecDepth 16384

noncomputable section

namespace Diff

open Idealize.ShloMosaic Finset

/-- The greatest masked score of a row is the score of a key the query may attend to. -/
theorem max_row (s : ℕ → ℝ) (q : Fin 2048) (M : Fin 2048 → EReal)
    (hM : ∀ k, M k = if k.val ≤ q.val then ((s k.val : ℝ) : EReal) else ⊥) :
    ∃ k0 : ℕ, k0 ≤ q.val ∧ (univ : Finset (Fin 2048)).fold max ⊥ M = ((s k0 : ℝ) : EReal) := by
  have hq : ((s q.val : ℝ) : EReal) ≤ (univ : Finset (Fin 2048)).fold max ⊥ M := by
    rw [Finset.le_fold_max]
    exact Or.inr ⟨q, mem_univ _, by rw [hM, if_pos le_rfl]⟩
  have hlt : (⊥ : EReal) < (univ : Finset (Fin 2048)).fold max ⊥ M := lt_of_lt_of_le (EReal.bot_lt_coe _) hq
  rcases Finset.le_fold_max _ |>.mp (le_refl ((univ : Finset (Fin 2048)).fold max ⊥ M)) with h | ⟨k, _, h⟩
  · exact absurd hlt (not_lt.mpr h)
  · have h2 : M k ≤ (univ : Finset (Fin 2048)).fold max ⊥ M := by
      rw [Finset.le_fold_max]; exact Or.inr ⟨k, mem_univ _, le_rfl⟩
    have h3 := le_antisymm h h2
    by_cases hk : k.val ≤ q.val
    · exact ⟨k.val, hk, by rw [h3, hM, if_pos hk]⟩
    · rw [h3, hM, if_neg hk] at hlt
      exact absurd hlt (lt_irrefl _)

/-- A weight of the masked softmax. -/
def wt (q : ℕ) (s : ℕ → ℝ) (k : ℕ) : ℝ := if k ≤ q then Real.exp (s k) / W (q + 1) q (fun k => Real.exp (s k)) else 0

/-- The softmax with the greatest score taken off is the softmax. -/
theorem wt_row (s : ℕ → ℝ) (q : Fin 2048) (M P : Fin 2048 → EReal) (c : ℝ) (hc : c ≤ 1) (k0 : ℕ) (hk0 : k0 ≤ q.val)
    (hM : ∀ k, M k = if k.val ≤ q.val then ((s k.val : ℝ) : EReal) else ⊥)
    (hP : ∀ k, P k = Ideal.exp (M k - ((s k0 : ℝ) : EReal))) (k : Fin 2048) :
    Ideal.div (P k) (max (∑ k, P k) (c : EReal)) = ((wt q.val s k.val : ℝ) : EReal) := by
  have hP' : ∀ k : Fin 2048, P k = ((if k.val ≤ q.val then Real.exp (s k.val - s k0) else 0 : ℝ) : EReal) := by
    intro k
    rw [hP, hM]
    by_cases h : k.val ≤ q.val
    · rw [if_pos h, if_pos h, ← EReal.coe_sub]; rfl
    · rw [if_neg h, if_neg h, EReal.bot_sub]; rfl
  have hsum : ∑ k, P k = ((W 2048 q.val fun k => Real.exp (s k - s k0) : ℝ) : EReal) := by
    simp only [hP']
    rw [← coe_sum]
    exact congrArg _ (Fin.sum_univ_eq_sum_range (fun k => if k ≤ q.val then Real.exp (s k - s k0) else 0) 2048)
  have h1 : (1 : ℝ) ≤ W 2048 q.val fun k => Real.exp (s k - s k0) := by
    have := le_W 2048 q.val (fun k => Real.exp (s k - s k0)) (fun k => (Real.exp_pos _).le) k0 (by have := q.isLt; omega) hk0
    simpa using this
  have hW : (W 2048 q.val fun k => Real.exp (s k - s k0)) = Real.exp (-s k0) * W (q.val + 1) q.val (fun k => Real.exp (s k)) := by
    rw [W_stop 2048 q.val _ q.isLt, W_mul]
    refine congrArg _ (funext fun k => ?_)
    rw [← Real.exp_add]; congr 1; ring
  rw [hsum, max_eq_left (EReal.coe_le_coe_iff.mpr (hc.trans h1)), hP', Ideal.div_coe (ne_of_gt (lt_of_lt_of_le one_pos h1)), ← EReal.coe_mul]
  congr 1
  unfold wt
  by_cases h : k.val ≤ q.val
  · rw [if_pos h, if_pos h, hW, sub_eq_neg_add, Real.exp_add, mul_one_div, mul_div_mul_left _ _ (Real.exp_pos _).ne']
  · rw [if_neg h, if_neg h, zero_mul]

/-- The values weighted by the difference of two softmaxes are the difference of two attentions. -/
theorem sum_att (q : Fin 2048) (s0 s1 : ℕ → ℝ) (v : ℕ → Fin 128 → ℝ) (lam : ℝ) (e : Fin 128) (A w0 w1 : Fin 2048 → EReal)
    (hA : ∀ k, A k = ((v k.val e : ℝ) : EReal)) (h0 : ∀ k, w0 k = ((wt q.val s0 k.val : ℝ) : EReal)) (h1 : ∀ k, w1 k = ((wt q.val s1 k.val : ℝ) : EReal)) :
    ∑ k, A k * (w0 k - (lam : EReal) * w1 k) = ((att q.val s0 v e - lam * att q.val s1 v e : ℝ) : EReal) := by
  have hatt : ∀ s : ℕ → ℝ, att q.val s v e = ∑ k ∈ range 2048, wt q.val s k * v k e := by
    intro s
    unfold att
    rw [W_div, ← W_stop 2048 q.val _ q.isLt]
    change (∑ k ∈ range 2048, if k ≤ q.val then Real.exp (s k) * v k e / W (q.val + 1) q.val (fun k => Real.exp (s k)) else 0) = _
    refine sum_congr rfl fun k _ => ?_
    unfold wt
    split
    · ring
    · rw [zero_mul]
  simp only [hA, h0, h1, ← EReal.coe_mul, ← EReal.coe_sub]
  rw [← coe_sum, Fin.sum_univ_eq_sum_range (fun k => v k e * (wt q.val s0 k - lam * wt q.val s1 k)) 2048, hatt, hatt, mul_sum, ← sum_sub_distrib]
  congr 1
  exact sum_congr rfl fun k _ => by ring

abbrev A4x64 : Shape := ⟨2, ![4, 64]⟩
abbrev A1x128 : Shape := ⟨2, ![1, 128]⟩
abbrev A8x2048x512 : Shape := ⟨3, ![8, 2048, 512]⟩
abbrev A8x2048x256 : Shape := ⟨3, ![8, 2048, 256]⟩

/-- The keys of a group, as reals. -/
def kr (ak : A8x2048x256.Idx → EReal) (b : Fin 8) (g : Fin 2) (k : ℕ) (d : Fin 128) : ℝ :=
  (ak (ix3 b ⟨k % 2048, Nat.mod_lt _ (by norm_num)⟩ ⟨g.val * 128 + d.val, by omega⟩)).toReal

/-- The scores of query `q` of head `r`, half `c`, of group `g`. -/
def xs (aq : A8x2048x512.Idx → EReal) (ak : A8x2048x256.Idx → EReal) (b : Fin 8) (g r c : Fin 2) (q : Fin 2048) (k : ℕ) : ℝ :=
  (∑ d : Fin 64, kr ak b g k ⟨c.val * 64 + d.val, by omega⟩ * (aq (ix3 b q ⟨g.val * 256 + r.val * 128 + c.val * 64 + d.val, by omega⟩)).toReal) * (1 / 8)

/-- The scalar lambda. -/
def lamR (x0 : A4x64.Idx → EReal) : ℝ :=
  Real.exp (∑ d : Fin 64, (x0 (ix2 (0 : Fin 4) d)).toReal * (x0 (ix2 (1 : Fin 4) d)).toReal)
    - Real.exp (∑ d : Fin 64, (x0 (ix2 (2 : Fin 4) d)).toReal * (x0 (ix2 (3 : Fin 4) d)).toReal) + (Ideal.ofBits .f32 0x3E4CCCCD#32).toReal

/-- The differential attention of one query. -/
def oS (x0 : A4x64.Idx → EReal) (aq : A8x2048x512.Idx → EReal) (ak av : A8x2048x256.Idx → EReal) (b : Fin 8) (q : Fin 2048) (g r : Fin 2) (e : Fin 128) : ℝ :=
  att q.val (xs aq ak b g r 0 q) (kr av b g) e - lamR x0 * att q.val (xs aq ak b g r 1 q) (kr av b g) e

/-- The root mean square norm, the learnt scale and the constant factor. -/
def nrm (o s : Fin 128 → EReal) (e : Fin 128) : EReal :=
  o e * Ideal.rsqrt (Ideal.div (∑ x, o x * o x) (Ideal.ofBits .f32 0x43000000#32) + Ideal.ofBits .f32 0x358637BD#32) * s e * Ideal.ofBits .f32 0x3F4CCCCD#32

/-- The whole result. -/
def G (x0 : A4x64.Idx → EReal) (x1 : A1x128.Idx → EReal) (aq : A8x2048x512.Idx → EReal) (ak av : A8x2048x256.Idx → EReal) (j : A8x2048x512.Idx) : EReal :=
  nrm (fun e => ((oS x0 aq ak av (j 0) (j 1) ⟨(j 2).val / 256, by have : (j 2).val < 512 := (j 2).isLt; omega⟩ ⟨(j 2).val / 128 % 2, by omega⟩ e : ℝ) : EReal))
    (fun e => x1 (ix2 (0 : Fin 1) e)) ⟨(j 2).val % 128, by omega⟩

/-- No entry is infinite. -/
def Fin' {s : Shape} (x : s.Idx → EReal) : Prop := ∀ j, x j ≠ ⊤ ∧ x j ≠ ⊥

theorem coe_of {s : Shape} {x : s.Idx → EReal} (h : Fin' x) (j : s.Idx) : x j = (((x j).toReal : ℝ) : EReal) :=
  (EReal.coe_toReal (h j).1 (h j).2).symm

theorem c02 : Ideal.ofBits .f32 0x3E4CCCCD#32 = (((Ideal.ofBits .f32 0x3E4CCCCD#32).toReal : ℝ) : EReal) := by
  refine (EReal.coe_toReal ?_ ?_).symm <;> simp [Ideal.ofBits, Ideal.ieee, -EReal.coe_mul]

theorem c1e30 : ∃ c : ℝ, c ≤ 1 ∧ Ideal.ofBits .f32 0x0DA24260#32 = (c : EReal) := by
  refine ⟨(Ideal.ofBits .f32 0x0DA24260#32).toReal, ?_, ?_⟩
  · simp [Ideal.ofBits, Ideal.ieee, -EReal.coe_mul]; norm_num
  · refine (EReal.coe_toReal ?_ ?_).symm <;> simp [Ideal.ofBits, Ideal.ieee, -EReal.coe_mul]

/-- Lambda of finite vectors, in the extended reals. -/
theorem lam_eq (x0 : A4x64.Idx → EReal) (h : Fin' x0) :
    Ideal.exp (∑ x : Fin 64, x0 (ix2 (0 : Fin 4) x) * x0 (ix2 (1 : Fin 4) x)) - Ideal.exp (∑ x : Fin 64, x0 (ix2 (2 : Fin 4) x) * x0 (ix2 (3 : Fin 4) x)) + Ideal.ofBits .f32 0x3E4CCCCD#32
      = ((lamR x0 : ℝ) : EReal) := by
  have hs : ∀ a b : Fin 4, (∑ x : Fin 64, x0 (ix2 a x) * x0 (ix2 b x)) = ((∑ x : Fin 64, (x0 (ix2 a x)).toReal * (x0 (ix2 b x)).toReal : ℝ) : EReal) := by
    intro a b
    rw [coe_sum]
    refine sum_congr rfl fun d _ => ?_
    rw [EReal.coe_mul, ← coe_of h, ← coe_of h]
  rw [hs, hs, c02, Ideal.exp_coe, Ideal.exp_coe, ← EReal.coe_sub, ← EReal.coe_add]
  rfl

end Diff

end
-- ==== Proof.Out.lean ====
module

public import proofs.«01_k».proof.Proof.Final
public import proofs.«01_k».proof.Proof.Spec
public import proofs.«01_k».proof.Proof.Gen.KernelIdeal.Value

@[expose] public section

set_option maxRecDepth 16384

noncomputable section

namespace Diff

open Idealize.ShloMosaic Finset Cert.KernelIdeal Cert.KernelIdeal.Gen

/-- The scaled scores of one head, each head's half of the lanes apart. -/
theorem sc_half (xr : Fin 256 → Fin 256 → ℝ) (Kr : ℕ → Fin 128 → ℝ) (r c : Fin 2) (hh : Fin 4) (hc : hh.val = 2 * r.val + c.val) (p : Fin 256) (k : ℕ) :
    sc (qH xr) Kr hh p k = (∑ d : Fin 64, Kr k ⟨c.val * 64 + d.val, by omega⟩ * xr p ⟨r.val * 128 + c.val * 64 + d.val, by omega⟩) * (8 * Real.log 2)⁻¹ := by
  unfold sc
  rw [Fin.sum_univ_tiles 2 64 rfl, sum_eq_single c]
  · rw [sum_mul]
    refine sum_congr rfl fun d _ => ?_
    unfold qH
    have hd := d.isLt
    rw [if_pos (by show (c.val * 64 + d.val) / 64 = hh.val % 2; omega)]
    have e : (⟨128 * (hh.val / 2) + (c.val * 64 + d.val), by omega⟩ : Fin 256) = ⟨r.val * 128 + c.val * 64 + d.val, by omega⟩ := Fin.ext (by show 128 * (hh.val / 2) + (c.val * 64 + d.val) = r.val * 128 + c.val * 64 + d.val; omega)
    show xr p ⟨128 * (hh.val / 2) + (c.val * 64 + d.val), _⟩ * (8 * Real.log 2)⁻¹ * Kr k ⟨c.val * 64 + d.val, _⟩ = _
    rw [e]; ring
  · intro j _ hj
    refine sum_eq_zero fun d _ => ?_
    unfold qH
    have hd := d.isLt
    have := Fin.val_ne_of_ne hj
    rw [if_neg (by show ¬ (j.val * 64 + d.val) / 64 = hh.val % 2; omega), zero_mul]
  · intro h; exact absurd (mem_univ _) h

/-- Two to the scaled scores is the exponential of the scores. -/
theorem two_pow (x : ℝ) : (2 : ℝ) ^ (x * (8 * Real.log 2)⁻¹) = Real.exp (x * (1 / 8)) := by
  have : Real.log 2 ≠ 0 := (Real.log_pos (by norm_num)).ne'
  rw [Real.rpow_def_of_pos (by norm_num)]
  congr 1
  field_simp

/-- The scores of one head of a block of queries. -/
def xb (xr : Fin 256 → Fin 256 → ℝ) (Kr : ℕ → Fin 128 → ℝ) (r c : Fin 2) (p : Fin 256) (k : ℕ) : ℝ :=
  (∑ d : Fin 64, Kr k ⟨c.val * 64 + d.val, by omega⟩ * xr p ⟨r.val * 128 + c.val * 64 + d.val, by omega⟩) * (1 / 8)

theorem pay545_apply (x : FVec Ideal S4x64 .f32) (A0 L0 A1 L1 : FVec Ideal S1x256x128 .f32) (lam a0 a1 : ℝ) (p : Fin 256) (e : Fin 128)
    (hl : Ideal.exp (∑ d : Fin 64, x (ix2 (0 : Fin 4) d) * x (ix2 (1 : Fin 4) d)) - Ideal.exp (∑ d : Fin 64, x (ix2 (2 : Fin 4) d) * x (ix2 (3 : Fin 4) d)) + Ideal.ofBits .f32 0x3E4CCCCD#32 = (lam : EReal))
    (h0 : Ideal.div (A0 (ix3 (0 : Fin 1) p e)) (max (L0 (ix3 (0 : Fin 1) p e)) (Ideal.ofBits .f32 0x0DA24260#32)) = (a0 : EReal))
    (h1 : Ideal.div (A1 (ix3 (0 : Fin 1) p e)) (max (L1 (ix3 (0 : Fin 1) p e)) (Ideal.ofBits .f32 0x0DA24260#32)) = (a1 : EReal)) :
    k0_pay545 (F := Ideal) x A0 L0 A1 L1 (ix2 p e) = ((a0 - lam * a1 : ℝ) : EReal) := by
  unfold k0_pay545 k0_pay544
  pointwise
  rw [h0, h1, hl, ← EReal.coe_mul, ← EReal.coe_sub]

theorem pay548_apply (x : FVec Ideal S4x64 .f32) (A0 L0 A1 L1 : FVec Ideal S1x256x128 .f32) (lam a0 a1 : ℝ) (p : Fin 256) (e : Fin 128)
    (hl : Ideal.exp (∑ d : Fin 64, x (ix2 (0 : Fin 4) d) * x (ix2 (1 : Fin 4) d)) - Ideal.exp (∑ d : Fin 64, x (ix2 (2 : Fin 4) d) * x (ix2 (3 : Fin 4) d)) + Ideal.ofBits .f32 0x3E4CCCCD#32 = (lam : EReal))
    (h0 : Ideal.div (A0 (ix3 (0 : Fin 1) p e)) (max (L0 (ix3 (0 : Fin 1) p e)) (Ideal.ofBits .f32 0x0DA24260#32)) = (a0 : EReal))
    (h1 : Ideal.div (A1 (ix3 (0 : Fin 1) p e)) (max (L1 (ix3 (0 : Fin 1) p e)) (Ideal.ofBits .f32 0x0DA24260#32)) = (a1 : EReal)) :
    k0_pay548 (F := Ideal) (k0_pay544 (F := Ideal) x) A0 L0 A1 L1 (ix2 p e) = ((a0 - lam * a1 : ℝ) : EReal) := by
  unfold k0_pay548 k0_pay544
  pointwise
  rw [h0, h1, hl, ← EReal.coe_mul, ← EReal.coe_sub]

theorem pay547_apply (x : FVec Ideal S4x64 .f32) (A0 L0 A1 L1 : FVec Ideal S1x256x128 .f32) (s : FVec Ideal S1x128 .f32) (p : Fin 256) (e : Fin 128) :
    k0_pay547 (F := Ideal) (k0_pay545 (F := Ideal) x A0 L0 A1 L1) s (k0_pay546 (F := Ideal) x A0 L0 A1 L1) (ix3 (0 : Fin 1) p e)
      = nrm (fun e => k0_pay545 (F := Ideal) x A0 L0 A1 L1 (ix2 p e)) (fun e => s (ix2 (0 : Fin 1) e)) e := by
  unfold k0_pay547 k0_pay546 nrm
  pointwise

theorem pay1_apply (x : FVec Ideal S1x1 .f32) (A0 L0 A1 L1 : FVec Ideal S1x256x128 .f32) (s : FVec Ideal S1x128 .f32) (p : Fin 256) (e : Fin 128) :
    k0_pay1 (F := Ideal) (k0_pay548 (F := Ideal) x A0 L0 A1 L1) s (k0_pay549 (F := Ideal) x A0 L0 A1 L1) (ix3 (0 : Fin 1) p e)
      = nrm (fun e => k0_pay548 (F := Ideal) x A0 L0 A1 L1 (ix2 p e)) (fun e => s (ix2 (0 : Fin 1) e)) e := by
  unfold k0_pay1 k0_pay549 nrm
  pointwise

/-- Two halves of lanes stored and read back. -/
theorem read_halves (V : View sig .tc .vmem S1x256x256 .f32) (f : BufTy.Contents (Elt Ideal) V.ty) (w1 w0 : FVec Ideal S1x256x128 .f32)
    (i1 : ∀ a, (![0, 0, 128] : Fin 3 → ℕ) a + S1x256x128.size a ≤ S1x256x256.size a)
    (i0 : ∀ a, (![0, 0, 0] : Fin 3 → ℕ) a + S1x256x128.size a ≤ S1x256x256.size a) (r : Fin 2) (p : Fin 256) (e : Fin 128) :
    V.read (Elt Ideal) (V.writes (Elt Ideal) f [⟨Rect.unit (s := S1x256x256) ![0, 0, 128] S1x256x128.size i1, w1⟩, ⟨Rect.unit (s := S1x256x256) ![0, 0, 0] S1x256x128.size i0, w0⟩])
      (ix3 (0 : Fin 1) p (⟨r.val * 128 + e.val, by omega⟩ : Fin 256)) = (if r.val = 0 then w0 else w1) (ix3 (0 : Fin 1) p e) := by
  have he := e.isLt
  by_cases hr : r.val = 0
  · rw [if_pos hr, View.read_writes_cons_unit_of_not_mem V f i1 w1 _ _ rfl 2 (by
      show r.val * 128 + e.val < 128 ∨ 128 + 128 ≤ r.val * 128 + e.val
      omega)]
    exact View.read_writes_cons_unit_of_mem V f i0 w0 [] _ (ix3 (0 : Fin 1) p e) rfl (by
      intro a
      match a with
      | ⟨0, _⟩ => rfl
      | ⟨1, _⟩ => show p.val = 0 + p.val; omega
      | ⟨2, _⟩ => show r.val * 128 + e.val = 0 + e.val; omega)
  · rw [if_neg hr]
    have := r.isLt
    exact View.read_writes_cons_unit_of_mem V f i1 w1 _ _ (ix3 (0 : Fin 1) p e) rfl (by
      intro a
      match a with
      | ⟨0, _⟩ => rfl
      | ⟨1, _⟩ => show p.val = 0 + p.val; omega
      | ⟨2, _⟩ => show r.val * 128 + e.val = 128 + e.val; omega)

section

variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x256x256 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x256x256 .f32) (harg8 : arg8.IsWhole) (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
    (x0 : FVec Ideal S4x64 .f32) (x1 : FVec Ideal S1x128 .f32) (x2 : FVec Ideal S1x256x256 .f32) (x3 : FVec Ideal S1x2048x128 .f32) (x4 : FVec Ideal S1x2048x128 .f32)

theorem rd3 : arg3.view.readAt (Elt Ideal) (Rect.unit (s := S4x64) ![0, 0] S4x64.size inb_S4x64_S4x64_0_0).toLoadRect (harg3.unread x0) = x0 := by
  funext j
  refine (View.readAt_apply _ _ _).trans ?_
  refine (congrFun (Memref.IsWhole.read_unread (Val := Elt Ideal) harg3 x0) _).trans ?_
  refine congrArg x0 ?_
  funext a
  apply Fin.ext
  match a with
  | ⟨0, _⟩ => show 0 + 1 * _ = _; rw [Nat.one_mul, Nat.zero_add]
  | ⟨1, _⟩ => show 0 + 1 * _ = _; rw [Nat.one_mul, Nat.zero_add]

theorem rd4 : arg4.view.readAt (Elt Ideal) (Rect.unit (s := S1x128) ![0, 0] S1x128.size inb_S1x128_S1x128_0_0).toLoadRect (harg4.unread x1) = x1 := by
  funext j
  refine (View.readAt_apply _ _ _).trans ?_
  refine (congrFun (Memref.IsWhole.read_unread (Val := Elt Ideal) harg4 x1) _).trans ?_
  refine congrArg x1 ?_
  funext a
  apply Fin.ext
  match a with
  | ⟨0, _⟩ => show 0 + 1 * _ = _; rw [Nat.one_mul, Nat.zero_add]
  | ⟨1, _⟩ => show 0 + 1 * _ = _; rw [Nat.one_mul, Nat.zero_add]

/-- A head's sums over its normalisers are its attention. -/
theorem head_att (xr : Fin 256 → Fin 256 → ℝ) (Kr Vr : ℕ → Fin 128 → ℝ)
    (h2 : ∀ p j, x2 (ix3 (0 : Fin 1) p j) = ((xr p j : ℝ) : EReal))
    (h3 : ∀ (k : Fin 2048) d, x3 (ix3 (0 : Fin 1) k d) = ((Kr k.val d : ℝ) : EReal))
    (h4 : ∀ (k : Fin 2048) d, x4 (ix3 (0 : Fin 1) k d) = ((Vr k.val d : ℝ) : EReal)) (r s : Fin 2) (hh : Fin 4) (hc : hh.val = 2 * r.val + s.val) (p : Fin 256) (e : Fin 128) :
    Ideal.div (hd arg11 (wr arg11 (L8 c i arg3 harg3 arg4 harg4 arg5 harg5 arg6 harg6 arg7 harg7 arg8 harg8 arg9 harg9 arg10 harg10 arg11 harg11 x2 x3 x4).2.2) hh (ix2 p e)) (max (hd arg10 (wr arg10 (L8 c i arg3 harg3 arg4 harg4 arg5 harg5 arg6 harg6 arg7 harg7 arg8 harg8 arg9 harg9 arg10 harg10 arg11 harg11 x2 x3 x4).2.1) hh (ix2 p e)) (Ideal.ofBits .f32 0x0DA24260#32))
      = ((att (256 * (i 2).val + p.val) (xb xr Kr r s p) Vr e : ℝ) : EReal) := by
  obtain ⟨z, hz, hzc⟩ := c1e30
  rw [hzc]
  have h := L8_St c i arg3 harg3 arg4 harg4 arg5 harg5 arg6 harg6 arg7 harg7 arg8 harg8 arg9 harg9 arg10 harg10 arg11 harg11 x2 x3 x4 xr Kr Vr h2 h3 h4 hh p
  have hp := p.isLt
  refine row_done _ _ (xb xr Kr r s p) _ Vr _ _ _ z hz h (by omega) (fun k => ?_) e
  rw [sc_half xr Kr r s hh hc, two_pow]
  rfl

/-- The block a grid point leaves. -/
theorem out_eq (xr : Fin 256 → Fin 256 → ℝ) (Kr Vr : ℕ → Fin 128 → ℝ) (lam : ℝ)
    (hl : Ideal.exp (∑ d : Fin 64, x0 (ix2 (0 : Fin 4) d) * x0 (ix2 (1 : Fin 4) d)) - Ideal.exp (∑ d : Fin 64, x0 (ix2 (2 : Fin 4) d) * x0 (ix2 (3 : Fin 4) d)) + Ideal.ofBits .f32 0x3E4CCCCD#32 = (lam : EReal))
    (h2 : ∀ p j, x2 (ix3 (0 : Fin 1) p j) = ((xr p j : ℝ) : EReal))
    (h3 : ∀ (k : Fin 2048) d, x3 (ix3 (0 : Fin 1) k d) = ((Kr k.val d : ℝ) : EReal))
    (h4 : ∀ (k : Fin 2048) d, x4 (ix3 (0 : Fin 1) k d) = ((Vr k.val d : ℝ) : EReal)) (r : Fin 2) (p : Fin 256) (e : Fin 128) :
    out0_A_5 (F := Ideal) c i arg3 harg3 arg4 harg4 arg5 harg5 arg6 harg6 arg7 harg7 arg8 harg8 arg9 harg9 arg10 harg10 arg11 harg11 x0 x1 x2 x3 x4 (ix3 (0 : Fin 1) p (⟨r.val * 128 + e.val, by omega⟩ : Fin 256))
      = nrm (fun e => ((att (256 * (i 2).val + p.val) (xb xr Kr r 0 p) Vr e - lam * att (256 * (i 2).val + p.val) (xb xr Kr r 1 p) Vr e : ℝ) : EReal)) (fun e => x1 (ix2 (0 : Fin 1) e)) e := by
  have H := fun r s hh hc e => head_att c i arg3 harg3 arg4 harg4 arg5 harg5 arg6 harg6 arg7 harg7 arg8 harg8 arg9 harg9 arg10 harg10 arg11 harg11 x2 x3 x4 xr Kr Vr h2 h3 h4 r s hh hc p e
  have h164 : ∀ e, kernelRun0_A.sl.v164 (F := Ideal) c i arg3 harg3 arg4 harg4 arg5 harg5 arg6 harg6 arg7 harg7 arg8 harg8 arg9 harg9 arg10 harg10 arg11 harg11 x2 x3 x4 (ix3 (0 : Fin 1) p e) = hd arg11 (wr arg11 (L8 c i arg3 harg3 arg4 harg4 arg5 harg5 arg6 harg6 arg7 harg7 arg8 harg8 arg9 harg9 arg10 harg10 arg11 harg11 x2 x3 x4).2.2) 0 (ix2 p e) := fun e => (sc_apply _ p e).symm.trans (congrFun (v164_eq c i arg3 harg3 arg4 harg4 arg5 harg5 arg6 harg6 arg7 harg7 arg8 harg8 arg9 harg9 arg10 harg10 arg11 harg11 x2 x3 x4) _)
  have h166 : ∀ e, kernelRun0_A.sl.v166 (F := Ideal) c i arg3 harg3 arg4 harg4 arg5 harg5 arg6 harg6 arg7 harg7 arg8 harg8 arg9 harg9 arg10 harg10 arg11 harg11 x2 x3 x4 (ix3 (0 : Fin 1) p e) = hd arg10 (wr arg10 (L8 c i arg3 harg3 arg4 harg4 arg5 harg5 arg6 harg6 arg7 harg7 arg8 harg8 arg9 harg9 arg10 harg10 arg11 harg11 x2 x3 x4).2.1) 0 (ix2 p e) := fun e => (sc_apply _ p e).symm.trans (congrFun (v166_eq c i arg3 harg3 arg4 harg4 arg5 harg5 arg6 harg6 arg7 harg7 arg8 harg8 arg9 harg9 arg10 harg10 arg11 harg11 x2 x3 x4) _)
  have h171 : ∀ e, kernelRun0_A.sl.v171 (F := Ideal) c i arg3 harg3 arg4 harg4 arg5 harg5 arg6 harg6 arg7 harg7 arg8 harg8 arg9 harg9 arg10 harg10 arg11 harg11 x2 x3 x4 (ix3 (0 : Fin 1) p e) = hd arg11 (wr arg11 (L8 c i arg3 harg3 arg4 harg4 arg5 harg5 arg6 harg6 arg7 harg7 arg8 harg8 arg9 harg9 arg10 harg10 arg11 harg11 x2 x3 x4).2.2) 1 (ix2 p e) := fun e => (sc_apply _ p e).symm.trans (congrFun (v171_eq c i arg3 harg3 arg4 harg4 arg5 harg5 arg6 harg6 arg7 harg7 arg8 harg8 arg9 harg9 arg10 harg10 arg11 harg11 x2 x3 x4) _)
  have h173 : ∀ e, kernelRun0_A.sl.v173 (F := Ideal) c i arg3 harg3 arg4 harg4 arg5 harg5 arg6 harg6 arg7 harg7 arg8 harg8 arg9 harg9 arg10 harg10 arg11 harg11 x2 x3 x4 (ix3 (0 : Fin 1) p e) = hd arg10 (wr arg10 (L8 c i arg3 harg3 arg4 harg4 arg5 harg5 arg6 harg6 arg7 harg7 arg8 harg8 arg9 harg9 arg10 harg10 arg11 harg11 x2 x3 x4).2.1) 1 (ix2 p e) := fun e => (sc_apply _ p e).symm.trans (congrFun (v173_eq c i arg3 harg3 arg4 harg4 arg5 harg5 arg6 harg6 arg7 harg7 arg8 harg8 arg9 harg9 arg10 harg10 arg11 harg11 x2 x3 x4) _)
  have h199 : ∀ e, kernelRun0_A.sl.v199 (F := Ideal) c i arg3 harg3 arg4 harg4 arg5 harg5 arg6 harg6 arg7 harg7 arg8 harg8 arg9 harg9 arg10 harg10 arg11 harg11 x2 x3 x4 (ix3 (0 : Fin 1) p e) = hd arg11 (wr arg11 (L8 c i arg3 harg3 arg4 harg4 arg5 harg5 arg6 harg6 arg7 harg7 arg8 harg8 arg9 harg9 arg10 harg10 arg11 harg11 x2 x3 x4).2.2) 2 (ix2 p e) := fun e => (sc_apply _ p e).symm.trans (congrFun (v199_eq c i arg3 harg3 arg4 harg4 arg5 harg5 arg6 harg6 arg7 harg7 arg8 harg8 arg9 harg9 arg10 harg10 arg11 harg11 x2 x3 x4) _)
  have h201 : ∀ e, kernelRun0_A.sl.v201 (F := Ideal) c i arg3 harg3 arg4 harg4 arg5 harg5 arg6 harg6 arg7 harg7 arg8 harg8 arg9 harg9 arg10 harg10 arg11 harg11 x2 x3 x4 (ix3 (0 : Fin 1) p e) = hd arg10 (wr arg10 (L8 c i arg3 harg3 arg4 harg4 arg5 harg5 arg6 harg6 arg7 harg7 arg8 harg8 arg9 harg9 arg10 harg10 arg11 harg11 x2 x3 x4).2.1) 2 (ix2 p e) := fun e => (sc_apply _ p e).symm.trans (congrFun (v201_eq c i arg3 harg3 arg4 harg4 arg5 harg5 arg6 harg6 arg7 harg7 arg8 harg8 arg9 harg9 arg10 harg10 arg11 harg11 x2 x3 x4) _)
  have h206 : ∀ e, kernelRun0_A.sl.v206 (F := Ideal) c i arg3 harg3 arg4 harg4 arg5 harg5 arg6 harg6 arg7 harg7 arg8 harg8 arg9 harg9 arg10 harg10 arg11 harg11 x2 x3 x4 (ix3 (0 : Fin 1) p e) = hd arg11 (wr arg11 (L8 c i arg3 harg3 arg4 harg4 arg5 harg5 arg6 harg6 arg7 harg7 arg8 harg8 arg9 harg9 arg10 harg10 arg11 harg11 x2 x3 x4).2.2) 3 (ix2 p e) := fun e => (sc_apply _ p e).symm.trans (congrFun (v206_eq c i arg3 harg3 arg4 harg4 arg5 harg5 arg6 harg6 arg7 harg7 arg8 harg8 arg9 harg9 arg10 harg10 arg11 harg11 x2 x3 x4) _)
  have h208 : ∀ e, kernelRun0_A.sl.v208 (F := Ideal) c i arg3 harg3 arg4 harg4 arg5 harg5 arg6 harg6 arg7 harg7 arg8 harg8 arg9 harg9 arg10 harg10 arg11 harg11 x2 x3 x4 (ix3 (0 : Fin 1) p e) = hd arg10 (wr arg10 (L8 c i arg3 harg3 arg4 harg4 arg5 harg5 arg6 harg6 arg7 harg7 arg8 harg8 arg9 harg9 arg10 harg10 arg11 harg11 x2 x3 x4).2.1) 3 (ix2 p e) := fun e => (sc_apply _ p e).symm.trans (congrFun (v208_eq c i arg3 harg3 arg4 harg4 arg5 harg5 arg6 harg6 arg7 harg7 arg8 harg8 arg9 harg9 arg10 harg10 arg11 harg11 x2 x3 x4) _)
  unfold out0_A_5
  unfold kernelRun0_A
  dsimp only
  refine (read_halves VO0_5 _ _ _ _ _ r p e).trans ?_
  by_cases hr : r.val = 0
  · rw [if_pos hr]
    obtain rfl : r = 0 := Fin.ext hr
    unfold kernelRun0_A.sl.r_6 kernelRun0_A.sl.r_7 kernelRun0_A.sl.r_8
    rw [rd3, rd4, pay547_apply]
    refine congrArg (fun o => nrm o _ e) (funext fun e => ?_)
    refine pay545_apply x0 _ _ _ _ lam _ _ p e hl ?_ ?_
    · rw [h164, h166]; exact H 0 0 0 rfl e
    · rw [h171, h173]; exact H 0 1 1 rfl e
  · rw [if_neg hr]
    have := r.isLt
    obtain rfl : r = 1 := Fin.ext (by show r.val = 1; omega)
    unfold kernelRun0_A.sl.r_7 kernelRun0_A.sl.r_9 kernelRun0_A.sl.r_10 kernelRun0_A.sl.r_5
    rw [rd3, rd4, pay1_apply]
    refine congrArg (fun o => nrm o _ e) (funext fun e => ?_)
    refine pay548_apply x0 _ _ _ _ lam _ _ p e hl ?_ ?_
    · rw [h199, h201]; exact H 1 0 2 rfl e
    · rw [h206, h208]; exact H 1 1 3 rfl e

end

end Diff

end
-- ==== Proof.Arr.lean ====
module

public import proofs.«01_k».proof.Proof.Out
public import Idealize.ShloMosaic.Lib.Pipeline.ValueKit

@[expose] public section

set_option maxRecDepth 16384

noncomputable section

namespace Diff

open Idealize.ShloMosaic Idealize.ShloMosaic.TcCoe Idealize.SL.Sem Finset Cert.KernelIdeal Cert.KernelIdeal.Gen
open Idealize.ShloMosaic.Pipeline (Dat)

variable (m : (ℓ : Loc nD τ sig) → Buf (Elt Ideal) ℓ) (c : Dev nD)

/-- Which block of its array each window holds at grid point `t`, and the chunk of queries there. -/
theorem idx_val : ∀ t : Fin cfg0.N, win0_0.index t = ![0, 0] ∧ win0_1.index t = ![0, 0]
    ∧ win0_2.index t = ![t.val / 16, t.val % 8, t.val / 8 % 2] ∧ win0_3.index t = ![t.val / 16, 0, t.val / 8 % 2]
    ∧ win0_4.index t = ![t.val / 16, 0, t.val / 8 % 2] ∧ win0_5.index t = ![t.val / 16, t.val % 8, t.val / 8 % 2]
    ∧ (grid0.coords t 2).val = t.val % 8 ∧ t.val < 128 :=
  (by decide +kernel : ∀ t : Fin grid0.N, _)

/-- The block of the four lambda vectors is the whole of them. -/
theorem blk_0 (t : Fin cfg0.N) (a : Fin 4) (d : Fin 64) :
    iblk m c 0 t (ix2 a d) = m ((c.tc : Thread nD τ).loc main_arg0) (ix2 a d) := by
  blk_ext [iblk, V, idx_val t]

/-- The block of the learnt scale is the whole of it. -/
theorem blk_1 (t : Fin cfg0.N) (d : Fin 128) :
    iblk m c 1 t (ix2 (0 : Fin 1) d) = m ((c.tc : Thread nD τ).loc main_arg1) (ix2 (0 : Fin 1) d) := by
  blk_ext [iblk, V, idx_val t]

/-- The block of queries at a grid point. -/
theorem blk_2 (t : Fin cfg0.N) (b : Fin 8) (g : Fin 2) (q : Fin 2048) (p j : Fin 256) (hb : b.val = t.val / 16) (hg : g.val = t.val / 8 % 2)
    (hq : q.val = 256 * (t.val % 8) + p.val) :
    iblk m c 2 t (ix3 (0 : Fin 1) p j) = m ((c.tc : Thread nD τ).loc main_arg2) (ix3 b q ⟨g.val * 256 + j.val, by omega⟩) := by
  blk_ext [iblk, V, idx_val t]

/-- The block of keys at a grid point. -/
theorem blk_3 (t : Fin cfg0.N) (b : Fin 8) (g : Fin 2) (k : Fin 2048) (d : Fin 128) (hb : b.val = t.val / 16) (hg : g.val = t.val / 8 % 2) :
    iblk m c 3 t (ix3 (0 : Fin 1) k d) = m ((c.tc : Thread nD τ).loc main_arg3) (ix3 b k ⟨g.val * 128 + d.val, by omega⟩) := by
  blk_ext [iblk, V, idx_val t]

/-- The block of values at a grid point. -/
theorem blk_4 (t : Fin cfg0.N) (b : Fin 8) (g : Fin 2) (k : Fin 2048) (d : Fin 128) (hb : b.val = t.val / 16) (hg : g.val = t.val / 8 % 2) :
    iblk m c 4 t (ix3 (0 : Fin 1) k d) = m ((c.tc : Thread nD τ).loc main_arg4) (ix3 b k ⟨g.val * 128 + d.val, by omega⟩) := by
  blk_ext [iblk, V, idx_val t]

/-- A key read at a key's number is the key. -/
theorem kr_eq (ak : A8x2048x256.Idx → EReal) (h : Fin' ak) (b : Fin 8) (g : Fin 2) (k : Fin 2048) (d : Fin 128) :
    ak (ix3 b k ⟨g.val * 128 + d.val, by omega⟩) = ((kr ak b g k.val d : ℝ) : EReal) := by
  have e : (⟨k.val % 2048, Nat.mod_lt _ (by norm_num)⟩ : Fin 2048) = k := Fin.ext (Nat.mod_eq_of_lt k.isLt)
  unfold kr
  rw [e]
  exact coe_of h _

/-- What a grid point leaves in the output block is the differential attention of its queries. -/
theorem point (h0 : Fin' (s := A4x64) (m ((c.tc : Thread nD τ).loc main_arg0))) (h2 : Fin' (s := A8x2048x512) (m ((c.tc : Thread nD τ).loc main_arg2)))
    (h3 : Fin' (s := A8x2048x256) (m ((c.tc : Thread nD τ).loc main_arg3))) (h4 : Fin' (s := A8x2048x256) (m ((c.tc : Thread nD τ).loc main_arg4)))
    (t : Fin cfg0.N) (b : Fin 8) (g r : Fin 2) (q : Fin 2048) (p : Fin 256) (e : Fin 128) (hb : b.val = t.val / 16) (hg : g.val = t.val / 8 % 2)
    (hq : q.val = 256 * (t.val % 8) + p.val) :
    outsAt0 m c t (ix3 (0 : Fin 1) p ⟨r.val * 128 + e.val, by omega⟩)
      = nrm (fun e => ((oS (m ((c.tc : Thread nD τ).loc main_arg0)) (m ((c.tc : Thread nD τ).loc main_arg2)) (m ((c.tc : Thread nD τ).loc main_arg3)) (m ((c.tc : Thread nD τ).loc main_arg4)) b q g r e : ℝ) : EReal))
          (fun e => m ((c.tc : Thread nD τ).loc main_arg1) (ix2 (0 : Fin 1) e)) e := by
  have hc := (idx_val t).2.2.2.2.2.2.1
  have ht := (idx_val t).2.2.2.2.2.2.2
  have hQ : ∀ p' : Fin 256, 256 * (t.val % 8) + p'.val < 2048 := fun p' => by omega
  unfold outsAt0
  refine (out_eq _ _ _ _ _ _ _ _ _ _ _ _ _ _ _ _ _ _ _ _ _ _ _ _ _
    (fun p' j => (m ((c.tc : Thread nD τ).loc main_arg2) (ix3 b (⟨256 * (t.val % 8) + p'.val, hQ p'⟩ : Fin 2048) (⟨g.val * 256 + j.val, by omega⟩ : Fin 512)) : EReal).toReal)
    (kr (m ((c.tc : Thread nD τ).loc main_arg3)) b g) (kr (m ((c.tc : Thread nD τ).loc main_arg4)) b g)
    (lamR (m ((c.tc : Thread nD τ).loc main_arg0))) ?_ ?_ ?_ ?_ r p e).trans ?_
  · simp only [blk_0 m c t]
    exact lam_eq _ h0
  · intro p' j
    exact (blk_2 m c t b g _ p' j hb hg rfl).trans (coe_of h2 _)
  · intro k d
    exact (blk_3 m c t b g k d hb hg).trans (kr_eq _ h3 b g k d)
  · intro k d
    exact (blk_4 m c t b g k d hb hg).trans (kr_eq _ h4 b g k d)
  · have hx : ∀ s : Fin 2, xb (fun p' j => (m ((c.tc : Thread nD τ).loc main_arg2) (ix3 b (⟨256 * (t.val % 8) + p'.val, hQ p'⟩ : Fin 2048) (⟨g.val * 256 + j.val, by omega⟩ : Fin 512)) : EReal).toReal)
        (kr (m ((c.tc : Thread nD τ).loc main_arg3)) b g) r s p = xs (m ((c.tc : Thread nD τ).loc main_arg2)) (m ((c.tc : Thread nD τ).loc main_arg3)) b g r s q := by
      intro s
      have eq' : (⟨256 * (t.val % 8) + p.val, hQ p⟩ : Fin 2048) = q := Fin.ext hq.symm
      funext k
      unfold xb xs
      refine congrArg (· * (1 / 8 : ℝ)) (sum_congr rfl fun d _ => ?_)
      dsimp only
      rw [eq']
      refine congrArg (fun z : Fin 512 => _ * (m ((c.tc : Thread nD τ).loc main_arg2) (ix3 b q z) : EReal).toReal) (Fin.ext ?_)
      show g.val * 256 + (r.val * 128 + s.val * 64 + d.val) = _
      show _ = g.val * 256 + r.val * 128 + s.val * 64 + d.val
      omega
    rw [hx, hx, hc, ← hq]
    unfold oS
    simp only [blk_1 m c t]

/-- The same, at an index of the block and the index of the array it lies at. -/
theorem point_at (h0 : Fin' (s := A4x64) (m ((c.tc : Thread nD τ).loc main_arg0))) (h2 : Fin' (s := A8x2048x512) (m ((c.tc : Thread nD τ).loc main_arg2)))
    (h3 : Fin' (s := A8x2048x256) (m ((c.tc : Thread nD τ).loc main_arg3))) (h4 : Fin' (s := A8x2048x256) (m ((c.tc : Thread nD τ).loc main_arg4)))
    (t : Fin cfg0.N) (y : S1x256x256.Idx) (z : A8x2048x512.Idx) (e0 : (z 0).val = t.val / 16) (e1 : (z 1).val = 256 * (t.val % 8) + (y 1).val)
    (e2 : (z 2).val = 256 * (t.val / 8 % 2) + (y 2).val) :
    outsAt0 m c t y
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) z := by
  have ht := (idx_val t).2.2.2.2.2.2.2
  have y0 : (y 0).val < 1 := (y 0).isLt
  have y1 : (y 1).val < 256 := (y 1).isLt
  have y2 : (y 2).val < 256 := (y 2).isLt
  have z2 : (z 2).val < 512 := (z 2).isLt
  have ey : y = ix3 (0 : Fin 1) (⟨(y 1).val, y1⟩ : Fin 256) (⟨(y 2).val / 128 * 128 + (y 2).val % 128, by omega⟩ : Fin 256) := by
    funext a
    refine Fin.ext ?_
    fin_cases a
    · show (y 0).val = 0; omega
    · rfl
    · show (y 2).val = (y 2).val / 128 * 128 + (y 2).val % 128; omega
  refine (congrArg (outsAt0 m c t) ey).trans ?_
  refine (point m c h0 h2 h3 h4 t (z 0) ⟨t.val / 8 % 2, by omega⟩ ⟨(y 2).val / 128, by omega⟩ (z 1) ⟨(y 1).val, y1⟩ ⟨(y 2).val % 128, by omega⟩ e0 rfl e1).trans ?_
  unfold G
  have a1 : (⟨t.val / 8 % 2, by omega⟩ : Fin 2) = ⟨(z 2).val / 256, by omega⟩ := Fin.ext (by show t.val / 8 % 2 = (z 2).val / 256; omega)
  have a2 : (⟨(y 2).val / 128, by omega⟩ : Fin 2) = ⟨(z 2).val / 128 % 2, by omega⟩ := Fin.ext (by show (y 2).val / 128 = (z 2).val / 128 % 2; omega)
  have a3 : (⟨(y 2).val % 128, by omega⟩ : Fin 128) = ⟨(z 2).val % 128, by omega⟩ := Fin.ext (by show (y 2).val % 128 = (z 2).val % 128; omega)
  rw [a1, a2, a3]

/-- After the run the output array holds the differential attention, written with sums over the real numbers. -/
theorem arr_eq (h0 : Fin' (s := A4x64) (m ((c.tc : Thread nD τ).loc main_arg0))) (h2 : Fin' (s := A8x2048x512) (m ((c.tc : Thread nD τ).loc main_arg2)))
    (h3 : Fin' (s := A8x2048x256) (m ((c.tc : Thread nD τ).loc main_arg3))) (h4 : Fin' (s := A8x2048x256) (m ((c.tc : Thread nD τ).loc main_arg4))) :
    (dats m 0 c).arrAt 5 cfg0.N
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t _ y => ?_
  blk_simp
  rw [after0_5]
  refine point_at m c h0 h2 h3 h4 t y _ ?_ ?_ ?_
  · have y0 : (y 0).val < 1 := (y 0).isLt
    blk_simp [idx_val t]
    try omega
  · blk_simp [idx_val t]
    try omega
  · blk_simp [idx_val t]
    try omega

end Diff

end
-- ==== Proof.Ref.lean ====
module

public import proofs.«01_k».proof.Proof.Spec
public import proofs.«01_k».proof.Proof.Gen.ReferenceIdeal.Run
public import Idealize.ShloMosaic.Lib.Pointwise

@[expose] public section

set_option maxRecDepth 16384

noncomputable section

namespace Diff.Ref

open Idealize.ShloMosaic Idealize.ShloMosaic.TcCoe Idealize.SL.Sem Finset Cert.ReferenceIdeal Cert.ReferenceIdeal.Gen

/-- The reference's lambda. -/
def lamT (x0 : FVec Ideal S4x64 .f32) : FVec Ideal S_ .f32 :=
  addf (subf (Host.exp (Host.reduceAdd (mulf (shapeCast S64 (extractStridedSlice S1x64 ![0, 0] x0 slices_S4x64_S1x64_0_0) shapeCasts_S1x64_S64) (shapeCast S64 (extractStridedSlice S1x64 ![1, 0] x0 slices_S4x64_S1x64_1_0) shapeCasts_S1x64_S64)) (constant S_ .f32 0x00000000#32) reducesTo_S64_S_d0 h_S_))
    (Host.exp (Host.reduceAdd (mulf (shapeCast S64 (extractStridedSlice S1x64 ![2, 0] x0 slices_S4x64_S1x64_2_0) shapeCasts_S1x64_S64) (shapeCast S64 (extractStridedSlice S1x64 ![3, 0] x0 slices_S4x64_S1x64_3_0) shapeCasts_S1x64_S64)) (constant S_ .f32 0x00000000#32) reducesTo_S64_S_d0 h_S_)))
    (constant S_ .f32 0x3E4CCCCD#32)

/-- The scores, scaled. -/
def scT (aq : FVec Ideal S8x2048x512 .f32) (ak : FVec Ideal S8x2048x256 .f32) : FVec Ideal S8x2x2x2x2048x2048 .f32 :=
  mulf (transpose S8x2x2x2x2048x2048 [0, 1, 5, 2, 4, 3] (Host.dotGeneral dot_S8x2048x2x2x64_S8x2048x2x2x2x64_S8x2x2x2048x2048x2_4_5_1_13_023_024 none (shapeCast S8x2048x2x2x64 ak shapeCasts_S8x2048x256_S8x2048x2x2x64) (shapeCast S8x2048x2x2x2x64 aq shapeCasts_S8x2048x512_S8x2048x2x2x2x64)) transposes_S8x2x2x2048x2048x2_S8x2x2x2x2048x2048_0_1_5_2_4_3) (broadcastInDim S8x2x2x2x2048x2048 ![] bcast_S_S8x2x2x2x2048x2048 (constant S_ .f32 0x3E000000#32))

/-- Which key positions a query position sees. -/
def maskT : IVec S8x2x2x2x2048x2048 1 :=
  broadcastInDim S8x2x2x2x2048x2048 ![4, 5] bcast_S2048x2048_S8x2x2x2x2048x2048_4_5 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The scores, masked. -/
def msT (aq : FVec Ideal S8x2048x512 .f32) (ak : FVec Ideal S8x2048x256 .f32) : FVec Ideal S8x2x2x2x2048x2048 .f32 :=
  select maskT (scT aq ak) (broadcastInDim S8x2x2x2x2048x2048 ![] bcast_S_S8x2x2x2x2048x2048 (id (constant S_ .f32 0xFF800000#32)))

/-- The greatest score of each row. -/
def mxT (s : FVec Ideal S8x2x2x2x2048x2048 .f32) : FVec Ideal S8x2x2x2x2048 .f32 :=
  Host.reduce FloatOps.maximumf s (constant S_ .f32 0xFF800000#32) reducesTo_S8x2x2x2x2048x2048_S8x2x2x2x2048_d5 h_S_

/-- The exponentials of a row's scores less the greatest of them. -/
def peT (s : FVec Ideal S8x2x2x2x2048x2048 .f32) (mx : FVec Ideal S8x2x2x2x2048 .f32) : FVec Ideal S8x2x2x2x2048x2048 .f32 :=
  Host.exp (subf s (broadcastInDim S8x2x2x2x2048x2048 ![0, 1, 2, 3, 4, 5] bcast_S8x2x2x2x2048x1_S8x2x2x2x2048x2048_0_1_2_3_4_5
    (select (cmpf .olt (Host.absf (broadcastInDim S8x2x2x2x2048x1 ![0, 1, 2, 3, 4] bcast_S8x2x2x2x2048_S8x2x2x2x2048x1_0_1_2_3_4 mx)) (broadcastInDim S8x2x2x2x2048x1 ![] bcast_S_S8x2x2x2x2048x1 (constant S_ .f32 0x7F800000#32)))
      (broadcastInDim S8x2x2x2x2048x1 ![0, 1, 2, 3, 4] bcast_S8x2x2x2x2048_S8x2x2x2x2048x1_0_1_2_3_4 mx)
      (broadcastInDim S8x2x2x2x2048x1 ![] bcast_S_S8x2x2x2x2048x1 (id (constant S_ .f32 0x00000000#32))))))

/-- The sum of each row. -/
def smT (p : FVec Ideal S8x2x2x2x2048x2048 .f32) : FVec Ideal S8x2x2x2x2048 .f32 :=
  Host.reduceAdd p (constant S_ .f32 0x00000000#32) reducesTo_S8x2x2x2x2048x2048_S8x2x2x2x2048_d5 h_S_

/-- The weights of one row. -/
def wtT (p : FVec Ideal S8x2x2x2x2048x2048 .f32) (l : FVec Ideal S8x2x2x2x2048 .f32) : FVec Ideal S8x2x2x2x2048x2048 .f32 :=
  Host.divf p (broadcastInDim S8x2x2x2x2048x2048 ![0, 1, 2, 3, 4, 5] bcast_S8x2x2x2x2048x1_S8x2x2x2x2048x2048_0_1_2_3_4_5
    (maximumf (broadcastInDim S8x2x2x2x2048x1 ![0, 1, 2, 3, 4] bcast_S8x2x2x2x2048_S8x2x2x2x2048x1_0_1_2_3_4 l) (broadcastInDim S8x2x2x2x2048x1 ![] bcast_S_S8x2x2x2x2048x1 (constant S_ .f32 0x0DA24260#32))))

/-- The differential attention's sums, before the norm. -/
def oT (w : FVec Ideal S8x2x2x2x2048x2048 .f32) (lam : FVec Ideal S_ .f32) (av : FVec Ideal S8x2048x256 .f32) : FVec Ideal S8x2048x2x2x128 .f32 :=
  transpose S8x2048x2x2x128 [0, 4, 1, 3, 2] (Host.dotGeneral dot_S8x2048x2x128_S8x2x2x2048x2048_S8x2x128x2x2048_1_4_3_23_02_01 none (shapeCast S8x2048x2x128 av shapeCasts_S8x2048x256_S8x2048x2x128)
    (subf (shapeCast S8x2x2x2048x2048 (extractStridedSlice S8x2x2x1x2048x2048 ![0, 0, 0, 0, 0, 0] w slices_S8x2x2x2x2048x2048_S8x2x2x1x2048x2048_0_0_0_0_0_0) shapeCasts_S8x2x2x1x2048x2048_S8x2x2x2048x2048)
      (mulf (broadcastInDim S8x2x2x2048x2048 ![] bcast_S_S8x2x2x2048x2048 lam)
        (shapeCast S8x2x2x2048x2048 (extractStridedSlice S8x2x2x1x2048x2048 ![0, 0, 0, 1, 0, 0] w slices_S8x2x2x2x2048x2048_S8x2x2x1x2048x2048_0_0_0_1_0_0) shapeCasts_S8x2x2x1x2048x2048_S8x2x2x2048x2048)))) transposes_S8x2x128x2x2048_S8x2048x2x2x128_0_4_1_3_2

/-- The norm, the learnt scale and the constant factor. -/
def nmT (o : FVec Ideal S8x2048x2x2x128 .f32) (x1 : FVec Ideal S1x128 .f32) : FVec Ideal S8x2048x2x2x128 .f32 :=
  mulf (mulf (mulf o (broadcastInDim S8x2048x2x2x128 ![0, 1, 2, 3, 4] bcast_S8x2048x2x2x1_S8x2048x2x2x128_0_1_2_3_4
    (Host.rsqrt (addf (Host.divf (broadcastInDim S8x2048x2x2x1 ![0, 1, 2, 3] bcast_S8x2048x2x2_S8x2048x2x2x1_0_1_2_3 (Host.reduceAdd (mulf o o) (constant S_ .f32 0x00000000#32) reducesTo_S8x2048x2x2x128_S8x2048x2x2_d4 h_S_)) (broadcastInDim S8x2048x2x2x1 ![] bcast_S_S8x2048x2x2x1 (constant S_ .f32 0x43000000#32))) (broadcastInDim S8x2048x2x2x1 ![] bcast_S_S8x2048x2x2x1 (constant S_ .f32 0x358637BD#32))))))
    (broadcastInDim S8x2048x2x2x128 ![0, 1, 2, 3, 4] bcast_S1x1x1x1x128_S8x2048x2x2x128_0_1_2_3_4 (broadcastInDim S1x1x1x1x128 ![4] bcast_S128_S1x1x1x1x128_4 (shapeCast S128 x1 shapeCasts_S1x128_S128))))
    (broadcastInDim S8x2048x2x2x128 ![] bcast_S_S8x2048x2x2x128 (constant S_ .f32 0x3F4CCCCD#32))

/-- The reference's result. -/
def resT (x0 : FVec Ideal S4x64 .f32) (x1 : FVec Ideal S1x128 .f32) (aq : FVec Ideal S8x2048x512 .f32) (ak av : FVec Ideal S8x2048x256 .f32) : FVec Ideal S8x2048x512 .f32 :=
  shapeCast S8x2048x512 (nmT (oT (wtT (peT (msT aq ak) (mxT (msT aq ak))) (smT (peT (msT aq ak) (mxT (msT aq ak))))) (lamT x0) av) x1) shapeCasts_S8x2048x2x2x128_S8x2048x512

/-- The run's term is the one above of the arguments. -/
theorem res_eq (m : (ℓ : Loc nD τ sig) → Buf (Elt Ideal) ℓ) (c : Dev nD) :
    Cert.ReferenceIdeal.Value.res_main_v70 (F := Ideal) m c = resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Cert.ReferenceIdeal.Value.res_main_v70
  unfold resT nmT oT wtT smT peT mxT msT maskT scT lamT
  rfl

theorem ix6_inj {b : Fin 8} {g r c : Fin 2} {q k k' : Fin 2048} (h : (ix6 b g r c q k : S8x2x2x2x2048x2048.Idx) = ix6 b g r c q k') : k = k' :=
  congrFun h 5

/-- The places a row's reduction runs over. -/
theorem fiber (b : Fin 8) (g r c : Fin 2) (q : Fin 2048) (i : S8x2x2x2x2048x2048.Idx) :
    reducesTo_S8x2x2x2x2048x2048_S8x2x2x2x2048_d5.drop i = (ix5 b g r c q : S8x2x2x2x2048.Idx) ↔ ∃ k : Fin 2048, (ix6 b g r c q k : S8x2x2x2x2048x2048.Idx) = i := by
  constructor
  · intro e
    refine ⟨i 5, ?_⟩
    funext a; apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => exact (congrArg Fin.val (congrFun e ⟨4, by decide⟩)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

theorem lamT_apply (x0 : FVec Ideal S4x64 .f32) (h : Fin' (s := A4x64) x0) (j : S_.Idx) : lamT x0 j = ((lamR x0 : ℝ) : EReal) := by
  refine Eq.trans ?_ (lam_eq x0 h)
  unfold lamT
  pointwise

theorem c8 : Ideal.ofBits .f32 0x3E000000#32 = ((1 / 8 : ℝ) : EReal) := by
  simp [Ideal.ofBits, Ideal.ieee, -EReal.coe_mul]; norm_num

theorem scT_apply (aq : FVec Ideal S8x2048x512 .f32) (ak : FVec Ideal S8x2048x256 .f32) (hq : Fin' (s := A8x2048x512) aq) (hk : Fin' (s := A8x2048x256) ak)
    (b : Fin 8) (g r c : Fin 2) (q k : Fin 2048) :
    scT aq ak (ix6 b g r c q k) = ((xs aq ak b g r c q k.val : ℝ) : EReal) := by
  unfold scT
  pointwise
  unfold xs
  rw [c8, EReal.coe_mul, coe_sum]
  refine congrArg (· * _) (sum_congr rfl fun d _ => ?_)
  rw [EReal.coe_mul]
  refine congrArg₂ (· * ·) ?_ (coe_of hq _)
  refine (coe_of hk _).trans ?_
  unfold kr
  congr 3
  refine congrArg₂ (ix3 b) (Fin.ext (Nat.mod_eq_of_lt k.isLt).symm) (Fin.ext ?_)
  show g.val * 128 + c.val * 64 + d.val = g.val * 128 + (c.val * 64 + d.val)
  omega

theorem maskT_apply (b : Fin 8) (g r c : Fin 2) (q k : Fin 2048) : maskT (ix6 b g r c q k) = BitVec.ofBool (decide (k.val ≤ q.val)) := by
  unfold maskT
  pointwise
  have hk := k.isLt
  have hq := q.isLt
  unfold IntOp.cmpi
  simp only [BitVec.sle]
  congr 1
  rw [decide_eq_decide, BitVec.toInt_eq_toNat_of_lt (by simp; omega), BitVec.toInt_eq_toNat_of_lt (by simp; omega), BitVec.toNat_ofNat, BitVec.toNat_ofNat]
  omega

theorem cbot : Ideal.ofBits .f32 0xFF800000#32 = ⊥ := by
  simp [Ideal.ofBits, Ideal.ieee, -EReal.coe_mul]
theorem ctop : Ideal.ofBits .f32 0x7F800000#32 = ⊤ := by
  simp [Ideal.ofBits, Ideal.ieee, -EReal.coe_mul]

theorem msT_apply (aq : FVec Ideal S8x2048x512 .f32) (ak : FVec Ideal S8x2048x256 .f32) (hq : Fin' (s := A8x2048x512) aq) (hk : Fin' (s := A8x2048x256) ak)
    (b : Fin 8) (g r c : Fin 2) (q k : Fin 2048) :
    msT aq ak (ix6 b g r c q k) = if k.val ≤ q.val then ((xs aq ak b g r c q k.val : ℝ) : EReal) else ⊥ := by
  unfold msT
  pointwise
  rw [maskT_apply, scT_apply aq ak hq hk]
  show Scalar.select _ _ (Ideal.ofBits .f32 0xFF800000#32) = _
  rw [cbot]
  by_cases h : k.val ≤ q.val
  · simp [h, Scalar.select]
  · simp [h, Scalar.select]

theorem mxT_apply (s : FVec Ideal S8x2x2x2x2048x2048 .f32) (b : Fin 8) (g r c : Fin 2) (q : Fin 2048) :
    mxT s (ix5 b g r c q) = (univ : Finset (Fin 2048)).fold max ⊥ fun k => s (ix6 b g r c q k) := by
  unfold mxT
  pointwise
  rw [cbot]
  exact Finset.fold_filter_eq_fold_of_fiber max _ (fun k : Fin 2048 => (ix6 b g r c q k : S8x2x2x2x2048x2048.Idx)) (fun _ _ e => ix6_inj e) (fiber b g r c q) ⊥ s

theorem peT_apply (s : FVec Ideal S8x2x2x2x2048x2048 .f32) (mx : FVec Ideal S8x2x2x2x2048 .f32) (b : Fin 8) (g r c : Fin 2) (q k : Fin 2048)
    (μ : ℝ) (h : mx (ix5 b g r c q) = (μ : EReal)) :
    peT s mx (ix6 b g r c q k) = Ideal.exp (s (ix6 b g r c q k) - (μ : EReal)) := by
  unfold peT
  pointwise
  rw [h, ctop]
  refine congrArg (fun x => Ideal.exp (_ - x)) (if_pos ?_)
  exact EReal.coe_lt_top |μ|

theorem smT_apply (s : FVec Ideal S8x2x2x2x2048x2048 .f32) (b : Fin 8) (g r c : Fin 2) (q : Fin 2048) :
    smT s (ix5 b g r c q) = ∑ k : Fin 2048, s (ix6 b g r c q k) := by
  unfold smT
  pointwise
  unfold Ideal.hostReduceAdd
  rw [zero_add]
  exact Finset.sum_filter_eq_sum_of_fiber _ (fun k : Fin 2048 => (ix6 b g r c q k : S8x2x2x2x2048x2048.Idx)) (fun _ _ e => ix6_inj e) (fiber b g r c q) s

theorem wtT_apply (p : FVec Ideal S8x2x2x2x2048x2048 .f32) (l : FVec Ideal S8x2x2x2x2048 .f32) (b : Fin 8) (g r c : Fin 2) (q k : Fin 2048) :
    wtT p l (ix6 b g r c q k) = Ideal.div (p (ix6 b g r c q k)) (max (l (ix5 b g r c q)) (Ideal.ofBits FTy.f32 0x0DA24260#32)) := by
  unfold wtT
  pointwise

/-- The reference's weights are those of the masked softmax. -/
theorem weights (aq : FVec Ideal S8x2048x512 .f32) (ak : FVec Ideal S8x2048x256 .f32) (hq : Fin' (s := A8x2048x512) aq) (hk : Fin' (s := A8x2048x256) ak)
    (b : Fin 8) (g r c : Fin 2) (q k : Fin 2048) :
    wtT (peT (msT aq ak) (mxT (msT aq ak))) (smT (peT (msT aq ak) (mxT (msT aq ak)))) (ix6 b g r c q k) = ((wt q.val (xs aq ak b g r c q) k.val : ℝ) : EReal) := by
  have hM := msT_apply aq ak hq hk b g r c q
  obtain ⟨k0, hk0, hmx⟩ := max_row (xs aq ak b g r c q) q (fun k => msT aq ak (ix6 b g r c q k)) hM
  obtain ⟨e, he, hc⟩ := c1e30
  rw [wtT_apply, smT_apply, hc]
  exact wt_row (xs aq ak b g r c q) q (fun k => msT aq ak (ix6 b g r c q k)) (fun k => peT (msT aq ak) (mxT (msT aq ak)) (ix6 b g r c q k)) e he k0 hk0 hM
    (fun k => peT_apply _ _ b g r c q k _ ((mxT_apply _ b g r c q).trans hmx)) k

theorem oT_apply (w : FVec Ideal S8x2x2x2x2048x2048 .f32) (lam : FVec Ideal S_ .f32) (av : FVec Ideal S8x2048x256 .f32) (b : Fin 8) (q : Fin 2048) (g r : Fin 2) (e : Fin 128) :
    oT w lam av (ix5 b q g r e) = ∑ x : Fin 2048, av (ix3 b x ⟨g.val * 128 + e.val, by omega⟩) * (w (ix6 b g r 0 q x) - lam ix0 * w (ix6 b g r 1 q x)) := by
  unfold oT
  pointwise

theorem nmT_apply (o : FVec Ideal S8x2048x2x2x128 .f32) (x1 : FVec Ideal S1x128 .f32) (b : Fin 8) (q : Fin 2048) (g r : Fin 2) (e : Fin 128) :
    nmT o x1 (ix5 b q g r e) = nrm (fun e => o (ix5 b q g r e)) (fun e => x1 (ix2 (0 : Fin 1) e)) e := by
  unfold nmT nrm
  pointwise

theorem cast_apply (o : FVec Ideal S8x2048x2x2x128 .f32) (b : Fin 8) (q : Fin 2048) (l : Fin 512) :
    shapeCast S8x2048x512 o shapeCasts_S8x2048x2x2x128_S8x2048x512 (ix3 b q l)
      = o (ix5 b q (⟨l.val / 256, by omega⟩ : Fin 2) (⟨l.val / 128 % 2, by omega⟩ : Fin 2) (⟨l.val % 128, by omega⟩ : Fin 128)) := by
  pointwise

/-- The reference's result on finite arguments. -/
theorem resT_eq (x0 : FVec Ideal S4x64 .f32) (x1 : FVec Ideal S1x128 .f32) (aq : FVec Ideal S8x2048x512 .f32) (ak av : FVec Ideal S8x2048x256 .f32)
    (h0 : Fin' (s := A4x64) x0) (hq : Fin' (s := A8x2048x512) aq) (hk : Fin' (s := A8x2048x256) ak) (hv : Fin' (s := A8x2048x256) av) :
    resT x0 x1 aq ak av = G x0 x1 aq ak av := by
  funext j
  idx_vars j
  unfold resT
  rw [cast_apply, nmT_apply]
  unfold G
  refine congrArg (fun o => nrm o _ _) (funext fun e => ?_)
  rw [oT_apply, lamT_apply x0 h0]
  refine sum_att _ _ _ (kr av _ _) _ e _ _ _ (fun k => ?_) (fun k => weights aq ak hq hk _ _ _ 0 _ k) (fun k => weights aq ak hq hk _ _ _ 1 _ k)
  refine (coe_of hv _).trans ?_
  unfold kr
  congr 3
  exact congrArg₂ (ix3 _) (Fin.ext (Nat.mod_eq_of_lt k.isLt).symm) rfl

end Diff.Ref

end
-- ==== Proof.MergeArr.lean ====
module

public import proofs.«01_k».proof.Proof.Gen.MergeIdeal.Value
public import proofs.«01_k».proof.Proof.Gen.MergeRefIdeal.Run
public import Idealize.ShloMosaic.Lib.Pipeline.ValueKit

@[expose] public section

set_option maxRecDepth 16384

noncomputable section

namespace Mrg

open Idealize.ShloMosaic Idealize.ShloMosaic.TcCoe Idealize.SL.Sem Finset Cert.MergeIdeal Cert.MergeIdeal.Gen
open Idealize.ShloMosaic.Pipeline (Dat)

/-- The gated merge as the reference computes it, over its arrays: input, gates, the three branches, the branches' weights and the
    output weights. -/
abbrev REF (x : FVec Ideal S8x2048x1024 .f32) (g : FVec Ideal S8x2048x3x1024 .f32) (oa ob oc : FVec Ideal S8x2048x512 .f32)
    (wb : FVec Ideal S3x512x1024 .f32) (wo : FVec Ideal S1024x1024 .f32) : FVec Ideal S16384x1024 .f32 :=
  shapeCast Cert.MergeRefIdeal.S16384x1024 (addf x (Host.dotGeneral Cert.MergeRefIdeal.dot_S8x2048x1024_S1024x1024_S8x2048x1024_2_0_01_1_n_n none
    (Host.reduceAdd (mulf (Host.divf (broadcastInDim Cert.MergeRefIdeal.S8x2048x3x1024 ![] Cert.MergeRefIdeal.Gen.bcast_S_S8x2048x3x1024 (constant Cert.MergeRefIdeal.S_ .f32 0x3F800000#32))
        (addf (broadcastInDim Cert.MergeRefIdeal.S8x2048x3x1024 ![] Cert.MergeRefIdeal.Gen.bcast_S_S8x2048x3x1024 (constant Cert.MergeRefIdeal.S_ .f32 0x3F800000#32)) (Host.exp (Host.negf g))))
      (transpose Cert.MergeRefIdeal.S8x2048x3x1024 [2, 3, 0, 1] (Host.dotGeneral Cert.MergeRefIdeal.dot_S3x512x1024_S8x2048x3x512_S3x1024x8x2048_1_3_2_01_0_2 none wb
        (concatenate Cert.MergeRefIdeal.S8x2048x3x512 2 [⟨Cert.MergeRefIdeal.S8x2048x1x512, (broadcastInDim Cert.MergeRefIdeal.S8x2048x1x512 ![0, 1, 3] Cert.MergeRefIdeal.Gen.bcast_S8x2048x512_S8x2048x1x512_0_1_3 oa : FVec Ideal _ .f32)⟩,
          ⟨Cert.MergeRefIdeal.S8x2048x1x512, (broadcastInDim Cert.MergeRefIdeal.S8x2048x1x512 ![0, 1, 3] Cert.MergeRefIdeal.Gen.bcast_S8x2048x512_S8x2048x1x512_0_1_3 ob : FVec Ideal _ .f32)⟩,
          ⟨Cert.MergeRefIdeal.S8x2048x1x512, (broadcastInDim Cert.MergeRefIdeal.S8x2048x1x512 ![0, 1, 3] Cert.MergeRefIdeal.Gen.bcast_S8x2048x512_S8x2048x1x512_0_1_3 oc : FVec Ideal _ .f32)⟩]
          Cert.MergeRefIdeal.Gen.concatenates_S8x2048x1x512_S8x2048x1x512_S8x2048x1x512_S8x2048x3x512_d2))
        Cert.MergeRefIdeal.Gen.transposes_S3x1024x8x2048_S8x2048x3x1024_2_3_0_1)) (constant Cert.MergeRefIdeal.S_ .f32 0x00000000#32)
      Cert.MergeRefIdeal.Gen.reducesTo_S8x2048x3x1024_S8x2048x1024_d2 Cert.MergeRefIdeal.Gen.h_S_) wo)) Cert.MergeRefIdeal.Gen.shapeCasts_S8x2048x1024_S16384x1024

variable (m : (ℓ : Loc nD τ sig) → Buf (Elt Ideal) ℓ) (c : Dev nD)

/-- Which rows each window holds at grid point `t`. -/
theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![0, 0]
    ∧ win0_7.index t = ![t.val, 0] ∧ t.val < 32 :=
  (by decide +kernel : ∀ t : Fin grid0.N, _)

/-- The block of the input at a grid point. -/
theorem blk_0 (t : Fin cfg0.N) (r : Fin 512) (j : Fin 1024) (b : Fin 8) (q : Fin 2048) (h : b.val * 2048 + q.val = t.val * 512 + r.val) :
    iblk m c 0 t (ix2 r j) = m ((c.tc : Thread nD τ).loc main_arg0) (ix3 b q j) := by
  have hv := idx_val t
  blk_simp [iblk, idx_val t]
  entry_read
  pointwise
  blk_ext [idx_val t]

/-- The block of the gates at a grid point. -/
theorem blk_1 (t : Fin cfg0.N) (r : Fin 512) (k : Fin 3072) (d : Fin 3) (j : Fin 1024) (b : Fin 8) (q : Fin 2048) (h : b.val * 2048 + q.val = t.val * 512 + r.val)
    (hk : k.val = d.val * 1024 + j.val) :
    iblk m c 1 t (ix2 r k) = m ((c.tc : Thread nD τ).loc main_arg1) (ix4 b q d j) := by
  have hv := idx_val t
  blk_simp [iblk, idx_val t]
  entry_read
  pointwise
  blk_ext [idx_val t]

/-- The block of the first branch at a grid point. -/
theorem blk_2 (t : Fin cfg0.N) (r k : Fin 512) (b : Fin 8) (q : Fin 2048) (h : b.val * 2048 + q.val = t.val * 512 + r.val) :
    iblk m c 2 t (ix2 r k) = m ((c.tc : Thread nD τ).loc main_arg2) (ix3 b q k) := by
  have hv := idx_val t
  blk_simp [iblk, idx_val t]
  entry_read
  pointwise
  blk_ext [idx_val t]

/-- The block of the second branch at a grid point. -/
theorem blk_3 (t : Fin cfg0.N) (r k : Fin 512) (b : Fin 8) (q : Fin 2048) (h : b.val * 2048 + q.val = t.val * 512 + r.val) :
    iblk m c 3 t (ix2 r k) = m ((c.tc : Thread nD τ).loc main_arg3) (ix3 b q k) := by
  have hv := idx_val t
  blk_simp [iblk, idx_val t]
  entry_read
  pointwise
  blk_ext [idx_val t]

/-- The block of the third branch at a grid point. -/
theorem blk_4 (t : Fin cfg0.N) (r k : Fin 512) (b : Fin 8) (q : Fin 2048) (h : b.val * 2048 + q.val = t.val * 512 + r.val) :
    iblk m c 4 t (ix2 r k) = m ((c.tc : Thread nD τ).loc main_arg4) (ix3 b q k) := by
  have hv := idx_val t
  blk_simp [iblk, idx_val t]
  entry_read
  pointwise
  blk_ext [idx_val t]

/-- The block of the branches' weights is the whole of them. -/
theorem blk_5 (t : Fin cfg0.N) (d : Fin 3) (k : Fin 512) (j : Fin 1024) :
    iblk m c 5 t (ix3 d k j) = m ((c.tc : Thread nD τ).loc main_arg5) (ix3 d k j) := by
  have hv := idx_val t
  blk_simp [iblk, idx_val t]
  entry_read
  pointwise
  blk_ext [idx_val t]

/-- The block of the output weights is the whole of them. -/
theorem blk_6 (t : Fin cfg0.N) (e j : Fin 1024) :
    iblk m c 6 t (ix2 e j) = m ((c.tc : Thread nD τ).loc main_arg6) (ix2 e j) := by
  have hv := idx_val t
  blk_simp [iblk, idx_val t]
  entry_read
  pointwise
  blk_ext [idx_val t]

/-- One branch's part of the gated sum: the logistic function of its gate times its product with its weights. -/
def part (g : EReal) (o w : Fin 512 → EReal) : EReal := Ideal.div 1 (1 + Ideal.exp (-g)) * ∑ k, o k * w k

/-- The merge at row `q` of sequence `b` and column `j`. -/
def G (x : FVec Ideal S8x2048x1024 .f32) (g : FVec Ideal S8x2048x3x1024 .f32) (oa ob oc : FVec Ideal S8x2048x512 .f32)
    (wb : FVec Ideal S3x512x1024 .f32) (wo : FVec Ideal S1024x1024 .f32) (b : Fin 8) (q : Fin 2048) (j : Fin 1024) : EReal :=
  x (ix3 b q j) + ∑ e : Fin 1024, (part (g (ix4 b q 0 e)) (fun k => oa (ix3 b q k)) (fun k => wb (ix3 0 k e))
    + part (g (ix4 b q 1 e)) (fun k => ob (ix3 b q k)) (fun k => wb (ix3 1 k e))
    + part (g (ix4 b q 2 e)) (fun k => oc (ix3 b q k)) (fun k => wb (ix3 2 k e))) * wo (ix2 e j)

theorem ref_at (x : FVec Ideal S8x2048x1024 .f32) (g : FVec Ideal S8x2048x3x1024 .f32) (oa ob oc : FVec Ideal S8x2048x512 .f32)
    (wb : FVec Ideal S3x512x1024 .f32) (wo : FVec Ideal S1024x1024 .f32) (i : Fin 16384) (j : Fin 1024) (b : Fin 8) (q : Fin 2048)
    (h : b.val * 2048 + q.val = i.val) : REF x g oa ob oc wb wo (ix2 i j) = G x g oa ob oc wb wo b q j := by
  have hi := i.isLt
  have hq := q.isLt
  have lb : i.val / 2048 < 8 := by clear h; omega
  have lq : i.val % 2048 < 2048 := by clear h; omega
  obtain ⟨rfl, rfl⟩ : b = ⟨i.val / 2048, lb⟩ ∧ q = ⟨i.val % 2048, lq⟩ :=
    ⟨Fin.ext (by show b.val = i.val / 2048; omega), Fin.ext (by show q.val = i.val % 2048; omega)⟩
  pointwise [REF]
  simp only [Fin.sum_univ_three]
  simp only [Fin.val_zero, Fin.val_one, Fin.val_two, Nat.lt_irrefl, Nat.zero_lt_one, dif_pos, dif_neg, not_false_eq_true, Nat.sub_self, Nat.reduceSub, Nat.reduceLT]
  unfold G
  refine Ideal.add_congr rfl (Finset.sum_congr rfl fun e _ => Ideal.mul_congr (Ideal.add_congr (Ideal.add_congr ?_ ?_) ?_) rfl)
  · exact Ideal.mul_congr rfl (Finset.sum_congr rfl fun k _ => mul_comm _ _)
  · exact Ideal.mul_congr rfl (Finset.sum_congr rfl fun k _ => mul_comm _ _)
  · exact Ideal.mul_congr rfl (Finset.sum_congr rfl fun k _ => mul_comm _ _)

theorem pay_at (t : Fin cfg0.N) (r : Fin 512) (j : Fin 1024) (b : Fin 8) (q : Fin 2048) (h : b.val * 2048 + q.val = t.val * 512 + r.val) :
    out0_7 (iblk m c 0 t) (iblk m c 1 t) (iblk m c 2 t) (iblk m c 3 t) (iblk m c 4 t) (iblk m c 5 t) (iblk m c 6 t) (ix2 r j)
      = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) b q j := by
  frame_out
  pointwise [k0_pay1, k0_pay2]
  simp only [Ideal.logistic]
  refine Ideal.add_congr (blk_0 m c t r j b q h) (Finset.sum_congr rfl fun e _ => Ideal.mul_congr ?_ (blk_6 m c t e j))
  rw [blk_1 m c t r _ 0 e b q h (by simp), blk_1 m c t r _ 1 e b q h (by simp), blk_1 m c t r _ 2 e b q h (by simp)]
  simp only [part, blk_2 m c t r _ b q h, blk_3 m c t r _ b q h, blk_4 m c t r _ b q h, blk_5]

/-- After the whole run the output array is the reference's result. -/
theorem arr_eq : (dats m 0 c).arrAt 7 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  have ht := (idx_val t).2.2.2.2.2.2.2.2
  obtain ⟨r, j, rfl⟩ : ∃ (r : Fin 512) (j : Fin 1024), y = ix2 r j := ⟨y 0, y 1, by funext a; fin_cases a <;> rfl⟩
  have hi : t.val * 512 + r.val < 16384 := by omega
  refine (pay_at m c t r j ⟨(t.val * 512 + r.val) / 2048, by omega⟩ ⟨(t.val * 512 + r.val) % 2048, by omega⟩ (by simp only; omega)).trans ?_
  refine (ref_at _ _ _ _ _ _ _ ⟨t.val * 512 + r.val, hi⟩ j _ _ (by simp only; omega)).symm.trans ?_
  refine congrArg (REF _ _ _ _ _ _ _) ?_
  blk_ext [idx_val t]

end Mrg

end
-- ==== Proof.ProjRow.lean ====
module

public import Idealize.ShloMosaic.Lib.Pipeline.ValueKit

@[expose] public section

set_option maxRecDepth 16384

noncomputable section

namespace Prj

open Idealize.ShloMosaic Finset

/-- A row over the root of its mean square, times the learnt scale. -/
def nrm (f0 f1 : Fin 1024 → EReal) (k : Fin 1024) : EReal :=
  f0 k * Ideal.rsqrt (Ideal.div (∑ d, f0 d * f0 d) (Ideal.ofBits .f32 0x44800000#32) + Ideal.ofBits .f32 0x358637BD#32) * f1 k

/-- The normed row times one column of weights. -/
def col (f0 f1 f2 : Fin 1024 → EReal) : EReal := ∑ k, nrm f0 f1 k * f2 k

/-- The rotary angle of position `p` at frequency `i`. -/
def ang (p i : ℕ) : EReal :=
  FloatOps.sitofp (F := Ideal) .f32 (BitVec.ofNat 32 p) *
    Ideal.pow (Ideal.ofBits .f32 0x461C4000#32) (Ideal.div (-(FloatOps.sitofp (F := Ideal) .f32 (BitVec.ofNat 32 i) : EReal)) (Ideal.ofBits .f32 0x42000000#32))

/-- Column `n`, entry `d` of its head, after the rotation at position `p`; `Z` holds the columns before it. -/
def rope (Z : ℕ → EReal) (p n d : ℕ) : EReal :=
  if d < 32 then Z n * Ideal.cos (ang p d) - Z (n + 32) * Ideal.sin (ang p d)
  else Z (n - 32) * Ideal.sin (ang p (d - 32)) + Z n * Ideal.cos (ang p (d - 32))

/-- The table of sines at lane `l`: the sign is that of the rotation's two halves. -/
def sinT (p l : ℕ) : EReal := if l % 64 < 32 then -Ideal.sin (ang p (l % 32)) else Ideal.sin (ang p (l % 32))

/-- Columns equal entry by entry have the same product. -/
theorem col_congr {f0 f1 f2 g0 g1 g2 : Fin 1024 → EReal} (h0 : ∀ k, f0 k = g0 k) (h1 : ∀ k, f1 k = g1 k) (h2 : ∀ k, f2 k = g2 k) :
    col f0 f1 f2 = col g0 g1 g2 := by
  rw [funext h0, funext h1, funext h2]

/-- The lane mask: the first half of each head. -/
theorem mask : ∀ l : Fin 128, IntOp.cmpi .slt (IntOp.andi (BitVec.ofNat 32 l.val) 63#32) 32#32 = if l.val % 64 < 32 then 1#1 else 0#1 := by
  decide +kernel

/-- A stored lane with the rotation: the column times the cosine plus its partner, picked from the two rolls, times the signed sine. -/
theorem piece (Z : ℕ → EReal) (p n l d : ℕ) (hl : l < 128) (hd : d = l % 64) (z z1 z2 cT sT : EReal) (hz : z = Z n)
    (h1 : l % 64 < 32 → z1 = Z (n + 32)) (h2 : ¬ l % 64 < 32 → z2 = Z (n - 32)) (hc : cT = Ideal.cos (ang p (l % 32))) (hs : sT = sinT p l) :
    z * cT + Scalar.select (IntOp.cmpi .slt (IntOp.andi (BitVec.ofNat 32 l) 63#32) 32#32) z1 z2 * sT = rope Z p n d := by
  subst hd
  rw [mask ⟨l, hl⟩, hz, hc, hs]
  unfold sinT rope
  by_cases h : l % 64 < 32
  · rw [if_pos h, if_pos h, if_pos h, h1 h, show l % 64 = l % 32 by omega, sub_eq_add_neg]
    show _ + Z (n + 32) * -_ = _
    rw [mul_neg]
  · rw [if_neg h, if_neg h, if_neg h, h2 h, show l % 64 - 32 = l % 32 by omega]
    show _ + Z (n - 32) * _ = _
    rw [add_comm]

/-- An index of a block of 128 lanes by its coordinates. -/
theorem idx_eq (x : (⟨2, ![512, 128]⟩ : Shape).Idx) (r : Fin 512) (h : (x 0).val = r.val) : x = ix2 r ⟨(x 1).val, (x 1).isLt⟩ := by
  funext a
  fin_cases a
  · exact Fin.ext h
  · rfl

/-- Column `n` of the projection at row `q` of sequence `b`. -/
def cols (X : FVec Ideal ⟨3, ![8, 2048, 1024]⟩ .f32) (w : FVec Ideal ⟨1, ![1024]⟩ .f32) (W : FVec Ideal ⟨2, ![1024, 6424]⟩ .f32)
    (b : Fin 8) (q : Fin 2048) (n : ℕ) : EReal :=
  col (fun k => X (ix3 b q k)) (fun k => w (ix1 k)) (fun k => if h : n < 6424 then W (ix2 k ⟨n, h⟩) else 0)

/-- A sum over the normed row and one column of the weights is that column of the projection. -/
theorem cols_eq {X : FVec Ideal ⟨3, ![8, 2048, 1024]⟩ .f32} {w : FVec Ideal ⟨1, ![1024]⟩ .f32} {W : FVec Ideal ⟨2, ![1024, 6424]⟩ .f32}
    (b : Fin 8) (q : Fin 2048) (f0 f1 f2 : Fin 1024 → EReal) (N : Fin 6424) (n : ℕ) (h : N.val = n)
    (h0 : ∀ k, f0 k = X (ix3 b q k)) (h1 : ∀ k, f1 k = w (ix1 k)) (h2 : ∀ k, f2 k = W (ix2 k N)) :
    col f0 f1 f2 = cols X w W b q n := by
  subst h
  refine col_congr h0 h1 fun k => ?_
  rw [dif_pos N.isLt]
  exact h2 k

/-- A column of the projection as the sum it is. -/
theorem cols_sum {X : FVec Ideal ⟨3, ![8, 2048, 1024]⟩ .f32} {w : FVec Ideal ⟨1, ![1024]⟩ .f32} {W : FVec Ideal ⟨2, ![1024, 6424]⟩ .f32}
    (b : Fin 8) (q : Fin 2048) (n : ℕ) (N : Fin 6424) (h : N.val = n) :
    cols X w W b q n = ∑ k, X (ix3 b q k) * Ideal.rsqrt (Ideal.div (∑ d, X (ix3 b q d) * X (ix3 b q d)) (Ideal.ofBits .f32 0x44800000#32) + Ideal.ofBits .f32 0x358637BD#32)
      * w (ix1 k) * W (ix2 k N) := by
  subst h
  unfold cols col nrm
  simp only [dif_pos N.isLt, Fin.eta]

/-- Row `i`, column `o + l` of the projection. -/
def gp (X : FVec Ideal ⟨3, ![8, 2048, 1024]⟩ .f32) (w : FVec Ideal ⟨1, ![1024]⟩ .f32) (W : FVec Ideal ⟨2, ![1024, 6424]⟩ .f32)
    (o : ℕ) (i : Fin 16384) (l : ℕ) : EReal :=
  cols X w W ⟨i.val / 2048, by omega⟩ ⟨i.val % 2048, by omega⟩ (o + l)

/-- Row `i`, column `o + l` of the projection after the rotation; `o` is a head's first column. -/
def gr (X : FVec Ideal ⟨3, ![8, 2048, 1024]⟩ .f32) (w : FVec Ideal ⟨1, ![1024]⟩ .f32) (W : FVec Ideal ⟨2, ![1024, 6424]⟩ .f32)
    (o : ℕ) (i : Fin 16384) (l : ℕ) : EReal :=
  rope (cols X w W ⟨i.val / 2048, by omega⟩ ⟨i.val % 2048, by omega⟩) (i.val % 2048) (o + l) (l % 64)

end Prj

end
-- ==== Proof.ProjARef.lean ====
module

public import proofs.«01_k».proof.Proof.Gen.ProjARefIdeal.Run
public import proofs.«01_k».proof.Proof.ProjRow

@[expose] public section

set_option maxRecDepth 16384

noncomputable section

namespace PrjA.Ref

open Idealize.ShloMosaic Idealize.ShloMosaic.TcCoe Idealize.SL.Sem Finset Cert.ProjARefIdeal Cert.ProjARefIdeal.Gen Cert.ProjARefIdeal.Value Prj

/-- The normed input times the input weights, as the reference computes it. -/
def Zt (X : FVec Ideal S8x2048x1024 .f32) (w : FVec Ideal S1024 .f32) (W : FVec Ideal S1024x6424 .f32) : FVec Ideal S8x2048x6424 .f32 :=
  Host.dotGeneral dot_S8x2048x1024_S1024x6424_S8x2048x6424_2_0_01_1_n_n none (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 w))) W

/-- One entry of that product. -/
theorem Zt_at (X : FVec Ideal S8x2048x1024 .f32) (w : FVec Ideal S1024 .f32) (W : FVec Ideal S1024x6424 .f32) (b : Fin 8) (q : Fin 2048) (N : Fin 6424) (n : ℕ) (h : N.val = n) : Zt X w W (ix3 b q N) = cols X w W b q n := by
  rw [cols_sum b q n N h]
  pointwise [Zt]

/-- The queries in the reference, over its arrays. -/
def R0 (X : FVec Ideal S8x2048x1024 .f32) (w : FVec Ideal S1024 .f32) (W : FVec Ideal S1024x6424 .f32) : FVec Ideal S16384x512 .f32 :=
  shapeCast _ (concatenate S8x2048x8x64 3 [⟨S8x2048x8x32, (subf (mulf (extractStridedSlice S8x2048x8x32 ![0, 0, 0, 0] (shapeCast _ (extractStridedSlice S8x2048x512 ![0, 0, 0] (Zt X w W) slices_S8x2048x6424_S8x2048x512_0_0_0) shapeCasts_S8x2048x512_S8x2048x8x64) slices_S8x2048x8x64_S8x2048x8x32_0_0_0_0) (broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S8x2048x8x32 ![0, 0, 0, 32] (shapeCast _ (extractStridedSlice S8x2048x512 ![0, 0, 0] (Zt X w W) slices_S8x2048x6424_S8x2048x512_0_0_0) shapeCasts_S8x2048x512_S8x2048x8x64) slices_S8x2048x8x64_S8x2048x8x32_0_0_0_32) (broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩, ⟨S8x2048x8x32, (addf (mulf (extractStridedSlice S8x2048x8x32 ![0, 0, 0, 0] (shapeCast _ (extractStridedSlice S8x2048x512 ![0, 0, 0] (Zt X w W) slices_S8x2048x6424_S8x2048x512_0_0_0) shapeCasts_S8x2048x512_S8x2048x8x64) slices_S8x2048x8x64_S8x2048x8x32_0_0_0_0) (broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S8x2048x8x32 ![0, 0, 0, 32] (shapeCast _ (extractStridedSlice S8x2048x512 ![0, 0, 0] (Zt X w W) slices_S8x2048x6424_S8x2048x512_0_0_0) shapeCasts_S8x2048x512_S8x2048x8x64) slices_S8x2048x8x64_S8x2048x8x32_0_0_0_32) (broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩] concatenates_S8x2048x8x32_S8x2048x8x32_S8x2048x8x64_d3) shapeCasts_S8x2048x8x64_S16384x512

/-- The queries at an index. -/
theorem R0_at (X : FVec Ideal S8x2048x1024 .f32) (w : FVec Ideal S1024 .f32) (W : FVec Ideal S1024x6424 .f32) (r : Fin 16384) (l : Fin 512) : R0 X w W (ix2 r l) = gr X w W 0 r l := by
  obtain ⟨z, hz⟩ : ∃ z : EReal, z = gr X w W 0 r l := ⟨_, rfl⟩
  refine Eq.trans ?_ hz
  pointwise [R0]
  refine Eq.trans ?_ hz.symm
  unfold gr rope ang
  by_cases h : l.val % 64 < 32
  · refine (dif_pos h).trans (Eq.trans ?_ (if_pos h).symm)
    refine congrArg₂ (· - ·) (Ideal.mul_congr (Zt_at X w W _ _ _ _ ?_) rfl) (Ideal.mul_congr (Zt_at X w W _ _ _ _ ?_) rfl)
    · simp only <;> omega
    · simp only <;> omega
  · refine (dif_neg h).trans (Eq.trans ?_ (if_neg h).symm)
    refine Ideal.add_congr (Ideal.mul_congr (Zt_at X w W _ _ _ _ ?_) rfl) (Ideal.mul_congr (Zt_at X w W _ _ _ _ ?_) rfl)
    · simp only <;> omega
    · simp only <;> omega

/-- The keys in the reference, over its arrays. -/
def R1 (X : FVec Ideal S8x2048x1024 .f32) (w : FVec Ideal S1024 .f32) (W : FVec Ideal S1024x6424 .f32) : FVec Ideal S16384x256 .f32 :=
  shapeCast _ (concatenate S8x2048x4x64 3 [⟨S8x2048x4x32, (subf (mulf (extractStridedSlice S8x2048x4x32 ![0, 0, 0, 0] (shapeCast _ (extractStridedSlice S8x2048x256 ![0, 0, 512] (Zt X w W) slices_S8x2048x6424_S8x2048x256_0_0_512) shapeCasts_S8x2048x256_S8x2048x4x64) slices_S8x2048x4x64_S8x2048x4x32_0_0_0_0) (broadcastInDim S8x2048x4x32 ![0, 1, 2, 3] bcast_S1x2048x1x32_S8x2048x4x32_0_1_2_3 (broadcastInDim S1x2048x1x32 ![1, 2, 3] bcast_S2048x1x32_S1x2048x1x32_1_2_3 (broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S8x2048x4x32 ![0, 0, 0, 32] (shapeCast _ (extractStridedSlice S8x2048x256 ![0, 0, 512] (Zt X w W) slices_S8x2048x6424_S8x2048x256_0_0_512) shapeCasts_S8x2048x256_S8x2048x4x64) slices_S8x2048x4x64_S8x2048x4x32_0_0_0_32) (broadcastInDim S8x2048x4x32 ![0, 1, 2, 3] bcast_S1x2048x1x32_S8x2048x4x32_0_1_2_3 (broadcastInDim S1x2048x1x32 ![1, 2, 3] bcast_S2048x1x32_S1x2048x1x32_1_2_3 (broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩, ⟨S8x2048x4x32, (addf (mulf (extractStridedSlice S8x2048x4x32 ![0, 0, 0, 0] (shapeCast _ (extractStridedSlice S8x2048x256 ![0, 0, 512] (Zt X w W) slices_S8x2048x6424_S8x2048x256_0_0_512) shapeCasts_S8x2048x256_S8x2048x4x64) slices_S8x2048x4x64_S8x2048x4x32_0_0_0_0) (broadcastInDim S8x2048x4x32 ![0, 1, 2, 3] bcast_S1x2048x1x32_S8x2048x4x32_0_1_2_3 (broadcastInDim S1x2048x1x32 ![1, 2, 3] bcast_S2048x1x32_S1x2048x1x32_1_2_3 (broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S8x2048x4x32 ![0, 0, 0, 32] (shapeCast _ (extractStridedSlice S8x2048x256 ![0, 0, 512] (Zt X w W) slices_S8x2048x6424_S8x2048x256_0_0_512) shapeCasts_S8x2048x256_S8x2048x4x64) slices_S8x2048x4x64_S8x2048x4x32_0_0_0_32) (broadcastInDim S8x2048x4x32 ![0, 1, 2, 3] bcast_S1x2048x1x32_S8x2048x4x32_0_1_2_3 (broadcastInDim S1x2048x1x32 ![1, 2, 3] bcast_S2048x1x32_S1x2048x1x32_1_2_3 (broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩] concatenates_S8x2048x4x32_S8x2048x4x32_S8x2048x4x64_d3) shapeCasts_S8x2048x4x64_S16384x256

/-- The keys at an index. -/
theorem R1_at (X : FVec Ideal S8x2048x1024 .f32) (w : FVec Ideal S1024 .f32) (W : FVec Ideal S1024x6424 .f32) (r : Fin 16384) (l : Fin 256) : R1 X w W (ix2 r l) = gr X w W 512 r l := by
  obtain ⟨z, hz⟩ : ∃ z : EReal, z = gr X w W 512 r l := ⟨_, rfl⟩
  refine Eq.trans ?_ hz
  pointwise [R1]
  refine Eq.trans ?_ hz.symm
  unfold gr rope ang
  by_cases h : l.val % 64 < 32
  · refine (dif_pos h).trans (Eq.trans ?_ (if_pos h).symm)
    refine congrArg₂ (· - ·) (Ideal.mul_congr (Zt_at X w W _ _ _ _ ?_) rfl) (Ideal.mul_congr (Zt_at X w W _ _ _ _ ?_) rfl)
    · simp only <;> omega
    · simp only <;> omega
  · refine (dif_neg h).trans (Eq.trans ?_ (if_neg h).symm)
    refine Ideal.add_congr (Ideal.mul_congr (Zt_at X w W _ _ _ _ ?_) rfl) (Ideal.mul_congr (Zt_at X w W _ _ _ _ ?_) rfl)
    · simp only <;> omega
    · simp only <;> omega

/-- The values in the reference, over its arrays. -/
def R2 (X : FVec Ideal S8x2048x1024 .f32) (w : FVec Ideal S1024 .f32) (W : FVec Ideal S1024x6424 .f32) : FVec Ideal S16384x256 .f32 :=
  shapeCast _ (extractStridedSlice S8x2048x256 ![0, 0, 768] (Zt X w W) slices_S8x2048x6424_S8x2048x256_0_0_768) shapeCasts_S8x2048x256_S16384x256

/-- The values at an index. -/
theorem R2_at (X : FVec Ideal S8x2048x1024 .f32) (w : FVec Ideal S1024 .f32) (W : FVec Ideal S1024x6424 .f32) (r : Fin 16384) (l : Fin 256) : R2 X w W (ix2 r l) = gp X w W 768 r l := by
  obtain ⟨z, hz⟩ : ∃ z : EReal, z = gp X w W 768 r l := ⟨_, rfl⟩
  refine Eq.trans ?_ hz
  pointwise [R2]
  refine Eq.trans ?_ hz.symm
  unfold gp
  exact Zt_at X w W _ _ _ _ (by simp only <;> omega)

variable (m : (ℓ : Loc nD τ sig) → Buf (Elt Ideal) ℓ) (c : Dev nD)

/-- The reference's result of that name is the term above. -/
theorem res_0 : res_main_v52 (F := Ideal) m c = R0 (m ((c.tc : Thread nD τ).loc main_arg0)) (m ((c.tc : Thread nD τ).loc main_arg1)) (m ((c.tc : Thread nD τ).loc main_arg2)) := rfl

/-- The reference's result of that name is the term above. -/
theorem res_1 : res_main_v87 (F := Ideal) m c = R1 (m ((c.tc : Thread nD τ).loc main_arg0)) (m ((c.tc : Thread nD τ).loc main_arg1)) (m ((c.tc : Thread nD τ).loc main_arg2)) := rfl

end PrjA.Ref

end
-- ==== Proof.ProjAArr.lean ====
module

public import proofs.«01_k».proof.Proof.Gen.ProjAIdeal.Value
public import proofs.«01_k».proof.Proof.ProjARef
public import Idealize.ShloMosaic.Lib.Pipeline.ValueKit

@[expose] public section

set_option maxRecDepth 16384

noncomputable section

namespace PrjA

open Idealize.ShloMosaic Idealize.ShloMosaic.TcCoe Idealize.SL.Sem Finset Cert.ProjAIdeal Cert.ProjAIdeal.Gen Prj
open Idealize.ShloMosaic.Pipeline (Dat)

/-- A column of the kernel's product is that column of the projection. -/
theorem blkcol {x0 : FVec Ideal S512x1024 .f32} {x1 : FVec Ideal S1x1024 .f32} {x2 : FVec Ideal S1024x1024 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1024) (N : Fin 6424), N.val = 0 + n.val → x2 (ix2 k n) = W (ix2 k N))
    (r' : Fin 512) (hr : r'.val = r.val) (n : Fin 1024) (k : ℕ) (hk : k = 0 + n.val) :
    (∑ x, x0 (ix2 r' x) * Ideal.rsqrt (Ideal.div (∑ d, x0 (ix2 r' d) * x0 (ix2 r' d)) (Ideal.ofBits .f32 0x44800000#32) + Ideal.ofBits .f32 0x358637BD#32)
      * x1 (ix2 0 x) * x2 (ix2 x n)) = cols X w W ⟨i.val / 2048, by omega⟩ ⟨i.val % 2048, by omega⟩ k := by
  obtain rfl : r' = r := Fin.ext hr
  have hl : k < 6424 := by omega
  refine Eq.trans ?_ (cols_sum _ _ k ⟨k, hl⟩ rfl).symm
  refine sum_congr rfl fun x _ => ?_
  simp only [H0, H1, H2 x n ⟨k, hl⟩ hk]

/-- What the body leaves of the queries. -/
theorem out_0 {x0 : FVec Ideal S512x1024 .f32} {x1 : FVec Ideal S1x1024 .f32} {x2 : FVec Ideal S1024x1024 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1024) (N : Fin 6424), N.val = 0 + n.val → x2 (ix2 k n) = W (ix2 k N))
    {x3 x4 : FVec Ideal S512x128 .f32} (H3 : ∀ l : Fin 128, x3 (ix2 r l) = Ideal.cos (ang (i.val % 2048) (l.val % 32)))
    (H4 : ∀ l : Fin 128, x4 (ix2 r l) = sinT (i.val % 2048) l.val)
    (y : S512x512.Idx) (hy : (y 0).val = r.val) : out0_5 (F := Ideal) x0 x1 x2 x3 x4 y = gr X w W 0 i (y 1).val := by
  obtain ⟨z, hz⟩ : ∃ z : EReal, z = gr X w W 0 i (y 1).val := ⟨_, rfl⟩
  refine Eq.trans ?_ hz
  frame_out
  canon_tiles x h
  · open_payloads
    pointwise
    refine Eq.trans ?_ hz.symm
    unfold gr
    refine piece _ _ _ _ _ x1_lt (by omega) _ _ _ _ _ (blkcol H0 H1 H2 _ (by omega) _ _ (by simp only; omega))
      (fun h => blkcol H0 H1 H2 _ (by omega) _ _ (by simp only; omega)) (fun h => blkcol H0 H1 H2 _ (by omega) _ _ (by simp only; omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only; omega))
      (fun h => blkcol H0 H1 H2 _ (by omega) _ _ (by simp only; omega)) (fun h => blkcol H0 H1 H2 _ (by omega) _ _ (by simp only; omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only; omega))
      (fun h => blkcol H0 H1 H2 _ (by omega) _ _ (by simp only; omega)) (fun h => blkcol H0 H1 H2 _ (by omega) _ _ (by simp only; omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only; omega))
      (fun h => blkcol H0 H1 H2 _ (by omega) _ _ (by simp only; omega)) (fun h => blkcol H0 H1 H2 _ (by omega) _ _ (by simp only; omega)) ?_ ?_
    · exact (congrArg x3 (idx_eq x r (by omega))).trans (H3 _)
    · exact (congrArg x4 (idx_eq x r (by omega))).trans (H4 _)

/-- What the body leaves of the keys. -/
theorem out_1 {x0 : FVec Ideal S512x1024 .f32} {x1 : FVec Ideal S1x1024 .f32} {x2 : FVec Ideal S1024x1024 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1024) (N : Fin 6424), N.val = 0 + n.val → x2 (ix2 k n) = W (ix2 k N))
    {x3 x4 : FVec Ideal S512x128 .f32} (H3 : ∀ l : Fin 128, x3 (ix2 r l) = Ideal.cos (ang (i.val % 2048) (l.val % 32)))
    (H4 : ∀ l : Fin 128, x4 (ix2 r l) = sinT (i.val % 2048) l.val)
    (y : S512x256.Idx) (hy : (y 0).val = r.val) : out0_6 (F := Ideal) x0 x1 x2 x3 x4 y = gr X w W 512 i (y 1).val := by
  obtain ⟨z, hz⟩ : ∃ z : EReal, z = gr X w W 512 i (y 1).val := ⟨_, rfl⟩
  refine Eq.trans ?_ hz
  frame_out
  canon_tiles x h
  · open_payloads
    pointwise
    refine Eq.trans ?_ hz.symm
    unfold gr
    refine piece _ _ _ _ _ x1_lt (by omega) _ _ _ _ _ (blkcol H0 H1 H2 _ (by omega) _ _ (by simp only; omega))
      (fun h => blkcol H0 H1 H2 _ (by omega) _ _ (by simp only; omega)) (fun h => blkcol H0 H1 H2 _ (by omega) _ _ (by simp only; omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only; omega))
      (fun h => blkcol H0 H1 H2 _ (by omega) _ _ (by simp only; omega)) (fun h => blkcol H0 H1 H2 _ (by omega) _ _ (by simp only; omega)) ?_ ?_
    · exact (congrArg x3 (idx_eq x r (by omega))).trans (H3 _)
    · exact (congrArg x4 (idx_eq x r (by omega))).trans (H4 _)

/-- What the body leaves of the values. -/
theorem out_2 {x0 : FVec Ideal S512x1024 .f32} {x1 : FVec Ideal S1x1024 .f32} {x2 : FVec Ideal S1024x1024 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1024) (N : Fin 6424), N.val = 0 + n.val → x2 (ix2 k n) = W (ix2 k N))
    {x3 x4 : FVec Ideal S512x128 .f32}
    (y : S512x256.Idx) (hy : (y 0).val = r.val) : out0_7 (F := Ideal) x0 x1 x2 x3 x4 y = gp X w W 768 i (y 1).val := by
  obtain ⟨z, hz⟩ : ∃ z : EReal, z = gp X w W 768 i (y 1).val := ⟨_, rfl⟩
  refine Eq.trans ?_ hz
  frame_out
  canon_tiles x h
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)

variable (m : (ℓ : Loc nD τ sig) → Buf (Elt Ideal) ℓ) (c : Dev nD)

/-- Which rows each window holds at grid point `t`. -/
theorem idx_val : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val, 0] ∧ win0_6.index t = ![t.val, 0] ∧ win0_7.index t = ![t.val, 0] ∧ t.val < 32 :=
  (by decide +kernel : ∀ t : Fin grid0.N, _)

/-- The block of the input at a grid point. -/
theorem blk_0 (t : Fin cfg0.N) (r : Fin 512) (j : Fin 1024) (b : Fin 8) (q : Fin 2048) (h : b.val * 2048 + q.val = t.val * 512 + r.val) :
    iblk m c 0 t (ix2 r j) = m ((c.tc : Thread nD τ).loc main_arg0) (ix3 b q j) := by
  have hv := idx_val t
  blk_simp [iblk, idx_val t]
  entry_read
  pointwise
  blk_ext [idx_val t]

/-- The block of the norm's scales is the whole of them. -/
theorem blk_1 (t : Fin cfg0.N) (j : Fin 1024) : iblk m c 1 t (ix2 0 j) = m ((c.tc : Thread nD τ).loc main_arg1) (ix1 j) := by
  have hv := idx_val t
  blk_simp [iblk, idx_val t]
  entry_read
  pointwise
  blk_ext [idx_val t]

/-- The block of the weights holds this call's columns. -/
theorem blk_2 (t : Fin cfg0.N) (k : Fin 1024) (n : Fin 1024) (N : Fin 6424) (h : N.val = 0 + n.val) :
    iblk m c 2 t (ix2 k n) = m ((c.tc : Thread nD τ).loc main_arg2) (ix2 k N) := by
  have hv := idx_val t
  blk_simp [iblk, idx_val t]
  entry_read
  pointwise
  blk_ext [idx_val t]

/-- The table of angles. -/
def angT : FVec Ideal S2048x32 .f32 := mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The table of cosines: four times side by side. -/
def cosT : FVec Ideal S2048x128 .f32 := concatenate S2048x128 1 [⟨S2048x32, (Host.cos angT : (⟨S2048x32, .f32⟩ : BufTy).Contents (Elt Ideal))⟩, ⟨S2048x32, (Host.cos angT : (⟨S2048x32, .f32⟩ : BufTy).Contents (Elt Ideal))⟩, ⟨S2048x32, (Host.cos angT : (⟨S2048x32, .f32⟩ : BufTy).Contents (Elt Ideal))⟩, ⟨S2048x32, (Host.cos angT : (⟨S2048x32, .f32⟩ : BufTy).Contents (Elt Ideal))⟩] concatenates_S2048x32_S2048x32_S2048x32_S2048x32_S2048x128_d1

/-- The table of sines, the first half of each head negated. -/
def sinTab : FVec Ideal S2048x128 .f32 := concatenate S2048x128 1 [⟨S2048x32, (Host.negf (Host.sin angT) : (⟨S2048x32, .f32⟩ : BufTy).Contents (Elt Ideal))⟩, ⟨S2048x32, (Host.sin angT : (⟨S2048x32, .f32⟩ : BufTy).Contents (Elt Ideal))⟩, ⟨S2048x32, (Host.negf (Host.sin angT) : (⟨S2048x32, .f32⟩ : BufTy).Contents (Elt Ideal))⟩, ⟨S2048x32, (Host.sin angT : (⟨S2048x32, .f32⟩ : BufTy).Contents (Elt Ideal))⟩] concatenates_S2048x32_S2048x32_S2048x32_S2048x32_S2048x128_d1

/-- What the host leaves in the cosines' array. -/
theorem cosV : V m c main_v15 = cosT := by
  unfold V hostOps0
  after_results_simp <;> rfl

/-- What the host leaves in the sines' array. -/
theorem sinV : V m c main_v18 = sinTab := by
  unfold V hostOps0
  after_results_simp <;> rfl

/-- An entry of the angles. -/
theorem angT_at (p : Fin 2048) (i : Fin 32) (k : ℕ) (h : i.val = k) : angT (ix2 p i) = ang p.val k := by
  subst h
  obtain ⟨z, hz⟩ : ∃ z : EReal, z = ang p.val i.val := ⟨_, rfl⟩
  refine Eq.trans ?_ hz
  pointwise [angT]
  refine Eq.trans ?_ hz.symm
  unfold ang
  rfl

/-- An entry of the cosines. -/
theorem cosT_at (p : Fin 2048) (l : Fin 128) : cosT (ix2 p l) = Ideal.cos (ang p.val (l.val % 32)) := by
  obtain ⟨z, hz⟩ : ∃ z : EReal, z = Ideal.cos (ang p.val (l.val % 32)) := ⟨_, rfl⟩
  refine Eq.trans ?_ hz
  pointwise [cosT]
  refine Eq.trans ?_ hz.symm
  split_ifs <;> exact congrArg Ideal.cos (angT_at _ _ _ (by simp only <;> omega))

/-- An entry of the sines. -/
theorem sinTab_at (p : Fin 2048) (l : Fin 128) : sinTab (ix2 p l) = sinT p.val l.val := by
  obtain ⟨z, hz⟩ : ∃ z : EReal, z = sinT p.val l.val := ⟨_, rfl⟩
  refine Eq.trans ?_ hz
  pointwise [sinTab]
  refine Eq.trans ?_ hz.symm
  unfold sinT
  by_cases h : l.val % 64 < 32
  · refine Eq.trans ?_ (if_pos h).symm
    split_ifs <;> first
      | omega
      | exact congrArg (fun a : EReal => -Ideal.sin a) (angT_at _ _ _ (by simp only <;> omega))
  · refine Eq.trans ?_ (if_neg h).symm
    split_ifs <;> first
      | omega
      | exact congrArg Ideal.sin (angT_at _ _ _ (by simp only <;> omega))

/-- The block of the cosines at a grid point. -/
theorem blk_3 (t : Fin cfg0.N) (r : Fin 512) (l : Fin 128) (i : Fin 16384) (h : i.val = t.val * 512 + r.val) :
    iblk m c 3 t (ix2 r l) = Ideal.cos (ang (i.val % 2048) (l.val % 32)) := by
  have hv := idx_val t
  refine Eq.trans ?_ (cosT_at ⟨i.val % 2048, by omega⟩ l)
  blk_simp [iblk, idx_val t]
  rw [cosV m c]
  refine congrArg cosT ?_
  blk_ext [idx_val t]

/-- The block of the sines at a grid point. -/
theorem blk_4 (t : Fin cfg0.N) (r : Fin 512) (l : Fin 128) (i : Fin 16384) (h : i.val = t.val * 512 + r.val) :
    iblk m c 4 t (ix2 r l) = sinT (i.val % 2048) l.val := by
  have hv := idx_val t
  refine Eq.trans ?_ (sinTab_at ⟨i.val % 2048, by omega⟩ l)
  blk_simp [iblk, idx_val t]
  rw [sinV m c]
  refine congrArg sinTab ?_
  blk_ext [idx_val t]

/-- The block of the queries that a grid point writes is the reference's. -/
theorem pay_0 (t : Fin cfg0.N) (r : Fin 512) (j : Fin 512) (i : Fin 16384) (hi : i.val = t.val * 512 + r.val) :
    out0_5 (iblk m c 0 t) (iblk m c 1 t) (iblk m c 2 t) (iblk m c 3 t) (iblk m c 4 t) (ix2 r j)
      = Ref.R0 (m ((c.tc : Thread nD τ).loc main_arg0)) (m ((c.tc : Thread nD τ).loc main_arg1)) (m ((c.tc : Thread nD τ).loc main_arg2)) (ix2 i j) :=
  (out_0 (fun k => blk_0 m c t r k _ _ (by simp only; omega)) (fun k => blk_1 m c t k) (fun k n N h => blk_2 m c t k n N h) (fun l => blk_3 m c t r l i hi) (fun l => blk_4 m c t r l i hi) (ix2 r j) rfl).trans
    (Ref.R0_at (m ((c.tc : Thread nD τ).loc main_arg0)) (m ((c.tc : Thread nD τ).loc main_arg1)) (m ((c.tc : Thread nD τ).loc main_arg2)) i j).symm

/-- After the whole run the array of the queries is the reference's. -/
theorem arr_0 : (dats m 0 c).arrAt 5 (cfgs 0).N = Ref.R0 (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  rw [after0_5]
  have hv := idx_val t
  obtain ⟨r, j, rfl⟩ : ∃ (r : Fin 512) (j : Fin 512), y = ix2 r j := ⟨y 0, y 1, by funext a; fin_cases a <;> rfl⟩
  have hi : t.val * 512 + r.val < 16384 := by omega
  refine (pay_0 m c t r j ⟨t.val * 512 + r.val, hi⟩ rfl).trans ?_
  refine congrArg (Ref.R0 _ _ _) ?_
  blk_ext [idx_val t]

/-- The block of the keys that a grid point writes is the reference's. -/
theorem pay_1 (t : Fin cfg0.N) (r : Fin 512) (j : Fin 256) (i : Fin 16384) (hi : i.val = t.val * 512 + r.val) :
    out0_6 (iblk m c 0 t) (iblk m c 1 t) (iblk m c 2 t) (iblk m c 3 t) (iblk m c 4 t) (ix2 r j)
      = Ref.R1 (m ((c.tc : Thread nD τ).loc main_arg0)) (m ((c.tc : Thread nD τ).loc main_arg1)) (m ((c.tc : Thread nD τ).loc main_arg2)) (ix2 i j) :=
  (out_1 (fun k => blk_0 m c t r k _ _ (by simp only; omega)) (fun k => blk_1 m c t k) (fun k n N h => blk_2 m c t k n N h) (fun l => blk_3 m c t r l i hi) (fun l => blk_4 m c t r l i hi) (ix2 r j) rfl).trans
    (Ref.R1_at (m ((c.tc : Thread nD τ).loc main_arg0)) (m ((c.tc : Thread nD τ).loc main_arg1)) (m ((c.tc : Thread nD τ).loc main_arg2)) i j).symm

/-- After the whole run the array of the keys is the reference's. -/
theorem arr_1 : (dats m 0 c).arrAt 6 (cfgs 0).N = Ref.R1 (m ((c.tc : Thread nD τ).loc main_arg0)) (m ((c.tc : Thread nD τ).loc main_arg1)) (m ((c.tc : Thread nD τ).loc main_arg2)) := by
  refine (dats m 0 c).arrAt_eq_of_covers 6 _ (by decide +kernel) fun t _ y => ?_
  blk_simp
  rw [after0_6]
  have hv := idx_val t
  obtain ⟨r, j, rfl⟩ : ∃ (r : Fin 512) (j : Fin 256), y = ix2 r j := ⟨y 0, y 1, by funext a; fin_cases a <;> rfl⟩
  have hi : t.val * 512 + r.val < 16384 := by omega
  refine (pay_1 m c t r j ⟨t.val * 512 + r.val, hi⟩ rfl).trans ?_
  refine congrArg (Ref.R1 _ _ _) ?_
  blk_ext [idx_val t]

/-- The block of the values that a grid point writes is the reference's. -/
theorem pay_2 (t : Fin cfg0.N) (r : Fin 512) (j : Fin 256) (i : Fin 16384) (hi : i.val = t.val * 512 + r.val) :
    out0_7 (iblk m c 0 t) (iblk m c 1 t) (iblk m c 2 t) (iblk m c 3 t) (iblk m c 4 t) (ix2 r j)
      = Ref.R2 (m ((c.tc : Thread nD τ).loc main_arg0)) (m ((c.tc : Thread nD τ).loc main_arg1)) (m ((c.tc : Thread nD τ).loc main_arg2)) (ix2 i j) :=
  (out_2 (fun k => blk_0 m c t r k _ _ (by simp only; omega)) (fun k => blk_1 m c t k) (fun k n N h => blk_2 m c t k n N h) (ix2 r j) rfl).trans
    (Ref.R2_at (m ((c.tc : Thread nD τ).loc main_arg0)) (m ((c.tc : Thread nD τ).loc main_arg1)) (m ((c.tc : Thread nD τ).loc main_arg2)) i j).symm

/-- After the whole run the array of the values is the reference's. -/
theorem arr_2 : (dats m 0 c).arrAt 7 (cfgs 0).N = Ref.R2 (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  blk_simp
  rw [after0_7]
  have hv := idx_val t
  obtain ⟨r, j, rfl⟩ : ∃ (r : Fin 512) (j : Fin 256), y = ix2 r j := ⟨y 0, y 1, by funext a; fin_cases a <;> rfl⟩
  have hi : t.val * 512 + r.val < 16384 := by omega
  refine (pay_2 m c t r j ⟨t.val * 512 + r.val, hi⟩ rfl).trans ?_
  refine congrArg (Ref.R2 _ _ _) ?_
  blk_ext [idx_val t]

end PrjA

end
-- ==== Proof.ProjBRef.lean ====
module

public import proofs.«01_k».proof.Proof.Gen.ProjBRefIdeal.Run
public import proofs.«01_k».proof.Proof.ProjRow

@[expose] public section

set_option maxRecDepth 16384

noncomputable section

namespace PrjB.Ref

open Idealize.ShloMosaic Idealize.ShloMosaic.TcCoe Idealize.SL.Sem Finset Cert.ProjBRefIdeal Cert.ProjBRefIdeal.Gen Cert.ProjBRefIdeal.Value Prj

/-- The normed input times the input weights, as the reference computes it. -/
def Zt (X : FVec Ideal S8x2048x1024 .f32) (w : FVec Ideal S1024 .f32) (W : FVec Ideal S1024x6424 .f32) : FVec Ideal S8x2048x6424 .f32 :=
  Host.dotGeneral dot_S8x2048x1024_S1024x6424_S8x2048x6424_2_0_01_1_n_n none (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 w))) W

/-- One entry of that product. -/
theorem Zt_at (X : FVec Ideal S8x2048x1024 .f32) (w : FVec Ideal S1024 .f32) (W : FVec Ideal S1024x6424 .f32) (b : Fin 8) (q : Fin 2048) (N : Fin 6424) (n : ℕ) (h : N.val = n) : Zt X w W (ix3 b q N) = cols X w W b q n := by
  rw [cols_sum b q n N h]
  pointwise [Zt]

/-- The queries in the reference, over its arrays. -/
def R0 (X : FVec Ideal S8x2048x1024 .f32) (w : FVec Ideal S1024 .f32) (W : FVec Ideal S1024x6424 .f32) : FVec Ideal S16384x512 .f32 :=
  shapeCast _ (extractStridedSlice S8x2048x512 ![0, 0, 1024] (Zt X w W) slices_S8x2048x6424_S8x2048x512_0_0_1024) shapeCasts_S8x2048x512_S16384x512

/-- The queries at an index. -/
theorem R0_at (X : FVec Ideal S8x2048x1024 .f32) (w : FVec Ideal S1024 .f32) (W : FVec Ideal S1024x6424 .f32) (r : Fin 16384) (l : Fin 512) : R0 X w W (ix2 r l) = gp X w W 1024 r l := by
  obtain ⟨z, hz⟩ : ∃ z : EReal, z = gp X w W 1024 r l := ⟨_, rfl⟩
  refine Eq.trans ?_ hz
  pointwise [R0]
  refine Eq.trans ?_ hz.symm
  unfold gp
  exact Zt_at X w W _ _ _ _ (by simp only <;> omega)

/-- The rotated queries in the reference, over its arrays. -/
def R1 (X : FVec Ideal S8x2048x1024 .f32) (w : FVec Ideal S1024 .f32) (W : FVec Ideal S1024x6424 .f32) : FVec Ideal S16384x512 .f32 :=
  shapeCast _ (concatenate S8x2048x8x64 3 [⟨S8x2048x8x32, (subf (mulf (extractStridedSlice S8x2048x8x32 ![0, 0, 0, 0] (shapeCast _ (extractStridedSlice S8x2048x512 ![0, 0, 1024] (Zt X w W) slices_S8x2048x6424_S8x2048x512_0_0_1024) shapeCasts_S8x2048x512_S8x2048x8x64) slices_S8x2048x8x64_S8x2048x8x32_0_0_0_0) (broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S8x2048x8x32 ![0, 0, 0, 32] (shapeCast _ (extractStridedSlice S8x2048x512 ![0, 0, 1024] (Zt X w W) slices_S8x2048x6424_S8x2048x512_0_0_1024) shapeCasts_S8x2048x512_S8x2048x8x64) slices_S8x2048x8x64_S8x2048x8x32_0_0_0_32) (broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩, ⟨S8x2048x8x32, (addf (mulf (extractStridedSlice S8x2048x8x32 ![0, 0, 0, 0] (shapeCast _ (extractStridedSlice S8x2048x512 ![0, 0, 1024] (Zt X w W) slices_S8x2048x6424_S8x2048x512_0_0_1024) shapeCasts_S8x2048x512_S8x2048x8x64) slices_S8x2048x8x64_S8x2048x8x32_0_0_0_0) (broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S8x2048x8x32 ![0, 0, 0, 32] (shapeCast _ (extractStridedSlice S8x2048x512 ![0, 0, 1024] (Zt X w W) slices_S8x2048x6424_S8x2048x512_0_0_1024) shapeCasts_S8x2048x512_S8x2048x8x64) slices_S8x2048x8x64_S8x2048x8x32_0_0_0_32) (broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩] concatenates_S8x2048x8x32_S8x2048x8x32_S8x2048x8x64_d3) shapeCasts_S8x2048x8x64_S16384x512

/-- The rotated queries at an index. -/
theorem R1_at (X : FVec Ideal S8x2048x1024 .f32) (w : FVec Ideal S1024 .f32) (W : FVec Ideal S1024x6424 .f32) (r : Fin 16384) (l : Fin 512) : R1 X w W (ix2 r l) = gr X w W 1024 r l := by
  obtain ⟨z, hz⟩ : ∃ z : EReal, z = gr X w W 1024 r l := ⟨_, rfl⟩
  refine Eq.trans ?_ hz
  pointwise [R1]
  refine Eq.trans ?_ hz.symm
  unfold gr rope ang
  by_cases h : l.val % 64 < 32
  · refine (dif_pos h).trans (Eq.trans ?_ (if_pos h).symm)
    refine congrArg₂ (· - ·) (Ideal.mul_congr (Zt_at X w W _ _ _ _ ?_) rfl) (Ideal.mul_congr (Zt_at X w W _ _ _ _ ?_) rfl)
    · simp only <;> omega
    · simp only <;> omega
  · refine (dif_neg h).trans (Eq.trans ?_ (if_neg h).symm)
    refine Ideal.add_congr (Ideal.mul_congr (Zt_at X w W _ _ _ _ ?_) rfl) (Ideal.mul_congr (Zt_at X w W _ _ _ _ ?_) rfl)
    · simp only <;> omega
    · simp only <;> omega

/-- The keys to compress in the reference, over its arrays. -/
def R2 (X : FVec Ideal S8x2048x1024 .f32) (w : FVec Ideal S1024 .f32) (W : FVec Ideal S1024x6424 .f32) : FVec Ideal S16384x128 .f32 :=
  shapeCast _ (extractStridedSlice S8x2048x128 ![0, 0, 1536] (Zt X w W) slices_S8x2048x6424_S8x2048x128_0_0_1536) shapeCasts_S8x2048x128_S16384x128

/-- The keys to compress at an index. -/
theorem R2_at (X : FVec Ideal S8x2048x1024 .f32) (w : FVec Ideal S1024 .f32) (W : FVec Ideal S1024x6424 .f32) (r : Fin 16384) (l : Fin 128) : R2 X w W (ix2 r l) = gp X w W 1536 r l := by
  obtain ⟨z, hz⟩ : ∃ z : EReal, z = gp X w W 1536 r l := ⟨_, rfl⟩
  refine Eq.trans ?_ hz
  pointwise [R2]
  refine Eq.trans ?_ hz.symm
  unfold gp
  exact Zt_at X w W _ _ _ _ (by simp only <;> omega)

/-- The values to compress in the reference, over its arrays. -/
def R3 (X : FVec Ideal S8x2048x1024 .f32) (w : FVec Ideal S1024 .f32) (W : FVec Ideal S1024x6424 .f32) : FVec Ideal S16384x128 .f32 :=
  shapeCast _ (extractStridedSlice S8x2048x128 ![0, 0, 1664] (Zt X w W) slices_S8x2048x6424_S8x2048x128_0_0_1664) shapeCasts_S8x2048x128_S16384x128

/-- The values to compress at an index. -/
theorem R3_at (X : FVec Ideal S8x2048x1024 .f32) (w : FVec Ideal S1024 .f32) (W : FVec Ideal S1024x6424 .f32) (r : Fin 16384) (l : Fin 128) : R3 X w W (ix2 r l) = gp X w W 1664 r l := by
  obtain ⟨z, hz⟩ : ∃ z : EReal, z = gp X w W 1664 r l := ⟨_, rfl⟩
  refine Eq.trans ?_ hz
  pointwise [R3]
  refine Eq.trans ?_ hz.symm
  unfold gp
  exact Zt_at X w W _ _ _ _ (by simp only <;> omega)

/-- The keys to select in the reference, over its arrays. -/
def R4 (X : FVec Ideal S8x2048x1024 .f32) (w : FVec Ideal S1024 .f32) (W : FVec Ideal S1024x6424 .f32) : FVec Ideal S16384x128 .f32 :=
  shapeCast _ (concatenate S8x2048x2x64 3 [⟨S8x2048x2x32, (subf (mulf (extractStridedSlice S8x2048x2x32 ![0, 0, 0, 0] (shapeCast _ (extractStridedSlice S8x2048x128 ![0, 0, 1792] (Zt X w W) slices_S8x2048x6424_S8x2048x128_0_0_1792) shapeCasts_S8x2048x128_S8x2048x2x64) slices_S8x2048x2x64_S8x2048x2x32_0_0_0_0) (broadcastInDim S8x2048x2x32 ![0, 1, 2, 3] bcast_S1x2048x1x32_S8x2048x2x32_0_1_2_3 (broadcastInDim S1x2048x1x32 ![1, 2, 3] bcast_S2048x1x32_S1x2048x1x32_1_2_3 (broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S8x2048x2x32 ![0, 0, 0, 32] (shapeCast _ (extractStridedSlice S8x2048x128 ![0, 0, 1792] (Zt X w W) slices_S8x2048x6424_S8x2048x128_0_0_1792) shapeCasts_S8x2048x128_S8x2048x2x64) slices_S8x2048x2x64_S8x2048x2x32_0_0_0_32) (broadcastInDim S8x2048x2x32 ![0, 1, 2, 3] bcast_S1x2048x1x32_S8x2048x2x32_0_1_2_3 (broadcastInDim S1x2048x1x32 ![1, 2, 3] bcast_S2048x1x32_S1x2048x1x32_1_2_3 (broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩, ⟨S8x2048x2x32, (addf (mulf (extractStridedSlice S8x2048x2x32 ![0, 0, 0, 0] (shapeCast _ (extractStridedSlice S8x2048x128 ![0, 0, 1792] (Zt X w W) slices_S8x2048x6424_S8x2048x128_0_0_1792) shapeCasts_S8x2048x128_S8x2048x2x64) slices_S8x2048x2x64_S8x2048x2x32_0_0_0_0) (broadcastInDim S8x2048x2x32 ![0, 1, 2, 3] bcast_S1x2048x1x32_S8x2048x2x32_0_1_2_3 (broadcastInDim S1x2048x1x32 ![1, 2, 3] bcast_S2048x1x32_S1x2048x1x32_1_2_3 (broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S8x2048x2x32 ![0, 0, 0, 32] (shapeCast _ (extractStridedSlice S8x2048x128 ![0, 0, 1792] (Zt X w W) slices_S8x2048x6424_S8x2048x128_0_0_1792) shapeCasts_S8x2048x128_S8x2048x2x64) slices_S8x2048x2x64_S8x2048x2x32_0_0_0_32) (broadcastInDim S8x2048x2x32 ![0, 1, 2, 3] bcast_S1x2048x1x32_S8x2048x2x32_0_1_2_3 (broadcastInDim S1x2048x1x32 ![1, 2, 3] bcast_S2048x1x32_S1x2048x1x32_1_2_3 (broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩] concatenates_S8x2048x2x32_S8x2048x2x32_S8x2048x2x64_d3) shapeCasts_S8x2048x2x64_S16384x128

/-- The keys to select at an index. -/
theorem R4_at (X : FVec Ideal S8x2048x1024 .f32) (w : FVec Ideal S1024 .f32) (W : FVec Ideal S1024x6424 .f32) (r : Fin 16384) (l : Fin 128) : R4 X w W (ix2 r l) = gr X w W 1792 r l := by
  obtain ⟨z, hz⟩ : ∃ z : EReal, z = gr X w W 1792 r l := ⟨_, rfl⟩
  refine Eq.trans ?_ hz
  pointwise [R4]
  refine Eq.trans ?_ hz.symm
  unfold gr rope ang
  by_cases h : l.val % 64 < 32
  · refine (dif_pos h).trans (Eq.trans ?_ (if_pos h).symm)
    refine congrArg₂ (· - ·) (Ideal.mul_congr (Zt_at X w W _ _ _ _ ?_) rfl) (Ideal.mul_congr (Zt_at X w W _ _ _ _ ?_) rfl)
    · simp only <;> omega
    · simp only <;> omega
  · refine (dif_neg h).trans (Eq.trans ?_ (if_neg h).symm)
    refine Ideal.add_congr (Ideal.mul_congr (Zt_at X w W _ _ _ _ ?_) rfl) (Ideal.mul_congr (Zt_at X w W _ _ _ _ ?_) rfl)
    · simp only <;> omega
    · simp only <;> omega

/-- The values to select in the reference, over its arrays. -/
def R5 (X : FVec Ideal S8x2048x1024 .f32) (w : FVec Ideal S1024 .f32) (W : FVec Ideal S1024x6424 .f32) : FVec Ideal S16384x128 .f32 :=
  shapeCast _ (extractStridedSlice S8x2048x128 ![0, 0, 1920] (Zt X w W) slices_S8x2048x6424_S8x2048x128_0_0_1920) shapeCasts_S8x2048x128_S16384x128

/-- The values to select at an index. -/
theorem R5_at (X : FVec Ideal S8x2048x1024 .f32) (w : FVec Ideal S1024 .f32) (W : FVec Ideal S1024x6424 .f32) (r : Fin 16384) (l : Fin 128) : R5 X w W (ix2 r l) = gp X w W 1920 r l := by
  obtain ⟨z, hz⟩ : ∃ z : EReal, z = gp X w W 1920 r l := ⟨_, rfl⟩
  refine Eq.trans ?_ hz
  pointwise [R5]
  refine Eq.trans ?_ hz.symm
  unfold gp
  exact Zt_at X w W _ _ _ _ (by simp only <;> omega)

/-- The keys of the window in the reference, over its arrays. -/
def R6 (X : FVec Ideal S8x2048x1024 .f32) (w : FVec Ideal S1024 .f32) (W : FVec Ideal S1024x6424 .f32) : FVec Ideal S16384x128 .f32 :=
  shapeCast _ (concatenate S8x2048x2x64 3 [⟨S8x2048x2x32, (subf (mulf (extractStridedSlice S8x2048x2x32 ![0, 0, 0, 0] (shapeCast _ (extractStridedSlice S8x2048x128 ![0, 0, 2048] (Zt X w W) slices_S8x2048x6424_S8x2048x128_0_0_2048) shapeCasts_S8x2048x128_S8x2048x2x64) slices_S8x2048x2x64_S8x2048x2x32_0_0_0_0) (broadcastInDim S8x2048x2x32 ![0, 1, 2, 3] bcast_S1x2048x1x32_S8x2048x2x32_0_1_2_3 (broadcastInDim S1x2048x1x32 ![1, 2, 3] bcast_S2048x1x32_S1x2048x1x32_1_2_3 (broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S8x2048x2x32 ![0, 0, 0, 32] (shapeCast _ (extractStridedSlice S8x2048x128 ![0, 0, 2048] (Zt X w W) slices_S8x2048x6424_S8x2048x128_0_0_2048) shapeCasts_S8x2048x128_S8x2048x2x64) slices_S8x2048x2x64_S8x2048x2x32_0_0_0_32) (broadcastInDim S8x2048x2x32 ![0, 1, 2, 3] bcast_S1x2048x1x32_S8x2048x2x32_0_1_2_3 (broadcastInDim S1x2048x1x32 ![1, 2, 3] bcast_S2048x1x32_S1x2048x1x32_1_2_3 (broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩, ⟨S8x2048x2x32, (addf (mulf (extractStridedSlice S8x2048x2x32 ![0, 0, 0, 0] (shapeCast _ (extractStridedSlice S8x2048x128 ![0, 0, 2048] (Zt X w W) slices_S8x2048x6424_S8x2048x128_0_0_2048) shapeCasts_S8x2048x128_S8x2048x2x64) slices_S8x2048x2x64_S8x2048x2x32_0_0_0_0) (broadcastInDim S8x2048x2x32 ![0, 1, 2, 3] bcast_S1x2048x1x32_S8x2048x2x32_0_1_2_3 (broadcastInDim S1x2048x1x32 ![1, 2, 3] bcast_S2048x1x32_S1x2048x1x32_1_2_3 (broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S8x2048x2x32 ![0, 0, 0, 32] (shapeCast _ (extractStridedSlice S8x2048x128 ![0, 0, 2048] (Zt X w W) slices_S8x2048x6424_S8x2048x128_0_0_2048) shapeCasts_S8x2048x128_S8x2048x2x64) slices_S8x2048x2x64_S8x2048x2x32_0_0_0_32) (broadcastInDim S8x2048x2x32 ![0, 1, 2, 3] bcast_S1x2048x1x32_S8x2048x2x32_0_1_2_3 (broadcastInDim S1x2048x1x32 ![1, 2, 3] bcast_S2048x1x32_S1x2048x1x32_1_2_3 (broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩] concatenates_S8x2048x2x32_S8x2048x2x32_S8x2048x2x64_d3) shapeCasts_S8x2048x2x64_S16384x128

/-- The keys of the window at an index. -/
theorem R6_at (X : FVec Ideal S8x2048x1024 .f32) (w : FVec Ideal S1024 .f32) (W : FVec Ideal S1024x6424 .f32) (r : Fin 16384) (l : Fin 128) : R6 X w W (ix2 r l) = gr X w W 2048 r l := by
  obtain ⟨z, hz⟩ : ∃ z : EReal, z = gr X w W 2048 r l := ⟨_, rfl⟩
  refine Eq.trans ?_ hz
  pointwise [R6]
  refine Eq.trans ?_ hz.symm
  unfold gr rope ang
  by_cases h : l.val % 64 < 32
  · refine (dif_pos h).trans (Eq.trans ?_ (if_pos h).symm)
    refine congrArg₂ (· - ·) (Ideal.mul_congr (Zt_at X w W _ _ _ _ ?_) rfl) (Ideal.mul_congr (Zt_at X w W _ _ _ _ ?_) rfl)
    · simp only <;> omega
    · simp only <;> omega
  · refine (dif_neg h).trans (Eq.trans ?_ (if_neg h).symm)
    refine Ideal.add_congr (Ideal.mul_congr (Zt_at X w W _ _ _ _ ?_) rfl) (Ideal.mul_congr (Zt_at X w W _ _ _ _ ?_) rfl)
    · simp only <;> omega
    · simp only <;> omega

/-- The values of the window in the reference, over its arrays. -/
def R7 (X : FVec Ideal S8x2048x1024 .f32) (w : FVec Ideal S1024 .f32) (W : FVec Ideal S1024x6424 .f32) : FVec Ideal S16384x128 .f32 :=
  shapeCast _ (extractStridedSlice S8x2048x128 ![0, 0, 2176] (Zt X w W) slices_S8x2048x6424_S8x2048x128_0_0_2176) shapeCasts_S8x2048x128_S16384x128

/-- The values of the window at an index. -/
theorem R7_at (X : FVec Ideal S8x2048x1024 .f32) (w : FVec Ideal S1024 .f32) (W : FVec Ideal S1024x6424 .f32) (r : Fin 16384) (l : Fin 128) : R7 X w W (ix2 r l) = gp X w W 2176 r l := by
  obtain ⟨z, hz⟩ : ∃ z : EReal, z = gp X w W 2176 r l := ⟨_, rfl⟩
  refine Eq.trans ?_ hz
  pointwise [R7]
  refine Eq.trans ?_ hz.symm
  unfold gp
  exact Zt_at X w W _ _ _ _ (by simp only <;> omega)

/-- The gates in the reference, over its arrays. -/
def R8 (X : FVec Ideal S8x2048x1024 .f32) (w : FVec Ideal S1024 .f32) (W : FVec Ideal S1024x6424 .f32) : FVec Ideal S16384x128 .f32 :=
  pad S16384x128 ![0, 0] ![0, 104] ![0, 0] (shapeCast _ (extractStridedSlice S8x2048x24 ![0, 0, 2304] (Zt X w W) slices_S8x2048x6424_S8x2048x24_0_0_2304) shapeCasts_S8x2048x24_S16384x24) (sitofp .f32 (constantI S_ 32 0#32)) pads_S16384x24_S16384x128_000_01040 h_S_

/-- The gates at an index: the columns past the gates are zero. -/
theorem R8_at (X : FVec Ideal S8x2048x1024 .f32) (w : FVec Ideal S1024 .f32) (W : FVec Ideal S1024x6424 .f32) (r : Fin 16384) (l : Fin 128) : R8 X w W (ix2 r l) = if l.val < 24 then gp X w W 2304 r l else 0 := by
  obtain ⟨z, hz⟩ : ∃ z : EReal, z = if l.val < 24 then gp X w W 2304 r l else 0 := ⟨_, rfl⟩
  refine Eq.trans ?_ hz
  pointwise [R8]
  refine Eq.trans ?_ hz.symm
  unfold gp
  by_cases h : l.val < 24
  · exact (dif_pos h).trans ((Zt_at X w W _ _ _ _ (by simp only <;> omega)).trans (if_pos h).symm)
  · refine (dif_neg h).trans (Eq.trans ?_ (if_neg h).symm)
    show ((((0#32 : BitVec 32).toInt : ℝ)) : EReal) = 0
    simp

variable (m : (ℓ : Loc nD τ sig) → Buf (Elt Ideal) ℓ) (c : Dev nD)

/-- The reference's result of that name is the term above. -/
theorem res_1 : res_main_v60 (F := Ideal) m c = R1 (m ((c.tc : Thread nD τ).loc main_arg0)) (m ((c.tc : Thread nD τ).loc main_arg1)) (m ((c.tc : Thread nD τ).loc main_arg2)) := rfl

/-- The reference's result of that name is the term above. -/
theorem res_4 : res_main_v97 (F := Ideal) m c = R4 (m ((c.tc : Thread nD τ).loc main_arg0)) (m ((c.tc : Thread nD τ).loc main_arg1)) (m ((c.tc : Thread nD τ).loc main_arg2)) := rfl

/-- The reference's result of that name is the term above. -/
theorem res_6 : res_main_v133 (F := Ideal) m c = R6 (m ((c.tc : Thread nD τ).loc main_arg0)) (m ((c.tc : Thread nD τ).loc main_arg1)) (m ((c.tc : Thread nD τ).loc main_arg2)) := rfl

end PrjB.Ref

end
-- ==== Proof.ProjBArr.lean ====
module

public import proofs.«01_k».proof.Proof.Gen.ProjBIdeal.Value
public import proofs.«01_k».proof.Proof.ProjBRef
public import Idealize.ShloMosaic.Lib.Pipeline.ValueKit

@[expose] public section

set_option maxRecDepth 16384

noncomputable section

namespace PrjB

open Idealize.ShloMosaic Idealize.ShloMosaic.TcCoe Idealize.SL.Sem Finset Cert.ProjBIdeal Cert.ProjBIdeal.Gen Prj
open Idealize.ShloMosaic.Pipeline (Dat)

/-- A column of the kernel's product is that column of the projection. -/
theorem blkcol {x0 : FVec Ideal S512x1024 .f32} {x1 : FVec Ideal S1x1024 .f32} {x2 : FVec Ideal S1024x1408 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1408) (N : Fin 6424), N.val = 1024 + n.val → n.val < 1304 → x2 (ix2 k n) = W (ix2 k N))
    (r' : Fin 512) (hr : r'.val = r.val) (n : Fin 1408) (k : ℕ) (hk : k = 1024 + n.val) (hn : n.val < 1304) :
    (∑ x, x0 (ix2 r' x) * Ideal.rsqrt (Ideal.div (∑ d, x0 (ix2 r' d) * x0 (ix2 r' d)) (Ideal.ofBits .f32 0x44800000#32) + Ideal.ofBits .f32 0x358637BD#32)
      * x1 (ix2 0 x) * x2 (ix2 x n)) = cols X w W ⟨i.val / 2048, by omega⟩ ⟨i.val % 2048, by omega⟩ k := by
  obtain rfl : r' = r := Fin.ext hr
  have hl : k < 6424 := by omega
  refine Eq.trans ?_ (cols_sum _ _ k ⟨k, hl⟩ rfl).symm
  refine sum_congr rfl fun x _ => ?_
  simp only [H0, H1, H2 x n ⟨k, hl⟩ hk hn]

/-- What the body leaves of the queries. -/
theorem out_0 {x0 : FVec Ideal S512x1024 .f32} {x1 : FVec Ideal S1x1024 .f32} {x2 : FVec Ideal S1024x1408 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1408) (N : Fin 6424), N.val = 1024 + n.val → n.val < 1304 → x2 (ix2 k n) = W (ix2 k N))
    {x3 x4 : FVec Ideal S512x128 .f32}
    (y : S512x512.Idx) (hy : (y 0).val = r.val) : out0_5 (F := Ideal) x0 x1 x2 x3 x4 y = gp X w W 1024 i (y 1).val := by
  obtain ⟨z, hz⟩ : ∃ z : EReal, z = gp X w W 1024 i (y 1).val := ⟨_, rfl⟩
  refine Eq.trans ?_ hz
  frame_out
  canon_tiles x h
  · open_payloads
    pointwise
    refine Eq.trans ?_ hz.symm
    unfold gp
    exact blkcol H0 H1 H2 _ (by omega) _ _ (by simp only; omega) (by simp only; omega)
  · open_payloads
    pointwise
    refine Eq.trans ?_ hz.symm
    unfold gp
    exact blkcol H0 H1 H2 _ (by omega) _ _ (by simp only; omega) (by simp only; omega)
  · open_payloads
    pointwise
    refine Eq.trans ?_ hz.symm
    unfold gp
    exact blkcol H0 H1 H2 _ (by omega) _ _ (by simp only; omega) (by simp only; omega)
  · open_payloads
    pointwise
    refine Eq.trans ?_ hz.symm
    unfold gp
    exact blkcol H0 H1 H2 _ (by omega) _ _ (by simp only; omega) (by simp only; omega)

/-- What the body leaves of the rotated queries. -/
theorem out_1 {x0 : FVec Ideal S512x1024 .f32} {x1 : FVec Ideal S1x1024 .f32} {x2 : FVec Ideal S1024x1408 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1408) (N : Fin 6424), N.val = 1024 + n.val → n.val < 1304 → x2 (ix2 k n) = W (ix2 k N))
    {x3 x4 : FVec Ideal S512x128 .f32} (H3 : ∀ l : Fin 128, x3 (ix2 r l) = Ideal.cos (ang (i.val % 2048) (l.val % 32)))
    (H4 : ∀ l : Fin 128, x4 (ix2 r l) = sinT (i.val % 2048) l.val)
    (y : S512x512.Idx) (hy : (y 0).val = r.val) : out0_6 (F := Ideal) x0 x1 x2 x3 x4 y = gr X w W 1024 i (y 1).val := by
  obtain ⟨z, hz⟩ : ∃ z : EReal, z = gr X w W 1024 i (y 1).val := ⟨_, rfl⟩
  refine Eq.trans ?_ hz
  frame_out
  canon_tiles x h
  · open_payloads
    pointwise
    refine Eq.trans ?_ hz.symm
    unfold gr
    refine piece _ _ _ _ _ x1_lt (by omega) _ _ _ _ _ (blkcol H0 H1 H2 _ (by omega) _ _ (by simp only; omega) (by simp only; omega))
      (fun h => blkcol H0 H1 H2 _ (by omega) _ _ (by simp only; omega) (by simp only; omega)) (fun h => blkcol H0 H1 H2 _ (by omega) _ _ (by simp only; omega) (by simp only; omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only; omega) (by simp only; omega))
      (fun h => blkcol H0 H1 H2 _ (by omega) _ _ (by simp only; omega) (by simp only; omega)) (fun h => blkcol H0 H1 H2 _ (by omega) _ _ (by simp only; omega) (by simp only; omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only; omega) (by simp only; omega))
      (fun h => blkcol H0 H1 H2 _ (by omega) _ _ (by simp only; omega) (by simp only; omega)) (fun h => blkcol H0 H1 H2 _ (by omega) _ _ (by simp only; omega) (by simp only; omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only; omega) (by simp only; omega))
      (fun h => blkcol H0 H1 H2 _ (by omega) _ _ (by simp only; omega) (by simp only; omega)) (fun h => blkcol H0 H1 H2 _ (by omega) _ _ (by simp only; omega) (by simp only; omega)) ?_ ?_
    · exact (congrArg x3 (idx_eq x r (by omega))).trans (H3 _)
    · exact (congrArg x4 (idx_eq x r (by omega))).trans (H4 _)

/-- What the body leaves of the keys to compress. -/
theorem out_2 {x0 : FVec Ideal S512x1024 .f32} {x1 : FVec Ideal S1x1024 .f32} {x2 : FVec Ideal S1024x1408 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1408) (N : Fin 6424), N.val = 1024 + n.val → n.val < 1304 → x2 (ix2 k n) = W (ix2 k N))
    {x3 x4 : FVec Ideal S512x128 .f32}
    (y : S512x128.Idx) (hy : (y 0).val = r.val) : out0_7 (F := Ideal) x0 x1 x2 x3 x4 y = gp X w W 1536 i (y 1).val := by
  obtain ⟨z, hz⟩ : ∃ z : EReal, z = gp X w W 1536 i (y 1).val := ⟨_, rfl⟩
  refine Eq.trans ?_ hz
  frame_out
  have x1_lt : (y 1).val < 128 := (y 1).isLt
  · open_payloads
    pointwise
    refine Eq.trans ?_ hz.symm
    unfold gp
    exact blkcol H0 H1 H2 _ (by omega) _ _ (by simp only; omega) (by simp only; omega)

/-- What the body leaves of the values to compress. -/
theorem out_3 {x0 : FVec Ideal S512x1024 .f32} {x1 : FVec Ideal S1x1024 .f32} {x2 : FVec Ideal S1024x1408 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1408) (N : Fin 6424), N.val = 1024 + n.val → n.val < 1304 → x2 (ix2 k n) = W (ix2 k N))
    {x3 x4 : FVec Ideal S512x128 .f32}
    (y : S512x128.Idx) (hy : (y 0).val = r.val) : out0_8 (F := Ideal) x0 x1 x2 x3 x4 y = gp X w W 1664 i (y 1).val := by
  obtain ⟨z, hz⟩ : ∃ z : EReal, z = gp X w W 1664 i (y 1).val := ⟨_, rfl⟩
  refine Eq.trans ?_ hz
  frame_out
  have x1_lt : (y 1).val < 128 := (y 1).isLt
  · open_payloads
    pointwise
    refine Eq.trans ?_ hz.symm
    unfold gp
    exact blkcol H0 H1 H2 _ (by omega) _ _ (by simp only; omega) (by simp only; omega)

/-- What the body leaves of the keys to select. -/
theorem out_4 {x0 : FVec Ideal S512x1024 .f32} {x1 : FVec Ideal S1x1024 .f32} {x2 : FVec Ideal S1024x1408 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1408) (N : Fin 6424), N.val = 1024 + n.val → n.val < 1304 → x2 (ix2 k n) = W (ix2 k N))
    {x3 x4 : FVec Ideal S512x128 .f32} (H3 : ∀ l : Fin 128, x3 (ix2 r l) = Ideal.cos (ang (i.val % 2048) (l.val % 32)))
    (H4 : ∀ l : Fin 128, x4 (ix2 r l) = sinT (i.val % 2048) l.val)
    (y : S512x128.Idx) (hy : (y 0).val = r.val) : out0_9 (F := Ideal) x0 x1 x2 x3 x4 y = gr X w W 1792 i (y 1).val := by
  obtain ⟨z, hz⟩ : ∃ z : EReal, z = gr X w W 1792 i (y 1).val := ⟨_, rfl⟩
  refine Eq.trans ?_ hz
  frame_out
  have x1_lt : (y 1).val < 128 := (y 1).isLt
  · open_payloads
    pointwise
    refine Eq.trans ?_ hz.symm
    unfold gr
    refine piece _ _ _ _ _ x1_lt (by omega) _ _ _ _ _ (blkcol H0 H1 H2 _ (by omega) _ _ (by simp only; omega) (by simp only; omega))
      (fun h => blkcol H0 H1 H2 _ (by omega) _ _ (by simp only; omega) (by simp only; omega)) (fun h => blkcol H0 H1 H2 _ (by omega) _ _ (by simp only; omega) (by simp only; omega)) ?_ ?_
    · exact (congrArg x3 (idx_eq y r (by omega))).trans (H3 _)
    · exact (congrArg x4 (idx_eq y r (by omega))).trans (H4 _)

/-- What the body leaves of the values to select. -/
theorem out_5 {x0 : FVec Ideal S512x1024 .f32} {x1 : FVec Ideal S1x1024 .f32} {x2 : FVec Ideal S1024x1408 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1408) (N : Fin 6424), N.val = 1024 + n.val → n.val < 1304 → x2 (ix2 k n) = W (ix2 k N))
    {x3 x4 : FVec Ideal S512x128 .f32}
    (y : S512x128.Idx) (hy : (y 0).val = r.val) : out0_10 (F := Ideal) x0 x1 x2 x3 x4 y = gp X w W 1920 i (y 1).val := by
  obtain ⟨z, hz⟩ : ∃ z : EReal, z = gp X w W 1920 i (y 1).val := ⟨_, rfl⟩
  refine Eq.trans ?_ hz
  frame_out
  have x1_lt : (y 1).val < 128 := (y 1).isLt
  · open_payloads
    pointwise
    refine Eq.trans ?_ hz.symm
    unfold gp
    exact blkcol H0 H1 H2 _ (by omega) _ _ (by simp only; omega) (by simp only; omega)

/-- What the body leaves of the keys of the window. -/
theorem out_6 {x0 : FVec Ideal S512x1024 .f32} {x1 : FVec Ideal S1x1024 .f32} {x2 : FVec Ideal S1024x1408 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1408) (N : Fin 6424), N.val = 1024 + n.val → n.val < 1304 → x2 (ix2 k n) = W (ix2 k N))
    {x3 x4 : FVec Ideal S512x128 .f32} (H3 : ∀ l : Fin 128, x3 (ix2 r l) = Ideal.cos (ang (i.val % 2048) (l.val % 32)))
    (H4 : ∀ l : Fin 128, x4 (ix2 r l) = sinT (i.val % 2048) l.val)
    (y : S512x128.Idx) (hy : (y 0).val = r.val) : out0_11 (F := Ideal) x0 x1 x2 x3 x4 y = gr X w W 2048 i (y 1).val := by
  obtain ⟨z, hz⟩ : ∃ z : EReal, z = gr X w W 2048 i (y 1).val := ⟨_, rfl⟩
  refine Eq.trans ?_ hz
  frame_out
  have x1_lt : (y 1).val < 128 := (y 1).isLt
  · open_payloads
    pointwise
    refine Eq.trans ?_ hz.symm
    unfold gr
    refine piece _ _ _ _ _ x1_lt (by omega) _ _ _ _ _ (blkcol H0 H1 H2 _ (by omega) _ _ (by simp only; omega) (by simp only; omega))
      (fun h => blkcol H0 H1 H2 _ (by omega) _ _ (by simp only; omega) (by simp only; omega)) (fun h => blkcol H0 H1 H2 _ (by omega) _ _ (by simp only; omega) (by simp only; omega)) ?_ ?_
    · exact (congrArg x3 (idx_eq y r (by omega))).trans (H3 _)
    · exact (congrArg x4 (idx_eq y r (by omega))).trans (H4 _)

/-- What the body leaves of the values of the window. -/
theorem out_7 {x0 : FVec Ideal S512x1024 .f32} {x1 : FVec Ideal S1x1024 .f32} {x2 : FVec Ideal S1024x1408 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1408) (N : Fin 6424), N.val = 1024 + n.val → n.val < 1304 → x2 (ix2 k n) = W (ix2 k N))
    {x3 x4 : FVec Ideal S512x128 .f32}
    (y : S512x128.Idx) (hy : (y 0).val = r.val) : out0_12 (F := Ideal) x0 x1 x2 x3 x4 y = gp X w W 2176 i (y 1).val := by
  obtain ⟨z, hz⟩ : ∃ z : EReal, z = gp X w W 2176 i (y 1).val := ⟨_, rfl⟩
  refine Eq.trans ?_ hz
  frame_out
  have x1_lt : (y 1).val < 128 := (y 1).isLt
  · open_payloads
    pointwise
    refine Eq.trans ?_ hz.symm
    unfold gp
    exact blkcol H0 H1 H2 _ (by omega) _ _ (by simp only; omega) (by simp only; omega)

/-- What the body leaves of the gates. -/
theorem out_8 {x0 : FVec Ideal S512x1024 .f32} {x1 : FVec Ideal S1x1024 .f32} {x2 : FVec Ideal S1024x1408 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1408) (N : Fin 6424), N.val = 1024 + n.val → n.val < 1304 → x2 (ix2 k n) = W (ix2 k N))
    {x3 x4 : FVec Ideal S512x128 .f32}
    (H2z : ∀ (k : Fin 1024) (n : Fin 1408), 1304 ≤ n.val → x2 (ix2 k n) = (0 : EReal))
    (y : S512x128.Idx) (hy : (y 0).val = r.val) : out0_13 (F := Ideal) x0 x1 x2 x3 x4 y = if (y 1).val < 24 then gp X w W 2304 i (y 1).val else 0 := by
  obtain ⟨z, hz⟩ : ∃ z : EReal, z = if (y 1).val < 24 then gp X w W 2304 i (y 1).val else 0 := ⟨_, rfl⟩
  refine Eq.trans ?_ hz
  frame_out
  have x1_lt : (y 1).val < 128 := (y 1).isLt
  · open_payloads
    pointwise
    refine Eq.trans ?_ hz.symm
    unfold gp
    by_cases h : (y 1).val < 24
    · exact (blkcol H0 H1 H2 _ (by omega) _ _ (by simp only; omega) (by simp only; omega)).trans (if_pos h).symm
    · refine Eq.trans ?_ (if_neg h).symm
      refine sum_eq_zero fun k _ => ?_
      rw [H2z k _ (by simp only; omega), mul_zero]

variable (m : (ℓ : Loc nD τ sig) → Buf (Elt Ideal) ℓ) (c : Dev nD)

/-- Which rows each window holds at grid point `t`. -/
theorem idx_val : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ t.val < 32 :=
  (by decide +kernel : ∀ t : Fin grid0.N, _)

/-- The input's rows one below the other. -/
def xT (X : FVec Ideal S8x2048x1024 .f32) : FVec Ideal S16384x1024 .f32 := shapeCast S16384x1024 X shapeCasts_S8x2048x1024_S16384x1024

/-- The norm's scales as one row. -/
def nT (w : FVec Ideal S1024 .f32) : FVec Ideal S1x1024 .f32 := broadcastInDim S1x1024 ![1] bcast_S1024_S1x1024_1 w

/-- What the host leaves in the input's array. -/
theorem xV : V m c main_v24 = xT (m ((c.tc : Thread nD τ).loc main_arg0)) := by
  unfold V hostOps0
  after_results_simp <;> rfl

/-- What the host leaves in the scales' array. -/
theorem nV : V m c main_v25 = nT (m ((c.tc : Thread nD τ).loc main_arg1)) := by
  unfold V hostOps0
  after_results_simp <;> rfl

/-- An entry of the input's rows. -/
theorem xT_at (X : FVec Ideal S8x2048x1024 .f32) (i : Fin 16384) (j : Fin 1024) (b : Fin 8) (q : Fin 2048) (h : b.val * 2048 + q.val = i.val) :
    xT X (ix2 i j) = X (ix3 b q j) := by
  obtain ⟨z, hz⟩ : ∃ z : EReal, z = X (ix3 b q j) := ⟨_, rfl⟩
  refine Eq.trans ?_ hz
  pointwise [xT]
  refine Eq.trans ?_ hz.symm
  have hb : (⟨i.val / 2048, by omega⟩ : Fin 8) = b := Fin.ext (by simp only; omega)
  have hq : (⟨i.val % 2048, by omega⟩ : Fin 2048) = q := Fin.ext (by simp only; omega)
  rw [hb, hq]

/-- An entry of the scales' row. -/
theorem nT_at (w : FVec Ideal S1024 .f32) (j : Fin 1024) : nT w (ix2 0 j) = w (ix1 j) := by
  pointwise [nT]

/-- The block of the input at a grid point. -/
theorem blk_0 (t : Fin cfg0.N) (r : Fin 512) (j : Fin 1024) (b : Fin 8) (q : Fin 2048) (h : b.val * 2048 + q.val = t.val * 512 + r.val) :
    iblk m c 0 t (ix2 r j) = m ((c.tc : Thread nD τ).loc main_arg0) (ix3 b q j) := by
  have hv := idx_val t
  refine Eq.trans ?_ (xT_at (m ((c.tc : Thread nD τ).loc main_arg0)) ⟨t.val * 512 + r.val, by omega⟩ j b q h)
  blk_simp [iblk, idx_val t]
  rw [xV m c]
  refine congrArg (xT (m ((c.tc : Thread nD τ).loc main_arg0))) ?_
  blk_ext [idx_val t]

/-- The block of the norm's scales is the whole of them. -/
theorem blk_1 (t : Fin cfg0.N) (j : Fin 1024) : iblk m c 1 t (ix2 0 j) = m ((c.tc : Thread nD τ).loc main_arg1) (ix1 j) := by
  have hv := idx_val t
  refine Eq.trans ?_ (nT_at (m ((c.tc : Thread nD τ).loc main_arg1)) j)
  blk_simp [iblk, idx_val t]
  rw [nV m c]
  refine congrArg (nT (m ((c.tc : Thread nD τ).loc main_arg1))) ?_
  blk_ext [idx_val t]

/-- The weights of this call: its columns, the gates' filled up with zeros. -/
def wT (W : FVec Ideal S1024x6424 .f32) : FVec Ideal S1024x1408 .bf16 :=
  truncf .bf16 (concatenate S1024x1408 1 [⟨S1024x1280, (extractStridedSlice S1024x1280 ![0, 1024] W slices_S1024x6424_S1024x1280_0_1024 : FVec Ideal _ .f32)⟩,
    ⟨S1024x128, (pad S1024x128 ![0, 0] ![0, 104] ![0, 0] (extractStridedSlice S1024x24 ![0, 2304] W slices_S1024x6424_S1024x24_0_2304 : FVec Ideal _ .f32)
      (sitofp .f32 (constantI S_ 32 0#32)) pads_S1024x24_S1024x128_000_01040 h_S_ : FVec Ideal _ .f32)⟩] concatenates_S1024x1280_S1024x128_S1024x1408_d1 : FVec Ideal _ .f32) bitsLt_bf16_f32

set_option maxHeartbeats 1600000 in
/-- What the host leaves in the weights' array. -/
theorem wV : V m c main_v23 = wT (m ((c.tc : Thread nD τ).loc main_arg2)) := by
  unfold V hostOps0
  after_results_simp <;> rfl

/-- The weights at a column that is not padding. -/
theorem wT_at (W : FVec Ideal S1024x6424 .f32) (k : Fin 1024) (n : Fin 1408) (N : Fin 6424) (h : N.val = 1024 + n.val) (hn : n.val < 1304) :
    wT W (ix2 k n) = W (ix2 k N) := by
  obtain ⟨z, hz⟩ : ∃ z : EReal, z = W (ix2 k N) := ⟨_, rfl⟩
  refine Eq.trans ?_ hz
  pointwise [wT]
  refine Eq.trans ?_ hz.symm
  by_cases h1 : n.val < 1280
  · exact (dif_pos h1).trans (congrArg (fun a => W (ix2 k a)) (Fin.ext (by simp only; omega)))
  · exact (dif_neg h1).trans ((dif_pos (by omega)).trans (congrArg (fun a => W (ix2 k a)) (Fin.ext (by simp only; omega))))

/-- The weights at a padding column. -/
theorem wT_pad (W : FVec Ideal S1024x6424 .f32) (k : Fin 1024) (n : Fin 1408) (hn : 1304 ≤ n.val) : wT W (ix2 k n) = (0 : EReal) := by
  pointwise [wT]
  refine (dif_neg (by omega)).trans ((dif_neg (by omega)).trans ?_)
  show ((((0#32 : BitVec 32).toInt : ℝ)) : EReal) = 0
  simp

/-- The block of the weights is the whole of them. -/
theorem blk_2 (t : Fin cfg0.N) (k : Fin 1024) (n : Fin 1408) (N : Fin 6424) (h : N.val = 1024 + n.val) (hn : n.val < 1304) : iblk m c 2 t (ix2 k n) = m ((c.tc : Thread nD τ).loc main_arg2) (ix2 k N) := by
  have hv := idx_val t
  refine Eq.trans ?_ (wT_at (m ((c.tc : Thread nD τ).loc main_arg2)) k n N h hn)
  blk_simp [iblk, idx_val t]
  rw [wV m c]
  refine congrArg (wT (m ((c.tc : Thread nD τ).loc main_arg2))) ?_
  blk_ext [idx_val t]

/-- The block of the weights is the whole of them. -/
theorem blk_2z (t : Fin cfg0.N) (k : Fin 1024) (n : Fin 1408) (hn : 1304 ≤ n.val) : iblk m c 2 t (ix2 k n) = (0 : EReal) := by
  have hv := idx_val t
  refine Eq.trans ?_ (wT_pad (m ((c.tc : Thread nD τ).loc main_arg2)) k n hn)
  blk_simp [iblk, idx_val t]
  rw [wV m c]
  refine congrArg (wT (m ((c.tc : Thread nD τ).loc main_arg2))) ?_
  blk_ext [idx_val t]

/-- The table of angles. -/
def angT : FVec Ideal S2048x32 .f32 := mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The table of cosines: four times side by side. -/
def cosT : FVec Ideal S2048x128 .f32 := concatenate S2048x128 1 [⟨S2048x32, (Host.cos angT : (⟨S2048x32, .f32⟩ : BufTy).Contents (Elt Ideal))⟩, ⟨S2048x32, (Host.cos angT : (⟨S2048x32, .f32⟩ : BufTy).Contents (Elt Ideal))⟩, ⟨S2048x32, (Host.cos angT : (⟨S2048x32, .f32⟩ : BufTy).Contents (Elt Ideal))⟩, ⟨S2048x32, (Host.cos angT : (⟨S2048x32, .f32⟩ : BufTy).Contents (Elt Ideal))⟩] concatenates_S2048x32_S2048x32_S2048x32_S2048x32_S2048x128_d1

/-- The table of sines, the first half of each head negated. -/
def sinTab : FVec Ideal S2048x128 .f32 := concatenate S2048x128 1 [⟨S2048x32, (Host.negf (Host.sin angT) : (⟨S2048x32, .f32⟩ : BufTy).Contents (Elt Ideal))⟩, ⟨S2048x32, (Host.sin angT : (⟨S2048x32, .f32⟩ : BufTy).Contents (Elt Ideal))⟩, ⟨S2048x32, (Host.negf (Host.sin angT) : (⟨S2048x32, .f32⟩ : BufTy).Contents (Elt Ideal))⟩, ⟨S2048x32, (Host.sin angT : (⟨S2048x32, .f32⟩ : BufTy).Contents (Elt Ideal))⟩] concatenates_S2048x32_S2048x32_S2048x32_S2048x32_S2048x128_d1

/-- What the host leaves in the cosines' array. -/
theorem cosV : V m c main_v15 = cosT := by
  unfold V hostOps0
  after_results_simp <;> rfl

/-- What the host leaves in the sines' array. -/
theorem sinV : V m c main_v18 = sinTab := by
  unfold V hostOps0
  after_results_simp <;> rfl

/-- An entry of the angles. -/
theorem angT_at (p : Fin 2048) (i : Fin 32) (k : ℕ) (h : i.val = k) : angT (ix2 p i) = ang p.val k := by
  subst h
  obtain ⟨z, hz⟩ : ∃ z : EReal, z = ang p.val i.val := ⟨_, rfl⟩
  refine Eq.trans ?_ hz
  pointwise [angT]
  refine Eq.trans ?_ hz.symm
  unfold ang
  rfl

/-- An entry of the cosines. -/
theorem cosT_at (p : Fin 2048) (l : Fin 128) : cosT (ix2 p l) = Ideal.cos (ang p.val (l.val % 32)) := by
  obtain ⟨z, hz⟩ : ∃ z : EReal, z = Ideal.cos (ang p.val (l.val % 32)) := ⟨_, rfl⟩
  refine Eq.trans ?_ hz
  pointwise [cosT]
  refine Eq.trans ?_ hz.symm
  split_ifs <;> exact congrArg Ideal.cos (angT_at _ _ _ (by simp only <;> omega))

/-- An entry of the sines. -/
theorem sinTab_at (p : Fin 2048) (l : Fin 128) : sinTab (ix2 p l) = sinT p.val l.val := by
  obtain ⟨z, hz⟩ : ∃ z : EReal, z = sinT p.val l.val := ⟨_, rfl⟩
  refine Eq.trans ?_ hz
  pointwise [sinTab]
  refine Eq.trans ?_ hz.symm
  unfold sinT
  by_cases h : l.val % 64 < 32
  · refine Eq.trans ?_ (if_pos h).symm
    split_ifs <;> first
      | omega
      | exact congrArg (fun a : EReal => -Ideal.sin a) (angT_at _ _ _ (by simp only <;> omega))
  · refine Eq.trans ?_ (if_neg h).symm
    split_ifs <;> first
      | omega
      | exact congrArg Ideal.sin (angT_at _ _ _ (by simp only <;> omega))

/-- The block of the cosines at a grid point. -/
theorem blk_3 (t : Fin cfg0.N) (r : Fin 512) (l : Fin 128) (i : Fin 16384) (h : i.val = t.val * 512 + r.val) :
    iblk m c 3 t (ix2 r l) = Ideal.cos (ang (i.val % 2048) (l.val % 32)) := by
  have hv := idx_val t
  refine Eq.trans ?_ (cosT_at ⟨i.val % 2048, by omega⟩ l)
  blk_simp [iblk, idx_val t]
  rw [cosV m c]
  refine congrArg cosT ?_
  blk_ext [idx_val t]

/-- The block of the sines at a grid point. -/
theorem blk_4 (t : Fin cfg0.N) (r : Fin 512) (l : Fin 128) (i : Fin 16384) (h : i.val = t.val * 512 + r.val) :
    iblk m c 4 t (ix2 r l) = sinT (i.val % 2048) l.val := by
  have hv := idx_val t
  refine Eq.trans ?_ (sinTab_at ⟨i.val % 2048, by omega⟩ l)
  blk_simp [iblk, idx_val t]
  rw [sinV m c]
  refine congrArg sinTab ?_
  blk_ext [idx_val t]

/-- The block of the queries that a grid point writes is the reference's. -/
theorem pay_0 (t : Fin cfg0.N) (r : Fin 512) (j : Fin 512) (i : Fin 16384) (hi : i.val = t.val * 512 + r.val) :
    out0_5 (iblk m c 0 t) (iblk m c 1 t) (iblk m c 2 t) (iblk m c 3 t) (iblk m c 4 t) (ix2 r j)
      = Ref.R0 (m ((c.tc : Thread nD τ).loc main_arg0)) (m ((c.tc : Thread nD τ).loc main_arg1)) (m ((c.tc : Thread nD τ).loc main_arg2)) (ix2 i j) :=
  (out_0 (fun k => blk_0 m c t r k _ _ (by simp only; omega)) (fun k => blk_1 m c t k) (fun k n N h hn => blk_2 m c t k n N h hn) (ix2 r j) rfl).trans
    (Ref.R0_at (m ((c.tc : Thread nD τ).loc main_arg0)) (m ((c.tc : Thread nD τ).loc main_arg1)) (m ((c.tc : Thread nD τ).loc main_arg2)) i j).symm

/-- After the whole run the array of the queries is the reference's. -/
theorem arr_0 : (dats m 0 c).arrAt 5 (cfgs 0).N = Ref.R0 (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  rw [after0_5]
  have hv := idx_val t
  obtain ⟨r, j, rfl⟩ : ∃ (r : Fin 512) (j : Fin 512), y = ix2 r j := ⟨y 0, y 1, by funext a; fin_cases a <;> rfl⟩
  have hi : t.val * 512 + r.val < 16384 := by omega
  refine (pay_0 m c t r j ⟨t.val * 512 + r.val, hi⟩ rfl).trans ?_
  refine congrArg (Ref.R0 _ _ _) ?_
  blk_ext [idx_val t]

/-- The block of the rotated queries that a grid point writes is the reference's. -/
theorem pay_1 (t : Fin cfg0.N) (r : Fin 512) (j : Fin 512) (i : Fin 16384) (hi : i.val = t.val * 512 + r.val) :
    out0_6 (iblk m c 0 t) (iblk m c 1 t) (iblk m c 2 t) (iblk m c 3 t) (iblk m c 4 t) (ix2 r j)
      = Ref.R1 (m ((c.tc : Thread nD τ).loc main_arg0)) (m ((c.tc : Thread nD τ).loc main_arg1)) (m ((c.tc : Thread nD τ).loc main_arg2)) (ix2 i j) :=
  (out_1 (fun k => blk_0 m c t r k _ _ (by simp only; omega)) (fun k => blk_1 m c t k) (fun k n N h hn => blk_2 m c t k n N h hn) (fun l => blk_3 m c t r l i hi) (fun l => blk_4 m c t r l i hi) (ix2 r j) rfl).trans
    (Ref.R1_at (m ((c.tc : Thread nD τ).loc main_arg0)) (m ((c.tc : Thread nD τ).loc main_arg1)) (m ((c.tc : Thread nD τ).loc main_arg2)) i j).symm

/-- After the whole run the array of the rotated queries is the reference's. -/
theorem arr_1 : (dats m 0 c).arrAt 6 (cfgs 0).N = Ref.R1 (m ((c.tc : Thread nD τ).loc main_arg0)) (m ((c.tc : Thread nD τ).loc main_arg1)) (m ((c.tc : Thread nD τ).loc main_arg2)) := by
  refine (dats m 0 c).arrAt_eq_of_covers 6 _ (by decide +kernel) fun t _ y => ?_
  blk_simp
  rw [after0_6]
  have hv := idx_val t
  obtain ⟨r, j, rfl⟩ : ∃ (r : Fin 512) (j : Fin 512), y = ix2 r j := ⟨y 0, y 1, by funext a; fin_cases a <;> rfl⟩
  have hi : t.val * 512 + r.val < 16384 := by omega
  refine (pay_1 m c t r j ⟨t.val * 512 + r.val, hi⟩ rfl).trans ?_
  refine congrArg (Ref.R1 _ _ _) ?_
  blk_ext [idx_val t]

/-- The block of the keys to compress that a grid point writes is the reference's. -/
theorem pay_2 (t : Fin cfg0.N) (r : Fin 512) (j : Fin 128) (i : Fin 16384) (hi : i.val = t.val * 512 + r.val) :
    out0_7 (iblk m c 0 t) (iblk m c 1 t) (iblk m c 2 t) (iblk m c 3 t) (iblk m c 4 t) (ix2 r j)
      = Ref.R2 (m ((c.tc : Thread nD τ).loc main_arg0)) (m ((c.tc : Thread nD τ).loc main_arg1)) (m ((c.tc : Thread nD τ).loc main_arg2)) (ix2 i j) :=
  (out_2 (fun k => blk_0 m c t r k _ _ (by simp only; omega)) (fun k => blk_1 m c t k) (fun k n N h hn => blk_2 m c t k n N h hn) (ix2 r j) rfl).trans
    (Ref.R2_at (m ((c.tc : Thread nD τ).loc main_arg0)) (m ((c.tc : Thread nD τ).loc main_arg1)) (m ((c.tc : Thread nD τ).loc main_arg2)) i j).symm

/-- After the whole run the array of the keys to compress is the reference's. -/
theorem arr_2 : (dats m 0 c).arrAt 7 (cfgs 0).N = Ref.R2 (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  blk_simp
  rw [after0_7]
  have hv := idx_val t
  obtain ⟨r, j, rfl⟩ : ∃ (r : Fin 512) (j : Fin 128), y = ix2 r j := ⟨y 0, y 1, by funext a; fin_cases a <;> rfl⟩
  have hi : t.val * 512 + r.val < 16384 := by omega
  refine (pay_2 m c t r j ⟨t.val * 512 + r.val, hi⟩ rfl).trans ?_
  refine congrArg (Ref.R2 _ _ _) ?_
  blk_ext [idx_val t]

/-- The block of the values to compress that a grid point writes is the reference's. -/
theorem pay_3 (t : Fin cfg0.N) (r : Fin 512) (j : Fin 128) (i : Fin 16384) (hi : i.val = t.val * 512 + r.val) :
    out0_8 (iblk m c 0 t) (iblk m c 1 t) (iblk m c 2 t) (iblk m c 3 t) (iblk m c 4 t) (ix2 r j)
      = Ref.R3 (m ((c.tc : Thread nD τ).loc main_arg0)) (m ((c.tc : Thread nD τ).loc main_arg1)) (m ((c.tc : Thread nD τ).loc main_arg2)) (ix2 i j) :=
  (out_3 (fun k => blk_0 m c t r k _ _ (by simp only; omega)) (fun k => blk_1 m c t k) (fun k n N h hn => blk_2 m c t k n N h hn) (ix2 r j) rfl).trans
    (Ref.R3_at (m ((c.tc : Thread nD τ).loc main_arg0)) (m ((c.tc : Thread nD τ).loc main_arg1)) (m ((c.tc : Thread nD τ).loc main_arg2)) i j).symm

/-- After the whole run the array of the values to compress is the reference's. -/
theorem arr_3 : (dats m 0 c).arrAt 8 (cfgs 0).N = Ref.R3 (m ((c.tc : Thread nD τ).loc main_arg0)) (m ((c.tc : Thread nD τ).loc main_arg1)) (m ((c.tc : Thread nD τ).loc main_arg2)) := by
  refine (dats m 0 c).arrAt_eq_of_covers 8 _ (by decide +kernel) fun t _ y => ?_
  blk_simp
  rw [after0_8]
  have hv := idx_val t
  obtain ⟨r, j, rfl⟩ : ∃ (r : Fin 512) (j : Fin 128), y = ix2 r j := ⟨y 0, y 1, by funext a; fin_cases a <;> rfl⟩
  have hi : t.val * 512 + r.val < 16384 := by omega
  refine (pay_3 m c t r j ⟨t.val * 512 + r.val, hi⟩ rfl).trans ?_
  refine congrArg (Ref.R3 _ _ _) ?_
  blk_ext [idx_val t]

/-- The block of the keys to select that a grid point writes is the reference's. -/
theorem pay_4 (t : Fin cfg0.N) (r : Fin 512) (j : Fin 128) (i : Fin 16384) (hi : i.val = t.val * 512 + r.val) :
    out0_9 (iblk m c 0 t) (iblk m c 1 t) (iblk m c 2 t) (iblk m c 3 t) (iblk m c 4 t) (ix2 r j)
      = Ref.R4 (m ((c.tc : Thread nD τ).loc main_arg0)) (m ((c.tc : Thread nD τ).loc main_arg1)) (m ((c.tc : Thread nD τ).loc main_arg2)) (ix2 i j) :=
  (out_4 (fun k => blk_0 m c t r k _ _ (by simp only; omega)) (fun k => blk_1 m c t k) (fun k n N h hn => blk_2 m c t k n N h hn) (fun l => blk_3 m c t r l i hi) (fun l => blk_4 m c t r l i hi) (ix2 r j) rfl).trans
    (Ref.R4_at (m ((c.tc : Thread nD τ).loc main_arg0)) (m ((c.tc : Thread nD τ).loc main_arg1)) (m ((c.tc : Thread nD τ).loc main_arg2)) i j).symm

/-- After the whole run the array of the keys to select is the reference's. -/
theorem arr_4 : (dats m 0 c).arrAt 9 (cfgs 0).N = Ref.R4 (m ((c.tc : Thread nD τ).loc main_arg0)) (m ((c.tc : Thread nD τ).loc main_arg1)) (m ((c.tc : Thread nD τ).loc main_arg2)) := by
  refine (dats m 0 c).arrAt_eq_of_covers 9 _ (by decide +kernel) fun t _ y => ?_
  blk_simp
  rw [after0_9]
  have hv := idx_val t
  obtain ⟨r, j, rfl⟩ : ∃ (r : Fin 512) (j : Fin 128), y = ix2 r j := ⟨y 0, y 1, by funext a; fin_cases a <;> rfl⟩
  have hi : t.val * 512 + r.val < 16384 := by omega
  refine (pay_4 m c t r j ⟨t.val * 512 + r.val, hi⟩ rfl).trans ?_
  refine congrArg (Ref.R4 _ _ _) ?_
  blk_ext [idx_val t]

/-- The block of the values to select that a grid point writes is the reference's. -/
theorem pay_5 (t : Fin cfg0.N) (r : Fin 512) (j : Fin 128) (i : Fin 16384) (hi : i.val = t.val * 512 + r.val) :
    out0_10 (iblk m c 0 t) (iblk m c 1 t) (iblk m c 2 t) (iblk m c 3 t) (iblk m c 4 t) (ix2 r j)
      = Ref.R5 (m ((c.tc : Thread nD τ).loc main_arg0)) (m ((c.tc : Thread nD τ).loc main_arg1)) (m ((c.tc : Thread nD τ).loc main_arg2)) (ix2 i j) :=
  (out_5 (fun k => blk_0 m c t r k _ _ (by simp only; omega)) (fun k => blk_1 m c t k) (fun k n N h hn => blk_2 m c t k n N h hn) (ix2 r j) rfl).trans
    (Ref.R5_at (m ((c.tc : Thread nD τ).loc main_arg0)) (m ((c.tc : Thread nD τ).loc main_arg1)) (m ((c.tc : Thread nD τ).loc main_arg2)) i j).symm

/-- After the whole run the array of the values to select is the reference's. -/
theorem arr_5 : (dats m 0 c).arrAt 10 (cfgs 0).N = Ref.R5 (m ((c.tc : Thread nD τ).loc main_arg0)) (m ((c.tc : Thread nD τ).loc main_arg1)) (m ((c.tc : Thread nD τ).loc main_arg2)) := by
  refine (dats m 0 c).arrAt_eq_of_covers 10 _ (by decide +kernel) fun t _ y => ?_
  blk_simp
  rw [after0_10]
  have hv := idx_val t
  obtain ⟨r, j, rfl⟩ : ∃ (r : Fin 512) (j : Fin 128), y = ix2 r j := ⟨y 0, y 1, by funext a; fin_cases a <;> rfl⟩
  have hi : t.val * 512 + r.val < 16384 := by omega
  refine (pay_5 m c t r j ⟨t.val * 512 + r.val, hi⟩ rfl).trans ?_
  refine congrArg (Ref.R5 _ _ _) ?_
  blk_ext [idx_val t]

/-- The block of the keys of the window that a grid point writes is the reference's. -/
theorem pay_6 (t : Fin cfg0.N) (r : Fin 512) (j : Fin 128) (i : Fin 16384) (hi : i.val = t.val * 512 + r.val) :
    out0_11 (iblk m c 0 t) (iblk m c 1 t) (iblk m c 2 t) (iblk m c 3 t) (iblk m c 4 t) (ix2 r j)
      = Ref.R6 (m ((c.tc : Thread nD τ).loc main_arg0)) (m ((c.tc : Thread nD τ).loc main_arg1)) (m ((c.tc : Thread nD τ).loc main_arg2)) (ix2 i j) :=
  (out_6 (fun k => blk_0 m c t r k _ _ (by simp only; omega)) (fun k => blk_1 m c t k) (fun k n N h hn => blk_2 m c t k n N h hn) (fun l => blk_3 m c t r l i hi) (fun l => blk_4 m c t r l i hi) (ix2 r j) rfl).trans
    (Ref.R6_at (m ((c.tc : Thread nD τ).loc main_arg0)) (m ((c.tc : Thread nD τ).loc main_arg1)) (m ((c.tc : Thread nD τ).loc main_arg2)) i j).symm

/-- After the whole run the array of the keys of the window is the reference's. -/
theorem arr_6 : (dats m 0 c).arrAt 11 (cfgs 0).N = Ref.R6 (m ((c.tc : Thread nD τ).loc main_arg0)) (m ((c.tc : Thread nD τ).loc main_arg1)) (m ((c.tc : Thread nD τ).loc main_arg2)) := by
  refine (dats m 0 c).arrAt_eq_of_covers 11 _ (by decide +kernel) fun t _ y => ?_
  blk_simp
  rw [after0_11]
  have hv := idx_val t
  obtain ⟨r, j, rfl⟩ : ∃ (r : Fin 512) (j : Fin 128), y = ix2 r j := ⟨y 0, y 1, by funext a; fin_cases a <;> rfl⟩
  have hi : t.val * 512 + r.val < 16384 := by omega
  refine (pay_6 m c t r j ⟨t.val * 512 + r.val, hi⟩ rfl).trans ?_
  refine congrArg (Ref.R6 _ _ _) ?_
  blk_ext [idx_val t]

/-- The block of the values of the window that a grid point writes is the reference's. -/
theorem pay_7 (t : Fin cfg0.N) (r : Fin 512) (j : Fin 128) (i : Fin 16384) (hi : i.val = t.val * 512 + r.val) :
    out0_12 (iblk m c 0 t) (iblk m c 1 t) (iblk m c 2 t) (iblk m c 3 t) (iblk m c 4 t) (ix2 r j)
      = Ref.R7 (m ((c.tc : Thread nD τ).loc main_arg0)) (m ((c.tc : Thread nD τ).loc main_arg1)) (m ((c.tc : Thread nD τ).loc main_arg2)) (ix2 i j) :=
  (out_7 (fun k => blk_0 m c t r k _ _ (by simp only; omega)) (fun k => blk_1 m c t k) (fun k n N h hn => blk_2 m c t k n N h hn) (ix2 r j) rfl).trans
    (Ref.R7_at (m ((c.tc : Thread nD τ).loc main_arg0)) (m ((c.tc : Thread nD τ).loc main_arg1)) (m ((c.tc : Thread nD τ).loc main_arg2)) i j).symm

/-- After the whole run the array of the values of the window is the reference's. -/
theorem arr_7 : (dats m 0 c).arrAt 12 (cfgs 0).N = Ref.R7 (m ((c.tc : Thread nD τ).loc main_arg0)) (m ((c.tc : Thread nD τ).loc main_arg1)) (m ((c.tc : Thread nD τ).loc main_arg2)) := by
  refine (dats m 0 c).arrAt_eq_of_covers 12 _ (by decide +kernel) fun t _ y => ?_
  blk_simp
  rw [after0_12]
  have hv := idx_val t
  obtain ⟨r, j, rfl⟩ : ∃ (r : Fin 512) (j : Fin 128), y = ix2 r j := ⟨y 0, y 1, by funext a; fin_cases a <;> rfl⟩
  have hi : t.val * 512 + r.val < 16384 := by omega
  refine (pay_7 m c t r j ⟨t.val * 512 + r.val, hi⟩ rfl).trans ?_
  refine congrArg (Ref.R7 _ _ _) ?_
  blk_ext [idx_val t]

/-- The block of the gates that a grid point writes is the reference's. -/
theorem pay_8 (t : Fin cfg0.N) (r : Fin 512) (j : Fin 128) (i : Fin 16384) (hi : i.val = t.val * 512 + r.val) :
    out0_13 (iblk m c 0 t) (iblk m c 1 t) (iblk m c 2 t) (iblk m c 3 t) (iblk m c 4 t) (ix2 r j)
      = Ref.R8 (m ((c.tc : Thread nD τ).loc main_arg0)) (m ((c.tc : Thread nD τ).loc main_arg1)) (m ((c.tc : Thread nD τ).loc main_arg2)) (ix2 i j) :=
  (out_8 (fun k => blk_0 m c t r k _ _ (by simp only; omega)) (fun k => blk_1 m c t k) (fun k n N h hn => blk_2 m c t k n N h hn) (fun k n h => blk_2z m c t k n h) (ix2 r j) rfl).trans
    (Ref.R8_at (m ((c.tc : Thread nD τ).loc main_arg0)) (m ((c.tc : Thread nD τ).loc main_arg1)) (m ((c.tc : Thread nD τ).loc main_arg2)) i j).symm

/-- After the whole run the array of the gates is the reference's. -/
theorem arr_8 : (dats m 0 c).arrAt 13 (cfgs 0).N = Ref.R8 (m ((c.tc : Thread nD τ).loc main_arg0)) (m ((c.tc : Thread nD τ).loc main_arg1)) (m ((c.tc : Thread nD τ).loc main_arg2)) := by
  refine (dats m 0 c).arrAt_eq_of_covers 13 _ (by decide +kernel) fun t _ y => ?_
  blk_simp
  rw [after0_13]
  have hv := idx_val t
  obtain ⟨r, j, rfl⟩ : ∃ (r : Fin 512) (j : Fin 128), y = ix2 r j := ⟨y 0, y 1, by funext a; fin_cases a <;> rfl⟩
  have hi : t.val * 512 + r.val < 16384 := by omega
  refine (pay_8 m c t r j ⟨t.val * 512 + r.val, hi⟩ rfl).trans ?_
  refine congrArg (Ref.R8 _ _ _) ?_
  blk_ext [idx_val t]

end PrjB

end
-- ==== Proof.ProjCRef.lean ====
module

public import proofs.«01_k».proof.Proof.Gen.ProjCRefIdeal.Run
public import proofs.«01_k».proof.Proof.ProjRow

@[expose] public section

set_option maxRecDepth 16384

noncomputable section

namespace PrjC.Ref

open Idealize.ShloMosaic Idealize.ShloMosaic.TcCoe Idealize.SL.Sem Finset Cert.ProjCRefIdeal Cert.ProjCRefIdeal.Gen Cert.ProjCRefIdeal.Value Prj

/-- The normed input times the input weights, as the reference computes it. -/
def Zt (X : FVec Ideal S8x2048x1024 .f32) (w : FVec Ideal S1024 .f32) (W : FVec Ideal S1024x6424 .f32) : FVec Ideal S8x2048x6424 .f32 :=
  Host.dotGeneral dot_S8x2048x1024_S1024x6424_S8x2048x6424_2_0_01_1_n_n none (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 w))) W

/-- One entry of that product. -/
theorem Zt_at (X : FVec Ideal S8x2048x1024 .f32) (w : FVec Ideal S1024 .f32) (W : FVec Ideal S1024x6424 .f32) (b : Fin 8) (q : Fin 2048) (N : Fin 6424) (n : ℕ) (h : N.val = n) : Zt X w W (ix3 b q N) = cols X w W b q n := by
  rw [cols_sum b q n N h]
  pointwise [Zt]

/-- The queries in the reference, over its arrays. -/
def R0 (X : FVec Ideal S8x2048x1024 .f32) (w : FVec Ideal S1024 .f32) (W : FVec Ideal S1024x6424 .f32) : FVec Ideal S16384x512 .f32 :=
  shapeCast _ (concatenate S8x2048x8x64 3 [⟨S8x2048x8x32, (subf (mulf (extractStridedSlice S8x2048x8x32 ![0, 0, 0, 0] (shapeCast _ (extractStridedSlice S8x2048x512 ![0, 0, 2328] (Zt X w W) slices_S8x2048x6424_S8x2048x512_0_0_2328) shapeCasts_S8x2048x512_S8x2048x8x64) slices_S8x2048x8x64_S8x2048x8x32_0_0_0_0) (broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S8x2048x8x32 ![0, 0, 0, 32] (shapeCast _ (extractStridedSlice S8x2048x512 ![0, 0, 2328] (Zt X w W) slices_S8x2048x6424_S8x2048x512_0_0_2328) shapeCasts_S8x2048x512_S8x2048x8x64) slices_S8x2048x8x64_S8x2048x8x32_0_0_0_32) (broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩, ⟨S8x2048x8x32, (addf (mulf (extractStridedSlice S8x2048x8x32 ![0, 0, 0, 0] (shapeCast _ (extractStridedSlice S8x2048x512 ![0, 0, 2328] (Zt X w W) slices_S8x2048x6424_S8x2048x512_0_0_2328) shapeCasts_S8x2048x512_S8x2048x8x64) slices_S8x2048x8x64_S8x2048x8x32_0_0_0_0) (broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S8x2048x8x32 ![0, 0, 0, 32] (shapeCast _ (extractStridedSlice S8x2048x512 ![0, 0, 2328] (Zt X w W) slices_S8x2048x6424_S8x2048x512_0_0_2328) shapeCasts_S8x2048x512_S8x2048x8x64) slices_S8x2048x8x64_S8x2048x8x32_0_0_0_32) (broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩] concatenates_S8x2048x8x32_S8x2048x8x32_S8x2048x8x64_d3) shapeCasts_S8x2048x8x64_S16384x512

/-- The queries at an index. -/
theorem R0_at (X : FVec Ideal S8x2048x1024 .f32) (w : FVec Ideal S1024 .f32) (W : FVec Ideal S1024x6424 .f32) (r : Fin 16384) (l : Fin 512) : R0 X w W (ix2 r l) = gr X w W 2328 r l := by
  obtain ⟨z, hz⟩ : ∃ z : EReal, z = gr X w W 2328 r l := ⟨_, rfl⟩
  refine Eq.trans ?_ hz
  pointwise [R0]
  refine Eq.trans ?_ hz.symm
  unfold gr rope ang
  by_cases h : l.val % 64 < 32
  · refine (dif_pos h).trans (Eq.trans ?_ (if_pos h).symm)
    refine congrArg₂ (· - ·) (Ideal.mul_congr (Zt_at X w W _ _ _ _ ?_) rfl) (Ideal.mul_congr (Zt_at X w W _ _ _ _ ?_) rfl)
    · simp only <;> omega
    · simp only <;> omega
  · refine (dif_neg h).trans (Eq.trans ?_ (if_neg h).symm)
    refine Ideal.add_congr (Ideal.mul_congr (Zt_at X w W _ _ _ _ ?_) rfl) (Ideal.mul_congr (Zt_at X w W _ _ _ _ ?_) rfl)
    · simp only <;> omega
    · simp only <;> omega

/-- The keys in the reference, over its arrays. -/
def R1 (X : FVec Ideal S8x2048x1024 .f32) (w : FVec Ideal S1024 .f32) (W : FVec Ideal S1024x6424 .f32) : FVec Ideal S16384x256 .f32 :=
  shapeCast _ (concatenate S8x2048x4x64 3 [⟨S8x2048x4x32, (subf (mulf (extractStridedSlice S8x2048x4x32 ![0, 0, 0, 0] (shapeCast _ (extractStridedSlice S8x2048x256 ![0, 0, 2840] (Zt X w W) slices_S8x2048x6424_S8x2048x256_0_0_2840) shapeCasts_S8x2048x256_S8x2048x4x64) slices_S8x2048x4x64_S8x2048x4x32_0_0_0_0) (broadcastInDim S8x2048x4x32 ![0, 1, 2, 3] bcast_S1x2048x1x32_S8x2048x4x32_0_1_2_3 (broadcastInDim S1x2048x1x32 ![1, 2, 3] bcast_S2048x1x32_S1x2048x1x32_1_2_3 (broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S8x2048x4x32 ![0, 0, 0, 32] (shapeCast _ (extractStridedSlice S8x2048x256 ![0, 0, 2840] (Zt X w W) slices_S8x2048x6424_S8x2048x256_0_0_2840) shapeCasts_S8x2048x256_S8x2048x4x64) slices_S8x2048x4x64_S8x2048x4x32_0_0_0_32) (broadcastInDim S8x2048x4x32 ![0, 1, 2, 3] bcast_S1x2048x1x32_S8x2048x4x32_0_1_2_3 (broadcastInDim S1x2048x1x32 ![1, 2, 3] bcast_S2048x1x32_S1x2048x1x32_1_2_3 (broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩, ⟨S8x2048x4x32, (addf (mulf (extractStridedSlice S8x2048x4x32 ![0, 0, 0, 0] (shapeCast _ (extractStridedSlice S8x2048x256 ![0, 0, 2840] (Zt X w W) slices_S8x2048x6424_S8x2048x256_0_0_2840) shapeCasts_S8x2048x256_S8x2048x4x64) slices_S8x2048x4x64_S8x2048x4x32_0_0_0_0) (broadcastInDim S8x2048x4x32 ![0, 1, 2, 3] bcast_S1x2048x1x32_S8x2048x4x32_0_1_2_3 (broadcastInDim S1x2048x1x32 ![1, 2, 3] bcast_S2048x1x32_S1x2048x1x32_1_2_3 (broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S8x2048x4x32 ![0, 0, 0, 32] (shapeCast _ (extractStridedSlice S8x2048x256 ![0, 0, 2840] (Zt X w W) slices_S8x2048x6424_S8x2048x256_0_0_2840) shapeCasts_S8x2048x256_S8x2048x4x64) slices_S8x2048x4x64_S8x2048x4x32_0_0_0_32) (broadcastInDim S8x2048x4x32 ![0, 1, 2, 3] bcast_S1x2048x1x32_S8x2048x4x32_0_1_2_3 (broadcastInDim S1x2048x1x32 ![1, 2, 3] bcast_S2048x1x32_S1x2048x1x32_1_2_3 (broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩] concatenates_S8x2048x4x32_S8x2048x4x32_S8x2048x4x64_d3) shapeCasts_S8x2048x4x64_S16384x256

/-- The keys at an index. -/
theorem R1_at (X : FVec Ideal S8x2048x1024 .f32) (w : FVec Ideal S1024 .f32) (W : FVec Ideal S1024x6424 .f32) (r : Fin 16384) (l : Fin 256) : R1 X w W (ix2 r l) = gr X w W 2840 r l := by
  obtain ⟨z, hz⟩ : ∃ z : EReal, z = gr X w W 2840 r l := ⟨_, rfl⟩
  refine Eq.trans ?_ hz
  pointwise [R1]
  refine Eq.trans ?_ hz.symm
  unfold gr rope ang
  by_cases h : l.val % 64 < 32
  · refine (dif_pos h).trans (Eq.trans ?_ (if_pos h).symm)
    refine congrArg₂ (· - ·) (Ideal.mul_congr (Zt_at X w W _ _ _ _ ?_) rfl) (Ideal.mul_congr (Zt_at X w W _ _ _ _ ?_) rfl)
    · simp only <;> omega
    · simp only <;> omega
  · refine (dif_neg h).trans (Eq.trans ?_ (if_neg h).symm)
    refine Ideal.add_congr (Ideal.mul_congr (Zt_at X w W _ _ _ _ ?_) rfl) (Ideal.mul_congr (Zt_at X w W _ _ _ _ ?_) rfl)
    · simp only <;> omega
    · simp only <;> omega

/-- The values in the reference, over its arrays. -/
def R2 (X : FVec Ideal S8x2048x1024 .f32) (w : FVec Ideal S1024 .f32) (W : FVec Ideal S1024x6424 .f32) : FVec Ideal S16384x256 .f32 :=
  shapeCast _ (extractStridedSlice S8x2048x256 ![0, 0, 3096] (Zt X w W) slices_S8x2048x6424_S8x2048x256_0_0_3096) shapeCasts_S8x2048x256_S16384x256

/-- The values at an index. -/
theorem R2_at (X : FVec Ideal S8x2048x1024 .f32) (w : FVec Ideal S1024 .f32) (W : FVec Ideal S1024x6424 .f32) (r : Fin 16384) (l : Fin 256) : R2 X w W (ix2 r l) = gp X w W 3096 r l := by
  obtain ⟨z, hz⟩ : ∃ z : EReal, z = gp X w W 3096 r l := ⟨_, rfl⟩
  refine Eq.trans ?_ hz
  pointwise [R2]
  refine Eq.trans ?_ hz.symm
  unfold gp
  exact Zt_at X w W _ _ _ _ (by simp only <;> omega)

variable (m : (ℓ : Loc nD τ sig) → Buf (Elt Ideal) ℓ) (c : Dev nD)

/-- The reference's result of that name is the term above. -/
theorem res_0 : res_main_v52 (F := Ideal) m c = R0 (m ((c.tc : Thread nD τ).loc main_arg0)) (m ((c.tc : Thread nD τ).loc main_arg1)) (m ((c.tc : Thread nD τ).loc main_arg2)) := rfl

/-- The reference's result of that name is the term above. -/
theorem res_1 : res_main_v87 (F := Ideal) m c = R1 (m ((c.tc : Thread nD τ).loc main_arg0)) (m ((c.tc : Thread nD τ).loc main_arg1)) (m ((c.tc : Thread nD τ).loc main_arg2)) := rfl

end PrjC.Ref

end
-- ==== Proof.ProjCArr.lean ====
module

public import proofs.«01_k».proof.Proof.Gen.ProjCIdeal.Value
public import proofs.«01_k».proof.Proof.ProjCRef
public import Idealize.ShloMosaic.Lib.Pipeline.ValueKit

@[expose] public section

set_option maxRecDepth 16384

noncomputable section

namespace PrjC

open Idealize.ShloMosaic Idealize.ShloMosaic.TcCoe Idealize.SL.Sem Finset Cert.ProjCIdeal Cert.ProjCIdeal.Gen Prj
open Idealize.ShloMosaic.Pipeline (Dat)

/-- A column of the kernel's product is that column of the projection. -/
theorem blkcol {x0 : FVec Ideal S512x1024 .f32} {x1 : FVec Ideal S1x1024 .f32} {x2 : FVec Ideal S1024x1024 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1024) (N : Fin 6424), N.val = 2328 + n.val → x2 (ix2 k n) = W (ix2 k N))
    (r' : Fin 512) (hr : r'.val = r.val) (n : Fin 1024) (k : ℕ) (hk : k = 2328 + n.val) :
    (∑ x, x0 (ix2 r' x) * Ideal.rsqrt (Ideal.div (∑ d, x0 (ix2 r' d) * x0 (ix2 r' d)) (Ideal.ofBits .f32 0x44800000#32) + Ideal.ofBits .f32 0x358637BD#32)
      * x1 (ix2 0 x) * x2 (ix2 x n)) = cols X w W ⟨i.val / 2048, by omega⟩ ⟨i.val % 2048, by omega⟩ k := by
  obtain rfl : r' = r := Fin.ext hr
  have hl : k < 6424 := by omega
  refine Eq.trans ?_ (cols_sum _ _ k ⟨k, hl⟩ rfl).symm
  refine sum_congr rfl fun x _ => ?_
  simp only [H0, H1, H2 x n ⟨k, hl⟩ hk]

/-- What the body leaves of the queries. -/
theorem out_0 {x0 : FVec Ideal S512x1024 .f32} {x1 : FVec Ideal S1x1024 .f32} {x2 : FVec Ideal S1024x1024 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1024) (N : Fin 6424), N.val = 2328 + n.val → x2 (ix2 k n) = W (ix2 k N))
    {x3 x4 : FVec Ideal S512x128 .f32} (H3 : ∀ l : Fin 128, x3 (ix2 r l) = Ideal.cos (ang (i.val % 2048) (l.val % 32)))
    (H4 : ∀ l : Fin 128, x4 (ix2 r l) = sinT (i.val % 2048) l.val)
    (y : S512x512.Idx) (hy : (y 0).val = r.val) : out0_5 (F := Ideal) x0 x1 x2 x3 x4 y = gr X w W 2328 i (y 1).val := by
  obtain ⟨z, hz⟩ : ∃ z : EReal, z = gr X w W 2328 i (y 1).val := ⟨_, rfl⟩
  refine Eq.trans ?_ hz
  frame_out
  canon_tiles x h
  · open_payloads
    pointwise
    refine Eq.trans ?_ hz.symm
    unfold gr
    refine piece _ _ _ _ _ x1_lt (by omega) _ _ _ _ _ (blkcol H0 H1 H2 _ (by omega) _ _ (by simp only; omega))
      (fun h => blkcol H0 H1 H2 _ (by omega) _ _ (by simp only; omega)) (fun h => blkcol H0 H1 H2 _ (by omega) _ _ (by simp only; omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only; omega))
      (fun h => blkcol H0 H1 H2 _ (by omega) _ _ (by simp only; omega)) (fun h => blkcol H0 H1 H2 _ (by omega) _ _ (by simp only; omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only; omega))
      (fun h => blkcol H0 H1 H2 _ (by omega) _ _ (by simp only; omega)) (fun h => blkcol H0 H1 H2 _ (by omega) _ _ (by simp only; omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only; omega))
      (fun h => blkcol H0 H1 H2 _ (by omega) _ _ (by simp only; omega)) (fun h => blkcol H0 H1 H2 _ (by omega) _ _ (by simp only; omega)) ?_ ?_
    · exact (congrArg x3 (idx_eq x r (by omega))).trans (H3 _)
    · exact (congrArg x4 (idx_eq x r (by omega))).trans (H4 _)

/-- What the body leaves of the keys. -/
theorem out_1 {x0 : FVec Ideal S512x1024 .f32} {x1 : FVec Ideal S1x1024 .f32} {x2 : FVec Ideal S1024x1024 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1024) (N : Fin 6424), N.val = 2328 + n.val → x2 (ix2 k n) = W (ix2 k N))
    {x3 x4 : FVec Ideal S512x128 .f32} (H3 : ∀ l : Fin 128, x3 (ix2 r l) = Ideal.cos (ang (i.val % 2048) (l.val % 32)))
    (H4 : ∀ l : Fin 128, x4 (ix2 r l) = sinT (i.val % 2048) l.val)
    (y : S512x256.Idx) (hy : (y 0).val = r.val) : out0_6 (F := Ideal) x0 x1 x2 x3 x4 y = gr X w W 2840 i (y 1).val := by
  obtain ⟨z, hz⟩ : ∃ z : EReal, z = gr X w W 2840 i (y 1).val := ⟨_, rfl⟩
  refine Eq.trans ?_ hz
  frame_out
  canon_tiles x h
  · open_payloads
    pointwise
    refine Eq.trans ?_ hz.symm
    unfold gr
    refine piece _ _ _ _ _ x1_lt (by omega) _ _ _ _ _ (blkcol H0 H1 H2 _ (by omega) _ _ (by simp only; omega))
      (fun h => blkcol H0 H1 H2 _ (by omega) _ _ (by simp only; omega)) (fun h => blkcol H0 H1 H2 _ (by omega) _ _ (by simp only; omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only; omega))
      (fun h => blkcol H0 H1 H2 _ (by omega) _ _ (by simp only; omega)) (fun h => blkcol H0 H1 H2 _ (by omega) _ _ (by simp only; omega)) ?_ ?_
    · exact (congrArg x3 (idx_eq x r (by omega))).trans (H3 _)
    · exact (congrArg x4 (idx_eq x r (by omega))).trans (H4 _)

/-- What the body leaves of the values. -/
theorem out_2 {x0 : FVec Ideal S512x1024 .f32} {x1 : FVec Ideal S1x1024 .f32} {x2 : FVec Ideal S1024x1024 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 1024) (N : Fin 6424), N.val = 2328 + n.val → x2 (ix2 k n) = W (ix2 k N))
    {x3 x4 : FVec Ideal S512x128 .f32}
    (y : S512x256.Idx) (hy : (y 0).val = r.val) : out0_7 (F := Ideal) x0 x1 x2 x3 x4 y = gp X w W 3096 i (y 1).val := by
  obtain ⟨z, hz⟩ : ∃ z : EReal, z = gp X w W 3096 i (y 1).val := ⟨_, rfl⟩
  refine Eq.trans ?_ hz
  frame_out
  canon_tiles x h
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)

variable (m : (ℓ : Loc nD τ sig) → Buf (Elt Ideal) ℓ) (c : Dev nD)

/-- Which rows each window holds at grid point `t`. -/
theorem idx_val : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val, 0] ∧ win0_6.index t = ![t.val, 0] ∧ win0_7.index t = ![t.val, 0] ∧ t.val < 32 :=
  (by decide +kernel : ∀ t : Fin grid0.N, _)

/-- The block of the input at a grid point. -/
theorem blk_0 (t : Fin cfg0.N) (r : Fin 512) (j : Fin 1024) (b : Fin 8) (q : Fin 2048) (h : b.val * 2048 + q.val = t.val * 512 + r.val) :
    iblk m c 0 t (ix2 r j) = m ((c.tc : Thread nD τ).loc main_arg0) (ix3 b q j) := by
  have hv := idx_val t
  blk_simp [iblk, idx_val t]
  entry_read
  pointwise
  blk_ext [idx_val t]

/-- The block of the norm's scales is the whole of them. -/
theorem blk_1 (t : Fin cfg0.N) (j : Fin 1024) : iblk m c 1 t (ix2 0 j) = m ((c.tc : Thread nD τ).loc main_arg1) (ix1 j) := by
  have hv := idx_val t
  blk_simp [iblk, idx_val t]
  entry_read
  pointwise
  blk_ext [idx_val t]

/-- The block of the weights holds this call's columns. -/
theorem blk_2 (t : Fin cfg0.N) (k : Fin 1024) (n : Fin 1024) (N : Fin 6424) (h : N.val = 2328 + n.val) :
    iblk m c 2 t (ix2 k n) = m ((c.tc : Thread nD τ).loc main_arg2) (ix2 k N) := by
  have hv := idx_val t
  blk_simp [iblk, idx_val t]
  entry_read
  pointwise
  blk_ext [idx_val t]

/-- The table of angles. -/
def angT : FVec Ideal S2048x32 .f32 := mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The table of cosines: four times side by side. -/
def cosT : FVec Ideal S2048x128 .f32 := concatenate S2048x128 1 [⟨S2048x32, (Host.cos angT : (⟨S2048x32, .f32⟩ : BufTy).Contents (Elt Ideal))⟩, ⟨S2048x32, (Host.cos angT : (⟨S2048x32, .f32⟩ : BufTy).Contents (Elt Ideal))⟩, ⟨S2048x32, (Host.cos angT : (⟨S2048x32, .f32⟩ : BufTy).Contents (Elt Ideal))⟩, ⟨S2048x32, (Host.cos angT : (⟨S2048x32, .f32⟩ : BufTy).Contents (Elt Ideal))⟩] concatenates_S2048x32_S2048x32_S2048x32_S2048x32_S2048x128_d1

/-- The table of sines, the first half of each head negated. -/
def sinTab : FVec Ideal S2048x128 .f32 := concatenate S2048x128 1 [⟨S2048x32, (Host.negf (Host.sin angT) : (⟨S2048x32, .f32⟩ : BufTy).Contents (Elt Ideal))⟩, ⟨S2048x32, (Host.sin angT : (⟨S2048x32, .f32⟩ : BufTy).Contents (Elt Ideal))⟩, ⟨S2048x32, (Host.negf (Host.sin angT) : (⟨S2048x32, .f32⟩ : BufTy).Contents (Elt Ideal))⟩, ⟨S2048x32, (Host.sin angT : (⟨S2048x32, .f32⟩ : BufTy).Contents (Elt Ideal))⟩] concatenates_S2048x32_S2048x32_S2048x32_S2048x32_S2048x128_d1

/-- What the host leaves in the cosines' array. -/
theorem cosV : V m c main_v15 = cosT := by
  unfold V hostOps0
  after_results_simp <;> rfl

/-- What the host leaves in the sines' array. -/
theorem sinV : V m c main_v18 = sinTab := by
  unfold V hostOps0
  after_results_simp <;> rfl

/-- An entry of the angles. -/
theorem angT_at (p : Fin 2048) (i : Fin 32) (k : ℕ) (h : i.val = k) : angT (ix2 p i) = ang p.val k := by
  subst h
  obtain ⟨z, hz⟩ : ∃ z : EReal, z = ang p.val i.val := ⟨_, rfl⟩
  refine Eq.trans ?_ hz
  pointwise [angT]
  refine Eq.trans ?_ hz.symm
  unfold ang
  rfl

/-- An entry of the cosines. -/
theorem cosT_at (p : Fin 2048) (l : Fin 128) : cosT (ix2 p l) = Ideal.cos (ang p.val (l.val % 32)) := by
  obtain ⟨z, hz⟩ : ∃ z : EReal, z = Ideal.cos (ang p.val (l.val % 32)) := ⟨_, rfl⟩
  refine Eq.trans ?_ hz
  pointwise [cosT]
  refine Eq.trans ?_ hz.symm
  split_ifs <;> exact congrArg Ideal.cos (angT_at _ _ _ (by simp only <;> omega))

/-- An entry of the sines. -/
theorem sinTab_at (p : Fin 2048) (l : Fin 128) : sinTab (ix2 p l) = sinT p.val l.val := by
  obtain ⟨z, hz⟩ : ∃ z : EReal, z = sinT p.val l.val := ⟨_, rfl⟩
  refine Eq.trans ?_ hz
  pointwise [sinTab]
  refine Eq.trans ?_ hz.symm
  unfold sinT
  by_cases h : l.val % 64 < 32
  · refine Eq.trans ?_ (if_pos h).symm
    split_ifs <;> first
      | omega
      | exact congrArg (fun a : EReal => -Ideal.sin a) (angT_at _ _ _ (by simp only <;> omega))
  · refine Eq.trans ?_ (if_neg h).symm
    split_ifs <;> first
      | omega
      | exact congrArg Ideal.sin (angT_at _ _ _ (by simp only <;> omega))

/-- The block of the cosines at a grid point. -/
theorem blk_3 (t : Fin cfg0.N) (r : Fin 512) (l : Fin 128) (i : Fin 16384) (h : i.val = t.val * 512 + r.val) :
    iblk m c 3 t (ix2 r l) = Ideal.cos (ang (i.val % 2048) (l.val % 32)) := by
  have hv := idx_val t
  refine Eq.trans ?_ (cosT_at ⟨i.val % 2048, by omega⟩ l)
  blk_simp [iblk, idx_val t]
  rw [cosV m c]
  refine congrArg cosT ?_
  blk_ext [idx_val t]

/-- The block of the sines at a grid point. -/
theorem blk_4 (t : Fin cfg0.N) (r : Fin 512) (l : Fin 128) (i : Fin 16384) (h : i.val = t.val * 512 + r.val) :
    iblk m c 4 t (ix2 r l) = sinT (i.val % 2048) l.val := by
  have hv := idx_val t
  refine Eq.trans ?_ (sinTab_at ⟨i.val % 2048, by omega⟩ l)
  blk_simp [iblk, idx_val t]
  rw [sinV m c]
  refine congrArg sinTab ?_
  blk_ext [idx_val t]

/-- The block of the queries that a grid point writes is the reference's. -/
theorem pay_0 (t : Fin cfg0.N) (r : Fin 512) (j : Fin 512) (i : Fin 16384) (hi : i.val = t.val * 512 + r.val) :
    out0_5 (iblk m c 0 t) (iblk m c 1 t) (iblk m c 2 t) (iblk m c 3 t) (iblk m c 4 t) (ix2 r j)
      = Ref.R0 (m ((c.tc : Thread nD τ).loc main_arg0)) (m ((c.tc : Thread nD τ).loc main_arg1)) (m ((c.tc : Thread nD τ).loc main_arg2)) (ix2 i j) :=
  (out_0 (fun k => blk_0 m c t r k _ _ (by simp only; omega)) (fun k => blk_1 m c t k) (fun k n N h => blk_2 m c t k n N h) (fun l => blk_3 m c t r l i hi) (fun l => blk_4 m c t r l i hi) (ix2 r j) rfl).trans
    (Ref.R0_at (m ((c.tc : Thread nD τ).loc main_arg0)) (m ((c.tc : Thread nD τ).loc main_arg1)) (m ((c.tc : Thread nD τ).loc main_arg2)) i j).symm

/-- After the whole run the array of the queries is the reference's. -/
theorem arr_0 : (dats m 0 c).arrAt 5 (cfgs 0).N = Ref.R0 (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  rw [after0_5]
  have hv := idx_val t
  obtain ⟨r, j, rfl⟩ : ∃ (r : Fin 512) (j : Fin 512), y = ix2 r j := ⟨y 0, y 1, by funext a; fin_cases a <;> rfl⟩
  have hi : t.val * 512 + r.val < 16384 := by omega
  refine (pay_0 m c t r j ⟨t.val * 512 + r.val, hi⟩ rfl).trans ?_
  refine congrArg (Ref.R0 _ _ _) ?_
  blk_ext [idx_val t]

/-- The block of the keys that a grid point writes is the reference's. -/
theorem pay_1 (t : Fin cfg0.N) (r : Fin 512) (j : Fin 256) (i : Fin 16384) (hi : i.val = t.val * 512 + r.val) :
    out0_6 (iblk m c 0 t) (iblk m c 1 t) (iblk m c 2 t) (iblk m c 3 t) (iblk m c 4 t) (ix2 r j)
      = Ref.R1 (m ((c.tc : Thread nD τ).loc main_arg0)) (m ((c.tc : Thread nD τ).loc main_arg1)) (m ((c.tc : Thread nD τ).loc main_arg2)) (ix2 i j) :=
  (out_1 (fun k => blk_0 m c t r k _ _ (by simp only; omega)) (fun k => blk_1 m c t k) (fun k n N h => blk_2 m c t k n N h) (fun l => blk_3 m c t r l i hi) (fun l => blk_4 m c t r l i hi) (ix2 r j) rfl).trans
    (Ref.R1_at (m ((c.tc : Thread nD τ).loc main_arg0)) (m ((c.tc : Thread nD τ).loc main_arg1)) (m ((c.tc : Thread nD τ).loc main_arg2)) i j).symm

/-- After the whole run the array of the keys is the reference's. -/
theorem arr_1 : (dats m 0 c).arrAt 6 (cfgs 0).N = Ref.R1 (m ((c.tc : Thread nD τ).loc main_arg0)) (m ((c.tc : Thread nD τ).loc main_arg1)) (m ((c.tc : Thread nD τ).loc main_arg2)) := by
  refine (dats m 0 c).arrAt_eq_of_covers 6 _ (by decide +kernel) fun t _ y => ?_
  blk_simp
  rw [after0_6]
  have hv := idx_val t
  obtain ⟨r, j, rfl⟩ : ∃ (r : Fin 512) (j : Fin 256), y = ix2 r j := ⟨y 0, y 1, by funext a; fin_cases a <;> rfl⟩
  have hi : t.val * 512 + r.val < 16384 := by omega
  refine (pay_1 m c t r j ⟨t.val * 512 + r.val, hi⟩ rfl).trans ?_
  refine congrArg (Ref.R1 _ _ _) ?_
  blk_ext [idx_val t]

/-- The block of the values that a grid point writes is the reference's. -/
theorem pay_2 (t : Fin cfg0.N) (r : Fin 512) (j : Fin 256) (i : Fin 16384) (hi : i.val = t.val * 512 + r.val) :
    out0_7 (iblk m c 0 t) (iblk m c 1 t) (iblk m c 2 t) (iblk m c 3 t) (iblk m c 4 t) (ix2 r j)
      = Ref.R2 (m ((c.tc : Thread nD τ).loc main_arg0)) (m ((c.tc : Thread nD τ).loc main_arg1)) (m ((c.tc : Thread nD τ).loc main_arg2)) (ix2 i j) :=
  (out_2 (fun k => blk_0 m c t r k _ _ (by simp only; omega)) (fun k => blk_1 m c t k) (fun k n N h => blk_2 m c t k n N h) (ix2 r j) rfl).trans
    (Ref.R2_at (m ((c.tc : Thread nD τ).loc main_arg0)) (m ((c.tc : Thread nD τ).loc main_arg1)) (m ((c.tc : Thread nD τ).loc main_arg2)) i j).symm

/-- After the whole run the array of the values is the reference's. -/
theorem arr_2 : (dats m 0 c).arrAt 7 (cfgs 0).N = Ref.R2 (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  blk_simp
  rw [after0_7]
  have hv := idx_val t
  obtain ⟨r, j, rfl⟩ : ∃ (r : Fin 512) (j : Fin 256), y = ix2 r j := ⟨y 0, y 1, by funext a; fin_cases a <;> rfl⟩
  have hi : t.val * 512 + r.val < 16384 := by omega
  refine (pay_2 m c t r j ⟨t.val * 512 + r.val, hi⟩ rfl).trans ?_
  refine congrArg (Ref.R2 _ _ _) ?_
  blk_ext [idx_val t]

end PrjC

end
-- ==== Proof.ProjGRef.lean ====
module

public import proofs.«01_k».proof.Proof.Gen.ProjGRefIdeal.Run
public import proofs.«01_k».proof.Proof.ProjRow

@[expose] public section

set_option maxRecDepth 16384

noncomputable section

namespace PrjG.Ref

open Idealize.ShloMosaic Idealize.ShloMosaic.TcCoe Idealize.SL.Sem Finset Cert.ProjGRefIdeal Cert.ProjGRefIdeal.Gen Cert.ProjGRefIdeal.Value Prj

/-- The normed input times the input weights, as the reference computes it. -/
def Zt (X : FVec Ideal S8x2048x1024 .f32) (w : FVec Ideal S1024 .f32) (W : FVec Ideal S1024x6424 .f32) : FVec Ideal S8x2048x6424 .f32 :=
  Host.dotGeneral dot_S8x2048x1024_S1024x6424_S8x2048x6424_2_0_01_1_n_n none (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 w))) W

/-- One entry of that product. -/
theorem Zt_at (X : FVec Ideal S8x2048x1024 .f32) (w : FVec Ideal S1024 .f32) (W : FVec Ideal S1024x6424 .f32) (b : Fin 8) (q : Fin 2048) (N : Fin 6424) (n : ℕ) (h : N.val = n) : Zt X w W (ix3 b q N) = cols X w W b q n := by
  rw [cols_sum b q n N h]
  pointwise [Zt]

/-- The gates in the reference, over its arrays. -/
def R0 (X : FVec Ideal S8x2048x1024 .f32) (w : FVec Ideal S1024 .f32) (W : FVec Ideal S1024x6424 .f32) : FVec Ideal S16384x3072 .f32 :=
  shapeCast _ (extractStridedSlice S8x2048x3072 ![0, 0, 3352] (Zt X w W) slices_S8x2048x6424_S8x2048x3072_0_0_3352) shapeCasts_S8x2048x3072_S16384x3072

/-- The gates at an index. -/
theorem R0_at (X : FVec Ideal S8x2048x1024 .f32) (w : FVec Ideal S1024 .f32) (W : FVec Ideal S1024x6424 .f32) (r : Fin 16384) (l : Fin 3072) : R0 X w W (ix2 r l) = gp X w W 3352 r l := by
  obtain ⟨z, hz⟩ : ∃ z : EReal, z = gp X w W 3352 r l := ⟨_, rfl⟩
  refine Eq.trans ?_ hz
  pointwise [R0]
  refine Eq.trans ?_ hz.symm
  unfold gp
  exact Zt_at X w W _ _ _ _ (by simp only <;> omega)

variable (m : (ℓ : Loc nD τ sig) → Buf (Elt Ideal) ℓ) (c : Dev nD)

end PrjG.Ref

end
-- ==== Proof.ProjGArr.lean ====
module

public import proofs.«01_k».proof.Proof.Gen.ProjGIdeal.Value
public import proofs.«01_k».proof.Proof.ProjGRef
public import Idealize.ShloMosaic.Lib.Pipeline.ValueKit

@[expose] public section

set_option maxRecDepth 16384

noncomputable section

namespace PrjG

open Idealize.ShloMosaic Idealize.ShloMosaic.TcCoe Idealize.SL.Sem Finset Cert.ProjGIdeal Cert.ProjGIdeal.Gen Prj
open Idealize.ShloMosaic.Pipeline (Dat)

/-- A column of the kernel's product is that column of the projection. -/
theorem blkcol {x0 : FVec Ideal S512x1024 .f32} {x1 : FVec Ideal S1x1024 .f32} {x2 : FVec Ideal S1024x3072 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 3072) (N : Fin 6424), N.val = 3352 + n.val → x2 (ix2 k n) = W (ix2 k N))
    (r' : Fin 512) (hr : r'.val = r.val) (n : Fin 3072) (k : ℕ) (hk : k = 3352 + n.val) :
    (∑ x, x0 (ix2 r' x) * Ideal.rsqrt (Ideal.div (∑ d, x0 (ix2 r' d) * x0 (ix2 r' d)) (Ideal.ofBits .f32 0x44800000#32) + Ideal.ofBits .f32 0x358637BD#32)
      * x1 (ix2 0 x) * x2 (ix2 x n)) = cols X w W ⟨i.val / 2048, by omega⟩ ⟨i.val % 2048, by omega⟩ k := by
  obtain rfl : r' = r := Fin.ext hr
  have hl : k < 6424 := by omega
  refine Eq.trans ?_ (cols_sum _ _ k ⟨k, hl⟩ rfl).symm
  refine sum_congr rfl fun x _ => ?_
  simp only [H0, H1, H2 x n ⟨k, hl⟩ hk]

/-- What the body leaves of the gates. -/
theorem out_0 {x0 : FVec Ideal S512x1024 .f32} {x1 : FVec Ideal S1x1024 .f32} {x2 : FVec Ideal S1024x3072 .bf16}
    {X : FVec Ideal S8x2048x1024 .f32} {w : FVec Ideal S1024 .f32} {W : FVec Ideal S1024x6424 .f32} {i : Fin 16384} {r : Fin 512}
    (H0 : ∀ k : Fin 1024, x0 (ix2 r k) = X (ix3 ⟨i.val / 2048, by omega⟩ ⟨i.val % 2048, by omega⟩ k))
    (H1 : ∀ k : Fin 1024, x1 (ix2 0 k) = w (ix1 k))
    (H2 : ∀ (k : Fin 1024) (n : Fin 3072) (N : Fin 6424), N.val = 3352 + n.val → x2 (ix2 k n) = W (ix2 k N))
    {x3 x4 : FVec Ideal S512x128 .f32}
    (y : S512x3072.Idx) (hy : (y 0).val = r.val) : out0_5 (F := Ideal) x0 x1 x2 x3 x4 y = gp X w W 3352 i (y 1).val := by
  obtain ⟨z, hz⟩ : ∃ z : EReal, z = gp X w W 3352 i (y 1).val := ⟨_, rfl⟩
  refine Eq.trans ?_ hz
  frame_out
  canon_tiles x h
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)
  · open_payloads
    pointwise
    refine Eq.trans ?_ hz.symm
    unfold gp
    exact blkcol H0 H1 H2 _ (by omega) _ _ (by simp only; omega)

variable (m : (ℓ : Loc nD τ sig) → Buf (Elt Ideal) ℓ) (c : Dev nD)

/-- Which rows each window holds at grid point `t`. -/
theorem idx_val : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val, 0] ∧ t.val < 32 :=
  (by decide +kernel : ∀ t : Fin grid0.N, _)

/-- The block of the input at a grid point. -/
theorem blk_0 (t : Fin cfg0.N) (r : Fin 512) (j : Fin 1024) (b : Fin 8) (q : Fin 2048) (h : b.val * 2048 + q.val = t.val * 512 + r.val) :
    iblk m c 0 t (ix2 r j) = m ((c.tc : Thread nD τ).loc main_arg0) (ix3 b q j) := by
  have hv := idx_val t
  blk_simp [iblk, idx_val t]
  entry_read
  pointwise
  blk_ext [idx_val t]

/-- The block of the norm's scales is the whole of them. -/
theorem blk_1 (t : Fin cfg0.N) (j : Fin 1024) : iblk m c 1 t (ix2 0 j) = m ((c.tc : Thread nD τ).loc main_arg1) (ix1 j) := by
  have hv := idx_val t
  blk_simp [iblk, idx_val t]
  entry_read
  pointwise
  blk_ext [idx_val t]

/-- The block of the weights holds this call's columns. -/
theorem blk_2 (t : Fin cfg0.N) (k : Fin 1024) (n : Fin 3072) (N : Fin 6424) (h : N.val = 3352 + n.val) :
    iblk m c 2 t (ix2 k n) = m ((c.tc : Thread nD τ).loc main_arg2) (ix2 k N) := by
  have hv := idx_val t
  blk_simp [iblk, idx_val t]
  entry_read
  pointwise
  blk_ext [idx_val t]

/-- The block of the gates that a grid point writes is the reference's. -/
theorem pay_0 (t : Fin cfg0.N) (r : Fin 512) (j : Fin 3072) (i : Fin 16384) (hi : i.val = t.val * 512 + r.val) :
    out0_5 (iblk m c 0 t) (iblk m c 1 t) (iblk m c 2 t) (iblk m c 3 t) (iblk m c 4 t) (ix2 r j)
      = Ref.R0 (m ((c.tc : Thread nD τ).loc main_arg0)) (m ((c.tc : Thread nD τ).loc main_arg1)) (m ((c.tc : Thread nD τ).loc main_arg2)) (ix2 i j) :=
  (out_0 (fun k => blk_0 m c t r k _ _ (by simp only; omega)) (fun k => blk_1 m c t k) (fun k n N h => blk_2 m c t k n N h) (ix2 r j) rfl).trans
    (Ref.R0_at (m ((c.tc : Thread nD τ).loc main_arg0)) (m ((c.tc : Thread nD τ).loc main_arg1)) (m ((c.tc : Thread nD τ).loc main_arg2)) i j).symm

/-- After the whole run the array of the gates is the reference's. -/
theorem arr_0 : (dats m 0 c).arrAt 5 (cfgs 0).N = Ref.R0 (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  rw [after0_5]
  have hv := idx_val t
  obtain ⟨r, j, rfl⟩ : ∃ (r : Fin 512) (j : Fin 3072), y = ix2 r j := ⟨y 0, y 1, by funext a; fin_cases a <;> rfl⟩
  have hi : t.val * 512 + r.val < 16384 := by omega
  refine (pay_0 m c t r j ⟨t.val * 512 + r.val, hi⟩ rfl).trans ?_
  refine congrArg (Ref.R0 _ _ _) ?_
  blk_ext [idx_val t]

end PrjG

end
-- ==== Proof.SampleRow.lean ====
module

public import proofs.«01_k».proof.Proof.ProjRow

@[expose] public section

set_option maxRecDepth 16384

noncomputable section

namespace Smp

open Idealize.ShloMosaic Finset Prj

/-- Row `i` of the sample group's input: four positions of each sequence, then four rows of zeros. -/
def row (X : FVec Ideal ⟨3, ![128, 4, 1024]⟩ .f32) (i : Fin 1024) (k : Fin 1024) : EReal :=
  if h : i.val % 8 < 4 then X (ix3 ⟨i.val / 8, by omega⟩ ⟨i.val % 8, h⟩ k) else 0

/-- Column `n` of the projection of row `i`. -/
def cols (X : FVec Ideal ⟨3, ![128, 4, 1024]⟩ .f32) (w : FVec Ideal ⟨1, ![1024]⟩ .f32) (W : FVec Ideal ⟨2, ![1024, 6424]⟩ .f32)
    (i : Fin 1024) (n : ℕ) : EReal :=
  col (row X i) (fun k => w (ix1 k)) (fun k => if h : n < 6424 then W (ix2 k ⟨n, h⟩) else 0)

/-- A column of the projection as the sum it is. -/
theorem cols_sum {X : FVec Ideal ⟨3, ![128, 4, 1024]⟩ .f32} {w : FVec Ideal ⟨1, ![1024]⟩ .f32} {W : FVec Ideal ⟨2, ![1024, 6424]⟩ .f32}
    (i : Fin 1024) (n : ℕ) (N : Fin 6424) (h : N.val = n) :
    cols X w W i n = ∑ k, row X i k * Ideal.rsqrt (Ideal.div (∑ d, row X i d * row X i d) (Ideal.ofBits .f32 0x44800000#32) + Ideal.ofBits .f32 0x358637BD#32)
      * w (ix1 k) * W (ix2 k N) := by
  subst h
  unfold cols col nrm
  simp only [dif_pos N.isLt, Fin.eta]

/-- A row that belongs to a position of the sequence. -/
theorem row_pos {X : FVec Ideal ⟨3, ![128, 4, 1024]⟩ .f32} (i : Fin 1024) (b : Fin 128) (q : Fin 4) (h : b.val * 8 + q.val = i.val) (k : Fin 1024) :
    row X i k = X (ix3 b q k) := by
  have hq : i.val % 8 < 4 := by omega
  unfold row
  rw [dif_pos hq]
  have hb : (⟨i.val / 8, by omega⟩ : Fin 128) = b := Fin.ext (by simp only; omega)
  have hq' : (⟨i.val % 8, hq⟩ : Fin 4) = q := Fin.ext (by simp only; omega)
  rw [hb, hq']

/-- The projection of a row of zeros is zero. -/
theorem cols_zero {X : FVec Ideal ⟨3, ![128, 4, 1024]⟩ .f32} {w : FVec Ideal ⟨1, ![1024]⟩ .f32} {W : FVec Ideal ⟨2, ![1024, 6424]⟩ .f32}
    (i : Fin 1024) (n : ℕ) (h : ¬ i.val % 8 < 4) : cols X w W i n = 0 := by
  unfold cols col nrm
  refine sum_eq_zero fun k _ => ?_
  have hr : row X i k = 0 := dif_neg h
  rw [hr, zero_mul, zero_mul, zero_mul]

/-- The rotation of zeros is zero. -/
theorem rope_zero (Z : ℕ → EReal) (p n d : ℕ) (h : ∀ n, Z n = 0) : rope Z p n d = 0 := by
  unfold rope
  simp only [h, zero_mul, sub_zero, add_zero, ite_self]

/-- The position after 2048 cached ones, as a word. -/
theorem pos : ∀ p : Fin 8, IntOp.addi 2048#32 (BitVec.ofNat 32 p.val) = BitVec.ofNat 32 (2048 + p.val) := by
  decide +kernel

/-- An angle's cosine or sine at that position. -/
theorem pos_congr (f : EReal → EReal) (p : ℕ) (h : p < 8) (e : EReal) :
    f (FloatOps.sitofp (F := Ideal) .f32 (IntOp.addi 2048#32 (BitVec.ofNat 32 p)) * e) = f (FloatOps.sitofp (F := Ideal) .f32 (BitVec.ofNat 32 (2048 + p)) * e) := by
  rw [pos ⟨p, h⟩]

/-- Row `i`, column `o + l` of the projection. -/
def gp (X : FVec Ideal ⟨3, ![128, 4, 1024]⟩ .f32) (w : FVec Ideal ⟨1, ![1024]⟩ .f32) (W : FVec Ideal ⟨2, ![1024, 6424]⟩ .f32)
    (o : ℕ) (i : Fin 1024) (l : ℕ) : EReal := cols X w W i (o + l)

/-- Row `i`, column `o + l` of the projection after the rotation; `o` is a head's first column. The positions go on after 2048 cached ones. -/
def gr (X : FVec Ideal ⟨3, ![128, 4, 1024]⟩ .f32) (w : FVec Ideal ⟨1, ![1024]⟩ .f32) (W : FVec Ideal ⟨2, ![1024, 6424]⟩ .f32)
    (o : ℕ) (i : Fin 1024) (l : ℕ) : EReal := rope (cols X w W i) (2048 + i.val % 8) (o + l) (l % 64)

end Smp

end
-- ==== Proof.SampleARef.lean ====
module

public import proofs.«01_k».proof.Proof.Gen.SampleARefIdeal.Run
public import proofs.«01_k».proof.Proof.SampleRow

@[expose] public section

set_option maxRecDepth 16384

noncomputable section

namespace SmpA.Ref

open Idealize.ShloMosaic Idealize.ShloMosaic.TcCoe Idealize.SL.Sem Finset Cert.SampleARefIdeal Cert.SampleARefIdeal.Gen Cert.SampleARefIdeal.Value Smp
open Prj (rope ang)

/-- The normed input times the input weights, as the reference computes it. -/
def Zt (X : FVec Ideal S128x4x1024 .f32) (w : FVec Ideal S1024 .f32) (W : FVec Ideal S1024x6424 .f32) : FVec Ideal S128x4x6424 .f32 :=
  Host.dotGeneral dot_S128x4x1024_S1024x6424_S128x4x6424_2_0_01_1_n_n none (mulf (mulf X (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf X X) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 w))) W

/-- One entry of that product. -/
theorem Zt_at (X : FVec Ideal S128x4x1024 .f32) (w : FVec Ideal S1024 .f32) (W : FVec Ideal S1024x6424 .f32) (b : Fin 128) (q : Fin 4) (N : Fin 6424) (i : Fin 1024) (n : ℕ) (h : N.val = n) (hi : b.val * 8 + q.val = i.val) : Zt X w W (ix3 b q N) = cols X w W i n := by
  rw [cols_sum i n N h]
  simp only [row_pos i b q hi]
  pointwise [Zt]

/-- The queries in the reference, over its arrays. -/
def R0 (X : FVec Ideal S128x4x1024 .f32) (w : FVec Ideal S1024 .f32) (W : FVec Ideal S1024x6424 .f32) : FVec Ideal S1024x512 .f32 :=
  shapeCast _ (pad S128x8x512 ![0, 0, 0] ![0, 4, 0] ![0, 0, 0] (shapeCast _ (concatenate S128x4x8x64 3 [⟨S128x4x8x32, (subf (mulf (extractStridedSlice S128x4x8x32 ![0, 0, 0, 0] (shapeCast _ (extractStridedSlice S128x4x512 ![0, 0, 0] (Zt X w W) slices_S128x4x6424_S128x4x512_0_0_0) shapeCasts_S128x4x512_S128x4x8x64) slices_S128x4x8x64_S128x4x8x32_0_0_0_0) (broadcastInDim S128x4x8x32 ![0, 1, 2, 3] bcast_S1x4x1x32_S128x4x8x32_0_1_2_3 (broadcastInDim S1x4x1x32 ![1, 2, 3] bcast_S4x1x32_S1x4x1x32_1_2_3 (broadcastInDim S4x1x32 ![0, 2] bcast_S4x32_S4x1x32_0_2 (Host.cos (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S128x4x8x32 ![0, 0, 0, 32] (shapeCast _ (extractStridedSlice S128x4x512 ![0, 0, 0] (Zt X w W) slices_S128x4x6424_S128x4x512_0_0_0) shapeCasts_S128x4x512_S128x4x8x64) slices_S128x4x8x64_S128x4x8x32_0_0_0_32) (broadcastInDim S128x4x8x32 ![0, 1, 2, 3] bcast_S1x4x1x32_S128x4x8x32_0_1_2_3 (broadcastInDim S1x4x1x32 ![1, 2, 3] bcast_S4x1x32_S1x4x1x32_1_2_3 (broadcastInDim S4x1x32 ![0, 2] bcast_S4x32_S4x1x32_0_2 (Host.sin (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩, ⟨S128x4x8x32, (addf (mulf (extractStridedSlice S128x4x8x32 ![0, 0, 0, 0] (shapeCast _ (extractStridedSlice S128x4x512 ![0, 0, 0] (Zt X w W) slices_S128x4x6424_S128x4x512_0_0_0) shapeCasts_S128x4x512_S128x4x8x64) slices_S128x4x8x64_S128x4x8x32_0_0_0_0) (broadcastInDim S128x4x8x32 ![0, 1, 2, 3] bcast_S1x4x1x32_S128x4x8x32_0_1_2_3 (broadcastInDim S1x4x1x32 ![1, 2, 3] bcast_S4x1x32_S1x4x1x32_1_2_3 (broadcastInDim S4x1x32 ![0, 2] bcast_S4x32_S4x1x32_0_2 (Host.sin (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S128x4x8x32 ![0, 0, 0, 32] (shapeCast _ (extractStridedSlice S128x4x512 ![0, 0, 0] (Zt X w W) slices_S128x4x6424_S128x4x512_0_0_0) shapeCasts_S128x4x512_S128x4x8x64) slices_S128x4x8x64_S128x4x8x32_0_0_0_32) (broadcastInDim S128x4x8x32 ![0, 1, 2, 3] bcast_S1x4x1x32_S128x4x8x32_0_1_2_3 (broadcastInDim S1x4x1x32 ![1, 2, 3] bcast_S4x1x32_S1x4x1x32_1_2_3 (broadcastInDim S4x1x32 ![0, 2] bcast_S4x32_S4x1x32_0_2 (Host.cos (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩] concatenates_S128x4x8x32_S128x4x8x32_S128x4x8x64_d3) shapeCasts_S128x4x8x64_S128x4x512) (sitofp .f32 (constantI S_ 32 0#32)) pads_S128x4x512_S128x8x512_000_040_000 h_S_) shapeCasts_S128x8x512_S1024x512

/-- The queries at an index. -/
theorem R0_at (X : FVec Ideal S128x4x1024 .f32) (w : FVec Ideal S1024 .f32) (W : FVec Ideal S1024x6424 .f32) (r : Fin 1024) (l : Fin 512) : R0 X w W (ix2 r l) = gr X w W 0 r l := by
  obtain ⟨z, hz⟩ : ∃ z : EReal, z = gr X w W 0 r l := ⟨_, rfl⟩
  refine Eq.trans ?_ hz
  pointwise [R0]
  refine Eq.trans ?_ hz.symm
  by_cases hq : r.val % 8 < 4
  swap
  · refine (dif_neg (by omega)).trans (Eq.trans ?_ (rope_zero (cols X w W r) _ _ _ fun n => cols_zero r n hq).symm)
    show ((((0#32 : BitVec 32).toInt : ℝ)) : EReal) = 0
    simp
  refine (dif_pos (by omega)).trans ?_
  unfold gr rope ang
  by_cases h : l.val % 64 < 32
  · refine (dif_pos h).trans (Eq.trans ?_ (if_pos h).symm)
    refine congrArg₂ (· - ·) (Ideal.mul_congr (Zt_at X w W _ _ _ r _ ?_ ?_) ?_) (Ideal.mul_congr (Zt_at X w W _ _ _ r _ ?_ ?_) ?_)
    all_goals first
      | exact pos_congr Ideal.cos _ (by omega) _
      | exact pos_congr Ideal.sin _ (by omega) _
      | (simp only <;> omega)
  · refine (dif_neg h).trans (Eq.trans ?_ (if_neg h).symm)
    refine Ideal.add_congr (Ideal.mul_congr (Zt_at X w W _ _ _ r _ ?_ ?_) ?_) (Ideal.mul_congr (Zt_at X w W _ _ _ r _ ?_ ?_) ?_)
    all_goals first
      | exact pos_congr Ideal.cos _ (by omega) _
      | exact pos_congr Ideal.sin _ (by omega) _
      | (simp only <;> omega)

/-- The keys in the reference, over its arrays. -/
def R1 (X : FVec Ideal S128x4x1024 .f32) (w : FVec Ideal S1024 .f32) (W : FVec Ideal S1024x6424 .f32) : FVec Ideal S1024x256 .f32 :=
  shapeCast _ (pad S128x8x256 ![0, 0, 0] ![0, 4, 0] ![0, 0, 0] (shapeCast _ (concatenate S128x4x4x64 3 [⟨S128x4x4x32, (subf (mulf (extractStridedSlice S128x4x4x32 ![0, 0, 0, 0] (shapeCast _ (extractStridedSlice S128x4x256 ![0, 0, 512] (Zt X w W) slices_S128x4x6424_S128x4x256_0_0_512) shapeCasts_S128x4x256_S128x4x4x64) slices_S128x4x4x64_S128x4x4x32_0_0_0_0) (broadcastInDim S128x4x4x32 ![0, 1, 2, 3] bcast_S1x4x1x32_S128x4x4x32_0_1_2_3 (broadcastInDim S1x4x1x32 ![1, 2, 3] bcast_S4x1x32_S1x4x1x32_1_2_3 (broadcastInDim S4x1x32 ![0, 2] bcast_S4x32_S4x1x32_0_2 (Host.cos (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S128x4x4x32 ![0, 0, 0, 32] (shapeCast _ (extractStridedSlice S128x4x256 ![0, 0, 512] (Zt X w W) slices_S128x4x6424_S128x4x256_0_0_512) shapeCasts_S128x4x256_S128x4x4x64) slices_S128x4x4x64_S128x4x4x32_0_0_0_32) (broadcastInDim S128x4x4x32 ![0, 1, 2, 3] bcast_S1x4x1x32_S128x4x4x32_0_1_2_3 (broadcastInDim S1x4x1x32 ![1, 2, 3] bcast_S4x1x32_S1x4x1x32_1_2_3 (broadcastInDim S4x1x32 ![0, 2] bcast_S4x32_S4x1x32_0_2 (Host.sin (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩, ⟨S128x4x4x32, (addf (mulf (extractStridedSlice S128x4x4x32 ![0, 0, 0, 0] (shapeCast _ (extractStridedSlice S128x4x256 ![0, 0, 512] (Zt X w W) slices_S128x4x6424_S128x4x256_0_0_512) shapeCasts_S128x4x256_S128x4x4x64) slices_S128x4x4x64_S128x4x4x32_0_0_0_0) (broadcastInDim S128x4x4x32 ![0, 1, 2, 3] bcast_S1x4x1x32_S128x4x4x32_0_1_2_3 (broadcastInDim S1x4x1x32 ![1, 2, 3] bcast_S4x1x32_S1x4x1x32_1_2_3 (broadcastInDim S4x1x32 ![0, 2] bcast_S4x32_S4x1x32_0_2 (Host.sin (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S128x4x4x32 ![0, 0, 0, 32] (shapeCast _ (extractStridedSlice S128x4x256 ![0, 0, 512] (Zt X w W) slices_S128x4x6424_S128x4x256_0_0_512) shapeCasts_S128x4x256_S128x4x4x64) slices_S128x4x4x64_S128x4x4x32_0_0_0_32) (broadcastInDim S128x4x4x32 ![0, 1, 2, 3] bcast_S1x4x1x32_S128x4x4x32_0_1_2_3 (broadcastInDim S1x4x1x32 ![1, 2, 3] bcast_S4x1x32_S1x4x1x32_1_2_3 (broadcastInDim S4x1x32 ![0, 2] bcast_S4x32_S4x1x32_0_2 (Host.cos (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩] concatenates_S128x4x4x32_S128x4x4x32_S128x4x4x64_d3) shapeCasts_S128x4x4x64_S128x4x256) (sitofp .f32 (constantI S_ 32 0#32)) pads_S128x4x256_S128x8x256_000_040_000 h_S_) shapeCasts_S128x8x256_S1024x256

/-- The keys at an index. -/
theorem R1_at (X : FVec Ideal S128x4x1024 .f32) (w : FVec Ideal S1024 .f32) (W : FVec Ideal S1024x6424 .f32) (r : Fin 1024) (l : Fin 256) : R1 X w W (ix2 r l) = gr X w W 512 r l := by
  obtain ⟨z, hz⟩ : ∃ z : EReal, z = gr X w W 512 r l := ⟨_, rfl⟩
  refine Eq.trans ?_ hz
  pointwise [R1]
  refine Eq.trans ?_ hz.symm
  by_cases hq : r.val % 8 < 4
  swap
  · refine (dif_neg (by omega)).trans (Eq.trans ?_ (rope_zero (cols X w W r) _ _ _ fun n => cols_zero r n hq).symm)
    show ((((0#32 : BitVec 32).toInt : ℝ)) : EReal) = 0
    simp
  refine (dif_pos (by omega)).trans ?_
  unfold gr rope ang
  by_cases h : l.val % 64 < 32
  · refine (dif_pos h).trans (Eq.trans ?_ (if_pos h).symm)
    refine congrArg₂ (· - ·) (Ideal.mul_congr (Zt_at X w W _ _ _ r _ ?_ ?_) ?_) (Ideal.mul_congr (Zt_at X w W _ _ _ r _ ?_ ?_) ?_)
    all_goals first
      | exact pos_congr Ideal.cos _ (by omega) _
      | exact pos_congr Ideal.sin _ (by omega) _
      | (simp only <;> omega)
  · refine (dif_neg h).trans (Eq.trans ?_ (if_neg h).symm)
    refine Ideal.add_congr (Ideal.mul_congr (Zt_at X w W _ _ _ r _ ?_ ?_) ?_) (Ideal.mul_congr (Zt_at X w W _ _ _ r _ ?_ ?_) ?_)
    all_goals first
      | exact pos_congr Ideal.cos _ (by omega) _
      | exact pos_congr Ideal.sin _ (by omega) _
      | (simp only <;> omega)

/-- The values in the reference, over its arrays. -/
def R2 (X : FVec Ideal S128x4x1024 .f32) (w : FVec Ideal S1024 .f32) (W : FVec Ideal S1024x6424 .f32) : FVec Ideal S1024x256 .f32 :=
  shapeCast _ (pad S128x8x256 ![0, 0, 0] ![0, 4, 0] ![0, 0, 0] (extractStridedSlice S128x4x256 ![0, 0, 768] (Zt X w W) slices_S128x4x6424_S128x4x256_0_0_768) (sitofp .f32 (constantI S_ 32 0#32)) pads_S128x4x256_S128x8x256_000_040_000 h_S_) shapeCasts_S128x8x256_S1024x256

/-- The values at an index. -/
theorem R2_at (X : FVec Ideal S128x4x1024 .f32) (w : FVec Ideal S1024 .f32) (W : FVec Ideal S1024x6424 .f32) (r : Fin 1024) (l : Fin 256) : R2 X w W (ix2 r l) = gp X w W 768 r l := by
  obtain ⟨z, hz⟩ : ∃ z : EReal, z = gp X w W 768 r l := ⟨_, rfl⟩
  refine Eq.trans ?_ hz
  pointwise [R2]
  refine Eq.trans ?_ hz.symm
  unfold gp
  by_cases hq : r.val % 8 < 4
  · refine (dif_pos (by omega)).trans ?_
    exact Zt_at X w W _ _ _ _ _ (by simp only <;> omega) (by simp only <;> omega)
  · refine (dif_neg (by omega)).trans (Eq.trans ?_ (cols_zero r _ hq).symm)
    show ((((0#32 : BitVec 32).toInt : ℝ)) : EReal) = 0
    simp

variable (m : (ℓ : Loc nD τ sig) → Buf (Elt Ideal) ℓ) (c : Dev nD)

/-- The reference's result of that name is the term above. -/
theorem res_0 : res_main_v56 (F := Ideal) m c = R0 (m ((c.tc : Thread nD τ).loc main_arg0)) (m ((c.tc : Thread nD τ).loc main_arg1)) (m ((c.tc : Thread nD τ).loc main_arg2)) := rfl

/-- The reference's result of that name is the term above. -/
theorem res_1 : res_main_v93 (F := Ideal) m c = R1 (m ((c.tc : Thread nD τ).loc main_arg0)) (m ((c.tc : Thread nD τ).loc main_arg1)) (m ((c.tc : Thread nD τ).loc main_arg2)) := rfl

end SmpA.Ref

end
-- ==== Proof.SampleAArr.lean ====
module

public import proofs.«01_k».proof.Proof.Gen.SampleAIdeal.Value
public import proofs.«01_k».proof.Proof.SampleARef
public import Idealize.ShloMosaic.Lib.Pipeline.ValueKit

@[expose] public section

set_option maxRecDepth 16384

noncomputable section

namespace SmpA

open Idealize.ShloMosaic Idealize.ShloMosaic.TcCoe Idealize.SL.Sem Finset Cert.SampleAIdeal Cert.SampleAIdeal.Gen Smp
open Prj (rope ang sinT piece idx_eq)
open Idealize.ShloMosaic.Pipeline (Dat)

/-- A column of the kernel's product is that column of the projection. -/
theorem blkcol {x0 : FVec Ideal S512x1024 .f32} {x1 : FVec Ideal S1x1024 .f32} {x2 : FVec Ideal S1024x1024 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 1024) (N : Fin 6424), N.val = n.val → x2 (ix2 k n) = W (ix2 k N))
    (r' : Fin 512) (hr : r'.val = r.val) (n : Fin 1024) (k : ℕ) (hk : k = n.val) :
    (∑ x, x0 (ix2 r' x) * Ideal.rsqrt (Ideal.div (∑ d, x0 (ix2 r' d) * x0 (ix2 r' d)) (Ideal.ofBits .f32 0x44800000#32) + Ideal.ofBits .f32 0x358637BD#32)
      * x1 (ix2 0 x) * x2 (ix2 x n)) = cols X w W i k := by
  obtain rfl : r' = r := Fin.ext hr
  have hl : k < 6424 := by omega
  refine Eq.trans ?_ (cols_sum _ k ⟨k, hl⟩ rfl).symm
  refine sum_congr rfl fun x _ => ?_
  simp only [H0, H1, H2 x n ⟨k, hl⟩ hk]

/-- What the body leaves of the queries. -/
theorem out_0 {x0 : FVec Ideal S512x1024 .f32} {x1 : FVec Ideal S1x1024 .f32} {x2 : FVec Ideal S1024x1024 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 1024) (N : Fin 6424), N.val = n.val → x2 (ix2 k n) = W (ix2 k N))
    {x3 x4 : FVec Ideal S512x128 .f32} (H3 : ∀ l : Fin 128, x3 (ix2 r l) = Ideal.cos (ang (2048 + i.val % 8) (l.val % 32)))
    (H4 : ∀ l : Fin 128, x4 (ix2 r l) = sinT (2048 + i.val % 8) l.val)
    (y : S512x512.Idx) (hy : (y 0).val = r.val) : out0_5 (F := Ideal) x0 x1 x2 x3 x4 y = gr X w W 0 i (y 1).val := by
  obtain ⟨z, hz⟩ : ∃ z : EReal, z = gr X w W 0 i (y 1).val := ⟨_, rfl⟩
  refine Eq.trans ?_ hz
  frame_out
  canon_tiles x h
  · open_payloads
    pointwise
    refine Eq.trans ?_ hz.symm
    unfold gr
    refine piece _ _ _ _ _ x1_lt (by omega) _ _ _ _ _ (blkcol H0 H1 H2 _ (by omega) _ _ (by simp only <;> omega))
      (fun h => blkcol H0 H1 H2 _ (by omega) _ _ (by simp only <;> omega)) (fun h => blkcol H0 H1 H2 _ (by omega) _ _ (by simp only <;> omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only <;> omega))
      (fun h => blkcol H0 H1 H2 _ (by omega) _ _ (by simp only <;> omega)) (fun h => blkcol H0 H1 H2 _ (by omega) _ _ (by simp only <;> omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only <;> omega))
      (fun h => blkcol H0 H1 H2 _ (by omega) _ _ (by simp only <;> omega)) (fun h => blkcol H0 H1 H2 _ (by omega) _ _ (by simp only <;> omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only <;> omega))
      (fun h => blkcol H0 H1 H2 _ (by omega) _ _ (by simp only <;> omega)) (fun h => blkcol H0 H1 H2 _ (by omega) _ _ (by simp only <;> omega)) ?_ ?_
    · exact (congrArg x3 (idx_eq x r (by omega))).trans (H3 _)
    · exact (congrArg x4 (idx_eq x r (by omega))).trans (H4 _)

/-- What the body leaves of the keys. -/
theorem out_1 {x0 : FVec Ideal S512x1024 .f32} {x1 : FVec Ideal S1x1024 .f32} {x2 : FVec Ideal S1024x1024 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 1024) (N : Fin 6424), N.val = n.val → x2 (ix2 k n) = W (ix2 k N))
    {x3 x4 : FVec Ideal S512x128 .f32} (H3 : ∀ l : Fin 128, x3 (ix2 r l) = Ideal.cos (ang (2048 + i.val % 8) (l.val % 32)))
    (H4 : ∀ l : Fin 128, x4 (ix2 r l) = sinT (2048 + i.val % 8) l.val)
    (y : S512x256.Idx) (hy : (y 0).val = r.val) : out0_6 (F := Ideal) x0 x1 x2 x3 x4 y = gr X w W 512 i (y 1).val := by
  obtain ⟨z, hz⟩ : ∃ z : EReal, z = gr X w W 512 i (y 1).val := ⟨_, rfl⟩
  refine Eq.trans ?_ hz
  frame_out
  canon_tiles x h
  · open_payloads
    pointwise
    refine Eq.trans ?_ hz.symm
    unfold gr
    refine piece _ _ _ _ _ x1_lt (by omega) _ _ _ _ _ (blkcol H0 H1 H2 _ (by omega) _ _ (by simp only <;> omega))
      (fun h => blkcol H0 H1 H2 _ (by omega) _ _ (by simp only <;> omega)) (fun h => blkcol H0 H1 H2 _ (by omega) _ _ (by simp only <;> omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only <;> omega))
      (fun h => blkcol H0 H1 H2 _ (by omega) _ _ (by simp only <;> omega)) (fun h => blkcol H0 H1 H2 _ (by omega) _ _ (by simp only <;> omega)) ?_ ?_
    · exact (congrArg x3 (idx_eq x r (by omega))).trans (H3 _)
    · exact (congrArg x4 (idx_eq x r (by omega))).trans (H4 _)

/-- What the body leaves of the values. -/
theorem out_2 {x0 : FVec Ideal S512x1024 .f32} {x1 : FVec Ideal S1x1024 .f32} {x2 : FVec Ideal S1024x1024 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 1024) (N : Fin 6424), N.val = n.val → x2 (ix2 k n) = W (ix2 k N))
    {x3 x4 : FVec Ideal S512x128 .f32}
    (y : S512x256.Idx) (hy : (y 0).val = r.val) : out0_7 (F := Ideal) x0 x1 x2 x3 x4 y = gp X w W 768 i (y 1).val := by
  obtain ⟨z, hz⟩ : ∃ z : EReal, z = gp X w W 768 i (y 1).val := ⟨_, rfl⟩
  refine Eq.trans ?_ hz
  frame_out
  canon_tiles x h
  · open_payloads
    pointwise
    refine Eq.trans ?_ hz.symm
    unfold gp
    exact blkcol H0 H1 H2 _ (by omega) _ _ (by simp only <;> omega)
  · open_payloads
    pointwise
    refine Eq.trans ?_ hz.symm
    unfold gp
    exact blkcol H0 H1 H2 _ (by omega) _ _ (by simp only <;> omega)

variable (m : (ℓ : Loc nD τ sig) → Buf (Elt Ideal) ℓ) (c : Dev nD)

/-- Which rows each window holds at grid point `t`. -/
theorem idx_val : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] ∧ win0_7.index t = ![t.val, 0] ∧ t.val < 2 :=
  (by decide +kernel : ∀ t : Fin grid0.N, _)

/-- The input's rows one below the other, each sequence filled up with four rows of zeros. -/
def xT (X : FVec Ideal S128x4x1024 .f32) : FVec Ideal S1024x1024 .f32 :=
  shapeCast S1024x1024 (pad S128x8x1024 ![0, 0, 0] ![0, 4, 0] ![0, 0, 0] X (sitofp .f32 (constantI S_ 32 0#32)) pads_S128x4x1024_S128x8x1024_000_040_000 h_S_ : FVec Ideal S128x8x1024 .f32) shapeCasts_S128x8x1024_S1024x1024

/-- The norm's scales as one row. -/
def nT (w : FVec Ideal S1024 .f32) : FVec Ideal S1x1024 .f32 := broadcastInDim S1x1024 ![1] bcast_S1024_S1x1024_1 w

set_option maxHeartbeats 2000000 in
/-- What the host leaves in the input's array. -/
theorem xV : V m c main_v23 = xT (m ((c.tc : Thread nD τ).loc main_arg0)) := by
  simp only [V, hostOps0, hostOps0_1, hostOps0_2, hostOps0_3, hostOps0_4, List.flatten_cons, List.flatten_nil, List.cons_append, List.nil_append, List.append_nil]
  after_results_simp <;> rfl

set_option maxHeartbeats 2000000 in
/-- What the host leaves in the scales' array. -/
theorem nV : V m c main_v26 = nT (m ((c.tc : Thread nD τ).loc main_arg1)) := by
  simp only [V, hostOps0, hostOps0_1, hostOps0_2, hostOps0_3, hostOps0_4, List.flatten_cons, List.flatten_nil, List.cons_append, List.nil_append, List.append_nil]
  after_results_simp <;> rfl

/-- An entry of the input's rows. -/
theorem xT_at (X : FVec Ideal S128x4x1024 .f32) (i j : Fin 1024) : xT X (ix2 i j) = row X i j := by
  obtain ⟨z, hz⟩ : ∃ z : EReal, z = row X i j := ⟨_, rfl⟩
  refine Eq.trans ?_ hz
  pointwise [xT]
  refine Eq.trans ?_ hz.symm
  by_cases hq : i.val % 8 < 4
  · exact (dif_pos (by omega)).trans (row_pos i ⟨i.val / 8, by omega⟩ ⟨i.val % 8, hq⟩ (by simp only <;> omega) j).symm
  · have e : row X i j = 0 := dif_neg hq
    refine (dif_neg (by omega)).trans (Eq.trans ?_ e.symm)
    show ((((0#32 : BitVec 32).toInt : ℝ)) : EReal) = 0
    simp

/-- An entry of the scales' row. -/
theorem nT_at (w : FVec Ideal S1024 .f32) (j : Fin 1024) : nT w (ix2 0 j) = w (ix1 j) := by
  pointwise [nT]

/-- The block of the input at a grid point. -/
theorem blk_0 (t : Fin cfg0.N) (r : Fin 512) (j : Fin 1024) (i : Fin 1024) (h : i.val = t.val * 512 + r.val) :
    iblk m c 0 t (ix2 r j) = row (m ((c.tc : Thread nD τ).loc main_arg0)) i j := by
  have hv := idx_val t
  refine Eq.trans ?_ (xT_at (m ((c.tc : Thread nD τ).loc main_arg0)) i j)
  blk_simp [iblk, idx_val t]
  rw [xV m c]
  refine congrArg (xT (m ((c.tc : Thread nD τ).loc main_arg0))) ?_
  blk_ext [idx_val t]

/-- The block of the norm's scales is the whole of them. -/
theorem blk_1 (t : Fin cfg0.N) (j : Fin 1024) : iblk m c 1 t (ix2 0 j) = m ((c.tc : Thread nD τ).loc main_arg1) (ix1 j) := by
  have hv := idx_val t
  refine Eq.trans ?_ (nT_at (m ((c.tc : Thread nD τ).loc main_arg1)) j)
  blk_simp [iblk, idx_val t]
  rw [nV m c]
  refine congrArg (nT (m ((c.tc : Thread nD τ).loc main_arg1))) ?_
  blk_ext [idx_val t]

/-- The weights of this call. -/
def wT (W : FVec Ideal S1024x6424 .f32) : FVec Ideal S1024x1024 .bf16 :=
  truncf .bf16 (extractStridedSlice S1024x1024 ![0, 0] W slices_S1024x6424_S1024x1024_0_0 : FVec Ideal _ .f32) bitsLt_bf16_f32

set_option maxHeartbeats 2000000 in
/-- What the host leaves in the weights' array. -/
theorem wV : V m c main_v25 = wT (m ((c.tc : Thread nD τ).loc main_arg2)) := by
  simp only [V, hostOps0, hostOps0_1, hostOps0_2, hostOps0_3, hostOps0_4, List.flatten_cons, List.flatten_nil, List.cons_append, List.nil_append, List.append_nil]
  after_results_simp <;> rfl

/-- The weights at a column of the projection. -/
theorem wT_at (W : FVec Ideal S1024x6424 .f32) (k : Fin 1024) (n : Fin 1024) (N : Fin 6424) (h : N.val = n.val) :
    wT W (ix2 k n) = W (ix2 k N) := by
  obtain ⟨z, hz⟩ : ∃ z : EReal, z = W (ix2 k N) := ⟨_, rfl⟩
  refine Eq.trans ?_ hz
  pointwise [wT]
  refine Eq.trans ?_ hz.symm
  exact congrArg (fun a => W (ix2 k a)) (Fin.ext (by simp only <;> omega))

/-- The block of the weights holds the projection's columns. -/
theorem blk_2 (t : Fin cfg0.N) (k : Fin 1024) (n : Fin 1024) (N : Fin 6424) (h : N.val = n.val) :
    iblk m c 2 t (ix2 k n) = m ((c.tc : Thread nD τ).loc main_arg2) (ix2 k N) := by
  have hv := idx_val t
  refine Eq.trans ?_ (wT_at (m ((c.tc : Thread nD τ).loc main_arg2)) k n N h)
  blk_simp [iblk, idx_val t]
  rw [wV m c]
  refine congrArg (wT (m ((c.tc : Thread nD τ).loc main_arg2))) ?_
  blk_ext [idx_val t]

/-- The positions modulo eight, as words. -/
def remT : IVec S512 32 := Host.remsi (iotaInDim S512 32 0) (broadcastInDim S512 ![] bcast_S_S512 (select (cmpi .eq (constantI S_ 32 8#32) (constantI S_ 32 0#32)) (constantI S_ 32 1#32) (constantI S_ 32 8#32)))

/-- The positions after 2048 cached ones; each sequence has eight. -/
def posT : IVec S512 32 := addi (broadcastInDim S512 ![] bcast_S_S512 (constantI S_ 32 2048#32))
  (select (andi (cmpi .ne (cmpi .slt remT (broadcastInDim S512 ![] bcast_S_S512 (constantI S_ 32 0#32)))
      (broadcastInDim S512 ![] bcast_S_S512 (cmpi .slt (select (cmpi .eq (constantI S_ 32 8#32) (constantI S_ 32 0#32)) (constantI S_ 32 1#32) (constantI S_ 32 8#32)) (constantI S_ 32 0#32))))
      (cmpi .ne remT (broadcastInDim S512 ![] bcast_S_S512 (constantI S_ 32 0#32))))
    (addi remT (broadcastInDim S512 ![] bcast_S_S512 (select (cmpi .eq (constantI S_ 32 8#32) (constantI S_ 32 0#32)) (constantI S_ 32 1#32) (constantI S_ 32 8#32)))) remT)

/-- A position. -/
theorem posT_at : ∀ p : Fin 512, posT (ix1 p) = BitVec.ofNat 32 (2048 + p.val % 8) := by
  decide +kernel

/-- The table of angles. -/
def angT : FVec Ideal S512x32 .f32 := mulf (broadcastInDim S512x32 ![0, 1] bcast_S512x1_S512x32_0_1 (broadcastInDim S512x1 ![0] bcast_S512_S512x1_0 (sitofp .f32 posT : FVec Ideal _ .f32))) (broadcastInDim S512x32 ![0, 1] bcast_S1x32_S512x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The table of cosines: four times side by side. -/
def cosT : FVec Ideal S512x128 .f32 := concatenate S512x128 1 [⟨S512x32, (Host.cos angT : (⟨S512x32, .f32⟩ : BufTy).Contents (Elt Ideal))⟩, ⟨S512x32, (Host.cos angT : (⟨S512x32, .f32⟩ : BufTy).Contents (Elt Ideal))⟩, ⟨S512x32, (Host.cos angT : (⟨S512x32, .f32⟩ : BufTy).Contents (Elt Ideal))⟩, ⟨S512x32, (Host.cos angT : (⟨S512x32, .f32⟩ : BufTy).Contents (Elt Ideal))⟩] concatenates_S512x32_S512x32_S512x32_S512x32_S512x128_d1

/-- The table of sines, the first half of each head negated. -/
def sinTab : FVec Ideal S512x128 .f32 := concatenate S512x128 1 [⟨S512x32, (Host.negf (Host.sin angT) : (⟨S512x32, .f32⟩ : BufTy).Contents (Elt Ideal))⟩, ⟨S512x32, (Host.sin angT : (⟨S512x32, .f32⟩ : BufTy).Contents (Elt Ideal))⟩, ⟨S512x32, (Host.negf (Host.sin angT) : (⟨S512x32, .f32⟩ : BufTy).Contents (Elt Ideal))⟩, ⟨S512x32, (Host.sin angT : (⟨S512x32, .f32⟩ : BufTy).Contents (Elt Ideal))⟩] concatenates_S512x32_S512x32_S512x32_S512x32_S512x128_d1

set_option maxHeartbeats 2000000 in
/-- What the host leaves in the cosines' array. -/
theorem cosV : V m c main_v18 = cosT := by
  simp only [V, hostOps0, hostOps0_1, hostOps0_2, hostOps0_3, hostOps0_4, List.flatten_cons, List.flatten_nil, List.cons_append, List.nil_append, List.append_nil]
  after_results_simp <;> rfl

set_option maxHeartbeats 2000000 in
/-- What the host leaves in the sines' array. -/
theorem sinV : V m c main_v21 = sinTab := by
  simp only [V, hostOps0, hostOps0_1, hostOps0_2, hostOps0_3, hostOps0_4, List.flatten_cons, List.flatten_nil, List.cons_append, List.nil_append, List.append_nil]
  after_results_simp <;> rfl

/-- An entry of the angles. -/
theorem angT_at (p : Fin 512) (i : Fin 32) (k : ℕ) (h : i.val = k) : angT (ix2 p i) = ang (2048 + p.val % 8) k := by
  subst h
  obtain ⟨z, hz⟩ : ∃ z : EReal, z = ang (2048 + p.val % 8) i.val := ⟨_, rfl⟩
  refine Eq.trans ?_ hz
  pointwise [angT]
  refine Eq.trans ?_ hz.symm
  unfold ang
  rw [posT_at p]

/-- An entry of the cosines. -/
theorem cosT_at (p : Fin 512) (l : Fin 128) : cosT (ix2 p l) = Ideal.cos (ang (2048 + p.val % 8) (l.val % 32)) := by
  obtain ⟨z, hz⟩ : ∃ z : EReal, z = Ideal.cos (ang (2048 + p.val % 8) (l.val % 32)) := ⟨_, rfl⟩
  refine Eq.trans ?_ hz
  pointwise [cosT]
  refine Eq.trans ?_ hz.symm
  split_ifs <;> exact congrArg Ideal.cos (angT_at _ _ _ (by simp only <;> omega))

/-- An entry of the sines. -/
theorem sinTab_at (p : Fin 512) (l : Fin 128) : sinTab (ix2 p l) = sinT (2048 + p.val % 8) l.val := by
  obtain ⟨z, hz⟩ : ∃ z : EReal, z = sinT (2048 + p.val % 8) l.val := ⟨_, rfl⟩
  refine Eq.trans ?_ hz
  pointwise [sinTab]
  refine Eq.trans ?_ hz.symm
  unfold sinT
  by_cases h : l.val % 64 < 32
  · refine Eq.trans ?_ (if_pos h).symm
    split_ifs <;> first
      | omega
      | exact congrArg (fun a : EReal => -Ideal.sin a) (angT_at _ _ _ (by simp only <;> omega))
  · refine Eq.trans ?_ (if_neg h).symm
    split_ifs <;> first
      | omega
      | exact congrArg Ideal.sin (angT_at _ _ _ (by simp only <;> omega))

/-- The block of the cosines at a grid point. -/
theorem blk_3 (t : Fin cfg0.N) (r : Fin 512) (l : Fin 128) (i : Fin 1024) (h : i.val = t.val * 512 + r.val) :
    iblk m c 3 t (ix2 r l) = Ideal.cos (ang (2048 + i.val % 8) (l.val % 32)) := by
  have hv := idx_val t
  rw [show i.val % 8 = r.val % 8 by omega]
  refine Eq.trans ?_ (cosT_at r l)
  blk_simp [iblk, idx_val t]
  rw [cosV m c]
  refine congrArg cosT ?_
  blk_ext [idx_val t]

/-- The block of the sines at a grid point. -/
theorem blk_4 (t : Fin cfg0.N) (r : Fin 512) (l : Fin 128) (i : Fin 1024) (h : i.val = t.val * 512 + r.val) :
    iblk m c 4 t (ix2 r l) = sinT (2048 + i.val % 8) l.val := by
  have hv := idx_val t
  rw [show i.val % 8 = r.val % 8 by omega]
  refine Eq.trans ?_ (sinTab_at r l)
  blk_simp [iblk, idx_val t]
  rw [sinV m c]
  refine congrArg sinTab ?_
  blk_ext [idx_val t]

/-- The block of the queries that a grid point writes is the reference's. -/
theorem pay_0 (t : Fin cfg0.N) (r : Fin 512) (j : Fin 512) (i : Fin 1024) (hi : i.val = t.val * 512 + r.val) :
    out0_5 (iblk m c 0 t) (iblk m c 1 t) (iblk m c 2 t) (iblk m c 3 t) (iblk m c 4 t) (ix2 r j)
      = Ref.R0 (m ((c.tc : Thread nD τ).loc main_arg0)) (m ((c.tc : Thread nD τ).loc main_arg1)) (m ((c.tc : Thread nD τ).loc main_arg2)) (ix2 i j) :=
  (out_0 (fun k => blk_0 m c t r k i hi) (fun k => blk_1 m c t k) (blk_2 m c t) (fun l => blk_3 m c t r l i hi) (fun l => blk_4 m c t r l i hi) (ix2 r j) rfl).trans
    (Ref.R0_at (m ((c.tc : Thread nD τ).loc main_arg0)) (m ((c.tc : Thread nD τ).loc main_arg1)) (m ((c.tc : Thread nD τ).loc main_arg2)) i j).symm

/-- After the whole run the array of the queries is the reference's. -/
theorem arr_0 : (dats m 0 c).arrAt 5 (cfgs 0).N = Ref.R0 (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  rw [after0_5]
  have hv := idx_val t
  obtain ⟨r, j, rfl⟩ : ∃ (r : Fin 512) (j : Fin 512), y = ix2 r j := ⟨y 0, y 1, by funext a; fin_cases a <;> rfl⟩
  have hi : t.val * 512 + r.val < 1024 := by omega
  refine (pay_0 m c t r j ⟨t.val * 512 + r.val, hi⟩ rfl).trans ?_
  refine congrArg (Ref.R0 _ _ _) ?_
  blk_ext [idx_val t]

/-- The block of the keys that a grid point writes is the reference's. -/
theorem pay_1 (t : Fin cfg0.N) (r : Fin 512) (j : Fin 256) (i : Fin 1024) (hi : i.val = t.val * 512 + r.val) :
    out0_6 (iblk m c 0 t) (iblk m c 1 t) (iblk m c 2 t) (iblk m c 3 t) (iblk m c 4 t) (ix2 r j)
      = Ref.R1 (m ((c.tc : Thread nD τ).loc main_arg0)) (m ((c.tc : Thread nD τ).loc main_arg1)) (m ((c.tc : Thread nD τ).loc main_arg2)) (ix2 i j) :=
  (out_1 (fun k => blk_0 m c t r k i hi) (fun k => blk_1 m c t k) (blk_2 m c t) (fun l => blk_3 m c t r l i hi) (fun l => blk_4 m c t r l i hi) (ix2 r j) rfl).trans
    (Ref.R1_at (m ((c.tc : Thread nD τ).loc main_arg0)) (m ((c.tc : Thread nD τ).loc main_arg1)) (m ((c.tc : Thread nD τ).loc main_arg2)) i j).symm

/-- After the whole run the array of the keys is the reference's. -/
theorem arr_1 : (dats m 0 c).arrAt 6 (cfgs 0).N = Ref.R1 (m ((c.tc : Thread nD τ).loc main_arg0)) (m ((c.tc : Thread nD τ).loc main_arg1)) (m ((c.tc : Thread nD τ).loc main_arg2)) := by
  refine (dats m 0 c).arrAt_eq_of_covers 6 _ (by decide +kernel) fun t _ y => ?_
  blk_simp
  rw [after0_6]
  have hv := idx_val t
  obtain ⟨r, j, rfl⟩ : ∃ (r : Fin 512) (j : Fin 256), y = ix2 r j := ⟨y 0, y 1, by funext a; fin_cases a <;> rfl⟩
  have hi : t.val * 512 + r.val < 1024 := by omega
  refine (pay_1 m c t r j ⟨t.val * 512 + r.val, hi⟩ rfl).trans ?_
  refine congrArg (Ref.R1 _ _ _) ?_
  blk_ext [idx_val t]

/-- The block of the values that a grid point writes is the reference's. -/
theorem pay_2 (t : Fin cfg0.N) (r : Fin 512) (j : Fin 256) (i : Fin 1024) (hi : i.val = t.val * 512 + r.val) :
    out0_7 (iblk m c 0 t) (iblk m c 1 t) (iblk m c 2 t) (iblk m c 3 t) (iblk m c 4 t) (ix2 r j)
      = Ref.R2 (m ((c.tc : Thread nD τ).loc main_arg0)) (m ((c.tc : Thread nD τ).loc main_arg1)) (m ((c.tc : Thread nD τ).loc main_arg2)) (ix2 i j) :=
  (out_2 (fun k => blk_0 m c t r k i hi) (fun k => blk_1 m c t k) (blk_2 m c t) (ix2 r j) rfl).trans
    (Ref.R2_at (m ((c.tc : Thread nD τ).loc main_arg0)) (m ((c.tc : Thread nD τ).loc main_arg1)) (m ((c.tc : Thread nD τ).loc main_arg2)) i j).symm

/-- After the whole run the array of the values is the reference's. -/
theorem arr_2 : (dats m 0 c).arrAt 7 (cfgs 0).N = Ref.R2 (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  blk_simp
  rw [after0_7]
  have hv := idx_val t
  obtain ⟨r, j, rfl⟩ : ∃ (r : Fin 512) (j : Fin 256), y = ix2 r j := ⟨y 0, y 1, by funext a; fin_cases a <;> rfl⟩
  have hi : t.val * 512 + r.val < 1024 := by omega
  refine (pay_2 m c t r j ⟨t.val * 512 + r.val, hi⟩ rfl).trans ?_
  refine congrArg (Ref.R2 _ _ _) ?_
  blk_ext [idx_val t]

end SmpA

end
-- ==== Proof.SampleBRef.lean ====
module

public import proofs.«01_k».proof.Proof.Gen.SampleBRefIdeal.Run
public import proofs.«01_k».proof.Proof.SampleRow

@[expose] public section

set_option maxRecDepth 16384

noncomputable section

namespace SmpB.Ref

open Idealize.ShloMosaic Idealize.ShloMosaic.TcCoe Idealize.SL.Sem Finset Cert.SampleBRefIdeal Cert.SampleBRefIdeal.Gen Cert.SampleBRefIdeal.Value Smp
open Prj (rope ang)

/-- The normed input times the input weights, as the reference computes it. -/
def Zt (X : FVec Ideal S128x4x1024 .f32) (w : FVec Ideal S1024 .f32) (W : FVec Ideal S1024x6424 .f32) : FVec Ideal S128x4x6424 .f32 :=
  Host.dotGeneral dot_S128x4x1024_S1024x6424_S128x4x6424_2_0_01_1_n_n none (mulf (mulf X (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf X X) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 w))) W

/-- One entry of that product. -/
theorem Zt_at (X : FVec Ideal S128x4x1024 .f32) (w : FVec Ideal S1024 .f32) (W : FVec Ideal S1024x6424 .f32) (b : Fin 128) (q : Fin 4) (N : Fin 6424) (i : Fin 1024) (n : ℕ) (h : N.val = n) (hi : b.val * 8 + q.val = i.val) : Zt X w W (ix3 b q N) = cols X w W i n := by
  rw [cols_sum i n N h]
  simp only [row_pos i b q hi]
  pointwise [Zt]

/-- The keys to compress in the reference, over its arrays. -/
def R0 (X : FVec Ideal S128x4x1024 .f32) (w : FVec Ideal S1024 .f32) (W : FVec Ideal S1024x6424 .f32) : FVec Ideal S1024x128 .f32 :=
  shapeCast _ (pad S128x8x128 ![0, 0, 0] ![0, 4, 0] ![0, 0, 0] (extractStridedSlice S128x4x128 ![0, 0, 1536] (Zt X w W) slices_S128x4x6424_S128x4x128_0_0_1536) (sitofp .f32 (constantI S_ 32 0#32)) pads_S128x4x128_S128x8x128_000_040_000 h_S_) shapeCasts_S128x8x128_S1024x128

/-- The keys to compress at an index. -/
theorem R0_at (X : FVec Ideal S128x4x1024 .f32) (w : FVec Ideal S1024 .f32) (W : FVec Ideal S1024x6424 .f32) (r : Fin 1024) (l : Fin 128) : R0 X w W (ix2 r l) = gp X w W 1536 r l := by
  obtain ⟨z, hz⟩ : ∃ z : EReal, z = gp X w W 1536 r l := ⟨_, rfl⟩
  refine Eq.trans ?_ hz
  pointwise [R0]
  refine Eq.trans ?_ hz.symm
  unfold gp
  by_cases hq : r.val % 8 < 4
  · refine (dif_pos (by omega)).trans ?_
    exact Zt_at X w W _ _ _ _ _ (by simp only <;> omega) (by simp only <;> omega)
  · refine (dif_neg (by omega)).trans (Eq.trans ?_ (cols_zero r _ hq).symm)
    show ((((0#32 : BitVec 32).toInt : ℝ)) : EReal) = 0
    simp

/-- The values to compress in the reference, over its arrays. -/
def R1 (X : FVec Ideal S128x4x1024 .f32) (w : FVec Ideal S1024 .f32) (W : FVec Ideal S1024x6424 .f32) : FVec Ideal S1024x128 .f32 :=
  shapeCast _ (pad S128x8x128 ![0, 0, 0] ![0, 4, 0] ![0, 0, 0] (extractStridedSlice S128x4x128 ![0, 0, 1664] (Zt X w W) slices_S128x4x6424_S128x4x128_0_0_1664) (sitofp .f32 (constantI S_ 32 0#32)) pads_S128x4x128_S128x8x128_000_040_000 h_S_) shapeCasts_S128x8x128_S1024x128

/-- The values to compress at an index. -/
theorem R1_at (X : FVec Ideal S128x4x1024 .f32) (w : FVec Ideal S1024 .f32) (W : FVec Ideal S1024x6424 .f32) (r : Fin 1024) (l : Fin 128) : R1 X w W (ix2 r l) = gp X w W 1664 r l := by
  obtain ⟨z, hz⟩ : ∃ z : EReal, z = gp X w W 1664 r l := ⟨_, rfl⟩
  refine Eq.trans ?_ hz
  pointwise [R1]
  refine Eq.trans ?_ hz.symm
  unfold gp
  by_cases hq : r.val % 8 < 4
  · refine (dif_pos (by omega)).trans ?_
    exact Zt_at X w W _ _ _ _ _ (by simp only <;> omega) (by simp only <;> omega)
  · refine (dif_neg (by omega)).trans (Eq.trans ?_ (cols_zero r _ hq).symm)
    show ((((0#32 : BitVec 32).toInt : ℝ)) : EReal) = 0
    simp

/-- The keys to select in the reference, over its arrays. -/
def R2 (X : FVec Ideal S128x4x1024 .f32) (w : FVec Ideal S1024 .f32) (W : FVec Ideal S1024x6424 .f32) : FVec Ideal S1024x128 .f32 :=
  shapeCast _ (pad S128x8x128 ![0, 0, 0] ![0, 4, 0] ![0, 0, 0] (shapeCast _ (concatenate S128x4x2x64 3 [⟨S128x4x2x32, (subf (mulf (extractStridedSlice S128x4x2x32 ![0, 0, 0, 0] (shapeCast _ (extractStridedSlice S128x4x128 ![0, 0, 1792] (Zt X w W) slices_S128x4x6424_S128x4x128_0_0_1792) shapeCasts_S128x4x128_S128x4x2x64) slices_S128x4x2x64_S128x4x2x32_0_0_0_0) (broadcastInDim S128x4x2x32 ![0, 1, 2, 3] bcast_S1x4x1x32_S128x4x2x32_0_1_2_3 (broadcastInDim S1x4x1x32 ![1, 2, 3] bcast_S4x1x32_S1x4x1x32_1_2_3 (broadcastInDim S4x1x32 ![0, 2] bcast_S4x32_S4x1x32_0_2 (Host.cos (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S128x4x2x32 ![0, 0, 0, 32] (shapeCast _ (extractStridedSlice S128x4x128 ![0, 0, 1792] (Zt X w W) slices_S128x4x6424_S128x4x128_0_0_1792) shapeCasts_S128x4x128_S128x4x2x64) slices_S128x4x2x64_S128x4x2x32_0_0_0_32) (broadcastInDim S128x4x2x32 ![0, 1, 2, 3] bcast_S1x4x1x32_S128x4x2x32_0_1_2_3 (broadcastInDim S1x4x1x32 ![1, 2, 3] bcast_S4x1x32_S1x4x1x32_1_2_3 (broadcastInDim S4x1x32 ![0, 2] bcast_S4x32_S4x1x32_0_2 (Host.sin (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩, ⟨S128x4x2x32, (addf (mulf (extractStridedSlice S128x4x2x32 ![0, 0, 0, 0] (shapeCast _ (extractStridedSlice S128x4x128 ![0, 0, 1792] (Zt X w W) slices_S128x4x6424_S128x4x128_0_0_1792) shapeCasts_S128x4x128_S128x4x2x64) slices_S128x4x2x64_S128x4x2x32_0_0_0_0) (broadcastInDim S128x4x2x32 ![0, 1, 2, 3] bcast_S1x4x1x32_S128x4x2x32_0_1_2_3 (broadcastInDim S1x4x1x32 ![1, 2, 3] bcast_S4x1x32_S1x4x1x32_1_2_3 (broadcastInDim S4x1x32 ![0, 2] bcast_S4x32_S4x1x32_0_2 (Host.sin (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S128x4x2x32 ![0, 0, 0, 32] (shapeCast _ (extractStridedSlice S128x4x128 ![0, 0, 1792] (Zt X w W) slices_S128x4x6424_S128x4x128_0_0_1792) shapeCasts_S128x4x128_S128x4x2x64) slices_S128x4x2x64_S128x4x2x32_0_0_0_32) (broadcastInDim S128x4x2x32 ![0, 1, 2, 3] bcast_S1x4x1x32_S128x4x2x32_0_1_2_3 (broadcastInDim S1x4x1x32 ![1, 2, 3] bcast_S4x1x32_S1x4x1x32_1_2_3 (broadcastInDim S4x1x32 ![0, 2] bcast_S4x32_S4x1x32_0_2 (Host.cos (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩] concatenates_S128x4x2x32_S128x4x2x32_S128x4x2x64_d3) shapeCasts_S128x4x2x64_S128x4x128) (sitofp .f32 (constantI S_ 32 0#32)) pads_S128x4x128_S128x8x128_000_040_000 h_S_) shapeCasts_S128x8x128_S1024x128

/-- The keys to select at an index. -/
theorem R2_at (X : FVec Ideal S128x4x1024 .f32) (w : FVec Ideal S1024 .f32) (W : FVec Ideal S1024x6424 .f32) (r : Fin 1024) (l : Fin 128) : R2 X w W (ix2 r l) = gr X w W 1792 r l := by
  obtain ⟨z, hz⟩ : ∃ z : EReal, z = gr X w W 1792 r l := ⟨_, rfl⟩
  refine Eq.trans ?_ hz
  pointwise [R2]
  refine Eq.trans ?_ hz.symm
  by_cases hq : r.val % 8 < 4
  swap
  · refine (dif_neg (by omega)).trans (Eq.trans ?_ (rope_zero (cols X w W r) _ _ _ fun n => cols_zero r n hq).symm)
    show ((((0#32 : BitVec 32).toInt : ℝ)) : EReal) = 0
    simp
  refine (dif_pos (by omega)).trans ?_
  unfold gr rope ang
  by_cases h : l.val % 64 < 32
  · refine (dif_pos h).trans (Eq.trans ?_ (if_pos h).symm)
    refine congrArg₂ (· - ·) (Ideal.mul_congr (Zt_at X w W _ _ _ r _ ?_ ?_) ?_) (Ideal.mul_congr (Zt_at X w W _ _ _ r _ ?_ ?_) ?_)
    all_goals first
      | exact pos_congr Ideal.cos _ (by omega) _
      | exact pos_congr Ideal.sin _ (by omega) _
      | (simp only <;> omega)
  · refine (dif_neg h).trans (Eq.trans ?_ (if_neg h).symm)
    refine Ideal.add_congr (Ideal.mul_congr (Zt_at X w W _ _ _ r _ ?_ ?_) ?_) (Ideal.mul_congr (Zt_at X w W _ _ _ r _ ?_ ?_) ?_)
    all_goals first
      | exact pos_congr Ideal.cos _ (by omega) _
      | exact pos_congr Ideal.sin _ (by omega) _
      | (simp only <;> omega)

/-- The values to select in the reference, over its arrays. -/
def R3 (X : FVec Ideal S128x4x1024 .f32) (w : FVec Ideal S1024 .f32) (W : FVec Ideal S1024x6424 .f32) : FVec Ideal S1024x128 .f32 :=
  shapeCast _ (pad S128x8x128 ![0, 0, 0] ![0, 4, 0] ![0, 0, 0] (extractStridedSlice S128x4x128 ![0, 0, 1920] (Zt X w W) slices_S128x4x6424_S128x4x128_0_0_1920) (sitofp .f32 (constantI S_ 32 0#32)) pads_S128x4x128_S128x8x128_000_040_000 h_S_) shapeCasts_S128x8x128_S1024x128

/-- The values to select at an index. -/
theorem R3_at (X : FVec Ideal S128x4x1024 .f32) (w : FVec Ideal S1024 .f32) (W : FVec Ideal S1024x6424 .f32) (r : Fin 1024) (l : Fin 128) : R3 X w W (ix2 r l) = gp X w W 1920 r l := by
  obtain ⟨z, hz⟩ : ∃ z : EReal, z = gp X w W 1920 r l := ⟨_, rfl⟩
  refine Eq.trans ?_ hz
  pointwise [R3]
  refine Eq.trans ?_ hz.symm
  unfold gp
  by_cases hq : r.val % 8 < 4
  · refine (dif_pos (by omega)).trans ?_
    exact Zt_at X w W _ _ _ _ _ (by simp only <;> omega) (by simp only <;> omega)
  · refine (dif_neg (by omega)).trans (Eq.trans ?_ (cols_zero r _ hq).symm)
    show ((((0#32 : BitVec 32).toInt : ℝ)) : EReal) = 0
    simp

/-- The keys of the window in the reference, over its arrays. -/
def R4 (X : FVec Ideal S128x4x1024 .f32) (w : FVec Ideal S1024 .f32) (W : FVec Ideal S1024x6424 .f32) : FVec Ideal S1024x128 .f32 :=
  shapeCast _ (pad S128x8x128 ![0, 0, 0] ![0, 4, 0] ![0, 0, 0] (shapeCast _ (concatenate S128x4x2x64 3 [⟨S128x4x2x32, (subf (mulf (extractStridedSlice S128x4x2x32 ![0, 0, 0, 0] (shapeCast _ (extractStridedSlice S128x4x128 ![0, 0, 2048] (Zt X w W) slices_S128x4x6424_S128x4x128_0_0_2048) shapeCasts_S128x4x128_S128x4x2x64) slices_S128x4x2x64_S128x4x2x32_0_0_0_0) (broadcastInDim S128x4x2x32 ![0, 1, 2, 3] bcast_S1x4x1x32_S128x4x2x32_0_1_2_3 (broadcastInDim S1x4x1x32 ![1, 2, 3] bcast_S4x1x32_S1x4x1x32_1_2_3 (broadcastInDim S4x1x32 ![0, 2] bcast_S4x32_S4x1x32_0_2 (Host.cos (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S128x4x2x32 ![0, 0, 0, 32] (shapeCast _ (extractStridedSlice S128x4x128 ![0, 0, 2048] (Zt X w W) slices_S128x4x6424_S128x4x128_0_0_2048) shapeCasts_S128x4x128_S128x4x2x64) slices_S128x4x2x64_S128x4x2x32_0_0_0_32) (broadcastInDim S128x4x2x32 ![0, 1, 2, 3] bcast_S1x4x1x32_S128x4x2x32_0_1_2_3 (broadcastInDim S1x4x1x32 ![1, 2, 3] bcast_S4x1x32_S1x4x1x32_1_2_3 (broadcastInDim S4x1x32 ![0, 2] bcast_S4x32_S4x1x32_0_2 (Host.sin (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩, ⟨S128x4x2x32, (addf (mulf (extractStridedSlice S128x4x2x32 ![0, 0, 0, 0] (shapeCast _ (extractStridedSlice S128x4x128 ![0, 0, 2048] (Zt X w W) slices_S128x4x6424_S128x4x128_0_0_2048) shapeCasts_S128x4x128_S128x4x2x64) slices_S128x4x2x64_S128x4x2x32_0_0_0_0) (broadcastInDim S128x4x2x32 ![0, 1, 2, 3] bcast_S1x4x1x32_S128x4x2x32_0_1_2_3 (broadcastInDim S1x4x1x32 ![1, 2, 3] bcast_S4x1x32_S1x4x1x32_1_2_3 (broadcastInDim S4x1x32 ![0, 2] bcast_S4x32_S4x1x32_0_2 (Host.sin (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S128x4x2x32 ![0, 0, 0, 32] (shapeCast _ (extractStridedSlice S128x4x128 ![0, 0, 2048] (Zt X w W) slices_S128x4x6424_S128x4x128_0_0_2048) shapeCasts_S128x4x128_S128x4x2x64) slices_S128x4x2x64_S128x4x2x32_0_0_0_32) (broadcastInDim S128x4x2x32 ![0, 1, 2, 3] bcast_S1x4x1x32_S128x4x2x32_0_1_2_3 (broadcastInDim S1x4x1x32 ![1, 2, 3] bcast_S4x1x32_S1x4x1x32_1_2_3 (broadcastInDim S4x1x32 ![0, 2] bcast_S4x32_S4x1x32_0_2 (Host.cos (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩] concatenates_S128x4x2x32_S128x4x2x32_S128x4x2x64_d3) shapeCasts_S128x4x2x64_S128x4x128) (sitofp .f32 (constantI S_ 32 0#32)) pads_S128x4x128_S128x8x128_000_040_000 h_S_) shapeCasts_S128x8x128_S1024x128

/-- The keys of the window at an index. -/
theorem R4_at (X : FVec Ideal S128x4x1024 .f32) (w : FVec Ideal S1024 .f32) (W : FVec Ideal S1024x6424 .f32) (r : Fin 1024) (l : Fin 128) : R4 X w W (ix2 r l) = gr X w W 2048 r l := by
  obtain ⟨z, hz⟩ : ∃ z : EReal, z = gr X w W 2048 r l := ⟨_, rfl⟩
  refine Eq.trans ?_ hz
  pointwise [R4]
  refine Eq.trans ?_ hz.symm
  by_cases hq : r.val % 8 < 4
  swap
  · refine (dif_neg (by omega)).trans (Eq.trans ?_ (rope_zero (cols X w W r) _ _ _ fun n => cols_zero r n hq).symm)
    show ((((0#32 : BitVec 32).toInt : ℝ)) : EReal) = 0
    simp
  refine (dif_pos (by omega)).trans ?_
  unfold gr rope ang
  by_cases h : l.val % 64 < 32
  · refine (dif_pos h).trans (Eq.trans ?_ (if_pos h).symm)
    refine congrArg₂ (· - ·) (Ideal.mul_congr (Zt_at X w W _ _ _ r _ ?_ ?_) ?_) (Ideal.mul_congr (Zt_at X w W _ _ _ r _ ?_ ?_) ?_)
    all_goals first
      | exact pos_congr Ideal.cos _ (by omega) _
      | exact pos_congr Ideal.sin _ (by omega) _
      | (simp only <;> omega)
  · refine (dif_neg h).trans (Eq.trans ?_ (if_neg h).symm)
    refine Ideal.add_congr (Ideal.mul_congr (Zt_at X w W _ _ _ r _ ?_ ?_) ?_) (Ideal.mul_congr (Zt_at X w W _ _ _ r _ ?_ ?_) ?_)
    all_goals first
      | exact pos_congr Ideal.cos _ (by omega) _
      | exact pos_congr Ideal.sin _ (by omega) _
      | (simp only <;> omega)

/-- The values of the window in the reference, over its arrays. -/
def R5 (X : FVec Ideal S128x4x1024 .f32) (w : FVec Ideal S1024 .f32) (W : FVec Ideal S1024x6424 .f32) : FVec Ideal S1024x128 .f32 :=
  shapeCast _ (pad S128x8x128 ![0, 0, 0] ![0, 4, 0] ![0, 0, 0] (extractStridedSlice S128x4x128 ![0, 0, 2176] (Zt X w W) slices_S128x4x6424_S128x4x128_0_0_2176) (sitofp .f32 (constantI S_ 32 0#32)) pads_S128x4x128_S128x8x128_000_040_000 h_S_) shapeCasts_S128x8x128_S1024x128

/-- The values of the window at an index. -/
theorem R5_at (X : FVec Ideal S128x4x1024 .f32) (w : FVec Ideal S1024 .f32) (W : FVec Ideal S1024x6424 .f32) (r : Fin 1024) (l : Fin 128) : R5 X w W (ix2 r l) = gp X w W 2176 r l := by
  obtain ⟨z, hz⟩ : ∃ z : EReal, z = gp X w W 2176 r l := ⟨_, rfl⟩
  refine Eq.trans ?_ hz
  pointwise [R5]
  refine Eq.trans ?_ hz.symm
  unfold gp
  by_cases hq : r.val % 8 < 4
  · refine (dif_pos (by omega)).trans ?_
    exact Zt_at X w W _ _ _ _ _ (by simp only <;> omega) (by simp only <;> omega)
  · refine (dif_neg (by omega)).trans (Eq.trans ?_ (cols_zero r _ hq).symm)
    show ((((0#32 : BitVec 32).toInt : ℝ)) : EReal) = 0
    simp

/-- The gates in the reference, over its arrays. -/
def R6 (X : FVec Ideal S128x4x1024 .f32) (w : FVec Ideal S1024 .f32) (W : FVec Ideal S1024x6424 .f32) : FVec Ideal S1024x128 .f32 :=
  pad S1024x128 ![0, 0] ![0, 104] ![0, 0] (shapeCast _ (pad S128x8x24 ![0, 0, 0] ![0, 4, 0] ![0, 0, 0] (extractStridedSlice S128x4x24 ![0, 0, 2304] (Zt X w W) slices_S128x4x6424_S128x4x24_0_0_2304) (sitofp .f32 (constantI S_ 32 0#32)) pads_S128x4x24_S128x8x24_000_040_000 h_S_) shapeCasts_S128x8x24_S1024x24) (sitofp .f32 (constantI S_ 32 0#32)) pads_S1024x24_S1024x128_000_01040 h_S_

/-- The gates at an index: the columns past the gates are zero. -/
theorem R6_at (X : FVec Ideal S128x4x1024 .f32) (w : FVec Ideal S1024 .f32) (W : FVec Ideal S1024x6424 .f32) (r : Fin 1024) (l : Fin 128) : R6 X w W (ix2 r l) = if l.val < 24 then gp X w W 2304 r l else 0 := by
  obtain ⟨z, hz⟩ : ∃ z : EReal, z = if l.val < 24 then gp X w W 2304 r l else 0 := ⟨_, rfl⟩
  refine Eq.trans ?_ hz
  pointwise [R6]
  refine Eq.trans ?_ hz.symm
  unfold gp
  by_cases h : l.val < 24
  · refine (dif_pos h).trans (Eq.trans ?_ (if_pos h).symm)
    by_cases hq : r.val % 8 < 4
    · refine (dif_pos (by omega)).trans ?_
      exact Zt_at X w W _ _ _ r _ (by simp only <;> omega) (by simp only <;> omega)
    · refine (dif_neg (by omega)).trans (Eq.trans ?_ (cols_zero r _ hq).symm)
      show ((((0#32 : BitVec 32).toInt : ℝ)) : EReal) = 0
      simp
  · refine (dif_neg h).trans (Eq.trans ?_ (if_neg h).symm)
    show ((((0#32 : BitVec 32).toInt : ℝ)) : EReal) = 0
    simp

variable (m : (ℓ : Loc nD τ sig) → Buf (Elt Ideal) ℓ) (c : Dev nD)

/-- The reference's result of that name is the term above. -/
theorem res_2 : res_main_v67 (F := Ideal) m c = R2 (m ((c.tc : Thread nD τ).loc main_arg0)) (m ((c.tc : Thread nD τ).loc main_arg1)) (m ((c.tc : Thread nD τ).loc main_arg2)) := rfl

/-- The reference's result of that name is the term above. -/
theorem res_4 : res_main_v106 (F := Ideal) m c = R4 (m ((c.tc : Thread nD τ).loc main_arg0)) (m ((c.tc : Thread nD τ).loc main_arg1)) (m ((c.tc : Thread nD τ).loc main_arg2)) := rfl

end SmpB.Ref

end
-- ==== Proof.SampleBArr.lean ====
module

public import proofs.«01_k».proof.Proof.Gen.SampleBIdeal.Value
public import proofs.«01_k».proof.Proof.SampleBRef
public import Idealize.ShloMosaic.Lib.Pipeline.ValueKit

@[expose] public section

set_option maxRecDepth 16384

noncomputable section

namespace SmpB

open Idealize.ShloMosaic Idealize.ShloMosaic.TcCoe Idealize.SL.Sem Finset Cert.SampleBIdeal Cert.SampleBIdeal.Gen Smp
open Prj (rope ang sinT piece idx_eq)
open Idealize.ShloMosaic.Pipeline (Dat)

/-- A column of the kernel's product is that column of the projection. -/
theorem blkcol {x0 : FVec Ideal S512x1024 .f32} {x1 : FVec Ideal S1x1024 .f32} {x2 : FVec Ideal S1024x1920 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 1920) (N : Fin 6424), N.val + 1024 = 1536 + n.val → 1024 ≤ n.val → n.val < 1816 → x2 (ix2 k n) = W (ix2 k N))
    (r' : Fin 512) (hr : r'.val = r.val) (n : Fin 1920) (k : ℕ) (hk : k + 1024 = 1536 + n.val) (hl0 : 1024 ≤ n.val) (hn : n.val < 1816) :
    (∑ x, x0 (ix2 r' x) * Ideal.rsqrt (Ideal.div (∑ d, x0 (ix2 r' d) * x0 (ix2 r' d)) (Ideal.ofBits .f32 0x44800000#32) + Ideal.ofBits .f32 0x358637BD#32)
      * x1 (ix2 0 x) * x2 (ix2 x n)) = cols X w W i k := by
  obtain rfl : r' = r := Fin.ext hr
  have hl : k < 6424 := by omega
  refine Eq.trans ?_ (cols_sum _ k ⟨k, hl⟩ rfl).symm
  refine sum_congr rfl fun x _ => ?_
  simp only [H0, H1, H2 x n ⟨k, hl⟩ hk hl0 hn]

/-- What the body leaves of the keys to compress. -/
theorem out_0 {x0 : FVec Ideal S512x1024 .f32} {x1 : FVec Ideal S1x1024 .f32} {x2 : FVec Ideal S1024x1920 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 1920) (N : Fin 6424), N.val + 1024 = 1536 + n.val → 1024 ≤ n.val → n.val < 1816 → x2 (ix2 k n) = W (ix2 k N))
    {x3 x4 : FVec Ideal S512x128 .f32}
    (y : S512x128.Idx) (hy : (y 0).val = r.val) : out0_7 (F := Ideal) x0 x1 x2 x3 x4 y = gp X w W 1536 i (y 1).val := by
  obtain ⟨z, hz⟩ : ∃ z : EReal, z = gp X w W 1536 i (y 1).val := ⟨_, rfl⟩
  refine Eq.trans ?_ hz
  frame_out
  have x1_lt : (y 1).val < 128 := (y 1).isLt
  · open_payloads
    pointwise
    refine Eq.trans ?_ hz.symm
    unfold gp
    exact blkcol H0 H1 H2 _ (by omega) _ _ (by simp only <;> omega) (by simp only <;> omega) (by simp only <;> omega)

/-- What the body leaves of the values to compress. -/
theorem out_1 {x0 : FVec Ideal S512x1024 .f32} {x1 : FVec Ideal S1x1024 .f32} {x2 : FVec Ideal S1024x1920 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 1920) (N : Fin 6424), N.val + 1024 = 1536 + n.val → 1024 ≤ n.val → n.val < 1816 → x2 (ix2 k n) = W (ix2 k N))
    {x3 x4 : FVec Ideal S512x128 .f32}
    (y : S512x128.Idx) (hy : (y 0).val = r.val) : out0_8 (F := Ideal) x0 x1 x2 x3 x4 y = gp X w W 1664 i (y 1).val := by
  obtain ⟨z, hz⟩ : ∃ z : EReal, z = gp X w W 1664 i (y 1).val := ⟨_, rfl⟩
  refine Eq.trans ?_ hz
  frame_out
  have x1_lt : (y 1).val < 128 := (y 1).isLt
  · open_payloads
    pointwise
    refine Eq.trans ?_ hz.symm
    unfold gp
    exact blkcol H0 H1 H2 _ (by omega) _ _ (by simp only <;> omega) (by simp only <;> omega) (by simp only <;> omega)

/-- What the body leaves of the keys to select. -/
theorem out_2 {x0 : FVec Ideal S512x1024 .f32} {x1 : FVec Ideal S1x1024 .f32} {x2 : FVec Ideal S1024x1920 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 1920) (N : Fin 6424), N.val + 1024 = 1536 + n.val → 1024 ≤ n.val → n.val < 1816 → x2 (ix2 k n) = W (ix2 k N))
    {x3 x4 : FVec Ideal S512x128 .f32} (H3 : ∀ l : Fin 128, x3 (ix2 r l) = Ideal.cos (ang (2048 + i.val % 8) (l.val % 32)))
    (H4 : ∀ l : Fin 128, x4 (ix2 r l) = sinT (2048 + i.val % 8) l.val)
    (y : S512x128.Idx) (hy : (y 0).val = r.val) : out0_9 (F := Ideal) x0 x1 x2 x3 x4 y = gr X w W 1792 i (y 1).val := by
  obtain ⟨z, hz⟩ : ∃ z : EReal, z = gr X w W 1792 i (y 1).val := ⟨_, rfl⟩
  refine Eq.trans ?_ hz
  frame_out
  have x1_lt : (y 1).val < 128 := (y 1).isLt
  · open_payloads
    pointwise
    refine Eq.trans ?_ hz.symm
    unfold gr
    refine piece _ _ _ _ _ x1_lt (by omega) _ _ _ _ _ (blkcol H0 H1 H2 _ (by omega) _ _ (by simp only <;> omega) (by simp only <;> omega) (by simp only <;> omega))
      (fun h => blkcol H0 H1 H2 _ (by omega) _ _ (by simp only <;> omega) (by simp only <;> omega) (by simp only <;> omega)) (fun h => blkcol H0 H1 H2 _ (by omega) _ _ (by simp only <;> omega) (by simp only <;> omega) (by simp only <;> omega)) ?_ ?_
    · exact (congrArg x3 (idx_eq y r (by omega))).trans (H3 _)
    · exact (congrArg x4 (idx_eq y r (by omega))).trans (H4 _)

/-- What the body leaves of the values to select. -/
theorem out_3 {x0 : FVec Ideal S512x1024 .f32} {x1 : FVec Ideal S1x1024 .f32} {x2 : FVec Ideal S1024x1920 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 1920) (N : Fin 6424), N.val + 1024 = 1536 + n.val → 1024 ≤ n.val → n.val < 1816 → x2 (ix2 k n) = W (ix2 k N))
    {x3 x4 : FVec Ideal S512x128 .f32}
    (y : S512x128.Idx) (hy : (y 0).val = r.val) : out0_10 (F := Ideal) x0 x1 x2 x3 x4 y = gp X w W 1920 i (y 1).val := by
  obtain ⟨z, hz⟩ : ∃ z : EReal, z = gp X w W 1920 i (y 1).val := ⟨_, rfl⟩
  refine Eq.trans ?_ hz
  frame_out
  have x1_lt : (y 1).val < 128 := (y 1).isLt
  · open_payloads
    pointwise
    refine Eq.trans ?_ hz.symm
    unfold gp
    exact blkcol H0 H1 H2 _ (by omega) _ _ (by simp only <;> omega) (by simp only <;> omega) (by simp only <;> omega)

/-- What the body leaves of the keys of the window. -/
theorem out_4 {x0 : FVec Ideal S512x1024 .f32} {x1 : FVec Ideal S1x1024 .f32} {x2 : FVec Ideal S1024x1920 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 1920) (N : Fin 6424), N.val + 1024 = 1536 + n.val → 1024 ≤ n.val → n.val < 1816 → x2 (ix2 k n) = W (ix2 k N))
    {x3 x4 : FVec Ideal S512x128 .f32} (H3 : ∀ l : Fin 128, x3 (ix2 r l) = Ideal.cos (ang (2048 + i.val % 8) (l.val % 32)))
    (H4 : ∀ l : Fin 128, x4 (ix2 r l) = sinT (2048 + i.val % 8) l.val)
    (y : S512x128.Idx) (hy : (y 0).val = r.val) : out0_11 (F := Ideal) x0 x1 x2 x3 x4 y = gr X w W 2048 i (y 1).val := by
  obtain ⟨z, hz⟩ : ∃ z : EReal, z = gr X w W 2048 i (y 1).val := ⟨_, rfl⟩
  refine Eq.trans ?_ hz
  frame_out
  have x1_lt : (y 1).val < 128 := (y 1).isLt
  · open_payloads
    pointwise
    refine Eq.trans ?_ hz.symm
    unfold gr
    refine piece _ _ _ _ _ x1_lt (by omega) _ _ _ _ _ (blkcol H0 H1 H2 _ (by omega) _ _ (by simp only <;> omega) (by simp only <;> omega) (by simp only <;> omega))
      (fun h => blkcol H0 H1 H2 _ (by omega) _ _ (by simp only <;> omega) (by simp only <;> omega) (by simp only <;> omega)) (fun h => blkcol H0 H1 H2 _ (by omega) _ _ (by simp only <;> omega) (by simp only <;> omega) (by simp only <;> omega)) ?_ ?_
    · exact (congrArg x3 (idx_eq y r (by omega))).trans (H3 _)
    · exact (congrArg x4 (idx_eq y r (by omega))).trans (H4 _)

/-- What the body leaves of the values of the window. -/
theorem out_5 {x0 : FVec Ideal S512x1024 .f32} {x1 : FVec Ideal S1x1024 .f32} {x2 : FVec Ideal S1024x1920 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 1920) (N : Fin 6424), N.val + 1024 = 1536 + n.val → 1024 ≤ n.val → n.val < 1816 → x2 (ix2 k n) = W (ix2 k N))
    {x3 x4 : FVec Ideal S512x128 .f32}
    (y : S512x128.Idx) (hy : (y 0).val = r.val) : out0_12 (F := Ideal) x0 x1 x2 x3 x4 y = gp X w W 2176 i (y 1).val := by
  obtain ⟨z, hz⟩ : ∃ z : EReal, z = gp X w W 2176 i (y 1).val := ⟨_, rfl⟩
  refine Eq.trans ?_ hz
  frame_out
  have x1_lt : (y 1).val < 128 := (y 1).isLt
  · open_payloads
    pointwise
    refine Eq.trans ?_ hz.symm
    unfold gp
    exact blkcol H0 H1 H2 _ (by omega) _ _ (by simp only <;> omega) (by simp only <;> omega) (by simp only <;> omega)

/-- What the body leaves of the gates. -/
theorem out_6 {x0 : FVec Ideal S512x1024 .f32} {x1 : FVec Ideal S1x1024 .f32} {x2 : FVec Ideal S1024x1920 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 1920) (N : Fin 6424), N.val + 1024 = 1536 + n.val → 1024 ≤ n.val → n.val < 1816 → x2 (ix2 k n) = W (ix2 k N))
    {x3 x4 : FVec Ideal S512x128 .f32}
    (H2z : ∀ (k : Fin 1024) (n : Fin 1920), 1816 ≤ n.val → x2 (ix2 k n) = (0 : EReal))
    (y : S512x128.Idx) (hy : (y 0).val = r.val) : out0_13 (F := Ideal) x0 x1 x2 x3 x4 y = if (y 1).val < 24 then gp X w W 2304 i (y 1).val else 0 := by
  obtain ⟨z, hz⟩ : ∃ z : EReal, z = if (y 1).val < 24 then gp X w W 2304 i (y 1).val else 0 := ⟨_, rfl⟩
  refine Eq.trans ?_ hz
  frame_out
  have x1_lt : (y 1).val < 128 := (y 1).isLt
  · open_payloads
    pointwise
    refine Eq.trans ?_ hz.symm
    unfold gp
    by_cases h : (y 1).val < 24
    · exact (blkcol H0 H1 H2 _ (by omega) _ _ (by simp only <;> omega) (by simp only <;> omega) (by simp only <;> omega)).trans (if_pos h).symm
    · refine Eq.trans ?_ (if_neg h).symm
      refine sum_eq_zero fun k _ => ?_
      rw [H2z k _ (by simp only <;> omega), mul_zero]

variable (m : (ℓ : Loc nD τ sig) → Buf (Elt Ideal) ℓ) (c : Dev nD)

/-- Which rows each window holds at grid point `t`. -/
theorem idx_val : ∀ t : Fin cfg0.N, win0_0.index t = ![t.val, 0] ∧ win0_1.index t = ![0, 0] ∧ win0_2.index t = ![0, 0]
    ∧ win0_3.index t = ![0, 0] ∧ win0_4.index t = ![0, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ t.val < 2 :=
  (by decide +kernel : ∀ t : Fin grid0.N, _)

/-- The input's rows one below the other, each sequence filled up with four rows of zeros. -/
def xT (X : FVec Ideal S128x4x1024 .f32) : FVec Ideal S1024x1024 .f32 :=
  shapeCast S1024x1024 (pad S128x8x1024 ![0, 0, 0] ![0, 4, 0] ![0, 0, 0] X (sitofp .f32 (constantI S_ 32 0#32)) pads_S128x4x1024_S128x8x1024_000_040_000 h_S_ : FVec Ideal S128x8x1024 .f32) shapeCasts_S128x8x1024_S1024x1024

/-- The norm's scales as one row. -/
def nT (w : FVec Ideal S1024 .f32) : FVec Ideal S1x1024 .f32 := broadcastInDim S1x1024 ![1] bcast_S1024_S1x1024_1 w

set_option maxHeartbeats 2000000 in
/-- What the host leaves in the input's array. -/
theorem xV : V m c main_v23 = xT (m ((c.tc : Thread nD τ).loc main_arg0)) := by
  simp only [V, hostOps0, hostOps0_1, hostOps0_2, hostOps0_3, hostOps0_4, hostOps0_5, hostOps0_6, List.flatten_cons, List.flatten_nil, List.cons_append, List.nil_append, List.append_nil]
  after_results_simp <;> rfl

set_option maxHeartbeats 2000000 in
/-- What the host leaves in the scales' array. -/
theorem nV : V m c main_v37 = nT (m ((c.tc : Thread nD τ).loc main_arg1)) := by
  simp only [V, hostOps0, hostOps0_1, hostOps0_2, hostOps0_3, hostOps0_4, hostOps0_5, hostOps0_6, List.flatten_cons, List.flatten_nil, List.cons_append, List.nil_append, List.append_nil]
  after_results_simp <;> rfl

/-- An entry of the input's rows. -/
theorem xT_at (X : FVec Ideal S128x4x1024 .f32) (i j : Fin 1024) : xT X (ix2 i j) = row X i j := by
  obtain ⟨z, hz⟩ : ∃ z : EReal, z = row X i j := ⟨_, rfl⟩
  refine Eq.trans ?_ hz
  pointwise [xT]
  refine Eq.trans ?_ hz.symm
  by_cases hq : i.val % 8 < 4
  · exact (dif_pos (by omega)).trans (row_pos i ⟨i.val / 8, by omega⟩ ⟨i.val % 8, hq⟩ (by simp only <;> omega) j).symm
  · have e : row X i j = 0 := dif_neg hq
    refine (dif_neg (by omega)).trans (Eq.trans ?_ e.symm)
    show ((((0#32 : BitVec 32).toInt : ℝ)) : EReal) = 0
    simp

/-- An entry of the scales' row. -/
theorem nT_at (w : FVec Ideal S1024 .f32) (j : Fin 1024) : nT w (ix2 0 j) = w (ix1 j) := by
  pointwise [nT]

/-- The block of the input at a grid point. -/
theorem blk_0 (t : Fin cfg0.N) (r : Fin 512) (j : Fin 1024) (i : Fin 1024) (h : i.val = t.val * 512 + r.val) :
    iblk m c 0 t (ix2 r j) = row (m ((c.tc : Thread nD τ).loc main_arg0)) i j := by
  have hv := idx_val t
  refine Eq.trans ?_ (xT_at (m ((c.tc : Thread nD τ).loc main_arg0)) i j)
  blk_simp [iblk, idx_val t]
  rw [xV m c]
  refine congrArg (xT (m ((c.tc : Thread nD τ).loc main_arg0))) ?_
  blk_ext [idx_val t]

/-- The block of the norm's scales is the whole of them. -/
theorem blk_1 (t : Fin cfg0.N) (j : Fin 1024) : iblk m c 1 t (ix2 0 j) = m ((c.tc : Thread nD τ).loc main_arg1) (ix1 j) := by
  have hv := idx_val t
  refine Eq.trans ?_ (nT_at (m ((c.tc : Thread nD τ).loc main_arg1)) j)
  blk_simp [iblk, idx_val t]
  rw [nV m c]
  refine congrArg (nT (m ((c.tc : Thread nD τ).loc main_arg1))) ?_
  blk_ext [idx_val t]

/-- The weights of this call, behind the columns `S` of the spread queries, the gates' filled up with zeros. -/
def wT (S : FVec Ideal S1024x1024 .f32) (W : FVec Ideal S1024x6424 .f32) : FVec Ideal S1024x1920 .bf16 :=
  truncf .bf16 (concatenate S1024x1920 1 [⟨S1024x1024, S⟩, ⟨S1024x768, (extractStridedSlice S1024x768 ![0, 1536] W slices_S1024x6424_S1024x768_0_1536 : FVec Ideal _ .f32)⟩,
    ⟨S1024x128, (pad S1024x128 ![0, 0] ![0, 104] ![0, 0] (extractStridedSlice S1024x24 ![0, 2304] W slices_S1024x6424_S1024x24_0_2304 : FVec Ideal _ .f32)
      (sitofp .f32 (constantI S_ 32 0#32)) pads_S1024x24_S1024x128_000_01040 h_S_ : FVec Ideal _ .f32)⟩] concatenates_S1024x1024_S1024x768_S1024x128_S1024x1920_d1 : FVec Ideal _ .f32) bitsLt_bf16_f32

set_option maxHeartbeats 2000000 in
/-- What the host leaves in the weights' array. -/
theorem wV : V m c main_v36 = wT (V m c main_v33) (m ((c.tc : Thread nD τ).loc main_arg2)) := by
  simp only [V, hostOps0, hostOps0_1, hostOps0_2, hostOps0_3, hostOps0_4, hostOps0_5, hostOps0_6, List.flatten_cons, List.flatten_nil, List.cons_append, List.nil_append, List.append_nil]
  after_results_simp <;> rfl

/-- The weights at a column of the projection. -/
theorem wT_at (S : FVec Ideal S1024x1024 .f32) (W : FVec Ideal S1024x6424 .f32) (k : Fin 1024) (n : Fin 1920) (N : Fin 6424) (h : N.val + 1024 = 1536 + n.val) (hl0 : 1024 ≤ n.val) (hn : n.val < 1816) :
    wT S W (ix2 k n) = W (ix2 k N) := by
  obtain ⟨z, hz⟩ : ∃ z : EReal, z = W (ix2 k N) := ⟨_, rfl⟩
  refine Eq.trans ?_ hz
  pointwise [wT]
  refine Eq.trans ?_ hz.symm
  refine (dif_neg (by omega)).trans ?_
  by_cases h1 : n.val < 1792
  · exact (dif_pos (by omega)).trans (congrArg (fun a => W (ix2 k a)) (Fin.ext (by simp only <;> omega)))
  · exact (dif_neg (by omega)).trans ((dif_pos (by omega)).trans (congrArg (fun a => W (ix2 k a)) (Fin.ext (by simp only <;> omega))))

/-- The block of the weights holds the projection's columns. -/
theorem blk_2 (t : Fin cfg0.N) (k : Fin 1024) (n : Fin 1920) (N : Fin 6424) (h : N.val + 1024 = 1536 + n.val) (hl0 : 1024 ≤ n.val) (hn : n.val < 1816) :
    iblk m c 2 t (ix2 k n) = m ((c.tc : Thread nD τ).loc main_arg2) (ix2 k N) := by
  have hv := idx_val t
  refine Eq.trans ?_ (wT_at (V m c main_v33) (m ((c.tc : Thread nD τ).loc main_arg2)) k n N h hl0 hn)
  blk_simp [iblk, idx_val t]
  rw [wV m c]
  refine congrArg (wT (V m c main_v33) (m ((c.tc : Thread nD τ).loc main_arg2))) ?_
  blk_ext [idx_val t]

/-- The weights at a padding column. -/
theorem wT_pad (S : FVec Ideal S1024x1024 .f32) (W : FVec Ideal S1024x6424 .f32) (k : Fin 1024) (n : Fin 1920) (hn : 1816 ≤ n.val) : wT S W (ix2 k n) = (0 : EReal) := by
  pointwise [wT]
  refine (dif_neg (by omega)).trans ((dif_neg (by omega)).trans ((dif_neg (by omega)).trans ?_))
  show ((((0#32 : BitVec 32).toInt : ℝ)) : EReal) = 0
  simp

/-- The block of the weights holds zeros behind them. -/
theorem blk_2z (t : Fin cfg0.N) (k : Fin 1024) (n : Fin 1920) (hn : 1816 ≤ n.val) : iblk m c 2 t (ix2 k n) = (0 : EReal) := by
  have hv := idx_val t
  refine Eq.trans ?_ (wT_pad (V m c main_v33) (m ((c.tc : Thread nD τ).loc main_arg2)) k n hn)
  blk_simp [iblk, idx_val t]
  rw [wV m c]
  refine congrArg (wT (V m c main_v33) (m ((c.tc : Thread nD τ).loc main_arg2))) ?_
  blk_ext [idx_val t]

/-- The positions modulo eight, as words. -/
def remT : IVec S512 32 := Host.remsi (iotaInDim S512 32 0) (broadcastInDim S512 ![] bcast_S_S512 (select (cmpi .eq (constantI S_ 32 8#32) (constantI S_ 32 0#32)) (constantI S_ 32 1#32) (constantI S_ 32 8#32)))

/-- The positions after 2048 cached ones; each sequence has eight. -/
def posT : IVec S512 32 := addi (broadcastInDim S512 ![] bcast_S_S512 (constantI S_ 32 2048#32))
  (select (andi (cmpi .ne (cmpi .slt remT (broadcastInDim S512 ![] bcast_S_S512 (constantI S_ 32 0#32)))
      (broadcastInDim S512 ![] bcast_S_S512 (cmpi .slt (select (cmpi .eq (constantI S_ 32 8#32) (constantI S_ 32 0#32)) (constantI S_ 32 1#32) (constantI S_ 32 8#32)) (constantI S_ 32 0#32))))
      (cmpi .ne remT (broadcastInDim S512 ![] bcast_S_S512 (constantI S_ 32 0#32))))
    (addi remT (broadcastInDim S512 ![] bcast_S_S512 (select (cmpi .eq (constantI S_ 32 8#32) (constantI S_ 32 0#32)) (constantI S_ 32 1#32) (constantI S_ 32 8#32)))) remT)

/-- A position. -/
theorem posT_at : ∀ p : Fin 512, posT (ix1 p) = BitVec.ofNat 32 (2048 + p.val % 8) := by
  decide +kernel

/-- The table of angles. -/
def angT : FVec Ideal S512x32 .f32 := mulf (broadcastInDim S512x32 ![0, 1] bcast_S512x1_S512x32_0_1 (broadcastInDim S512x1 ![0] bcast_S512_S512x1_0 (sitofp .f32 posT : FVec Ideal _ .f32))) (broadcastInDim S512x32 ![0, 1] bcast_S1x32_S512x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The table of cosines: four times side by side. -/
def cosT : FVec Ideal S512x128 .f32 := concatenate S512x128 1 [⟨S512x32, (Host.cos angT : (⟨S512x32, .f32⟩ : BufTy).Contents (Elt Ideal))⟩, ⟨S512x32, (Host.cos angT : (⟨S512x32, .f32⟩ : BufTy).Contents (Elt Ideal))⟩, ⟨S512x32, (Host.cos angT : (⟨S512x32, .f32⟩ : BufTy).Contents (Elt Ideal))⟩, ⟨S512x32, (Host.cos angT : (⟨S512x32, .f32⟩ : BufTy).Contents (Elt Ideal))⟩] concatenates_S512x32_S512x32_S512x32_S512x32_S512x128_d1

/-- The table of sines, the first half of each head negated. -/
def sinTab : FVec Ideal S512x128 .f32 := concatenate S512x128 1 [⟨S512x32, (Host.negf (Host.sin angT) : (⟨S512x32, .f32⟩ : BufTy).Contents (Elt Ideal))⟩, ⟨S512x32, (Host.sin angT : (⟨S512x32, .f32⟩ : BufTy).Contents (Elt Ideal))⟩, ⟨S512x32, (Host.negf (Host.sin angT) : (⟨S512x32, .f32⟩ : BufTy).Contents (Elt Ideal))⟩, ⟨S512x32, (Host.sin angT : (⟨S512x32, .f32⟩ : BufTy).Contents (Elt Ideal))⟩] concatenates_S512x32_S512x32_S512x32_S512x32_S512x128_d1

set_option maxHeartbeats 2000000 in
/-- What the host leaves in the cosines' array. -/
theorem cosV : V m c main_v18 = cosT := by
  simp only [V, hostOps0, hostOps0_1, hostOps0_2, hostOps0_3, hostOps0_4, hostOps0_5, hostOps0_6, List.flatten_cons, List.flatten_nil, List.cons_append, List.nil_append, List.append_nil]
  after_results_simp <;> rfl

set_option maxHeartbeats 2000000 in
/-- What the host leaves in the sines' array. -/
theorem sinV : V m c main_v21 = sinTab := by
  simp only [V, hostOps0, hostOps0_1, hostOps0_2, hostOps0_3, hostOps0_4, hostOps0_5, hostOps0_6, List.flatten_cons, List.flatten_nil, List.cons_append, List.nil_append, List.append_nil]
  after_results_simp <;> rfl

/-- An entry of the angles. -/
theorem angT_at (p : Fin 512) (i : Fin 32) (k : ℕ) (h : i.val = k) : angT (ix2 p i) = ang (2048 + p.val % 8) k := by
  subst h
  obtain ⟨z, hz⟩ : ∃ z : EReal, z = ang (2048 + p.val % 8) i.val := ⟨_, rfl⟩
  refine Eq.trans ?_ hz
  pointwise [angT]
  refine Eq.trans ?_ hz.symm
  unfold ang
  rw [posT_at p]

/-- An entry of the cosines. -/
theorem cosT_at (p : Fin 512) (l : Fin 128) : cosT (ix2 p l) = Ideal.cos (ang (2048 + p.val % 8) (l.val % 32)) := by
  obtain ⟨z, hz⟩ : ∃ z : EReal, z = Ideal.cos (ang (2048 + p.val % 8) (l.val % 32)) := ⟨_, rfl⟩
  refine Eq.trans ?_ hz
  pointwise [cosT]
  refine Eq.trans ?_ hz.symm
  split_ifs <;> exact congrArg Ideal.cos (angT_at _ _ _ (by simp only <;> omega))

/-- An entry of the sines. -/
theorem sinTab_at (p : Fin 512) (l : Fin 128) : sinTab (ix2 p l) = sinT (2048 + p.val % 8) l.val := by
  obtain ⟨z, hz⟩ : ∃ z : EReal, z = sinT (2048 + p.val % 8) l.val := ⟨_, rfl⟩
  refine Eq.trans ?_ hz
  pointwise [sinTab]
  refine Eq.trans ?_ hz.symm
  unfold sinT
  by_cases h : l.val % 64 < 32
  · refine Eq.trans ?_ (if_pos h).symm
    split_ifs <;> first
      | omega
      | exact congrArg (fun a : EReal => -Ideal.sin a) (angT_at _ _ _ (by simp only <;> omega))
  · refine Eq.trans ?_ (if_neg h).symm
    split_ifs <;> first
      | omega
      | exact congrArg Ideal.sin (angT_at _ _ _ (by simp only <;> omega))

/-- The block of the cosines at a grid point. -/
theorem blk_3 (t : Fin cfg0.N) (r : Fin 512) (l : Fin 128) (i : Fin 1024) (h : i.val = t.val * 512 + r.val) :
    iblk m c 3 t (ix2 r l) = Ideal.cos (ang (2048 + i.val % 8) (l.val % 32)) := by
  have hv := idx_val t
  rw [show i.val % 8 = r.val % 8 by omega]
  refine Eq.trans ?_ (cosT_at r l)
  blk_simp [iblk, idx_val t]
  rw [cosV m c]
  refine congrArg cosT ?_
  blk_ext [idx_val t]

/-- The block of the sines at a grid point. -/
theorem blk_4 (t : Fin cfg0.N) (r : Fin 512) (l : Fin 128) (i : Fin 1024) (h : i.val = t.val * 512 + r.val) :
    iblk m c 4 t (ix2 r l) = sinT (2048 + i.val % 8) l.val := by
  have hv := idx_val t
  rw [show i.val % 8 = r.val % 8 by omega]
  refine Eq.trans ?_ (sinTab_at r l)
  blk_simp [iblk, idx_val t]
  rw [sinV m c]
  refine congrArg sinTab ?_
  blk_ext [idx_val t]

/-- The block of the keys to compress that a grid point writes is the reference's. -/
theorem pay_0 (t : Fin cfg0.N) (r : Fin 512) (j : Fin 128) (i : Fin 1024) (hi : i.val = t.val * 512 + r.val) :
    out0_7 (iblk m c 0 t) (iblk m c 1 t) (iblk m c 2 t) (iblk m c 3 t) (iblk m c 4 t) (ix2 r j)
      = Ref.R0 (m ((c.tc : Thread nD τ).loc main_arg0)) (m ((c.tc : Thread nD τ).loc main_arg1)) (m ((c.tc : Thread nD τ).loc main_arg2)) (ix2 i j) :=
  (out_0 (fun k => blk_0 m c t r k i hi) (fun k => blk_1 m c t k) (blk_2 m c t) (ix2 r j) rfl).trans
    (Ref.R0_at (m ((c.tc : Thread nD τ).loc main_arg0)) (m ((c.tc : Thread nD τ).loc main_arg1)) (m ((c.tc : Thread nD τ).loc main_arg2)) i j).symm

/-- After the whole run the array of the keys to compress is the reference's. -/
theorem arr_0 : (dats m 0 c).arrAt 7 (cfgs 0).N = Ref.R0 (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  blk_simp
  rw [after0_7]
  have hv := idx_val t
  obtain ⟨r, j, rfl⟩ : ∃ (r : Fin 512) (j : Fin 128), y = ix2 r j := ⟨y 0, y 1, by funext a; fin_cases a <;> rfl⟩
  have hi : t.val * 512 + r.val < 1024 := by omega
  refine (pay_0 m c t r j ⟨t.val * 512 + r.val, hi⟩ rfl).trans ?_
  refine congrArg (Ref.R0 _ _ _) ?_
  blk_ext [idx_val t]

/-- The block of the values to compress that a grid point writes is the reference's. -/
theorem pay_1 (t : Fin cfg0.N) (r : Fin 512) (j : Fin 128) (i : Fin 1024) (hi : i.val = t.val * 512 + r.val) :
    out0_8 (iblk m c 0 t) (iblk m c 1 t) (iblk m c 2 t) (iblk m c 3 t) (iblk m c 4 t) (ix2 r j)
      = Ref.R1 (m ((c.tc : Thread nD τ).loc main_arg0)) (m ((c.tc : Thread nD τ).loc main_arg1)) (m ((c.tc : Thread nD τ).loc main_arg2)) (ix2 i j) :=
  (out_1 (fun k => blk_0 m c t r k i hi) (fun k => blk_1 m c t k) (blk_2 m c t) (ix2 r j) rfl).trans
    (Ref.R1_at (m ((c.tc : Thread nD τ).loc main_arg0)) (m ((c.tc : Thread nD τ).loc main_arg1)) (m ((c.tc : Thread nD τ).loc main_arg2)) i j).symm

/-- After the whole run the array of the values to compress is the reference's. -/
theorem arr_1 : (dats m 0 c).arrAt 8 (cfgs 0).N = Ref.R1 (m ((c.tc : Thread nD τ).loc main_arg0)) (m ((c.tc : Thread nD τ).loc main_arg1)) (m ((c.tc : Thread nD τ).loc main_arg2)) := by
  refine (dats m 0 c).arrAt_eq_of_covers 8 _ (by decide +kernel) fun t _ y => ?_
  blk_simp
  rw [after0_8]
  have hv := idx_val t
  obtain ⟨r, j, rfl⟩ : ∃ (r : Fin 512) (j : Fin 128), y = ix2 r j := ⟨y 0, y 1, by funext a; fin_cases a <;> rfl⟩
  have hi : t.val * 512 + r.val < 1024 := by omega
  refine (pay_1 m c t r j ⟨t.val * 512 + r.val, hi⟩ rfl).trans ?_
  refine congrArg (Ref.R1 _ _ _) ?_
  blk_ext [idx_val t]

/-- The block of the keys to select that a grid point writes is the reference's. -/
theorem pay_2 (t : Fin cfg0.N) (r : Fin 512) (j : Fin 128) (i : Fin 1024) (hi : i.val = t.val * 512 + r.val) :
    out0_9 (iblk m c 0 t) (iblk m c 1 t) (iblk m c 2 t) (iblk m c 3 t) (iblk m c 4 t) (ix2 r j)
      = Ref.R2 (m ((c.tc : Thread nD τ).loc main_arg0)) (m ((c.tc : Thread nD τ).loc main_arg1)) (m ((c.tc : Thread nD τ).loc main_arg2)) (ix2 i j) :=
  (out_2 (fun k => blk_0 m c t r k i hi) (fun k => blk_1 m c t k) (blk_2 m c t) (fun l => blk_3 m c t r l i hi) (fun l => blk_4 m c t r l i hi) (ix2 r j) rfl).trans
    (Ref.R2_at (m ((c.tc : Thread nD τ).loc main_arg0)) (m ((c.tc : Thread nD τ).loc main_arg1)) (m ((c.tc : Thread nD τ).loc main_arg2)) i j).symm

/-- After the whole run the array of the keys to select is the reference's. -/
theorem arr_2 : (dats m 0 c).arrAt 9 (cfgs 0).N = Ref.R2 (m ((c.tc : Thread nD τ).loc main_arg0)) (m ((c.tc : Thread nD τ).loc main_arg1)) (m ((c.tc : Thread nD τ).loc main_arg2)) := by
  refine (dats m 0 c).arrAt_eq_of_covers 9 _ (by decide +kernel) fun t _ y => ?_
  blk_simp
  rw [after0_9]
  have hv := idx_val t
  obtain ⟨r, j, rfl⟩ : ∃ (r : Fin 512) (j : Fin 128), y = ix2 r j := ⟨y 0, y 1, by funext a; fin_cases a <;> rfl⟩
  have hi : t.val * 512 + r.val < 1024 := by omega
  refine (pay_2 m c t r j ⟨t.val * 512 + r.val, hi⟩ rfl).trans ?_
  refine congrArg (Ref.R2 _ _ _) ?_
  blk_ext [idx_val t]

/-- The block of the values to select that a grid point writes is the reference's. -/
theorem pay_3 (t : Fin cfg0.N) (r : Fin 512) (j : Fin 128) (i : Fin 1024) (hi : i.val = t.val * 512 + r.val) :
    out0_10 (iblk m c 0 t) (iblk m c 1 t) (iblk m c 2 t) (iblk m c 3 t) (iblk m c 4 t) (ix2 r j)
      = Ref.R3 (m ((c.tc : Thread nD τ).loc main_arg0)) (m ((c.tc : Thread nD τ).loc main_arg1)) (m ((c.tc : Thread nD τ).loc main_arg2)) (ix2 i j) :=
  (out_3 (fun k => blk_0 m c t r k i hi) (fun k => blk_1 m c t k) (blk_2 m c t) (ix2 r j) rfl).trans
    (Ref.R3_at (m ((c.tc : Thread nD τ).loc main_arg0)) (m ((c.tc : Thread nD τ).loc main_arg1)) (m ((c.tc : Thread nD τ).loc main_arg2)) i j).symm

/-- After the whole run the array of the values to select is the reference's. -/
theorem arr_3 : (dats m 0 c).arrAt 10 (cfgs 0).N = Ref.R3 (m ((c.tc : Thread nD τ).loc main_arg0)) (m ((c.tc : Thread nD τ).loc main_arg1)) (m ((c.tc : Thread nD τ).loc main_arg2)) := by
  refine (dats m 0 c).arrAt_eq_of_covers 10 _ (by decide +kernel) fun t _ y => ?_
  blk_simp
  rw [after0_10]
  have hv := idx_val t
  obtain ⟨r, j, rfl⟩ : ∃ (r : Fin 512) (j : Fin 128), y = ix2 r j := ⟨y 0, y 1, by funext a; fin_cases a <;> rfl⟩
  have hi : t.val * 512 + r.val < 1024 := by omega
  refine (pay_3 m c t r j ⟨t.val * 512 + r.val, hi⟩ rfl).trans ?_
  refine congrArg (Ref.R3 _ _ _) ?_
  blk_ext [idx_val t]

/-- The block of the keys of the window that a grid point writes is the reference's. -/
theorem pay_4 (t : Fin cfg0.N) (r : Fin 512) (j : Fin 128) (i : Fin 1024) (hi : i.val = t.val * 512 + r.val) :
    out0_11 (iblk m c 0 t) (iblk m c 1 t) (iblk m c 2 t) (iblk m c 3 t) (iblk m c 4 t) (ix2 r j)
      = Ref.R4 (m ((c.tc : Thread nD τ).loc main_arg0)) (m ((c.tc : Thread nD τ).loc main_arg1)) (m ((c.tc : Thread nD τ).loc main_arg2)) (ix2 i j) :=
  (out_4 (fun k => blk_0 m c t r k i hi) (fun k => blk_1 m c t k) (blk_2 m c t) (fun l => blk_3 m c t r l i hi) (fun l => blk_4 m c t r l i hi) (ix2 r j) rfl).trans
    (Ref.R4_at (m ((c.tc : Thread nD τ).loc main_arg0)) (m ((c.tc : Thread nD τ).loc main_arg1)) (m ((c.tc : Thread nD τ).loc main_arg2)) i j).symm

/-- After the whole run the array of the keys of the window is the reference's. -/
theorem arr_4 : (dats m 0 c).arrAt 11 (cfgs 0).N = Ref.R4 (m ((c.tc : Thread nD τ).loc main_arg0)) (m ((c.tc : Thread nD τ).loc main_arg1)) (m ((c.tc : Thread nD τ).loc main_arg2)) := by
  refine (dats m 0 c).arrAt_eq_of_covers 11 _ (by decide +kernel) fun t _ y => ?_
  blk_simp
  rw [after0_11]
  have hv := idx_val t
  obtain ⟨r, j, rfl⟩ : ∃ (r : Fin 512) (j : Fin 128), y = ix2 r j := ⟨y 0, y 1, by funext a; fin_cases a <;> rfl⟩
  have hi : t.val * 512 + r.val < 1024 := by omega
  refine (pay_4 m c t r j ⟨t.val * 512 + r.val, hi⟩ rfl).trans ?_
  refine congrArg (Ref.R4 _ _ _) ?_
  blk_ext [idx_val t]

/-- The block of the values of the window that a grid point writes is the reference's. -/
theorem pay_5 (t : Fin cfg0.N) (r : Fin 512) (j : Fin 128) (i : Fin 1024) (hi : i.val = t.val * 512 + r.val) :
    out0_12 (iblk m c 0 t) (iblk m c 1 t) (iblk m c 2 t) (iblk m c 3 t) (iblk m c 4 t) (ix2 r j)
      = Ref.R5 (m ((c.tc : Thread nD τ).loc main_arg0)) (m ((c.tc : Thread nD τ).loc main_arg1)) (m ((c.tc : Thread nD τ).loc main_arg2)) (ix2 i j) :=
  (out_5 (fun k => blk_0 m c t r k i hi) (fun k => blk_1 m c t k) (blk_2 m c t) (ix2 r j) rfl).trans
    (Ref.R5_at (m ((c.tc : Thread nD τ).loc main_arg0)) (m ((c.tc : Thread nD τ).loc main_arg1)) (m ((c.tc : Thread nD τ).loc main_arg2)) i j).symm

/-- After the whole run the array of the values of the window is the reference's. -/
theorem arr_5 : (dats m 0 c).arrAt 12 (cfgs 0).N = Ref.R5 (m ((c.tc : Thread nD τ).loc main_arg0)) (m ((c.tc : Thread nD τ).loc main_arg1)) (m ((c.tc : Thread nD τ).loc main_arg2)) := by
  refine (dats m 0 c).arrAt_eq_of_covers 12 _ (by decide +kernel) fun t _ y => ?_
  blk_simp
  rw [after0_12]
  have hv := idx_val t
  obtain ⟨r, j, rfl⟩ : ∃ (r : Fin 512) (j : Fin 128), y = ix2 r j := ⟨y 0, y 1, by funext a; fin_cases a <;> rfl⟩
  have hi : t.val * 512 + r.val < 1024 := by omega
  refine (pay_5 m c t r j ⟨t.val * 512 + r.val, hi⟩ rfl).trans ?_
  refine congrArg (Ref.R5 _ _ _) ?_
  blk_ext [idx_val t]

/-- The block of the gates that a grid point writes is the reference's. -/
theorem pay_6 (t : Fin cfg0.N) (r : Fin 512) (j : Fin 128) (i : Fin 1024) (hi : i.val = t.val * 512 + r.val) :
    out0_13 (iblk m c 0 t) (iblk m c 1 t) (iblk m c 2 t) (iblk m c 3 t) (iblk m c 4 t) (ix2 r j)
      = Ref.R6 (m ((c.tc : Thread nD τ).loc main_arg0)) (m ((c.tc : Thread nD τ).loc main_arg1)) (m ((c.tc : Thread nD τ).loc main_arg2)) (ix2 i j) :=
  (out_6 (fun k => blk_0 m c t r k i hi) (fun k => blk_1 m c t k) (blk_2 m c t) (fun k n h => blk_2z m c t k n h) (ix2 r j) rfl).trans
    (Ref.R6_at (m ((c.tc : Thread nD τ).loc main_arg0)) (m ((c.tc : Thread nD τ).loc main_arg1)) (m ((c.tc : Thread nD τ).loc main_arg2)) i j).symm

/-- After the whole run the array of the gates is the reference's. -/
theorem arr_6 : (dats m 0 c).arrAt 13 (cfgs 0).N = Ref.R6 (m ((c.tc : Thread nD τ).loc main_arg0)) (m ((c.tc : Thread nD τ).loc main_arg1)) (m ((c.tc : Thread nD τ).loc main_arg2)) := by
  refine (dats m 0 c).arrAt_eq_of_covers 13 _ (by decide +kernel) fun t _ y => ?_
  blk_simp
  rw [after0_13]
  have hv := idx_val t
  obtain ⟨r, j, rfl⟩ : ∃ (r : Fin 512) (j : Fin 128), y = ix2 r j := ⟨y 0, y 1, by funext a; fin_cases a <;> rfl⟩
  have hi : t.val * 512 + r.val < 1024 := by omega
  refine (pay_6 m c t r j ⟨t.val * 512 + r.val, hi⟩ rfl).trans ?_
  refine congrArg (Ref.R6 _ _ _) ?_
  blk_ext [idx_val t]

end SmpB

end
-- ==== Proof.SampleCRef.lean ====
module

public import proofs.«01_k».proof.Proof.Gen.SampleCRefIdeal.Run
public import proofs.«01_k».proof.Proof.SampleRow

@[expose] public section

set_option maxRecDepth 16384

noncomputable section

namespace SmpC.Ref

open Idealize.ShloMosaic Idealize.ShloMosaic.TcCoe Idealize.SL.Sem Finset Cert.SampleCRefIdeal Cert.SampleCRefIdeal.Gen Cert.SampleCRefIdeal.Value Smp
open Prj (rope ang)

/-- The normed input times the input weights, as the reference computes it. -/
def Zt (X : FVec Ideal S128x4x1024 .f32) (w : FVec Ideal S1024 .f32) (W : FVec Ideal S1024x6424 .f32) : FVec Ideal S128x4x6424 .f32 :=
  Host.dotGeneral dot_S128x4x1024_S1024x6424_S128x4x6424_2_0_01_1_n_n none (mulf (mulf X (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf X X) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 w))) W

/-- One entry of that product. -/
theorem Zt_at (X : FVec Ideal S128x4x1024 .f32) (w : FVec Ideal S1024 .f32) (W : FVec Ideal S1024x6424 .f32) (b : Fin 128) (q : Fin 4) (N : Fin 6424) (i : Fin 1024) (n : ℕ) (h : N.val = n) (hi : b.val * 8 + q.val = i.val) : Zt X w W (ix3 b q N) = cols X w W i n := by
  rw [cols_sum i n N h]
  simp only [row_pos i b q hi]
  pointwise [Zt]

/-- The keys in the reference, over its arrays. -/
def R0 (X : FVec Ideal S128x4x1024 .f32) (w : FVec Ideal S1024 .f32) (W : FVec Ideal S1024x6424 .f32) : FVec Ideal S1024x256 .f32 :=
  shapeCast _ (pad S128x8x256 ![0, 0, 0] ![0, 4, 0] ![0, 0, 0] (shapeCast _ (concatenate S128x4x4x64 3 [⟨S128x4x4x32, (subf (mulf (extractStridedSlice S128x4x4x32 ![0, 0, 0, 0] (shapeCast _ (extractStridedSlice S128x4x256 ![0, 0, 2840] (Zt X w W) slices_S128x4x6424_S128x4x256_0_0_2840) shapeCasts_S128x4x256_S128x4x4x64) slices_S128x4x4x64_S128x4x4x32_0_0_0_0) (broadcastInDim S128x4x4x32 ![0, 1, 2, 3] bcast_S1x4x1x32_S128x4x4x32_0_1_2_3 (broadcastInDim S1x4x1x32 ![1, 2, 3] bcast_S4x1x32_S1x4x1x32_1_2_3 (broadcastInDim S4x1x32 ![0, 2] bcast_S4x32_S4x1x32_0_2 (Host.cos (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S128x4x4x32 ![0, 0, 0, 32] (shapeCast _ (extractStridedSlice S128x4x256 ![0, 0, 2840] (Zt X w W) slices_S128x4x6424_S128x4x256_0_0_2840) shapeCasts_S128x4x256_S128x4x4x64) slices_S128x4x4x64_S128x4x4x32_0_0_0_32) (broadcastInDim S128x4x4x32 ![0, 1, 2, 3] bcast_S1x4x1x32_S128x4x4x32_0_1_2_3 (broadcastInDim S1x4x1x32 ![1, 2, 3] bcast_S4x1x32_S1x4x1x32_1_2_3 (broadcastInDim S4x1x32 ![0, 2] bcast_S4x32_S4x1x32_0_2 (Host.sin (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩, ⟨S128x4x4x32, (addf (mulf (extractStridedSlice S128x4x4x32 ![0, 0, 0, 0] (shapeCast _ (extractStridedSlice S128x4x256 ![0, 0, 2840] (Zt X w W) slices_S128x4x6424_S128x4x256_0_0_2840) shapeCasts_S128x4x256_S128x4x4x64) slices_S128x4x4x64_S128x4x4x32_0_0_0_0) (broadcastInDim S128x4x4x32 ![0, 1, 2, 3] bcast_S1x4x1x32_S128x4x4x32_0_1_2_3 (broadcastInDim S1x4x1x32 ![1, 2, 3] bcast_S4x1x32_S1x4x1x32_1_2_3 (broadcastInDim S4x1x32 ![0, 2] bcast_S4x32_S4x1x32_0_2 (Host.sin (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S128x4x4x32 ![0, 0, 0, 32] (shapeCast _ (extractStridedSlice S128x4x256 ![0, 0, 2840] (Zt X w W) slices_S128x4x6424_S128x4x256_0_0_2840) shapeCasts_S128x4x256_S128x4x4x64) slices_S128x4x4x64_S128x4x4x32_0_0_0_32) (broadcastInDim S128x4x4x32 ![0, 1, 2, 3] bcast_S1x4x1x32_S128x4x4x32_0_1_2_3 (broadcastInDim S1x4x1x32 ![1, 2, 3] bcast_S4x1x32_S1x4x1x32_1_2_3 (broadcastInDim S4x1x32 ![0, 2] bcast_S4x32_S4x1x32_0_2 (Host.cos (mulf (broadcastInDim S4x32 ![0, 1] bcast_S4x1_S4x32_0_1 (broadcastInDim S4x1 ![0] bcast_S4_S4x1_0 (sitofp .f32 (addi (broadcastInDim S4 ![] bcast_S_S4 (constantI S_ 32 2048#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩] concatenates_S128x4x4x32_S128x4x4x32_S128x4x4x64_d3) shapeCasts_S128x4x4x64_S128x4x256) (sitofp .f32 (constantI S_ 32 0#32)) pads_S128x4x256_S128x8x256_000_040_000 h_S_) shapeCasts_S128x8x256_S1024x256

/-- The keys at an index. -/
theorem R0_at (X : FVec Ideal S128x4x1024 .f32) (w : FVec Ideal S1024 .f32) (W : FVec Ideal S1024x6424 .f32) (r : Fin 1024) (l : Fin 256) : R0 X w W (ix2 r l) = gr X w W 2840 r l := by
  obtain ⟨z, hz⟩ : ∃ z : EReal, z = gr X w W 2840 r l := ⟨_, rfl⟩
  refine Eq.trans ?_ hz
  pointwise [R0]
  refine Eq.trans ?_ hz.symm
  by_cases hq : r.val % 8 < 4
  swap
  · refine (dif_neg (by omega)).trans (Eq.trans ?_ (rope_zero (cols X w W r) _ _ _ fun n => cols_zero r n hq).symm)
    show ((((0#32 : BitVec 32).toInt : ℝ)) : EReal) = 0
    simp
  refine (dif_pos (by omega)).trans ?_
  unfold gr rope ang
  by_cases h : l.val % 64 < 32
  · refine (dif_pos h).trans (Eq.trans ?_ (if_pos h).symm)
    refine congrArg₂ (· - ·) (Ideal.mul_congr (Zt_at X w W _ _ _ r _ ?_ ?_) ?_) (Ideal.mul_congr (Zt_at X w W _ _ _ r _ ?_ ?_) ?_)
    all_goals first
      | exact pos_congr Ideal.cos _ (by omega) _
      | exact pos_congr Ideal.sin _ (by omega) _
      | (simp only <;> omega)
  · refine (dif_neg h).trans (Eq.trans ?_ (if_neg h).symm)
    refine Ideal.add_congr (Ideal.mul_congr (Zt_at X w W _ _ _ r _ ?_ ?_) ?_) (Ideal.mul_congr (Zt_at X w W _ _ _ r _ ?_ ?_) ?_)
    all_goals first
      | exact pos_congr Ideal.cos _ (by omega) _
      | exact pos_congr Ideal.sin _ (by omega) _
      | (simp only <;> omega)

/-- The values in the reference, over its arrays. -/
def R1 (X : FVec Ideal S128x4x1024 .f32) (w : FVec Ideal S1024 .f32) (W : FVec Ideal S1024x6424 .f32) : FVec Ideal S1024x256 .f32 :=
  shapeCast _ (pad S128x8x256 ![0, 0, 0] ![0, 4, 0] ![0, 0, 0] (extractStridedSlice S128x4x256 ![0, 0, 3096] (Zt X w W) slices_S128x4x6424_S128x4x256_0_0_3096) (sitofp .f32 (constantI S_ 32 0#32)) pads_S128x4x256_S128x8x256_000_040_000 h_S_) shapeCasts_S128x8x256_S1024x256

/-- The values at an index. -/
theorem R1_at (X : FVec Ideal S128x4x1024 .f32) (w : FVec Ideal S1024 .f32) (W : FVec Ideal S1024x6424 .f32) (r : Fin 1024) (l : Fin 256) : R1 X w W (ix2 r l) = gp X w W 3096 r l := by
  obtain ⟨z, hz⟩ : ∃ z : EReal, z = gp X w W 3096 r l := ⟨_, rfl⟩
  refine Eq.trans ?_ hz
  pointwise [R1]
  refine Eq.trans ?_ hz.symm
  unfold gp
  by_cases hq : r.val % 8 < 4
  · refine (dif_pos (by omega)).trans ?_
    exact Zt_at X w W _ _ _ _ _ (by simp only <;> omega) (by simp only <;> omega)
  · refine (dif_neg (by omega)).trans (Eq.trans ?_ (cols_zero r _ hq).symm)
    show ((((0#32 : BitVec 32).toInt : ℝ)) : EReal) = 0
    simp

variable (m : (ℓ : Loc nD τ sig) → Buf (Elt Ideal) ℓ) (c : Dev nD)

/-- The reference's result of that name is the term above. -/
theorem res_0 : res_main_v55 (F := Ideal) m c = R0 (m ((c.tc : Thread nD τ).loc main_arg0)) (m ((c.tc : Thread nD τ).loc main_arg1)) (m ((c.tc : Thread nD τ).loc main_arg2)) := rfl

end SmpC.Ref

end
-- ==== Proof.SampleCArr.lean ====
module

public import proofs.«01_k».proof.Proof.Gen.SampleCIdeal.Value
public import proofs.«01_k».proof.Proof.SampleCRef
public import Idealize.ShloMosaic.Lib.Pipeline.ValueKit

@[expose] public section

set_option maxRecDepth 16384

noncomputable section

namespace SmpC

open Idealize.ShloMosaic Idealize.ShloMosaic.TcCoe Idealize.SL.Sem Finset Cert.SampleCIdeal Cert.SampleCIdeal.Gen Smp
open Prj (rope ang sinT piece idx_eq)
open Idealize.ShloMosaic.Pipeline (Dat)

/-- A column of the kernel's product is that column of the projection. -/
theorem blkcol {x0 : FVec Ideal S512x1024 .f32} {x1 : FVec Ideal S1x1024 .f32} {x2 : FVec Ideal S1024x2560 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 2560) (N : Fin 6424), N.val + 2048 = 2840 + n.val → 2048 ≤ n.val → x2 (ix2 k n) = W (ix2 k N))
    (r' : Fin 512) (hr : r'.val = r.val) (n : Fin 2560) (k : ℕ) (hk : k + 2048 = 2840 + n.val) (hl0 : 2048 ≤ n.val) :
    (∑ x, x0 (ix2 r' x) * Ideal.rsqrt (Ideal.div (∑ d, x0 (ix2 r' d) * x0 (ix2 r' d)) (Ideal.ofBits .f32 0x44800000#32) + Ideal.ofBits .f32 0x358637BD#32)
      * x1 (ix2 0 x) * x2 (ix2 x n)) = cols X w W i k := by
  obtain rfl : r' = r := Fin.ext hr
  have hl : k < 6424 := by omega
  refine Eq.trans ?_ (cols_sum _ k ⟨k, hl⟩ rfl).symm
  refine sum_congr rfl fun x _ => ?_
  simp only [H0, H1, H2 x n ⟨k, hl⟩ hk hl0]

/-- What the body leaves of the keys. -/
theorem out_0 {x0 : FVec Ideal S512x1024 .f32} {x1 : FVec Ideal S1x1024 .f32} {x2 : FVec Ideal S1024x2560 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 2560) (N : Fin 6424), N.val + 2048 = 2840 + n.val → 2048 ≤ n.val → x2 (ix2 k n) = W (ix2 k N))
    {x3 x4 : FVec Ideal S512x128 .f32} (H3 : ∀ l : Fin 128, x3 (ix2 r l) = Ideal.cos (ang (2048 + i.val % 8) (l.val % 32)))
    (H4 : ∀ l : Fin 128, x4 (ix2 r l) = sinT (2048 + i.val % 8) l.val)
    (y : S512x256.Idx) (hy : (y 0).val = r.val) : out0_6 (F := Ideal) x0 x1 x2 x3 x4 y = gr X w W 2840 i (y 1).val := by
  obtain ⟨z, hz⟩ : ∃ z : EReal, z = gr X w W 2840 i (y 1).val := ⟨_, rfl⟩
  refine Eq.trans ?_ hz
  frame_out
  canon_tiles x h
  · open_payloads
    pointwise
    refine Eq.trans ?_ hz.symm
    unfold gr
    refine piece _ _ _ _ _ x1_lt (by omega) _ _ _ _ _ (blkcol H0 H1 H2 _ (by omega) _ _ (by simp only <;> omega) (by simp only <;> omega))
      (fun h => blkcol H0 H1 H2 _ (by omega) _ _ (by simp only <;> omega) (by simp only <;> omega)) (fun h => blkcol H0 H1 H2 _ (by omega) _ _ (by simp only <;> omega) (by simp only <;> omega)) ?_ ?_
    · exact (congrArg x3 (idx_eq x r (by omega))).trans (H3 _)
    · exact (congrArg x4 (idx_eq x r (by omega))).trans (H4 _)
  · open_payloads
    pointwise
    refine Eq.trans ?_ hz.symm
    unfold gr
    refine piece _ _ _ _ _ x1_lt (by omega) _ _ _ _ _ (blkcol H0 H1 H2 _ (by omega) _ _ (by simp only <;> omega) (by simp only <;> omega))
      (fun h => blkcol H0 H1 H2 _ (by omega) _ _ (by simp only <;> omega) (by simp only <;> omega)) (fun h => blkcol H0 H1 H2 _ (by omega) _ _ (by simp only <;> omega) (by simp only <;> omega)) ?_ ?_
    · exact (congrArg x3 (idx_eq x r (by omega))).trans (H3 _)
    · exact (congrArg x4 (idx_eq x r (by omega))).trans (H4 _)

/-- What the body leaves of the values. -/
theorem out_1 {x0 : FVec Ideal S512x1024 .f32} {x1 : FVec Ideal S1x1024 .f32} {x2 : FVec Ideal S1024x2560 .bf16}
    {X : FVec Ideal S128x4x1024 .f32} {w : FVec Ideal S1024 .f32} {W : FVec Ideal S1024x6424 .f32} {i : Fin 1024} {r : Fin 512}
    (H0 : ∀ k : Fin 1024, x0 (ix2 r k) = row X i k)
    (H1 : ∀ k : Fin 1024, x1 (ix2 0 k) = w (ix1 k))
    (H2 : ∀ (k : Fin 1024) (n : Fin 2560) (N : Fin 6424), N.val + 2048 = 2840 + n.val → 2048 ≤ n.val → x2 (ix2 k n) = W (ix2 k N))
    {x3 x4 : FVec Ideal S512x128 .f32}
    (y : S512x256.Idx) (hy : (y 0).val = r.val) : out0_7 (F := Ideal) x0 x1 x2 x3 x4 y = gp X w W 3096 i (y 1).val := by
  obtain ⟨z, hz⟩ : ∃ z : EReal, z = gp X w W 3096 i (y 1).val := ⟨_, rfl⟩
  refine Eq.trans ?_ hz
  frame_out
  canon_tiles x h
  · open_payloads
    pointwise
    refine Eq.trans ?_ hz.symm
    unfold gp
    exact blkcol H0 H1 H2 _ (by omega) _ _ (by simp only <;> omega) (by simp only <;> omega)
  · open_payloads
    pointwise
    refine Eq.trans ?_ hz.symm
    unfold gp
    exact blkcol H0 H1 H2 _ (by omega) _ _ (by simp only <;> omega) (by simp only <;> omega)

variable (m : (ℓ : Loc nD τ sig) → Buf (Elt Ideal) ℓ) (c : Dev nD)

/-- Which rows each window holds at grid point `t`. -/
theorem idx_val : ∀ t : Fin cfg0.N, win0_0.index t = ![t.val, 0] ∧ win0_1.index t = ![0, 0] ∧ win0_2.index t = ![0, 0]
    ∧ win0_3.index t = ![0, 0] ∧ win0_4.index t = ![0, 0] ∧ win0_6.index t = ![t.val, 0] ∧ win0_7.index t = ![t.val, 0] ∧ t.val < 2 :=
  (by decide +kernel : ∀ t : Fin grid0.N, _)

/-- The input's rows one below the other, each sequence filled up with four rows of zeros. -/
def xT (X : FVec Ideal S128x4x1024 .f32) : FVec Ideal S1024x1024 .f32 :=
  shapeCast S1024x1024 (pad S128x8x1024 ![0, 0, 0] ![0, 4, 0] ![0, 0, 0] X (sitofp .f32 (constantI S_ 32 0#32)) pads_S128x4x1024_S128x8x1024_000_040_000 h_S_ : FVec Ideal S128x8x1024 .f32) shapeCasts_S128x8x1024_S1024x1024

/-- The norm's scales as one row. -/
def nT (w : FVec Ideal S1024 .f32) : FVec Ideal S1x1024 .f32 := broadcastInDim S1x1024 ![1] bcast_S1024_S1x1024_1 w

set_option maxHeartbeats 2000000 in
/-- What the host leaves in the input's array. -/
theorem xV : V m c main_v23 = xT (m ((c.tc : Thread nD τ).loc main_arg0)) := by
  simp only [V, hostOps0, hostOps0_1, hostOps0_2, hostOps0_3, hostOps0_4, List.flatten_cons, List.flatten_nil, List.cons_append, List.nil_append, List.append_nil]
  after_results_simp <;> rfl

set_option maxHeartbeats 2000000 in
/-- What the host leaves in the scales' array. -/
theorem nV : V m c main_v35 = nT (m ((c.tc : Thread nD τ).loc main_arg1)) := by
  simp only [V, hostOps0, hostOps0_1, hostOps0_2, hostOps0_3, hostOps0_4, List.flatten_cons, List.flatten_nil, List.cons_append, List.nil_append, List.append_nil]
  after_results_simp <;> rfl

/-- An entry of the input's rows. -/
theorem xT_at (X : FVec Ideal S128x4x1024 .f32) (i j : Fin 1024) : xT X (ix2 i j) = row X i j := by
  obtain ⟨z, hz⟩ : ∃ z : EReal, z = row X i j := ⟨_, rfl⟩
  refine Eq.trans ?_ hz
  pointwise [xT]
  refine Eq.trans ?_ hz.symm
  by_cases hq : i.val % 8 < 4
  · exact (dif_pos (by omega)).trans (row_pos i ⟨i.val / 8, by omega⟩ ⟨i.val % 8, hq⟩ (by simp only <;> omega) j).symm
  · have e : row X i j = 0 := dif_neg hq
    refine (dif_neg (by omega)).trans (Eq.trans ?_ e.symm)
    show ((((0#32 : BitVec 32).toInt : ℝ)) : EReal) = 0
    simp

/-- An entry of the scales' row. -/
theorem nT_at (w : FVec Ideal S1024 .f32) (j : Fin 1024) : nT w (ix2 0 j) = w (ix1 j) := by
  pointwise [nT]

/-- The block of the input at a grid point. -/
theorem blk_0 (t : Fin cfg0.N) (r : Fin 512) (j : Fin 1024) (i : Fin 1024) (h : i.val = t.val * 512 + r.val) :
    iblk m c 0 t (ix2 r j) = row (m ((c.tc : Thread nD τ).loc main_arg0)) i j := by
  have hv := idx_val t
  refine Eq.trans ?_ (xT_at (m ((c.tc : Thread nD τ).loc main_arg0)) i j)
  blk_simp [iblk, idx_val t]
  rw [xV m c]
  refine congrArg (xT (m ((c.tc : Thread nD τ).loc main_arg0))) ?_
  blk_ext [idx_val t]

/-- The block of the norm's scales is the whole of them. -/
theorem blk_1 (t : Fin cfg0.N) (j : Fin 1024) : iblk m c 1 t (ix2 0 j) = m ((c.tc : Thread nD τ).loc main_arg1) (ix1 j) := by
  have hv := idx_val t
  refine Eq.trans ?_ (nT_at (m ((c.tc : Thread nD τ).loc main_arg1)) j)
  blk_simp [iblk, idx_val t]
  rw [nV m c]
  refine congrArg (nT (m ((c.tc : Thread nD τ).loc main_arg1))) ?_
  blk_ext [idx_val t]

/-- The weights of this call, behind the columns `S` of the spread queries. -/
def wT (S : FVec Ideal S1024x2048 .f32) (W : FVec Ideal S1024x6424 .f32) : FVec Ideal S1024x2560 .bf16 :=
  truncf .bf16 (concatenate S1024x2560 1 [⟨S1024x2048, S⟩, ⟨S1024x512, (extractStridedSlice S1024x512 ![0, 2840] W slices_S1024x6424_S1024x512_0_2840 : FVec Ideal _ .f32)⟩]
    concatenates_S1024x2048_S1024x512_S1024x2560_d1 : FVec Ideal _ .f32) bitsLt_bf16_f32

set_option maxHeartbeats 2000000 in
/-- What the host leaves in the weights' array. -/
theorem wV : V m c main_v34 = wT (V m c main_v31) (m ((c.tc : Thread nD τ).loc main_arg2)) := by
  simp only [V, hostOps0, hostOps0_1, hostOps0_2, hostOps0_3, hostOps0_4, List.flatten_cons, List.flatten_nil, List.cons_append, List.nil_append, List.append_nil]
  after_results_simp <;> rfl

/-- The weights at a column of the projection. -/
theorem wT_at (S : FVec Ideal S1024x2048 .f32) (W : FVec Ideal S1024x6424 .f32) (k : Fin 1024) (n : Fin 2560) (N : Fin 6424) (h : N.val + 2048 = 2840 + n.val) (hl0 : 2048 ≤ n.val) :
    wT S W (ix2 k n) = W (ix2 k N) := by
  obtain ⟨z, hz⟩ : ∃ z : EReal, z = W (ix2 k N) := ⟨_, rfl⟩
  refine Eq.trans ?_ hz
  pointwise [wT]
  refine Eq.trans ?_ hz.symm
  exact (dif_neg (by omega)).trans (congrArg (fun a => W (ix2 k a)) (Fin.ext (by simp only <;> omega)))

/-- The block of the weights holds the projection's columns. -/
theorem blk_2 (t : Fin cfg0.N) (k : Fin 1024) (n : Fin 2560) (N : Fin 6424) (h : N.val + 2048 = 2840 + n.val) (hl0 : 2048 ≤ n.val) :
    iblk m c 2 t (ix2 k n) = m ((c.tc : Thread nD τ).loc main_arg2) (ix2 k N) := by
  have hv := idx_val t
  refine Eq.trans ?_ (wT_at (V m c main_v31) (m ((c.tc : Thread nD τ).loc main_arg2)) k n N h hl0)
  blk_simp [iblk, idx_val t]
  rw [wV m c]
  refine congrArg (wT (V m c main_v31) (m ((c.tc : Thread nD τ).loc main_arg2))) ?_
  blk_ext [idx_val t]

/-- The positions modulo eight, as words. -/
def remT : IVec S512 32 := Host.remsi (iotaInDim S512 32 0) (broadcastInDim S512 ![] bcast_S_S512 (select (cmpi .eq (constantI S_ 32 8#32) (constantI S_ 32 0#32)) (constantI S_ 32 1#32) (constantI S_ 32 8#32)))

/-- The positions after 2048 cached ones; each sequence has eight. -/
def posT : IVec S512 32 := addi (broadcastInDim S512 ![] bcast_S_S512 (constantI S_ 32 2048#32))
  (select (andi (cmpi .ne (cmpi .slt remT (broadcastInDim S512 ![] bcast_S_S512 (constantI S_ 32 0#32)))
      (broadcastInDim S512 ![] bcast_S_S512 (cmpi .slt (select (cmpi .eq (constantI S_ 32 8#32) (constantI S_ 32 0#32)) (constantI S_ 32 1#32) (constantI S_ 32 8#32)) (constantI S_ 32 0#32))))
      (cmpi .ne remT (broadcastInDim S512 ![] bcast_S_S512 (constantI S_ 32 0#32))))
    (addi remT (broadcastInDim S512 ![] bcast_S_S512 (select (cmpi .eq (constantI S_ 32 8#32) (constantI S_ 32 0#32)) (constantI S_ 32 1#32) (constantI S_ 32 8#32)))) remT)

/-- A position. -/
theorem posT_at : ∀ p : Fin 512, posT (ix1 p) = BitVec.ofNat 32 (2048 + p.val % 8) := by
  decide +kernel

/-- The table of angles. -/
def angT : FVec Ideal S512x32 .f32 := mulf (broadcastInDim S512x32 ![0, 1] bcast_S512x1_S512x32_0_1 (broadcastInDim S512x1 ![0] bcast_S512_S512x1_0 (sitofp .f32 posT : FVec Ideal _ .f32))) (broadcastInDim S512x32 ![0, 1] bcast_S1x32_S512x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The table of cosines: four times side by side. -/
def cosT : FVec Ideal S512x128 .f32 := concatenate S512x128 1 [⟨S512x32, (Host.cos angT : (⟨S512x32, .f32⟩ : BufTy).Contents (Elt Ideal))⟩, ⟨S512x32, (Host.cos angT : (⟨S512x32, .f32⟩ : BufTy).Contents (Elt Ideal))⟩, ⟨S512x32, (Host.cos angT : (⟨S512x32, .f32⟩ : BufTy).Contents (Elt Ideal))⟩, ⟨S512x32, (Host.cos angT : (⟨S512x32, .f32⟩ : BufTy).Contents (Elt Ideal))⟩] concatenates_S512x32_S512x32_S512x32_S512x32_S512x128_d1

/-- The table of sines, the first half of each head negated. -/
def sinTab : FVec Ideal S512x128 .f32 := concatenate S512x128 1 [⟨S512x32, (Host.negf (Host.sin angT) : (⟨S512x32, .f32⟩ : BufTy).Contents (Elt Ideal))⟩, ⟨S512x32, (Host.sin angT : (⟨S512x32, .f32⟩ : BufTy).Contents (Elt Ideal))⟩, ⟨S512x32, (Host.negf (Host.sin angT) : (⟨S512x32, .f32⟩ : BufTy).Contents (Elt Ideal))⟩, ⟨S512x32, (Host.sin angT : (⟨S512x32, .f32⟩ : BufTy).Contents (Elt Ideal))⟩] concatenates_S512x32_S512x32_S512x32_S512x32_S512x128_d1

set_option maxHeartbeats 2000000 in
/-- What the host leaves in the cosines' array. -/
theorem cosV : V m c main_v18 = cosT := by
  simp only [V, hostOps0, hostOps0_1, hostOps0_2, hostOps0_3, hostOps0_4, List.flatten_cons, List.flatten_nil, List.cons_append, List.nil_append, List.append_nil]
  after_results_simp <;> rfl

set_option maxHeartbeats 2000000 in
/-- What the host leaves in the sines' array. -/
theorem sinV : V m c main_v21 = sinTab := by
  simp only [V, hostOps0, hostOps0_1, hostOps0_2, hostOps0_3, hostOps0_4, List.flatten_cons, List.flatten_nil, List.cons_append, List.nil_append, List.append_nil]
  after_results_simp <;> rfl

/-- An entry of the angles. -/
theorem angT_at (p : Fin 512) (i : Fin 32) (k : ℕ) (h : i.val = k) : angT (ix2 p i) = ang (2048 + p.val % 8) k := by
  subst h
  obtain ⟨z, hz⟩ : ∃ z : EReal, z = ang (2048 + p.val % 8) i.val := ⟨_, rfl⟩
  refine Eq.trans ?_ hz
  pointwise [angT]
  refine Eq.trans ?_ hz.symm
  unfold ang
  rw [posT_at p]

/-- An entry of the cosines. -/
theorem cosT_at (p : Fin 512) (l : Fin 128) : cosT (ix2 p l) = Ideal.cos (ang (2048 + p.val % 8) (l.val % 32)) := by
  obtain ⟨z, hz⟩ : ∃ z : EReal, z = Ideal.cos (ang (2048 + p.val % 8) (l.val % 32)) := ⟨_, rfl⟩
  refine Eq.trans ?_ hz
  pointwise [cosT]
  refine Eq.trans ?_ hz.symm
  split_ifs <;> exact congrArg Ideal.cos (angT_at _ _ _ (by simp only <;> omega))

/-- An entry of the sines. -/
theorem sinTab_at (p : Fin 512) (l : Fin 128) : sinTab (ix2 p l) = sinT (2048 + p.val % 8) l.val := by
  obtain ⟨z, hz⟩ : ∃ z : EReal, z = sinT (2048 + p.val % 8) l.val := ⟨_, rfl⟩
  refine Eq.trans ?_ hz
  pointwise [sinTab]
  refine Eq.trans ?_ hz.symm
  unfold sinT
  by_cases h : l.val % 64 < 32
  · refine Eq.trans ?_ (if_pos h).symm
    split_ifs <;> first
      | omega
      | exact congrArg (fun a : EReal => -Ideal.sin a) (angT_at _ _ _ (by simp only <;> omega))
  · refine Eq.trans ?_ (if_neg h).symm
    split_ifs <;> first
      | omega
      | exact congrArg Ideal.sin (angT_at _ _ _ (by simp only <;> omega))

/-- The block of the cosines at a grid point. -/
theorem blk_3 (t : Fin cfg0.N) (r : Fin 512) (l : Fin 128) (i : Fin 1024) (h : i.val = t.val * 512 + r.val) :
    iblk m c 3 t (ix2 r l) = Ideal.cos (ang (2048 + i.val % 8) (l.val % 32)) := by
  have hv := idx_val t
  rw [show i.val % 8 = r.val % 8 by omega]
  refine Eq.trans ?_ (cosT_at r l)
  blk_simp [iblk, idx_val t]
  rw [cosV m c]
  refine congrArg cosT ?_
  blk_ext [idx_val t]

/-- The block of the sines at a grid point. -/
theorem blk_4 (t : Fin cfg0.N) (r : Fin 512) (l : Fin 128) (i : Fin 1024) (h : i.val = t.val * 512 + r.val) :
    iblk m c 4 t (ix2 r l) = sinT (2048 + i.val % 8) l.val := by
  have hv := idx_val t
  rw [show i.val % 8 = r.val % 8 by omega]
  refine Eq.trans ?_ (sinTab_at r l)
  blk_simp [iblk, idx_val t]
  rw [sinV m c]
  refine congrArg sinTab ?_
  blk_ext [idx_val t]

/-- The block of the keys that a grid point writes is the reference's. -/
theorem pay_0 (t : Fin cfg0.N) (r : Fin 512) (j : Fin 256) (i : Fin 1024) (hi : i.val = t.val * 512 + r.val) :
    out0_6 (iblk m c 0 t) (iblk m c 1 t) (iblk m c 2 t) (iblk m c 3 t) (iblk m c 4 t) (ix2 r j)
      = Ref.R0 (m ((c.tc : Thread nD τ).loc main_arg0)) (m ((c.tc : Thread nD τ).loc main_arg1)) (m ((c.tc : Thread nD τ).loc main_arg2)) (ix2 i j) :=
  (out_0 (fun k => blk_0 m c t r k i hi) (fun k => blk_1 m c t k) (blk_2 m c t) (fun l => blk_3 m c t r l i hi) (fun l => blk_4 m c t r l i hi) (ix2 r j) rfl).trans
    (Ref.R0_at (m ((c.tc : Thread nD τ).loc main_arg0)) (m ((c.tc : Thread nD τ).loc main_arg1)) (m ((c.tc : Thread nD τ).loc main_arg2)) i j).symm

/-- After the whole run the array of the keys is the reference's. -/
theorem arr_0 : (dats m 0 c).arrAt 6 (cfgs 0).N = Ref.R0 (m ((c.tc : Thread nD τ).loc main_arg0)) (m ((c.tc : Thread nD τ).loc main_arg1)) (m ((c.tc : Thread nD τ).loc main_arg2)) := by
  refine (dats m 0 c).arrAt_eq_of_covers 6 _ (by decide +kernel) fun t _ y => ?_
  blk_simp
  rw [after0_6]
  have hv := idx_val t
  obtain ⟨r, j, rfl⟩ : ∃ (r : Fin 512) (j : Fin 256), y = ix2 r j := ⟨y 0, y 1, by funext a; fin_cases a <;> rfl⟩
  have hi : t.val * 512 + r.val < 1024 := by omega
  refine (pay_0 m c t r j ⟨t.val * 512 + r.val, hi⟩ rfl).trans ?_
  refine congrArg (Ref.R0 _ _ _) ?_
  blk_ext [idx_val t]

/-- The block of the values that a grid point writes is the reference's. -/
theorem pay_1 (t : Fin cfg0.N) (r : Fin 512) (j : Fin 256) (i : Fin 1024) (hi : i.val = t.val * 512 + r.val) :
    out0_7 (iblk m c 0 t) (iblk m c 1 t) (iblk m c 2 t) (iblk m c 3 t) (iblk m c 4 t) (ix2 r j)
      = Ref.R1 (m ((c.tc : Thread nD τ).loc main_arg0)) (m ((c.tc : Thread nD τ).loc main_arg1)) (m ((c.tc : Thread nD τ).loc main_arg2)) (ix2 i j) :=
  (out_1 (fun k => blk_0 m c t r k i hi) (fun k => blk_1 m c t k) (blk_2 m c t) (ix2 r j) rfl).trans
    (Ref.R1_at (m ((c.tc : Thread nD τ).loc main_arg0)) (m ((c.tc : Thread nD τ).loc main_arg1)) (m ((c.tc : Thread nD τ).loc main_arg2)) i j).symm

/-- After the whole run the array of the values is the reference's. -/
theorem arr_1 : (dats m 0 c).arrAt 7 (cfgs 0).N = Ref.R1 (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  blk_simp
  rw [after0_7]
  have hv := idx_val t
  obtain ⟨r, j, rfl⟩ : ∃ (r : Fin 512) (j : Fin 256), y = ix2 r j := ⟨y 0, y 1, by funext a; fin_cases a <;> rfl⟩
  have hi : t.val * 512 + r.val < 1024 := by omega
  refine (pay_1 m c t r j ⟨t.val * 512 + r.val, hi⟩ rfl).trans ?_
  refine congrArg (Ref.R1 _ _ _) ?_
  blk_ext [idx_val t]

end SmpC

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.ProjA.Frame
public import proofs.«01_k».proof.Proof.Gen.ProjAIdeal.Frame
public import proofs.«01_k».proof.Proof.Gen.ProjAIdeal.Value
public import proofs.«01_k».proof.Proof.Gen.ProjARefIdeal.Run
public import proofs.«01_k».proof.Proof.Gen.ProjB.Frame
public import proofs.«01_k».proof.Proof.Gen.ProjBIdeal.Frame
public import proofs.«01_k».proof.Proof.Gen.ProjBIdeal.Value
public import proofs.«01_k».proof.Proof.Gen.ProjBRefIdeal.Run
public import proofs.«01_k».proof.Proof.Gen.ProjC.Frame
public import proofs.«01_k».proof.Proof.Gen.ProjCIdeal.Frame
public import proofs.«01_k».proof.Proof.Gen.ProjCIdeal.Value
public import proofs.«01_k».proof.Proof.Gen.ProjCRefIdeal.Run
public import proofs.«01_k».proof.Proof.Gen.ProjG.Frame
public import proofs.«01_k».proof.Proof.Gen.ProjGIdeal.Frame
public import proofs.«01_k».proof.Proof.Gen.ProjGIdeal.Value
public import proofs.«01_k».proof.Proof.Gen.ProjGRefIdeal.Run
public import proofs.«01_k».proof.Proof.Arr
public import proofs.«01_k».proof.Proof.Ref
public import proofs.«01_k».proof.Proof.Gen.Merge
public import proofs.«01_k».proof.Proof.Gen.MergeIdeal
public import proofs.«01_k».proof.Proof.Gen.MergeRefIdeal
public import proofs.«01_k».proof.Proof.Gen.ProjA
public import proofs.«01_k».proof.Proof.Gen.ProjAIdeal
public import proofs.«01_k».proof.Proof.Gen.ProjARefIdeal
public import proofs.«01_k».proof.Proof.Gen.ProjB
public import proofs.«01_k».proof.Proof.Gen.ProjBIdeal
public import proofs.«01_k».proof.Proof.Gen.ProjBRefIdeal
public import proofs.«01_k».proof.Proof.Gen.ProjC
public import proofs.«01_k».proof.Proof.Gen.ProjCIdeal
public import proofs.«01_k».proof.Proof.Gen.ProjCRefIdeal
public import proofs.«01_k».proof.Proof.Gen.ProjG
public import proofs.«01_k».proof.Proof.Gen.ProjGIdeal
public import proofs.«01_k».proof.Proof.Gen.ProjGRefIdeal
public import proofs.«01_k».proof.Proof.MergeArr
public import proofs.«01_k».proof.Proof.ProjAArr
public import proofs.«01_k».proof.Proof.ProjBArr
public import proofs.«01_k».proof.Proof.ProjCArr
public import proofs.«01_k».proof.Proof.ProjGArr
public import proofs.«01_k».proof.Proof.Gen.SampleA
public import proofs.«01_k».proof.Proof.Gen.SampleA.Frame
public import proofs.«01_k».proof.Proof.Gen.SampleAIdeal
public import proofs.«01_k».proof.Proof.Gen.SampleAIdeal.Value
public import proofs.«01_k».proof.Proof.Gen.SampleARefIdeal
public import proofs.«01_k».proof.Proof.Gen.SampleARefIdeal.Run
public import proofs.«01_k».proof.Proof.Gen.SampleB
public import proofs.«01_k».proof.Proof.Gen.SampleB.Frame
public import proofs.«01_k».proof.Proof.Gen.SampleBIdeal
public import proofs.«01_k».proof.Proof.Gen.SampleBIdeal.Value
public import proofs.«01_k».proof.Proof.Gen.SampleBRefIdeal
public import proofs.«01_k».proof.Proof.Gen.SampleBRefIdeal.Run
public import proofs.«01_k».proof.Proof.Gen.SampleC
public import proofs.«01_k».proof.Proof.Gen.SampleC.Frame
public import proofs.«01_k».proof.Proof.Gen.SampleCIdeal
public import proofs.«01_k».proof.Proof.Gen.SampleCIdeal.Value
public import proofs.«01_k».proof.Proof.Gen.SampleCRefIdeal
public import proofs.«01_k».proof.Proof.Gen.SampleCRefIdeal.Run
public import proofs.«01_k».proof.Proof.SampleAArr
public import proofs.«01_k».proof.Proof.SampleBArr
public import proofs.«01_k».proof.Proof.SampleCArr
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The shape facts of the precondition. -/
theorem preFacts : Cert.Pre_finite.Facts := by
  constructor <;> decide

instance : Cert.Kernel.Facts := Cert.Kernel.Gen.facts
instance : Cert.KernelIdeal.Facts := Cert.KernelIdeal.Gen.facts
instance : Cert.ReferenceIdeal.Facts := Cert.ReferenceIdeal.Gen.facts
instance : Cert.Merge.Facts := Cert.Merge.Gen.facts
instance : Cert.MergeIdeal.Facts := Cert.MergeIdeal.Gen.facts
instance : Cert.MergeRefIdeal.Facts := Cert.MergeRefIdeal.Gen.facts
instance : Cert.ProjA.Facts := Cert.ProjA.Gen.facts
instance : Cert.ProjAIdeal.Facts := Cert.ProjAIdeal.Gen.facts
instance : Cert.ProjARefIdeal.Facts := Cert.ProjARefIdeal.Gen.facts
instance : Cert.ProjB.Facts := Cert.ProjB.Gen.facts
instance : Cert.ProjBIdeal.Facts := Cert.ProjBIdeal.Gen.facts
instance : Cert.ProjBRefIdeal.Facts := Cert.ProjBRefIdeal.Gen.facts
instance : Cert.ProjC.Facts := Cert.ProjC.Gen.facts
instance : Cert.ProjCIdeal.Facts := Cert.ProjCIdeal.Gen.facts
instance : Cert.ProjCRefIdeal.Facts := Cert.ProjCRefIdeal.Gen.facts
instance : Cert.ProjG.Facts := Cert.ProjG.Gen.facts
instance : Cert.ProjGIdeal.Facts := Cert.ProjGIdeal.Gen.facts
instance : Cert.ProjGRefIdeal.Facts := Cert.ProjGRefIdeal.Gen.facts
instance : Cert.SampleA.Facts := Cert.SampleA.Gen.facts
instance : Cert.SampleAIdeal.Facts := Cert.SampleAIdeal.Gen.facts
instance : Cert.SampleARefIdeal.Facts := Cert.SampleARefIdeal.Gen.facts
instance : Cert.SampleB.Facts := Cert.SampleB.Gen.facts
instance : Cert.SampleBIdeal.Facts := Cert.SampleBIdeal.Gen.facts
instance : Cert.SampleBRefIdeal.Facts := Cert.SampleBRefIdeal.Gen.facts
instance : Cert.SampleC.Facts := Cert.SampleC.Gen.facts
instance : Cert.SampleCIdeal.Facts := Cert.SampleCIdeal.Gen.facts
instance : Cert.SampleCRefIdeal.Facts := Cert.SampleCRefIdeal.Gen.facts
instance : Cert.Pre_finite.Facts := preFacts

/-- An array whose entries all compare below infinity in absolute value has no infinite entry. -/
theorem fin_of {s : Shape} (x : FVec Ideal s .f32) (hb : Cert.Pre_finite.S_.BroadcastsInDim s (![] : Fin 0 → Fin s.rank))
    (h : cmpf (F := Ideal) .olt (Host.absf x) (broadcastInDim s ![] hb (constant Cert.Pre_finite.S_ .f32 0x7F800000#32)) = fun _ => 1#1) : Diff.Fin' (s := s) x := by
  intro j
  have hj := congrFun h j
  pointwise at hj
  have hlt : max (x j) (-(x j)) < (⊤ : EReal) := by
    rw [← Diff.Ref.ctop]
    by_contra hn
    rw [show decide (FloatOps.absf (x j) < Ideal.ofBits .f32 0x7F800000#32) = false from decide_eq_false hn] at hj
    exact absurd hj (by decide)
  refine ⟨fun ht => ?_, fun hb => ?_⟩
  · rw [ht] at hlt
    exact absurd (lt_of_le_of_lt (le_max_left _ _) hlt) (lt_irrefl _)
  · rw [hb, EReal.neg_bot] at hlt
    exact absurd (lt_of_le_of_lt (le_max_right _ _) hlt) (lt_irrefl _)

/-- The reference runs, leaves its arguments alone and the machine at rest. -/
theorem refQ : Cert.quiescent_ReferenceIdeal := by
  intro m g _
  exact (θ_run _ _ _).mono (fun r h => ⟨fun c => (h c).2, sem_eq_zero_of_no_sems (by decide) r.2⟩) (Cert.ReferenceIdeal.Value.run m g)

/-- The reference's result is what the idealized kernel leaves in its output array. -/
theorem value (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (hpre : Pre_KernelIdeal_finite m)
    (hagree : ∀ c : Dev KernelIdeal.nD,
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4))
    (c : Dev KernelIdeal.nD) :
    ReferenceIdeal.Value.res_main_v70 (F := Ideal) m' c = (KernelIdeal.Gen.dats m 0 c).arrAt 5 KernelIdeal.cfg0.N := by
  obtain ⟨a0, a1, a2, a3, a4⟩ := hagree c
  obtain ⟨p0, p2, p3, p4⟩ := hpre c
  have f0 := fin_of _ _ p0
  have f2 := fin_of _ _ p2
  have f3 := fin_of _ _ p3
  have f4 := fin_of _ _ p4
  refine (Diff.Ref.res_eq m' c).trans ?_
  rw [a0, a1, a2, a3, a4]
  exact (Diff.Ref.resT_eq _ _ _ _ _ f0 f2 f3 f4).trans (Diff.arr_eq m c f0 f2 f3 f4).symm

/-- The reference of the gated merge runs, leaves its arguments alone and the machine at rest. -/
theorem refQ_Merge : Cert.quiescent_MergeRefIdeal := by
  intro m g _
  exact (θ_run _ _ _).mono (fun r h => ⟨fun c => (h c).2, sem_eq_zero_of_no_sems (by decide) r.2⟩) (Cert.MergeRefIdeal.Value.run m g)

/-- The gated merge: on all arguments the idealized kernel returns what the reference returns. -/
theorem value_Merge : Cert.algebraic_MergeIdeal_MergeRefIdeal := by
  pair_intro
  · run_from Cert.MergeIdeal.Value.run_blocks m g
  · run_from Cert.MergeRefIdeal.Value.run m' g'
    obtain ⟨a0, a1, a2, a3, a4, a5, a6⟩ := hagree c
    exact (congrFun (congrFun (congr (congr (congrArg (Mrg.REF (m ((c.tc : Thread MergeIdeal.nD MergeIdeal.τ).loc MergeIdeal.main_arg0)) (m ((c.tc : Thread MergeIdeal.nD MergeIdeal.τ).loc MergeIdeal.main_arg1))) a2) a3) a4)
      (m ((c.tc : Thread MergeIdeal.nD MergeIdeal.τ).loc MergeIdeal.main_arg5))) (m ((c.tc : Thread MergeIdeal.nD MergeIdeal.τ).loc MergeIdeal.main_arg6))).trans (Mrg.arr_eq m c).symm

/-- The reference of the differential attention's projection runs, leaves its arguments alone and the machine at rest. -/
theorem refQ_ProjA : Cert.quiescent_ProjARefIdeal := by
  intro m g _
  exact (θ_run _ _ _).mono (fun r h => ⟨fun c => (h c).2.2.2, sem_eq_zero_of_no_sems (by decide) r.2⟩) (Cert.ProjARefIdeal.Value.run m g)

/-- The differential attention's projection: on all arguments the idealized kernel returns what the reference returns. -/
theorem value_ProjA : Cert.algebraic_ProjAIdeal_ProjARefIdeal := by
  pair_intro
  · run_from Cert.ProjAIdeal.Value.run_blocks m g
  · run_from Cert.ProjARefIdeal.Value.run m' g'
    all_goals obtain ⟨a0, a1, a2⟩ := hagree c
    · exact (PrjA.Ref.res_0 m' c).trans ((congr (congr (congrArg PrjA.Ref.R0 a0) a1) a2).trans (PrjA.arr_0 m c).symm)
    · exact (PrjA.Ref.res_1 m' c).trans ((congr (congr (congrArg PrjA.Ref.R1 a0) a1) a2).trans (PrjA.arr_1 m c).symm)
    · exact (PrjA.arr_2 m c).symm

/-- The reference of the native sparse attention's projection runs, leaves its arguments alone and the machine at rest. -/
theorem refQ_ProjB : Cert.quiescent_ProjBRefIdeal := by
  intro m g _
  exact (θ_run _ _ _).mono (fun r h => ⟨fun c => (h c).2.2.2.2.2.2.2.2.2, sem_eq_zero_of_no_sems (by decide) r.2⟩) (Cert.ProjBRefIdeal.Value.run m g)

/-- The native sparse attention's projection: on all arguments the idealized kernel returns what the reference returns. -/
theorem value_ProjB : Cert.algebraic_ProjBIdeal_ProjBRefIdeal := by
  pair_intro
  · run_from Cert.ProjBIdeal.Value.run_blocks m g
  · run_from Cert.ProjBRefIdeal.Value.run m' g'
    all_goals obtain ⟨a0, a1, a2⟩ := hagree c
    · exact (PrjB.arr_0 m c).symm
    · exact (PrjB.Ref.res_1 m' c).trans ((congr (congr (congrArg PrjB.Ref.R1 a0) a1) a2).trans (PrjB.arr_1 m c).symm)
    · exact (PrjB.arr_2 m c).symm
    · exact (PrjB.arr_3 m c).symm
    · exact (PrjB.Ref.res_4 m' c).trans ((congr (congr (congrArg PrjB.Ref.R4 a0) a1) a2).trans (PrjB.arr_4 m c).symm)
    · exact (PrjB.arr_5 m c).symm
    · exact (PrjB.Ref.res_6 m' c).trans ((congr (congr (congrArg PrjB.Ref.R6 a0) a1) a2).trans (PrjB.arr_6 m c).symm)
    · exact (PrjB.arr_7 m c).symm
    · exact (PrjB.arr_8 m c).symm

/-- The reference of the MoBA's projection runs, leaves its arguments alone and the machine at rest. -/
theorem refQ_ProjC : Cert.quiescent_ProjCRefIdeal := by
  intro m g _
  exact (θ_run _ _ _).mono (fun r h => ⟨fun c => (h c).2.2.2, sem_eq_zero_of_no_sems (by decide) r.2⟩) (Cert.ProjCRefIdeal.Value.run m g)

/-- The MoBA's projection: on all arguments the idealized kernel returns what the reference returns. -/
theorem value_ProjC : Cert.algebraic_ProjCIdeal_ProjCRefIdeal := by
  pair_intro
  · run_from Cert.ProjCIdeal.Value.run_blocks m g
  · run_from Cert.ProjCRefIdeal.Value.run m' g'
    all_goals obtain ⟨a0, a1, a2⟩ := hagree c
    · exact (PrjC.Ref.res_0 m' c).trans ((congr (congr (congrArg PrjC.Ref.R0 a0) a1) a2).trans (PrjC.arr_0 m c).symm)
    · exact (PrjC.Ref.res_1 m' c).trans ((congr (congr (congrArg PrjC.Ref.R1 a0) a1) a2).trans (PrjC.arr_1 m c).symm)
    · exact (PrjC.arr_2 m c).symm

/-- The reference of the gates' projection runs, leaves its arguments alone and the machine at rest. -/
theorem refQ_ProjG : Cert.quiescent_ProjGRefIdeal := by
  intro m g _
  exact (θ_run _ _ _).mono (fun r h => ⟨fun c => (h c).2, sem_eq_zero_of_no_sems (by decide) r.2⟩) (Cert.ProjGRefIdeal.Value.run m g)

/-- The gates' projection: on all arguments the idealized kernel returns what the reference returns. -/
theorem value_ProjG : Cert.algebraic_ProjGIdeal_ProjGRefIdeal := by
  pair_intro
  · run_from Cert.ProjGIdeal.Value.run_blocks m g
  · run_from Cert.ProjGRefIdeal.Value.run m' g'
    · exact (PrjG.arr_0 m c).symm

/-- The reference of the differential attention's projection for the sample group runs, leaves its arguments alone and the machine at rest. -/
theorem refQ_SampleA : Cert.quiescent_SampleARefIdeal := by
  intro m g _
  exact (θ_run _ _ _).mono (fun r h => ⟨fun c => (h c).2.2.2, sem_eq_zero_of_no_sems (by decide) r.2⟩) (Cert.SampleARefIdeal.Value.run m g)

/-- The differential attention's projection for the sample group: on all arguments the idealized kernel returns what the reference returns. -/
theorem value_SampleA : Cert.algebraic_SampleAIdeal_SampleARefIdeal := by
  pair_intro
  · run_from Cert.SampleAIdeal.Value.run_blocks m g
  · run_from Cert.SampleARefIdeal.Value.run m' g'
    all_goals obtain ⟨a0, a1, a2⟩ := hagree c
    · exact (SmpA.Ref.res_0 m' c).trans ((congr (congr (congrArg SmpA.Ref.R0 a0) a1) a2).trans (SmpA.arr_0 m c).symm)
    · exact (SmpA.Ref.res_1 m' c).trans ((congr (congr (congrArg SmpA.Ref.R1 a0) a1) a2).trans (SmpA.arr_1 m c).symm)
    · exact (SmpA.arr_2 m c).symm

/-- The reference of the native sparse attention's projection for the sample group runs, leaves its arguments alone and the machine at rest. -/
theorem refQ_SampleB : Cert.quiescent_SampleBRefIdeal := by
  intro m g _
  exact (θ_run _ _ _).mono (fun r h => ⟨fun c => (h c).2.2.2.2.2.2.2, sem_eq_zero_of_no_sems (by decide) r.2⟩) (Cert.SampleBRefIdeal.Value.run m g)

set_option maxHeartbeats 1000000 in
/-- The native sparse attention's projection for the sample group: on all arguments the idealized kernel returns what the reference returns. -/
theorem value_SampleB : Cert.algebraic_SampleBIdeal_SampleBRefIdeal := by
  pair_intro
  · run_from Cert.SampleBIdeal.Value.run_blocks m g
  · run_from Cert.SampleBRefIdeal.Value.run m' g'
    all_goals obtain ⟨a0, a1, a2⟩ := hagree c
    · exact (SmpB.arr_0 m c).symm
    · exact (SmpB.arr_1 m c).symm
    · exact (SmpB.Ref.res_2 m' c).trans ((congr (congr (congrArg SmpB.Ref.R2 a0) a1) a2).trans (SmpB.arr_2 m c).symm)
    · exact (SmpB.arr_3 m c).symm
    · exact (SmpB.Ref.res_4 m' c).trans ((congr (congr (congrArg SmpB.Ref.R4 a0) a1) a2).trans (SmpB.arr_4 m c).symm)
    · exact (SmpB.arr_5 m c).symm
    · exact (SmpB.arr_6 m c).symm

/-- The reference of the MoBA's projection for the sample group runs, leaves its arguments alone and the machine at rest. -/
theorem refQ_SampleC : Cert.quiescent_SampleCRefIdeal := by
  intro m g _
  exact (θ_run _ _ _).mono (fun r h => ⟨fun c => (h c).2.2, sem_eq_zero_of_no_sems (by decide) r.2⟩) (Cert.SampleCRefIdeal.Value.run m g)

/-- The MoBA's projection for the sample group: on all arguments the idealized kernel returns what the reference returns. -/
theorem value_SampleC : Cert.algebraic_SampleCIdeal_SampleCRefIdeal := by
  pair_intro
  · run_from Cert.SampleCIdeal.Value.run_blocks m g
  · run_from Cert.SampleCRefIdeal.Value.run m' g'
    all_goals obtain ⟨a0, a1, a2⟩ := hagree c
    · exact (SmpC.Ref.res_0 m' c).trans ((congr (congr (congrArg SmpC.Ref.R0 a0) a1) a2).trans (SmpC.arr_0 m c).symm)
    · exact (SmpC.arr_1 m c).symm

/-- All programs run from any memory, the references included, and leave the machine at rest; the two constants are the named ones; and
    the idealized kernels' results are the references', on finite arguments for the attention. -/
theorem claim : Cert.Claim := ⟨Cert.Kernel.Gen.facts, Cert.KernelIdeal.Gen.facts, Cert.ReferenceIdeal.Gen.facts, Cert.Merge.Gen.facts, Cert.MergeIdeal.Gen.facts, Cert.MergeRefIdeal.Gen.facts, Cert.ProjA.Gen.facts, Cert.ProjAIdeal.Gen.facts, Cert.ProjARefIdeal.Gen.facts, Cert.ProjB.Gen.facts, Cert.ProjBIdeal.Gen.facts, Cert.ProjBRefIdeal.Gen.facts, Cert.ProjC.Gen.facts, Cert.ProjCIdeal.Gen.facts, Cert.ProjCRefIdeal.Gen.facts, Cert.ProjG.Gen.facts, Cert.ProjGIdeal.Gen.facts, Cert.ProjGRefIdeal.Gen.facts, Cert.SampleA.Gen.facts, Cert.SampleAIdeal.Gen.facts, Cert.SampleARefIdeal.Gen.facts, Cert.SampleB.Gen.facts, Cert.SampleBIdeal.Gen.facts, Cert.SampleBRefIdeal.Gen.facts, Cert.SampleC.Gen.facts, Cert.SampleCIdeal.Gen.facts, Cert.SampleCRefIdeal.Gen.facts, preFacts, by
  refine ⟨fun m g _ => Cert.Kernel.Gen.frame m g, fun m g _ => Cert.KernelIdeal.Gen.frame m g, fun m g _ => Cert.KernelIdeal.Gen.frame m g,
    fun m g _ => refQ m g trivial, fun m g _ => refQ m g trivial,
    fun m g _ => Cert.Merge.Gen.frame m g, fun m g _ => Cert.MergeIdeal.Gen.frame m g, refQ_Merge,
    fun m g _ => Cert.ProjA.Gen.frame m g, fun m g _ => Cert.ProjAIdeal.Gen.frame m g, refQ_ProjA,
    fun m g _ => Cert.ProjB.Gen.frame m g, fun m g _ => Cert.ProjBIdeal.Gen.frame m g, refQ_ProjB,
    fun m g _ => Cert.ProjC.Gen.frame m g, fun m g _ => Cert.ProjCIdeal.Gen.frame m g, refQ_ProjC,
    fun m g _ => Cert.ProjG.Gen.frame m g, fun m g _ => Cert.ProjGIdeal.Gen.frame m g, refQ_ProjG,
    fun m g _ => Cert.SampleA.Gen.frame m g, fun m g _ => Cert.SampleAIdeal.Gen.frame m g, refQ_SampleA,
    fun m g _ => Cert.SampleB.Gen.frame m g, fun m g _ => Cert.SampleBIdeal.Gen.frame m g, refQ_SampleB,
    fun m g _ => Cert.SampleC.Gen.frame m g, fun m g _ => Cert.SampleCIdeal.Gen.frame m g, refQ_SampleC,
    ⟨IdealRules.named_const.statement Cert.KernelIdeal.κ "masked" .f32 0xF149F2CA#32 ⊥ rfl,
      IdealRules.named_const.statement Cert.KernelIdeal.κ "qk_scale" .f32 0x3E38AA3B#32 (((8 * (Real.log 2))⁻¹ : ℝ) : EReal) rfl⟩, ?_,
    trivial, value_Merge,
    trivial, value_ProjA,
    trivial, value_ProjB,
    trivial, value_ProjC,
    trivial, value_ProjG,
    trivial, value_SampleA,
    trivial, value_SampleB,
    trivial, value_SampleC⟩
  · pair_intro
    · run_from Cert.KernelIdeal.Value.run_blocks m g
    · run_from Cert.ReferenceIdeal.Value.run m' g'
      exact value m m' hpre hagree c⟩

end Cert.Proof

end
